-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gather [hPre_nodes : Cert.Pre_nodes.Facts] (m : (ℓ : Loc Cert.Gather.nD Cert.Gather.τ Cert.Gather.sig) → Buf (Elt Bits) ℓ) : Prop :=
  ∀ c : Dev Cert.Gather.nD,
    (Cert.Pre_nodes.fn (F := Bits) (m ((c.tc : Thread Cert.Gather.nD Cert.Gather.τ).loc Cert.Gather.main_arg0)) (m ((c.tc : Thread Cert.Gather.nD Cert.Gather.τ).loc Cert.Gather.main_arg1)) (m ((c.tc : Thread Cert.Gather.nD Cert.Gather.τ).loc Cert.Gather.main_arg2)) (m ((c.tc : Thread Cert.Gather.nD Cert.Gather.τ).loc Cert.Gather.main_arg3))) = (fun _ => 1#1)

def Pre_GatherIdeal [hPre_nodes : Cert.Pre_nodes.Facts] (m : (ℓ : Loc Cert.GatherIdeal.nD Cert.GatherIdeal.τ Cert.GatherIdeal.sig) → Buf (Elt Ideal) ℓ) : Prop :=
  ∀ c : Dev Cert.GatherIdeal.nD,
    (Cert.Pre_nodes.fn (F := Ideal) (m ((c.tc : Thread Cert.GatherIdeal.nD Cert.GatherIdeal.τ).loc Cert.GatherIdeal.main_arg0)) (m ((c.tc : Thread Cert.GatherIdeal.nD Cert.GatherIdeal.τ).loc Cert.GatherIdeal.main_arg1)) (m ((c.tc : Thread Cert.GatherIdeal.nD Cert.GatherIdeal.τ).loc Cert.GatherIdeal.main_arg2)) (m ((c.tc : Thread Cert.GatherIdeal.nD Cert.GatherIdeal.τ).loc Cert.GatherIdeal.main_arg3))) = (fun _ => 1#1)

def Pre_GatherReferenceIdeal [hPre_nodes : Cert.Pre_nodes.Facts] (m : (ℓ : Loc Cert.GatherReferenceIdeal.nD Cert.GatherReferenceIdeal.τ Cert.GatherReferenceIdeal.sig) → Buf (Elt Ideal) ℓ) : Prop :=
  ∀ c : Dev Cert.GatherReferenceIdeal.nD,
    (Cert.Pre_nodes.fn (F := Ideal) (m ((c.tc : Thread Cert.GatherReferenceIdeal.nD Cert.GatherReferenceIdeal.τ).loc Cert.GatherReferenceIdeal.main_arg0)) (m ((c.tc : Thread Cert.GatherReferenceIdeal.nD Cert.GatherReferenceIdeal.τ).loc Cert.GatherReferenceIdeal.main_arg1)) (m ((c.tc : Thread Cert.GatherReferenceIdeal.nD Cert.GatherReferenceIdeal.τ).loc Cert.GatherReferenceIdeal.main_arg2)) (m ((c.tc : Thread Cert.GatherReferenceIdeal.nD Cert.GatherReferenceIdeal.τ).loc Cert.GatherReferenceIdeal.main_arg3))) = (fun _ => 1#1)

def Pre_Edge (m : (ℓ : Loc Cert.Edge.nD Cert.Edge.τ Cert.Edge.sig) → Buf (Elt Bits) ℓ) : Prop :=
  True

def Pre_EdgeIdeal (m : (ℓ : Loc Cert.EdgeIdeal.nD Cert.EdgeIdeal.τ Cert.EdgeIdeal.sig) → Buf (Elt Ideal) ℓ) : Prop :=
  True

def Pre_EdgeReferenceIdeal (m : (ℓ : Loc Cert.EdgeReferenceIdeal.nD Cert.EdgeReferenceIdeal.τ Cert.EdgeReferenceIdeal.sig) → Buf (Elt Ideal) ℓ) : Prop :=
  True

def Pre_Decoder (m : (ℓ : Loc Cert.Decoder.nD Cert.Decoder.τ Cert.Decoder.sig) → Buf (Elt Bits) ℓ) : Prop :=
  True

def Pre_DecoderIdeal (m : (ℓ : Loc Cert.DecoderIdeal.nD Cert.DecoderIdeal.τ Cert.DecoderIdeal.sig) → Buf (Elt Ideal) ℓ) : Prop :=
  True

def Pre_DecoderReferenceIdeal (m : (ℓ : Loc Cert.DecoderReferenceIdeal.nD Cert.DecoderReferenceIdeal.τ Cert.DecoderReferenceIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_FirstReferenceIdeal (m : (ℓ : Loc Cert.FirstReferenceIdeal.nD Cert.FirstReferenceIdeal.τ Cert.FirstReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gather [hGather : Cert.Gather.Facts] [hPre_nodes : Cert.Pre_nodes.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (Cert.Gather.threads (F := Bits)) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0)
      ∧ r.2.mem ((c.tc : Thread Cert.Gather.nD Cert.Gather.τ).loc Cert.Gather.main_arg1) = m ((c.tc : Thread Cert.Gather.nD Cert.Gather.τ).loc Cert.Gather.main_arg1)
      ∧ r.2.mem ((c.tc : Thread Cert.Gather.nD Cert.Gather.τ).loc Cert.Gather.main_arg2) = m ((c.tc : Thread Cert.Gather.nD Cert.Gather.τ).loc Cert.Gather.main_arg2)
      ∧ r.2.mem ((c.tc : Thread Cert.Gather.nD Cert.Gather.τ).loc Cert.Gather.main_arg3) = m ((c.tc : Thread Cert.Gather.nD Cert.Gather.τ).loc Cert.Gather.main_arg3))
      ∧ r.2.sem = fun _ => 0)

def quiescent_GatherIdeal [hGatherIdeal : Cert.GatherIdeal.Facts] [hPre_nodes : Cert.Pre_nodes.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (Cert.GatherIdeal.threads (F := Ideal)) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
      ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
      ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
      ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ r.2.sem = fun _ => 0)

def quiescent_GatherReferenceIdeal [hGatherReferenceIdeal : Cert.GatherReferenceIdeal.Facts] [hPre_nodes : Cert.Pre_nodes.Facts] : Prop :=
  ∀ (m : (ℓ : Loc Cert.GatherReferenceIdeal.nD Cert.GatherReferenceIdeal.τ Cert.GatherReferenceIdeal.sig) → Buf (Elt Ideal) ℓ) (g : Dev Cert.GatherReferenceIdeal.nD → PrngReg), Pre_GatherReferenceIdeal m →
    θ_run (Cert.GatherReferenceIdeal.defs (F := Ideal)) (onTc (τ := Cert.GatherReferenceIdeal.τ) (Cert.GatherReferenceIdeal.main (F := Ideal))) ⟨m, fun _ => 0, g⟩ (fun r => (∀ c : Dev Cert.GatherReferenceIdeal.nD,
      r.2.mem ((c.tc : Thread Cert.GatherReferenceIdeal.nD Cert.GatherReferenceIdeal.τ).loc Cert.GatherReferenceIdeal.main_arg0) = m ((c.tc : Thread Cert.GatherReferenceIdeal.nD Cert.GatherReferenceIdeal.τ).loc Cert.GatherReferenceIdeal.main_arg0)
      ∧ r.2.mem ((c.tc : Thread Cert.GatherReferenceIdeal.nD Cert.GatherReferenceIdeal.τ).loc Cert.GatherReferenceIdeal.main_arg1) = m ((c.tc : Thread Cert.GatherReferenceIdeal.nD Cert.GatherReferenceIdeal.τ).loc Cert.GatherReferenceIdeal.main_arg1)
      ∧ r.2.mem ((c.tc : Thread Cert.GatherReferenceIdeal.nD Cert.GatherReferenceIdeal.τ).loc Cert.GatherReferenceIdeal.main_arg2) = m ((c.tc : Thread Cert.GatherReferenceIdeal.nD Cert.GatherReferenceIdeal.τ).loc Cert.GatherReferenceIdeal.main_arg2)
      ∧ r.2.mem ((c.tc : Thread Cert.GatherReferenceIdeal.nD Cert.GatherReferenceIdeal.τ).loc Cert.GatherReferenceIdeal.main_arg3) = m ((c.tc : Thread Cert.GatherReferenceIdeal.nD Cert.GatherReferenceIdeal.τ).loc Cert.GatherReferenceIdeal.main_arg3))
      ∧ r.2.sem = fun _ => 0)

def quiescent_Edge [hEdge : Cert.Edge.Facts] : Prop :=
  ∀ (m : (ℓ : Loc Cert.Edge.nD Cert.Edge.τ Cert.Edge.sig) → Buf (Elt Bits) ℓ) (g : Dev Cert.Edge.nD → PrngReg), Pre_Edge m →
    θ_run (Cert.Edge.defs (F := Bits)) (onTc (τ := Cert.Edge.τ) (Cert.Edge.main (F := Bits))) ⟨m, fun _ => 0, g⟩ (fun r => (∀ c : Dev Cert.Edge.nD,
      r.2.mem ((c.tc : Thread Cert.Edge.nD Cert.Edge.τ).loc Cert.Edge.main_arg0) = m ((c.tc : Thread Cert.Edge.nD Cert.Edge.τ).loc Cert.Edge.main_arg0)
      ∧ r.2.mem ((c.tc : Thread Cert.Edge.nD Cert.Edge.τ).loc Cert.Edge.main_arg1) = m ((c.tc : Thread Cert.Edge.nD Cert.Edge.τ).loc Cert.Edge.main_arg1)
      ∧ r.2.mem ((c.tc : Thread Cert.Edge.nD Cert.Edge.τ).loc Cert.Edge.main_arg2) = m ((c.tc : Thread Cert.Edge.nD Cert.Edge.τ).loc Cert.Edge.main_arg2)
      ∧ r.2.mem ((c.tc : Thread Cert.Edge.nD Cert.Edge.τ).loc Cert.Edge.main_arg3) = m ((c.tc : Thread Cert.Edge.nD Cert.Edge.τ).loc Cert.Edge.main_arg3))
      ∧ r.2.sem = fun _ => 0)

def quiescent_EdgeIdeal [hEdgeIdeal : Cert.EdgeIdeal.Facts] : Prop :=
  ∀ (m : (ℓ : Loc Cert.EdgeIdeal.nD Cert.EdgeIdeal.τ Cert.EdgeIdeal.sig) → Buf (Elt Ideal) ℓ) (g : Dev Cert.EdgeIdeal.nD → PrngReg), Pre_EdgeIdeal m →
    θ_run (Cert.EdgeIdeal.defs (F := Ideal)) (onTc (τ := Cert.EdgeIdeal.τ) (Cert.EdgeIdeal.main (F := Ideal))) ⟨m, fun _ => 0, g⟩ (fun r => (∀ c : Dev Cert.EdgeIdeal.nD,
      r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
      ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
      ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
      ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3))
      ∧ r.2.sem = fun _ => 0)

def quiescent_EdgeReferenceIdeal [hEdgeReferenceIdeal : Cert.EdgeReferenceIdeal.Facts] : Prop :=
  ∀ (m : (ℓ : Loc Cert.EdgeReferenceIdeal.nD Cert.EdgeReferenceIdeal.τ Cert.EdgeReferenceIdeal.sig) → Buf (Elt Ideal) ℓ) (g : Dev Cert.EdgeReferenceIdeal.nD → PrngReg), Pre_EdgeReferenceIdeal m →
    θ_run (Cert.EdgeReferenceIdeal.defs (F := Ideal)) (onTc (τ := Cert.EdgeReferenceIdeal.τ) (Cert.EdgeReferenceIdeal.main (F := Ideal))) ⟨m, fun _ => 0, g⟩ (fun r => (∀ c : Dev Cert.EdgeReferenceIdeal.nD,
      r.2.mem ((c.tc : Thread Cert.EdgeReferenceIdeal.nD Cert.EdgeReferenceIdeal.τ).loc Cert.EdgeReferenceIdeal.main_arg0) = m ((c.tc : Thread Cert.EdgeReferenceIdeal.nD Cert.EdgeReferenceIdeal.τ).loc Cert.EdgeReferenceIdeal.main_arg0)
      ∧ r.2.mem ((c.tc : Thread Cert.EdgeReferenceIdeal.nD Cert.EdgeReferenceIdeal.τ).loc Cert.EdgeReferenceIdeal.main_arg1) = m ((c.tc : Thread Cert.EdgeReferenceIdeal.nD Cert.EdgeReferenceIdeal.τ).loc Cert.EdgeReferenceIdeal.main_arg1)
      ∧ r.2.mem ((c.tc : Thread Cert.EdgeReferenceIdeal.nD Cert.EdgeReferenceIdeal.τ).loc Cert.EdgeReferenceIdeal.main_arg2) = m ((c.tc : Thread Cert.EdgeReferenceIdeal.nD Cert.EdgeReferenceIdeal.τ).loc Cert.EdgeReferenceIdeal.main_arg2)
      ∧ r.2.mem ((c.tc : Thread Cert.EdgeReferenceIdeal.nD Cert.EdgeReferenceIdeal.τ).loc Cert.EdgeReferenceIdeal.main_arg3) = m ((c.tc : Thread Cert.EdgeReferenceIdeal.nD Cert.EdgeReferenceIdeal.τ).loc Cert.EdgeReferenceIdeal.main_arg3))
      ∧ r.2.sem = fun _ => 0)

def quiescent_Decoder [hDecoder : Cert.Decoder.Facts] : Prop :=
  ∀ (m : (ℓ : Loc Cert.Decoder.nD Cert.Decoder.τ Cert.Decoder.sig) → Buf (Elt Bits) ℓ) (g : Dev Cert.Decoder.nD → PrngReg), Pre_Decoder m →
    θ_run (Cert.Decoder.defs (F := Bits)) (onTc (τ := Cert.Decoder.τ) (Cert.Decoder.main (F := Bits))) ⟨m, fun _ => 0, g⟩ (fun r => (∀ c : Dev Cert.Decoder.nD,
      r.2.mem ((c.tc : Thread Cert.Decoder.nD Cert.Decoder.τ).loc Cert.Decoder.main_arg0) = m ((c.tc : Thread Cert.Decoder.nD Cert.Decoder.τ).loc Cert.Decoder.main_arg0)
      ∧ r.2.mem ((c.tc : Thread Cert.Decoder.nD Cert.Decoder.τ).loc Cert.Decoder.main_arg1) = m ((c.tc : Thread Cert.Decoder.nD Cert.Decoder.τ).loc Cert.Decoder.main_arg1)
      ∧ r.2.mem ((c.tc : Thread Cert.Decoder.nD Cert.Decoder.τ).loc Cert.Decoder.main_arg2) = m ((c.tc : Thread Cert.Decoder.nD Cert.Decoder.τ).loc Cert.Decoder.main_arg2)
      ∧ r.2.mem ((c.tc : Thread Cert.Decoder.nD Cert.Decoder.τ).loc Cert.Decoder.main_arg3) = m ((c.tc : Thread Cert.Decoder.nD Cert.Decoder.τ).loc Cert.Decoder.main_arg3)
      ∧ r.2.mem ((c.tc : Thread Cert.Decoder.nD Cert.Decoder.τ).loc Cert.Decoder.main_arg4) = m ((c.tc : Thread Cert.Decoder.nD Cert.Decoder.τ).loc Cert.Decoder.main_arg4))
      ∧ r.2.sem = fun _ => 0)

def quiescent_DecoderIdeal [hDecoderIdeal : Cert.DecoderIdeal.Facts] : Prop :=
  ∀ (m : (ℓ : Loc Cert.DecoderIdeal.nD Cert.DecoderIdeal.τ Cert.DecoderIdeal.sig) → Buf (Elt Ideal) ℓ) (g : Dev Cert.DecoderIdeal.nD → PrngReg), Pre_DecoderIdeal m →
    θ_run (Cert.DecoderIdeal.defs (F := Ideal)) (onTc (τ := Cert.DecoderIdeal.τ) (Cert.DecoderIdeal.main (F := Ideal))) ⟨m, fun _ => 0, g⟩ (fun r => (∀ c : Dev Cert.DecoderIdeal.nD,
      r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
      ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
      ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
      ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
      ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4))
      ∧ r.2.sem = fun _ => 0)

def quiescent_DecoderReferenceIdeal [hDecoderReferenceIdeal : Cert.DecoderReferenceIdeal.Facts] : Prop :=
  ∀ (m : (ℓ : Loc Cert.DecoderReferenceIdeal.nD Cert.DecoderReferenceIdeal.τ Cert.DecoderReferenceIdeal.sig) → Buf (Elt Ideal) ℓ) (g : Dev Cert.DecoderReferenceIdeal.nD → PrngReg), Pre_DecoderReferenceIdeal m →
    θ_run (Cert.DecoderReferenceIdeal.defs (F := Ideal)) (onTc (τ := Cert.DecoderReferenceIdeal.τ) (Cert.DecoderReferenceIdeal.main (F := Ideal))) ⟨m, fun _ => 0, g⟩ (fun r => (∀ c : Dev Cert.DecoderReferenceIdeal.nD,
      r.2.mem ((c.tc : Thread Cert.DecoderReferenceIdeal.nD Cert.DecoderReferenceIdeal.τ).loc Cert.DecoderReferenceIdeal.main_arg0) = m ((c.tc : Thread Cert.DecoderReferenceIdeal.nD Cert.DecoderReferenceIdeal.τ).loc Cert.DecoderReferenceIdeal.main_arg0)
      ∧ r.2.mem ((c.tc : Thread Cert.DecoderReferenceIdeal.nD Cert.DecoderReferenceIdeal.τ).loc Cert.DecoderReferenceIdeal.main_arg1) = m ((c.tc : Thread Cert.DecoderReferenceIdeal.nD Cert.DecoderReferenceIdeal.τ).loc Cert.DecoderReferenceIdeal.main_arg1)
      ∧ r.2.mem ((c.tc : Thread Cert.DecoderReferenceIdeal.nD Cert.DecoderReferenceIdeal.τ).loc Cert.DecoderReferenceIdeal.main_arg2) = m ((c.tc : Thread Cert.DecoderReferenceIdeal.nD Cert.DecoderReferenceIdeal.τ).loc Cert.DecoderReferenceIdeal.main_arg2)
      ∧ r.2.mem ((c.tc : Thread Cert.DecoderReferenceIdeal.nD Cert.DecoderReferenceIdeal.τ).loc Cert.DecoderReferenceIdeal.main_arg3) = m ((c.tc : Thread Cert.DecoderReferenceIdeal.nD Cert.DecoderReferenceIdeal.τ).loc Cert.DecoderReferenceIdeal.main_arg3)
      ∧ r.2.mem ((c.tc : Thread Cert.DecoderReferenceIdeal.nD Cert.DecoderReferenceIdeal.τ).loc Cert.DecoderReferenceIdeal.main_arg4) = m ((c.tc : Thread Cert.DecoderReferenceIdeal.nD Cert.DecoderReferenceIdeal.τ).loc Cert.DecoderReferenceIdeal.main_arg4))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1)
      ∧ r.2.mem ((c.tc : Thread Cert.First.nD Cert.First.τ).loc Cert.First.main_arg2) = m ((c.tc : Thread Cert.First.nD Cert.First.τ).loc Cert.First.main_arg2)
      ∧ r.2.mem ((c.tc : Thread Cert.First.nD Cert.First.τ).loc Cert.First.main_arg3) = m ((c.tc : Thread Cert.First.nD Cert.First.τ).loc Cert.First.main_arg3))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
      ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
      ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ r.2.sem = fun _ => 0)

def quiescent_FirstReferenceIdeal [hFirstReferenceIdeal : Cert.FirstReferenceIdeal.Facts] : Prop :=
  ∀ (m : (ℓ : Loc Cert.FirstReferenceIdeal.nD Cert.FirstReferenceIdeal.τ Cert.FirstReferenceIdeal.sig) → Buf (Elt Ideal) ℓ) (g : Dev Cert.FirstReferenceIdeal.nD → PrngReg), Pre_FirstReferenceIdeal m →
    θ_run (Cert.FirstReferenceIdeal.defs (F := Ideal)) (onTc (τ := Cert.FirstReferenceIdeal.τ) (Cert.FirstReferenceIdeal.main (F := Ideal))) ⟨m, fun _ => 0, g⟩ (fun r => (∀ c : Dev Cert.FirstReferenceIdeal.nD,
      r.2.mem ((c.tc : Thread Cert.FirstReferenceIdeal.nD Cert.FirstReferenceIdeal.τ).loc Cert.FirstReferenceIdeal.main_arg0) = m ((c.tc : Thread Cert.FirstReferenceIdeal.nD Cert.FirstReferenceIdeal.τ).loc Cert.FirstReferenceIdeal.main_arg0)
      ∧ r.2.mem ((c.tc : Thread Cert.FirstReferenceIdeal.nD Cert.FirstReferenceIdeal.τ).loc Cert.FirstReferenceIdeal.main_arg1) = m ((c.tc : Thread Cert.FirstReferenceIdeal.nD Cert.FirstReferenceIdeal.τ).loc Cert.FirstReferenceIdeal.main_arg1)
      ∧ r.2.mem ((c.tc : Thread Cert.FirstReferenceIdeal.nD Cert.FirstReferenceIdeal.τ).loc Cert.FirstReferenceIdeal.main_arg2) = m ((c.tc : Thread Cert.FirstReferenceIdeal.nD Cert.FirstReferenceIdeal.τ).loc Cert.FirstReferenceIdeal.main_arg2)
      ∧ r.2.mem ((c.tc : Thread Cert.FirstReferenceIdeal.nD Cert.FirstReferenceIdeal.τ).loc Cert.FirstReferenceIdeal.main_arg3) = m ((c.tc : Thread Cert.FirstReferenceIdeal.nD Cert.FirstReferenceIdeal.τ).loc Cert.FirstReferenceIdeal.main_arg3))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gather_GatherIdeal : Prop :=
  True

def algebraic_GatherIdeal_GatherReferenceIdeal [hGatherIdeal : Cert.GatherIdeal.Facts] [hGatherReferenceIdeal : Cert.GatherReferenceIdeal.Facts] [hPre_nodes : Cert.Pre_nodes.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherReferenceIdeal.nD Cert.GatherReferenceIdeal.τ Cert.GatherReferenceIdeal.sig) → Buf (Elt Ideal) ℓ) (g' : Dev Cert.GatherReferenceIdeal.nD → PrngReg), Pre_GatherIdeal m →
    (∀ c : Dev Cert.GatherIdeal.nD,
      m' ((c.tc : Thread Cert.GatherReferenceIdeal.nD Cert.GatherReferenceIdeal.τ).loc Cert.GatherReferenceIdeal.main_arg0) = m ((c.tc : Thread Cert.GatherIdeal.nD Cert.GatherIdeal.τ).loc Cert.GatherIdeal.main_arg0)
      ∧ m' ((c.tc : Thread Cert.GatherReferenceIdeal.nD Cert.GatherReferenceIdeal.τ).loc Cert.GatherReferenceIdeal.main_arg1) = m ((c.tc : Thread Cert.GatherIdeal.nD Cert.GatherIdeal.τ).loc Cert.GatherIdeal.main_arg1)
      ∧ m' ((c.tc : Thread Cert.GatherReferenceIdeal.nD Cert.GatherReferenceIdeal.τ).loc Cert.GatherReferenceIdeal.main_arg2) = m ((c.tc : Thread Cert.GatherIdeal.nD Cert.GatherIdeal.τ).loc Cert.GatherIdeal.main_arg2)
      ∧ m' ((c.tc : Thread Cert.GatherReferenceIdeal.nD Cert.GatherReferenceIdeal.τ).loc Cert.GatherReferenceIdeal.main_arg3) = m ((c.tc : Thread Cert.GatherIdeal.nD Cert.GatherIdeal.τ).loc Cert.GatherIdeal.main_arg3)) →
    ∃ (v0 : (c : Dev Cert.GatherIdeal.nD) → Buf (Elt Ideal) ((c.tc : Thread Cert.GatherIdeal.nD Cert.GatherIdeal.τ).loc Cert.GatherIdeal.main_v0_0)) (v1 : (c : Dev Cert.GatherIdeal.nD) → Buf (Elt Ideal) ((c.tc : Thread Cert.GatherIdeal.nD Cert.GatherIdeal.τ).loc Cert.GatherIdeal.main_v0_1)),
      θ_run (Cert.GatherIdeal.defs (F := Ideal)) (Cert.GatherIdeal.threads (F := Ideal)) ⟨m, fun _ => 0, g⟩ (fun r => ∀ c : Dev Cert.GatherIdeal.nD,
          r.2.mem ((c.tc : Thread Cert.GatherIdeal.nD Cert.GatherIdeal.τ).loc Cert.GatherIdeal.main_v0_0) = v0 c
          ∧ r.2.mem ((c.tc : Thread Cert.GatherIdeal.nD Cert.GatherIdeal.τ).loc Cert.GatherIdeal.main_v0_1) = v1 c
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0)
          ∧ r.2.mem ((c.tc : Thread Cert.GatherIdeal.nD Cert.GatherIdeal.τ).loc Cert.GatherIdeal.main_arg1) = m ((c.tc : Thread Cert.GatherIdeal.nD Cert.GatherIdeal.τ).loc Cert.GatherIdeal.main_arg1)
          ∧ r.2.mem ((c.tc : Thread Cert.GatherIdeal.nD Cert.GatherIdeal.τ).loc Cert.GatherIdeal.main_arg2) = m ((c.tc : Thread Cert.GatherIdeal.nD Cert.GatherIdeal.τ).loc Cert.GatherIdeal.main_arg2)
          ∧ r.2.mem ((c.tc : Thread Cert.GatherIdeal.nD Cert.GatherIdeal.τ).loc Cert.GatherIdeal.main_arg3) = m ((c.tc : Thread Cert.GatherIdeal.nD Cert.GatherIdeal.τ).loc Cert.GatherIdeal.main_arg3))
      ∧ θ_run (Cert.GatherReferenceIdeal.defs (F := Ideal)) (onTc (τ := Cert.GatherReferenceIdeal.τ) (Cert.GatherReferenceIdeal.main (F := Ideal))) ⟨m', fun _ => 0, g'⟩ (fun r => ∀ c : Dev Cert.GatherReferenceIdeal.nD,
          r.2.mem ((c.tc : Thread Cert.GatherReferenceIdeal.nD Cert.GatherReferenceIdeal.τ).loc Cert.GatherReferenceIdeal.main_v6) = v0 c
          ∧ r.2.mem ((c.tc : Thread Cert.GatherReferenceIdeal.nD Cert.GatherReferenceIdeal.τ).loc Cert.GatherReferenceIdeal.main_v13) = v1 c
          ∧ r.2.mem ((c.tc : Thread Cert.GatherReferenceIdeal.nD Cert.GatherReferenceIdeal.τ).loc Cert.GatherReferenceIdeal.main_arg0) = m' ((c.tc : Thread Cert.GatherReferenceIdeal.nD Cert.GatherReferenceIdeal.τ).loc Cert.GatherReferenceIdeal.main_arg0)
          ∧ r.2.mem ((c.tc : Thread Cert.GatherReferenceIdeal.nD Cert.GatherReferenceIdeal.τ).loc Cert.GatherReferenceIdeal.main_arg1) = m' ((c.tc : Thread Cert.GatherReferenceIdeal.nD Cert.GatherReferenceIdeal.τ).loc Cert.GatherReferenceIdeal.main_arg1)
          ∧ r.2.mem ((c.tc : Thread Cert.GatherReferenceIdeal.nD Cert.GatherReferenceIdeal.τ).loc Cert.GatherReferenceIdeal.main_arg2) = m' ((c.tc : Thread Cert.GatherReferenceIdeal.nD Cert.GatherReferenceIdeal.τ).loc Cert.GatherReferenceIdeal.main_arg2)
          ∧ r.2.mem ((c.tc : Thread Cert.GatherReferenceIdeal.nD Cert.GatherReferenceIdeal.τ).loc Cert.GatherReferenceIdeal.main_arg3) = m' ((c.tc : Thread Cert.GatherReferenceIdeal.nD Cert.GatherReferenceIdeal.τ).loc Cert.GatherReferenceIdeal.main_arg3))

def preserves_Edge_EdgeIdeal : Prop :=
  True

def algebraic_EdgeIdeal_EdgeReferenceIdeal [hEdgeIdeal : Cert.EdgeIdeal.Facts] [hEdgeReferenceIdeal : Cert.EdgeReferenceIdeal.Facts] : Prop :=
  ∀ (m : (ℓ : Loc Cert.EdgeIdeal.nD Cert.EdgeIdeal.τ Cert.EdgeIdeal.sig) → Buf (Elt Ideal) ℓ) (g : Dev Cert.EdgeIdeal.nD → PrngReg)
    (m' : (ℓ : Loc Cert.EdgeReferenceIdeal.nD Cert.EdgeReferenceIdeal.τ Cert.EdgeReferenceIdeal.sig) → Buf (Elt Ideal) ℓ) (g' : Dev Cert.EdgeReferenceIdeal.nD → PrngReg), Pre_EdgeIdeal m →
    (∀ c : Dev Cert.EdgeIdeal.nD,
      m' ((c.tc : Thread Cert.EdgeReferenceIdeal.nD Cert.EdgeReferenceIdeal.τ).loc Cert.EdgeReferenceIdeal.main_arg0) = m ((c.tc : Thread Cert.EdgeIdeal.nD Cert.EdgeIdeal.τ).loc Cert.EdgeIdeal.main_arg0)
      ∧ m' ((c.tc : Thread Cert.EdgeReferenceIdeal.nD Cert.EdgeReferenceIdeal.τ).loc Cert.EdgeReferenceIdeal.main_arg1) = m ((c.tc : Thread Cert.EdgeIdeal.nD Cert.EdgeIdeal.τ).loc Cert.EdgeIdeal.main_arg1)
      ∧ m' ((c.tc : Thread Cert.EdgeReferenceIdeal.nD Cert.EdgeReferenceIdeal.τ).loc Cert.EdgeReferenceIdeal.main_arg2) = m ((c.tc : Thread Cert.EdgeIdeal.nD Cert.EdgeIdeal.τ).loc Cert.EdgeIdeal.main_arg2)
      ∧ m' ((c.tc : Thread Cert.EdgeReferenceIdeal.nD Cert.EdgeReferenceIdeal.τ).loc Cert.EdgeReferenceIdeal.main_arg3) = m ((c.tc : Thread Cert.EdgeIdeal.nD Cert.EdgeIdeal.τ).loc Cert.EdgeIdeal.main_arg3)) →
    ∃ (v0 : (c : Dev Cert.EdgeIdeal.nD) → Buf (Elt Ideal) ((c.tc : Thread Cert.EdgeIdeal.nD Cert.EdgeIdeal.τ).loc Cert.EdgeIdeal.main_v1)),
      θ_run (Cert.EdgeIdeal.defs (F := Ideal)) (onTc (τ := Cert.EdgeIdeal.τ) (Cert.EdgeIdeal.main (F := Ideal))) ⟨m, fun _ => 0, g⟩ (fun r => ∀ c : Dev Cert.EdgeIdeal.nD,
          r.2.mem ((c.tc : Thread Cert.EdgeIdeal.nD Cert.EdgeIdeal.τ).loc Cert.EdgeIdeal.main_v1) = v0 c
          ∧ r.2.mem ((c.tc : Thread Cert.EdgeIdeal.nD Cert.EdgeIdeal.τ).loc Cert.EdgeIdeal.main_arg0) = m ((c.tc : Thread Cert.EdgeIdeal.nD Cert.EdgeIdeal.τ).loc Cert.EdgeIdeal.main_arg0)
          ∧ r.2.mem ((c.tc : Thread Cert.EdgeIdeal.nD Cert.EdgeIdeal.τ).loc Cert.EdgeIdeal.main_arg1) = m ((c.tc : Thread Cert.EdgeIdeal.nD Cert.EdgeIdeal.τ).loc Cert.EdgeIdeal.main_arg1)
          ∧ r.2.mem ((c.tc : Thread Cert.EdgeIdeal.nD Cert.EdgeIdeal.τ).loc Cert.EdgeIdeal.main_arg2) = m ((c.tc : Thread Cert.EdgeIdeal.nD Cert.EdgeIdeal.τ).loc Cert.EdgeIdeal.main_arg2)
          ∧ r.2.mem ((c.tc : Thread Cert.EdgeIdeal.nD Cert.EdgeIdeal.τ).loc Cert.EdgeIdeal.main_arg3) = m ((c.tc : Thread Cert.EdgeIdeal.nD Cert.EdgeIdeal.τ).loc Cert.EdgeIdeal.main_arg3))
      ∧ θ_run (Cert.EdgeReferenceIdeal.defs (F := Ideal)) (onTc (τ := Cert.EdgeReferenceIdeal.τ) (Cert.EdgeReferenceIdeal.main (F := Ideal))) ⟨m', fun _ => 0, g'⟩ (fun r => ∀ c : Dev Cert.EdgeReferenceIdeal.nD,
          r.2.mem ((c.tc : Thread Cert.EdgeReferenceIdeal.nD Cert.EdgeReferenceIdeal.τ).loc Cert.EdgeReferenceIdeal.main_v5) = v0 c
          ∧ r.2.mem ((c.tc : Thread Cert.EdgeReferenceIdeal.nD Cert.EdgeReferenceIdeal.τ).loc Cert.EdgeReferenceIdeal.main_arg0) = m' ((c.tc : Thread Cert.EdgeReferenceIdeal.nD Cert.EdgeReferenceIdeal.τ).loc Cert.EdgeReferenceIdeal.main_arg0)
          ∧ r.2.mem ((c.tc : Thread Cert.EdgeReferenceIdeal.nD Cert.EdgeReferenceIdeal.τ).loc Cert.EdgeReferenceIdeal.main_arg1) = m' ((c.tc : Thread Cert.EdgeReferenceIdeal.nD Cert.EdgeReferenceIdeal.τ).loc Cert.EdgeReferenceIdeal.main_arg1)
          ∧ r.2.mem ((c.tc : Thread Cert.EdgeReferenceIdeal.nD Cert.EdgeReferenceIdeal.τ).loc Cert.EdgeReferenceIdeal.main_arg2) = m' ((c.tc : Thread Cert.EdgeReferenceIdeal.nD Cert.EdgeReferenceIdeal.τ).loc Cert.EdgeReferenceIdeal.main_arg2)
          ∧ r.2.mem ((c.tc : Thread Cert.EdgeReferenceIdeal.nD Cert.EdgeReferenceIdeal.τ).loc Cert.EdgeReferenceIdeal.main_arg3) = m' ((c.tc : Thread Cert.EdgeReferenceIdeal.nD Cert.EdgeReferenceIdeal.τ).loc Cert.EdgeReferenceIdeal.main_arg3))

def preserves_Decoder_DecoderIdeal : Prop :=
  True

def algebraic_DecoderIdeal_DecoderReferenceIdeal [hDecoderIdeal : Cert.DecoderIdeal.Facts] [hDecoderReferenceIdeal : Cert.DecoderReferenceIdeal.Facts] : Prop :=
  ∀ (m : (ℓ : Loc Cert.DecoderIdeal.nD Cert.DecoderIdeal.τ Cert.DecoderIdeal.sig) → Buf (Elt Ideal) ℓ) (g : Dev Cert.DecoderIdeal.nD → PrngReg)
    (m' : (ℓ : Loc Cert.DecoderReferenceIdeal.nD Cert.DecoderReferenceIdeal.τ Cert.DecoderReferenceIdeal.sig) → Buf (Elt Ideal) ℓ) (g' : Dev Cert.DecoderReferenceIdeal.nD → PrngReg), Pre_DecoderIdeal m →
    (∀ c : Dev Cert.DecoderIdeal.nD,
      m' ((c.tc : Thread Cert.DecoderReferenceIdeal.nD Cert.DecoderReferenceIdeal.τ).loc Cert.DecoderReferenceIdeal.main_arg0) = m ((c.tc : Thread Cert.DecoderIdeal.nD Cert.DecoderIdeal.τ).loc Cert.DecoderIdeal.main_arg0)
      ∧ m' ((c.tc : Thread Cert.DecoderReferenceIdeal.nD Cert.DecoderReferenceIdeal.τ).loc Cert.DecoderReferenceIdeal.main_arg1) = m ((c.tc : Thread Cert.DecoderIdeal.nD Cert.DecoderIdeal.τ).loc Cert.DecoderIdeal.main_arg1)
      ∧ m' ((c.tc : Thread Cert.DecoderReferenceIdeal.nD Cert.DecoderReferenceIdeal.τ).loc Cert.DecoderReferenceIdeal.main_arg2) = m ((c.tc : Thread Cert.DecoderIdeal.nD Cert.DecoderIdeal.τ).loc Cert.DecoderIdeal.main_arg2)
      ∧ m' ((c.tc : Thread Cert.DecoderReferenceIdeal.nD Cert.DecoderReferenceIdeal.τ).loc Cert.DecoderReferenceIdeal.main_arg3) = m ((c.tc : Thread Cert.DecoderIdeal.nD Cert.DecoderIdeal.τ).loc Cert.DecoderIdeal.main_arg3)
      ∧ m' ((c.tc : Thread Cert.DecoderReferenceIdeal.nD Cert.DecoderReferenceIdeal.τ).loc Cert.DecoderReferenceIdeal.main_arg4) = m ((c.tc : Thread Cert.DecoderIdeal.nD Cert.DecoderIdeal.τ).loc Cert.DecoderIdeal.main_arg4)) →
    ∃ (v0 : (c : Dev Cert.DecoderIdeal.nD) → Buf (Elt Ideal) ((c.tc : Thread Cert.DecoderIdeal.nD Cert.DecoderIdeal.τ).loc Cert.DecoderIdeal.main_v2)),
      θ_run (Cert.DecoderIdeal.defs (F := Ideal)) (onTc (τ := Cert.DecoderIdeal.τ) (Cert.DecoderIdeal.main (F := Ideal))) ⟨m, fun _ => 0, g⟩ (fun r => ∀ c : Dev Cert.DecoderIdeal.nD,
          r.2.mem ((c.tc : Thread Cert.DecoderIdeal.nD Cert.DecoderIdeal.τ).loc Cert.DecoderIdeal.main_v2) = v0 c
          ∧ r.2.mem ((c.tc : Thread Cert.DecoderIdeal.nD Cert.DecoderIdeal.τ).loc Cert.DecoderIdeal.main_arg0) = m ((c.tc : Thread Cert.DecoderIdeal.nD Cert.DecoderIdeal.τ).loc Cert.DecoderIdeal.main_arg0)
          ∧ r.2.mem ((c.tc : Thread Cert.DecoderIdeal.nD Cert.DecoderIdeal.τ).loc Cert.DecoderIdeal.main_arg1) = m ((c.tc : Thread Cert.DecoderIdeal.nD Cert.DecoderIdeal.τ).loc Cert.DecoderIdeal.main_arg1)
          ∧ r.2.mem ((c.tc : Thread Cert.DecoderIdeal.nD Cert.DecoderIdeal.τ).loc Cert.DecoderIdeal.main_arg2) = m ((c.tc : Thread Cert.DecoderIdeal.nD Cert.DecoderIdeal.τ).loc Cert.DecoderIdeal.main_arg2)
          ∧ r.2.mem ((c.tc : Thread Cert.DecoderIdeal.nD Cert.DecoderIdeal.τ).loc Cert.DecoderIdeal.main_arg3) = m ((c.tc : Thread Cert.DecoderIdeal.nD Cert.DecoderIdeal.τ).loc Cert.DecoderIdeal.main_arg3)
          ∧ r.2.mem ((c.tc : Thread Cert.DecoderIdeal.nD Cert.DecoderIdeal.τ).loc Cert.DecoderIdeal.main_arg4) = m ((c.tc : Thread Cert.DecoderIdeal.nD Cert.DecoderIdeal.τ).loc Cert.DecoderIdeal.main_arg4))
      ∧ θ_run (Cert.DecoderReferenceIdeal.defs (F := Ideal)) (onTc (τ := Cert.DecoderReferenceIdeal.τ) (Cert.DecoderReferenceIdeal.main (F := Ideal))) ⟨m', fun _ => 0, g'⟩ (fun r => ∀ c : Dev Cert.DecoderReferenceIdeal.nD,
          r.2.mem ((c.tc : Thread Cert.DecoderReferenceIdeal.nD Cert.DecoderReferenceIdeal.τ).loc Cert.DecoderReferenceIdeal.main_v8) = v0 c
          ∧ r.2.mem ((c.tc : Thread Cert.DecoderReferenceIdeal.nD Cert.DecoderReferenceIdeal.τ).loc Cert.DecoderReferenceIdeal.main_arg0) = m' ((c.tc : Thread Cert.DecoderReferenceIdeal.nD Cert.DecoderReferenceIdeal.τ).loc Cert.DecoderReferenceIdeal.main_arg0)
          ∧ r.2.mem ((c.tc : Thread Cert.DecoderReferenceIdeal.nD Cert.DecoderReferenceIdeal.τ).loc Cert.DecoderReferenceIdeal.main_arg1) = m' ((c.tc : Thread Cert.DecoderReferenceIdeal.nD Cert.DecoderReferenceIdeal.τ).loc Cert.DecoderReferenceIdeal.main_arg1)
          ∧ r.2.mem ((c.tc : Thread Cert.DecoderReferenceIdeal.nD Cert.DecoderReferenceIdeal.τ).loc Cert.DecoderReferenceIdeal.main_arg2) = m' ((c.tc : Thread Cert.DecoderReferenceIdeal.nD Cert.DecoderReferenceIdeal.τ).loc Cert.DecoderReferenceIdeal.main_arg2)
          ∧ r.2.mem ((c.tc : Thread Cert.DecoderReferenceIdeal.nD Cert.DecoderReferenceIdeal.τ).loc Cert.DecoderReferenceIdeal.main_arg3) = m' ((c.tc : Thread Cert.DecoderReferenceIdeal.nD Cert.DecoderReferenceIdeal.τ).loc Cert.DecoderReferenceIdeal.main_arg3)
          ∧ r.2.mem ((c.tc : Thread Cert.DecoderReferenceIdeal.nD Cert.DecoderReferenceIdeal.τ).loc Cert.DecoderReferenceIdeal.main_arg4) = m' ((c.tc : Thread Cert.DecoderReferenceIdeal.nD Cert.DecoderReferenceIdeal.τ).loc Cert.DecoderReferenceIdeal.main_arg4))

def preserves_First_FirstIdeal : Prop :=
  True

def algebraic_FirstIdeal_FirstReferenceIdeal [hFirstIdeal : Cert.FirstIdeal.Facts] [hFirstReferenceIdeal : Cert.FirstReferenceIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.FirstReferenceIdeal.nD Cert.FirstReferenceIdeal.τ Cert.FirstReferenceIdeal.sig) → Buf (Elt Ideal) ℓ) (g' : Dev Cert.FirstReferenceIdeal.nD → PrngReg), Pre_FirstIdeal m →
    (∀ c : Dev Cert.FirstIdeal.nD,
      m' ((c.tc : Thread Cert.FirstReferenceIdeal.nD Cert.FirstReferenceIdeal.τ).loc Cert.FirstReferenceIdeal.main_arg0) = m ((c.tc : Thread Cert.FirstIdeal.nD Cert.FirstIdeal.τ).loc Cert.FirstIdeal.main_arg0)
      ∧ m' ((c.tc : Thread Cert.FirstReferenceIdeal.nD Cert.FirstReferenceIdeal.τ).loc Cert.FirstReferenceIdeal.main_arg1) = m ((c.tc : Thread Cert.FirstIdeal.nD Cert.FirstIdeal.τ).loc Cert.FirstIdeal.main_arg1)
      ∧ m' ((c.tc : Thread Cert.FirstReferenceIdeal.nD Cert.FirstReferenceIdeal.τ).loc Cert.FirstReferenceIdeal.main_arg2) = m ((c.tc : Thread Cert.FirstIdeal.nD Cert.FirstIdeal.τ).loc Cert.FirstIdeal.main_arg2)
      ∧ m' ((c.tc : Thread Cert.FirstReferenceIdeal.nD Cert.FirstReferenceIdeal.τ).loc Cert.FirstReferenceIdeal.main_arg3) = m ((c.tc : Thread Cert.FirstIdeal.nD Cert.FirstIdeal.τ).loc Cert.FirstIdeal.main_arg3)) →
    ∃ (v0 : (c : Dev Cert.FirstIdeal.nD) → Buf (Elt Ideal) ((c.tc : Thread Cert.FirstIdeal.nD Cert.FirstIdeal.τ).loc Cert.FirstIdeal.main_v3_0)) (v1 : (c : Dev Cert.FirstIdeal.nD) → Buf (Elt Ideal) ((c.tc : Thread Cert.FirstIdeal.nD Cert.FirstIdeal.τ).loc Cert.FirstIdeal.main_v3_1)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v3_0) = v0 c
          ∧ r.2.mem ((c.tc : Thread Cert.FirstIdeal.nD Cert.FirstIdeal.τ).loc Cert.FirstIdeal.main_v3_1) = v1 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1)
          ∧ r.2.mem ((c.tc : Thread Cert.FirstIdeal.nD Cert.FirstIdeal.τ).loc Cert.FirstIdeal.main_arg2) = m ((c.tc : Thread Cert.FirstIdeal.nD Cert.FirstIdeal.τ).loc Cert.FirstIdeal.main_arg2)
          ∧ r.2.mem ((c.tc : Thread Cert.FirstIdeal.nD Cert.FirstIdeal.τ).loc Cert.FirstIdeal.main_arg3) = m ((c.tc : Thread Cert.FirstIdeal.nD Cert.FirstIdeal.τ).loc Cert.FirstIdeal.main_arg3))
      ∧ θ_run (Cert.FirstReferenceIdeal.defs (F := Ideal)) (onTc (τ := Cert.FirstReferenceIdeal.τ) (Cert.FirstReferenceIdeal.main (F := Ideal))) ⟨m', fun _ => 0, g'⟩ (fun r => ∀ c : Dev Cert.FirstReferenceIdeal.nD,
          r.2.mem ((c.tc : Thread Cert.FirstReferenceIdeal.nD Cert.FirstReferenceIdeal.τ).loc Cert.FirstReferenceIdeal.main_v4) = v0 c
          ∧ r.2.mem ((c.tc : Thread Cert.FirstReferenceIdeal.nD Cert.FirstReferenceIdeal.τ).loc Cert.FirstReferenceIdeal.main_v6) = v1 c
          ∧ r.2.mem ((c.tc : Thread Cert.FirstReferenceIdeal.nD Cert.FirstReferenceIdeal.τ).loc Cert.FirstReferenceIdeal.main_arg0) = m' ((c.tc : Thread Cert.FirstReferenceIdeal.nD Cert.FirstReferenceIdeal.τ).loc Cert.FirstReferenceIdeal.main_arg0)
          ∧ r.2.mem ((c.tc : Thread Cert.FirstReferenceIdeal.nD Cert.FirstReferenceIdeal.τ).loc Cert.FirstReferenceIdeal.main_arg1) = m' ((c.tc : Thread Cert.FirstReferenceIdeal.nD Cert.FirstReferenceIdeal.τ).loc Cert.FirstReferenceIdeal.main_arg1)
          ∧ r.2.mem ((c.tc : Thread Cert.FirstReferenceIdeal.nD Cert.FirstReferenceIdeal.τ).loc Cert.FirstReferenceIdeal.main_arg2) = m' ((c.tc : Thread Cert.FirstReferenceIdeal.nD Cert.FirstReferenceIdeal.τ).loc Cert.FirstReferenceIdeal.main_arg2)
          ∧ r.2.mem ((c.tc : Thread Cert.FirstReferenceIdeal.nD Cert.FirstReferenceIdeal.τ).loc Cert.FirstReferenceIdeal.main_arg3) = m' ((c.tc : Thread Cert.FirstReferenceIdeal.nD Cert.FirstReferenceIdeal.τ).loc Cert.FirstReferenceIdeal.main_arg3))

def preserves_Second_SecondIdeal : Prop :=
  True

def algebraic_SecondIdeal_SecondReferenceIdeal [hSecondIdeal : Cert.SecondIdeal.Facts] [hSecondReferenceIdeal : Cert.SecondReferenceIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)) →
    ∃ (v0 : (c : Dev Cert.SecondIdeal.nD) → Buf (Elt Ideal) ((c.tc : Thread Cert.SecondIdeal.nD Cert.SecondIdeal.τ).loc Cert.SecondIdeal.main_v3_0)) (v1 : (c : Dev Cert.SecondIdeal.nD) → Buf (Elt Ideal) ((c.tc : Thread Cert.SecondIdeal.nD Cert.SecondIdeal.τ).loc Cert.SecondIdeal.main_v3_1)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v3_0) = v0 c
          ∧ r.2.mem ((c.tc : Thread Cert.SecondIdeal.nD Cert.SecondIdeal.τ).loc Cert.SecondIdeal.main_v3_1) = v1 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v4) = v0 c
          ∧ r.2.mem ((c.tc : Thread Cert.SecondReferenceIdeal.nD Cert.SecondReferenceIdeal.τ).loc Cert.SecondReferenceIdeal.main_v6) = v1 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3))

def Claim : Prop :=
  ∃ (hKernel : Cert.Kernel.Facts) (hKernelIdeal : Cert.KernelIdeal.Facts) (hReferenceIdeal : Cert.ReferenceIdeal.Facts) (hGather : Cert.Gather.Facts) (hGatherIdeal : Cert.GatherIdeal.Facts) (hGatherReferenceIdeal : Cert.GatherReferenceIdeal.Facts) (hEdge : Cert.Edge.Facts) (hEdgeIdeal : Cert.EdgeIdeal.Facts) (hEdgeReferenceIdeal : Cert.EdgeReferenceIdeal.Facts) (hDecoder : Cert.Decoder.Facts) (hDecoderIdeal : Cert.DecoderIdeal.Facts) (hDecoderReferenceIdeal : Cert.DecoderReferenceIdeal.Facts) (hFirst : Cert.First.Facts) (hFirstIdeal : Cert.FirstIdeal.Facts) (hFirstReferenceIdeal : Cert.FirstReferenceIdeal.Facts) (hSecond : Cert.Second.Facts) (hSecondIdeal : Cert.SecondIdeal.Facts) (hSecondReferenceIdeal : Cert.SecondReferenceIdeal.Facts) (hPre_nodes : Cert.Pre_nodes.Facts),
    quiescent_Kernel (hKernel := hKernel)
    ∧ quiescent_KernelIdeal (hKernelIdeal := hKernelIdeal)
    ∧ quiescent_ReferenceIdeal (hReferenceIdeal := hReferenceIdeal)
    ∧ quiescent_Gather (hGather := hGather) (hPre_nodes := hPre_nodes)
    ∧ quiescent_GatherIdeal (hGatherIdeal := hGatherIdeal) (hPre_nodes := hPre_nodes)
    ∧ quiescent_GatherReferenceIdeal (hGatherReferenceIdeal := hGatherReferenceIdeal) (hPre_nodes := hPre_nodes)
    ∧ quiescent_Edge (hEdge := hEdge)
    ∧ quiescent_EdgeIdeal (hEdgeIdeal := hEdgeIdeal)
    ∧ quiescent_EdgeReferenceIdeal (hEdgeReferenceIdeal := hEdgeReferenceIdeal)
    ∧ quiescent_Decoder (hDecoder := hDecoder)
    ∧ quiescent_DecoderIdeal (hDecoderIdeal := hDecoderIdeal)
    ∧ quiescent_DecoderReferenceIdeal (hDecoderReferenceIdeal := hDecoderReferenceIdeal)
    ∧ quiescent_First (hFirst := hFirst)
    ∧ quiescent_FirstIdeal (hFirstIdeal := hFirstIdeal)
    ∧ quiescent_FirstReferenceIdeal (hFirstReferenceIdeal := hFirstReferenceIdeal)
    ∧ quiescent_Second (hSecond := hSecond)
    ∧ quiescent_SecondIdeal (hSecondIdeal := hSecondIdeal)
    ∧ quiescent_SecondReferenceIdeal (hSecondReferenceIdeal := hSecondReferenceIdeal)
    ∧ preserves_Kernel_KernelIdeal
    ∧ algebraic_KernelIdeal_ReferenceIdeal (hKernelIdeal := hKernelIdeal) (hReferenceIdeal := hReferenceIdeal)
    ∧ preserves_Gather_GatherIdeal
    ∧ algebraic_GatherIdeal_GatherReferenceIdeal (hGatherIdeal := hGatherIdeal) (hGatherReferenceIdeal := hGatherReferenceIdeal) (hPre_nodes := hPre_nodes)
    ∧ preserves_Edge_EdgeIdeal
    ∧ algebraic_EdgeIdeal_EdgeReferenceIdeal (hEdgeIdeal := hEdgeIdeal) (hEdgeReferenceIdeal := hEdgeReferenceIdeal)
    ∧ preserves_Decoder_DecoderIdeal
    ∧ algebraic_DecoderIdeal_DecoderReferenceIdeal (hDecoderIdeal := hDecoderIdeal) (hDecoderReferenceIdeal := hDecoderReferenceIdeal)
    ∧ preserves_First_FirstIdeal
    ∧ algebraic_FirstIdeal_FirstReferenceIdeal (hFirstIdeal := hFirstIdeal) (hFirstReferenceIdeal := hFirstReferenceIdeal)
    ∧ preserves_Second_SecondIdeal
    ∧ algebraic_SecondIdeal_SecondReferenceIdeal (hSecondIdeal := hSecondIdeal) (hSecondReferenceIdeal := hSecondReferenceIdeal)
-- ==== Pre_nodes.lean ====
abbrev S10000x128 : Shape := ⟨2, ![10000, 128]⟩
abbrev S320000 : Shape := ⟨1, ![320000]⟩
abbrev S_ : Shape := ⟨0, ![]⟩

class Facts : Prop where
  bcast_S_S320000 : S_.BroadcastsInDim S320000 (![] : Fin 0 → Fin S320000.rank)
  reducesTo_S320000_S_d0 : S320000.ReducesTo [0] S_
  h_S_ : 0 < S_.numel

variable [Facts]

def fn {F : FTy → Type} [FloatOps F] (main_arg0 : FVec F S10000x128 .f32) (main_arg1 : FVec F S10000x128 .f32) (main_arg2 : IVec S320000 32) (main_arg3 : IVec S320000 32) : IVec S_ 1 :=
  let main_c : IVec S_ 32 := constantI S_ 32 0#32
  let main_v0 : IVec S320000 32 := broadcastInDim S320000 ![] bcast_S_S320000 main_c
  let main_v1 : IVec S320000 1 := cmpi .sge main_arg2 main_v0
  let main_c_0 : IVec S_ 32 := constantI S_ 32 10000#32
  let main_v2 : IVec S320000 32 := broadcastInDim S320000 ![] bcast_S_S320000 main_c_0
  let main_v3 : IVec S320000 1 := cmpi .slt main_arg2 main_v2
  let main_v4 : IVec S320000 1 := andi main_v1 main_v3
  let main_c_1 : IVec S_ 1 := constantI S_ 1 1#1
  let main_v5 : IVec S_ 1 := (fun x v => Host.reduce IntOp.andi x v reducesTo_S320000_S_d0 h_S_) main_v4 main_c_1
  let main_c_2 : IVec S_ 32 := constantI S_ 32 0#32
  let main_v6 : IVec S320000 32 := broadcastInDim S320000 ![] bcast_S_S320000 main_c_2
  let main_v7 : IVec S320000 1 := cmpi .sge main_arg3 main_v6
  let main_c_3 : IVec S_ 32 := constantI S_ 32 10000#32
  let main_v8 : IVec S320000 32 := broadcastInDim S320000 ![] bcast_S_S320000 main_c_3
  let main_v9 : IVec S320000 1 := cmpi .slt main_arg3 main_v8
  let main_v10 : IVec S320000 1 := andi main_v7 main_v9
  let main_c_4 : IVec S_ 1 := constantI S_ 1 1#1
  let main_v11 : IVec S_ 1 := (fun x v => Host.reduce IntOp.andi x v reducesTo_S320000_S_d0 h_S_) main_v10 main_c_4
  let main_v12 : IVec S_ 1 := andi main_v5 main_v11
  main_v12
-- ==== Kernel.lean ====
abbrev S320000x128 : Shape := ⟨2, ![320000, 128]⟩
abbrev S320000 : Shape := ⟨1, ![320000]⟩
abbrev S10244096 : Shape := ⟨1, ![10244096]⟩
abbrev S512 : Shape := ⟨1, ![512]⟩
abbrev S8000 : Shape := ⟨1, ![8000]⟩
abbrev S8336 : Shape := ⟨1, ![8336]⟩
abbrev S16 : Shape := ⟨1, ![16]⟩
abbrev S_ : Shape := ⟨0, ![]⟩
abbrev S1 : Shape := ⟨1, ![1]⟩
abbrev S128 : Shape := ⟨1, ![128]⟩
abbrev S1310720 : Shape := ⟨1, ![1310720]⟩
abbrev S128x128 : Shape := ⟨2, ![128, 128]⟩
abbrev S41088 : Shape := ⟨1, ![41088]⟩
abbrev S1x16 : Shape := ⟨2, ![1, 16]⟩
abbrev S40960 : Shape := ⟨1, ![40960]⟩
abbrev S10240x128 : Shape := ⟨2, ![10240, 128]⟩
abbrev S10000x128 : Shape := ⟨2, ![10000, 128]⟩

abbrev nBuf : Table → Nat
  | .hbm => 8
  | .local .scVector .vmem => 9
  | _ => 0

abbrev bufTy : (tb : Table) → Fin (nBuf tb) → BufTy
  | .hbm, ⟨0, _⟩ => ⟨S320000x128, .f32⟩
  | .hbm, ⟨1, _⟩ => ⟨S320000, .i32⟩
  | .hbm, ⟨2, _⟩ => ⟨S10244096, .i32⟩
  | .hbm, ⟨3, _⟩ => ⟨S10244096, .i32⟩
  | .hbm, ⟨4, _⟩ => ⟨S512, .i32⟩
  | .hbm, ⟨5, _⟩ => ⟨S1310720, .f32⟩
  | .hbm, ⟨6, _⟩ => ⟨S10240x128, .f32⟩
  | .hbm, ⟨7, _⟩ => ⟨S10000x128, .f32⟩
  | .local .scVector .vmem, ⟨0, _⟩ => ⟨S8000, .i32⟩
  | .local .scVector .vmem, ⟨1, _⟩ => ⟨S8336, .i32⟩
  | .local .scVector .vmem, ⟨2, _⟩ => ⟨S8336, .i32⟩
  | .local .scVector .vmem, ⟨3, _⟩ => ⟨S16, .i32⟩
  | .local .scVector .vmem, ⟨4, _⟩ => ⟨S128, .i32⟩
  | .local .scVector .vmem, ⟨5, _⟩ => ⟨S128, .i32⟩
  | .local .scVector .vmem, ⟨6, _⟩ => ⟨S128x128, .f32⟩
  | .local .scVector .vmem, ⟨7, _⟩ => ⟨S41088, .f32⟩
  | .local .scVector .vmem, ⟨8, _⟩ => ⟨S16, .i32⟩
  | _, _ => ⟨S320000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1_scv : Ref sig .scVector := ⟨.hbm, 1, rfl⟩
abbrev main_v0_0_scv : Ref sig .scVector := ⟨.hbm, 2, rfl⟩
abbrev main_v0_1_scv : Ref sig .scVector := ⟨.hbm, 3, rfl⟩
abbrev main_v0_2_scv : Ref sig .scVector := ⟨.hbm, 4, rfl⟩
abbrev main_arg0_scv : Ref sig .scVector := ⟨.hbm, 0, rfl⟩
abbrev main_v1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc1_scratch4 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c40_i32 : BitVec 32 := 40#32
  let v5 : BitVec 32 := Scalar.addi c0_i32_2 c40_i32
  let c1_i32 : BitVec 32 := 1#32
  ⟨c0_i32_2, v5, c1_i32⟩
def k0_off1 (k0_t1 : Fin k0_t1_loop.trips) : Fin 1 → Nat :=
  let c0_i32_59 : BitVec 32 := 0#32
  let c0_i32_2 : BitVec 32 := 0#32
  let c1_i32 : BitVec 32 := 1#32
  let arg11 : BitVec 32 := Scf.iv c0_i32_2 c1_i32 k0_t1
  let c1_i32_58 : BitVec 32 := 1#32
  let v136 : BitVec 32 := Scalar.muli arg11 c1_i32_58
  let v137 : BitVec 32 := Scalar.addi c0_i32_59 v136
  let c8000_i32 : BitVec 32 := 8000#32
  let v138 : BitVec 32 := Scalar.muli v137 c8000_i32
  ![v138.toNat]
@[reducible] def k0_t2_loop : Scf.Loop 32 :=
  let c0_i32_60 : BitVec 32 := 0#32
  let c500_i32 : BitVec 32 := 500#32
  let v139 : BitVec 32 := Scalar.addi c0_i32_60 c500_i32
  let c1_i32_61 : BitVec 32 := 1#32
  ⟨c0_i32_60, v139, c1_i32_61⟩
def k0_off2 (k0_t2 : Fin k0_t2_loop.trips) : Fin 1 → Nat :=
  let c16_i32_109 : BitVec 32 := 16#32
  let c0_i32_108 : BitVec 32 := 0#32
  let c0_i32_60 : BitVec 32 := 0#32
  let c1_i32_61 : BitVec 32 := 1#32
  let arg14 : BitVec 32 := Scf.iv c0_i32_60 c1_i32_61 k0_t2
  let c1_i32_107 : BitVec 32 := 1#32
  let v218 : BitVec 32 := Scalar.muli arg14 c1_i32_107
  let v219 : BitVec 32 := Scalar.addi c0_i32_108 v218
  let v220 : BitVec 32 := Scalar.muli c16_i32_109 v219
  let v221 : Index := Scalar.indexCast v220
  ![v221.toNat]

def k0_chk1 (v238 : IVec S16 32) : Prop :=
  (∀ a x, ((![v238] : Fin 1 → IVec S16 32) a x).toNat < S8336.size a) ∧
  (∀ a x, ((![v238] : Fin 1 → IVec S16 32) a x).toNat < S8336.size a)
theorem k0_idx1_inb : ∀ (v238 : IVec S16 32) (k0_hw1 : k0_chk1 v238), ∀ a x, ((![v238] : Fin 1 → IVec S16 32) a x).toNat < S8336.size a := fun v238 k0_hw1 => k0_hw1.1
theorem k0_idx2_inb : ∀ (v238 : IVec S16 32) (k0_hw1 : k0_chk1 v238), ∀ a x, ((![v238] : Fin 1 → IVec S16 32) a x).toNat < S8336.size a := fun v238 k0_hw1 => k0_hw1.2
@[reducible] def k0_t3_loop (v140 : BitVec 32) : Scf.Loop 32 :=
  let c0_i32_70 : BitVec 32 := 0#32
  let c7_i32_63 : BitVec 32 := 7#32
  let v141 : BitVec 32 := Scalar.shrsi v140 c7_i32_63
  let c0_i32_64 : BitVec 32 := 0#32
  let v142 : BitVec 32 := Scalar.subi v141 c0_i32_64
  let c1_i32_65 : BitVec 32 := 1#32
  let c1_i32_66 : BitVec 32 := 1#32
  let v143 : BitVec 32 := Scalar.subi c1_i32_65 c1_i32_66
  let v144 : BitVec 32 := Scalar.addi v142 v143
  let c1_i32_67 : BitVec 32 := 1#32
  let v145 : BitVec 32 := Scalar.divsi v144 c1_i32_67
  let v146 : BitVec 32 := Scalar.subi v145 c0_i32_70
  let c1_i32_71 : BitVec 32 := 1#32
  let v148 : BitVec 32 := Scalar.divsi v146 c1_i32_71
  let v149 : BitVec 32 := Scalar.muli v148 c1_i32_71
  let v150 : BitVec 32 := Scalar.addi c0_i32_70 v149
  let c1_i32_72 : BitVec 32 := 1#32
  ⟨c0_i32_70, v150, c1_i32_72⟩

def k0_mult1 (i : grid0.Coords) (arg12 : BitVec 32) (v140 : BitVec 32) (k0_t3 : Fin (k0_t3_loop v140).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v220 : BitVec 32 := Scalar.muli v1 c320128_i32
  let v221 : BitVec 32 := Scalar.addi v220 arg12
  let c128_i32 : BitVec 32 := 128#32
  let c0_i32_69 : BitVec 32 := 0#32
  let c0_i32_70 : BitVec 32 := 0#32
  let c1_i32_72 : BitVec 32 := 1#32
  let arg14 : BitVec 32 := Scf.iv c0_i32_70 c1_i32_72 k0_t3
  let c1_i32_68 : BitVec 32 := 1#32
  let v218 : BitVec 32 := Scalar.muli arg14 c1_i32_68
  let v219 : BitVec 32 := Scalar.addi c0_i32_69 v218
  let v222 : BitVec 32 := Scalar.muli c128_i32 v219
  let v223 : BitVec 32 := Scalar.addi v221 v222
  v223
def k0_off3 (v140 : BitVec 32) (k0_t3 : Fin (k0_t3_loop v140).trips) : Fin 1 → Nat :=
  let c128_i32_107 : BitVec 32 := 128#32
  let c0_i32_69 : BitVec 32 := 0#32
  let c0_i32_70 : BitVec 32 := 0#32
  let c1_i32_72 : BitVec 32 := 1#32
  let arg14 : BitVec 32 := Scf.iv c0_i32_70 c1_i32_72 k0_t3
  let c1_i32_68 : BitVec 32 := 1#32
  let v218 : BitVec 32 := Scalar.muli arg14 c1_i32_68
  let v219 : BitVec 32 := Scalar.addi c0_i32_69 v218
  let v225 : BitVec 32 := Scalar.muli c128_i32_107 v219
  ![v225.toNat]
def k0_off4 (i : grid0.Coords) (arg12 : BitVec 32) (v140 : BitVec 32) (k0_t3 : Fin (k0_t3_loop v140).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v220 : BitVec 32 := Scalar.muli v1 c320128_i32
  let v221 : BitVec 32 := Scalar.addi v220 arg12
  let c128_i32 : BitVec 32 := 128#32
  let c0_i32_69 : BitVec 32 := 0#32
  let c0_i32_70 : BitVec 32 := 0#32
  let c1_i32_72 : BitVec 32 := 1#32
  let arg14 : BitVec 32 := Scf.iv c0_i32_70 c1_i32_72 k0_t3
  let c1_i32_68 : BitVec 32 := 1#32
  let v218 : BitVec 32 := Scalar.muli arg14 c1_i32_68
  let v219 : BitVec 32 := Scalar.addi c0_i32_69 v218
  let v222 : BitVec 32 := Scalar.muli c128_i32 v219
  let v223 : BitVec 32 := Scalar.addi v221 v222
  let v224 : BitVec 32 := v223
  ![v224.toNat]
@[reducible] def k0_t4_loop (v140 : BitVec 32) : Scf.Loop 32 :=
  let c0_i32_70 : BitVec 32 := 0#32
  let c7_i32_63 : BitVec 32 := 7#32
  let v141 : BitVec 32 := Scalar.shrsi v140 c7_i32_63
  let c0_i32_64 : BitVec 32 := 0#32
  let v142 : BitVec 32 := Scalar.subi v141 c0_i32_64
  let c1_i32_65 : BitVec 32 := 1#32
  let c1_i32_66 : BitVec 32 := 1#32
  let v143 : BitVec 32 := Scalar.subi c1_i32_65 c1_i32_66
  let v144 : BitVec 32 := Scalar.addi v142 v143
  let c1_i32_67 : BitVec 32 := 1#32
  let v145 : BitVec 32 := Scalar.divsi v144 c1_i32_67
  let v146 : BitVec 32 := Scalar.subi v145 c0_i32_70
  let c1_i32_71 : BitVec 32 := 1#32
  let v148 : BitVec 32 := Scalar.divsi v146 c1_i32_71
  let v149 : BitVec 32 := Scalar.muli v148 c1_i32_71
  let v150 : BitVec 32 := Scalar.addi c0_i32_70 v149
  let v147 : BitVec 32 := Scalar.addi c0_i32_70 v146
  let c1_i32_73 : BitVec 32 := 1#32
  ⟨v150, v147, c1_i32_73⟩
def k0_mult2 (i : grid0.Coords) (arg12 : BitVec 32) (v140 : BitVec 32) (k0_t4 : Fin (k0_t4_loop v140).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v220 : BitVec 32 := Scalar.muli v1 c320128_i32
  let v221 : BitVec 32 := Scalar.addi v220 arg12
  let c128_i32 : BitVec 32 := 128#32
  let c0_i32_69 : BitVec 32 := 0#32
  let c0_i32_70 : BitVec 32 := 0#32
  let c7_i32_63 : BitVec 32 := 7#32
  let v141 : BitVec 32 := Scalar.shrsi v140 c7_i32_63
  let c0_i32_64 : BitVec 32 := 0#32
  let v142 : BitVec 32 := Scalar.subi v141 c0_i32_64
  let c1_i32_65 : BitVec 32 := 1#32
  let c1_i32_66 : BitVec 32 := 1#32
  let v143 : BitVec 32 := Scalar.subi c1_i32_65 c1_i32_66
  let v144 : BitVec 32 := Scalar.addi v142 v143
  let c1_i32_67 : BitVec 32 := 1#32
  let v145 : BitVec 32 := Scalar.divsi v144 c1_i32_67
  let v146 : BitVec 32 := Scalar.subi v145 c0_i32_70
  let c1_i32_71 : BitVec 32 := 1#32
  let v148 : BitVec 32 := Scalar.divsi v146 c1_i32_71
  let v149 : BitVec 32 := Scalar.muli v148 c1_i32_71
  let v150 : BitVec 32 := Scalar.addi c0_i32_70 v149
  let c1_i32_73 : BitVec 32 := 1#32
  let arg14 : BitVec 32 := Scf.iv v150 c1_i32_73 k0_t4
  let c1_i32_68 : BitVec 32 := 1#32
  let v218 : BitVec 32 := Scalar.muli arg14 c1_i32_68
  let v219 : BitVec 32 := Scalar.addi c0_i32_69 v218
  let v222 : BitVec 32 := Scalar.muli c128_i32 v219
  let v223 : BitVec 32 := Scalar.addi v221 v222
  v223
def k0_off5 (v140 : BitVec 32) (k0_t4 : Fin (k0_t4_loop v140).trips) : Fin 1 → Nat :=
  let c128_i32_107 : BitVec 32 := 128#32
  let c0_i32_69 : BitVec 32 := 0#32
  let c0_i32_70 : BitVec 32 := 0#32
  let c7_i32_63 : BitVec 32 := 7#32
  let v141 : BitVec 32 := Scalar.shrsi v140 c7_i32_63
  let c0_i32_64 : BitVec 32 := 0#32
  let v142 : BitVec 32 := Scalar.subi v141 c0_i32_64
  let c1_i32_65 : BitVec 32 := 1#32
  let c1_i32_66 : BitVec 32 := 1#32
  let v143 : BitVec 32 := Scalar.subi c1_i32_65 c1_i32_66
  let v144 : BitVec 32 := Scalar.addi v142 v143
  let c1_i32_67 : BitVec 32 := 1#32
  let v145 : BitVec 32 := Scalar.divsi v144 c1_i32_67
  let v146 : BitVec 32 := Scalar.subi v145 c0_i32_70
  let c1_i32_71 : BitVec 32 := 1#32
  let v148 : BitVec 32 := Scalar.divsi v146 c1_i32_71
  let v149 : BitVec 32 := Scalar.muli v148 c1_i32_71
  let v150 : BitVec 32 := Scalar.addi c0_i32_70 v149
  let c1_i32_73 : BitVec 32 := 1#32
  let arg14 : BitVec 32 := Scf.iv v150 c1_i32_73 k0_t4
  let c1_i32_68 : BitVec 32 := 1#32
  let v218 : BitVec 32 := Scalar.muli arg14 c1_i32_68
  let v219 : BitVec 32 := Scalar.addi c0_i32_69 v218
  let v225 : BitVec 32 := Scalar.muli c128_i32_107 v219
  ![v225.toNat]
def k0_off6 (i : grid0.Coords) (arg12 : BitVec 32) (v140 : BitVec 32) (k0_t4 : Fin (k0_t4_loop v140).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v220 : BitVec 32 := Scalar.muli v1 c320128_i32
  let v221 : BitVec 32 := Scalar.addi v220 arg12
  let c128_i32 : BitVec 32 := 128#32
  let c0_i32_69 : BitVec 32 := 0#32
  let c0_i32_70 : BitVec 32 := 0#32
  let c7_i32_63 : BitVec 32 := 7#32
  let v141 : BitVec 32 := Scalar.shrsi v140 c7_i32_63
  let c0_i32_64 : BitVec 32 := 0#32
  let v142 : BitVec 32 := Scalar.subi v141 c0_i32_64
  let c1_i32_65 : BitVec 32 := 1#32
  let c1_i32_66 : BitVec 32 := 1#32
  let v143 : BitVec 32 := Scalar.subi c1_i32_65 c1_i32_66
  let v144 : BitVec 32 := Scalar.addi v142 v143
  let c1_i32_67 : BitVec 32 := 1#32
  let v145 : BitVec 32 := Scalar.divsi v144 c1_i32_67
  let v146 : BitVec 32 := Scalar.subi v145 c0_i32_70
  let c1_i32_71 : BitVec 32 := 1#32
  let v148 : BitVec 32 := Scalar.divsi v146 c1_i32_71
  let v149 : BitVec 32 := Scalar.muli v148 c1_i32_71
  let v150 : BitVec 32 := Scalar.addi c0_i32_70 v149
  let c1_i32_73 : BitVec 32 := 1#32
  let arg14 : BitVec 32 := Scf.iv v150 c1_i32_73 k0_t4
  let c1_i32_68 : BitVec 32 := 1#32
  let v218 : BitVec 32 := Scalar.muli arg14 c1_i32_68
  let v219 : BitVec 32 := Scalar.addi c0_i32_69 v218
  let v222 : BitVec 32 := Scalar.muli c128_i32 v219
  let v223 : BitVec 32 := Scalar.addi v221 v222
  let v224 : BitVec 32 := v223
  ![v224.toNat]
def k0_off7 (v140 : BitVec 32) (c0_i32_75 : BitVec 32) : Fin 1 → Nat :=
  let c7_i32_63 : BitVec 32 := 7#32
  let v141 : BitVec 32 := Scalar.shrsi v140 c7_i32_63
  let c7_i32_74 : BitVec 32 := 7#32
  let v151 : BitVec 32 := Scalar.shli v141 c7_i32_74
  let v152 : BitVec 32 := Scalar.addi v151 c0_i32_75
  let v153 : Index := Scalar.indexCast v152
  ![v153.toNat]

def k0_chk2 (i : grid0.Coords) (arg12 : BitVec 32) (v140 : BitVec 32) : Prop :=
  ((k0_t3_loop v140).OK) ∧
  (∀ k0_t3 : Fin (k0_t3_loop v140).trips, 128 ∣ (k0_mult1 i arg12 v140 k0_t3).toNat) ∧
  (∀ k0_t3 : Fin (k0_t3_loop v140).trips, ∀ a, (k0_off3 v140 k0_t3) a + S128.size a ≤ S8336.size a) ∧
  (∀ k0_t3 : Fin (k0_t3_loop v140).trips, ∀ a, (k0_off4 i arg12 v140 k0_t3) a + S128.size a ≤ S10244096.size a) ∧
  ((k0_t4_loop v140).OK) ∧
  (∀ k0_t4 : Fin (k0_t4_loop v140).trips, 128 ∣ (k0_mult2 i arg12 v140 k0_t4).toNat) ∧
  (∀ k0_t4 : Fin (k0_t4_loop v140).trips, ∀ a, (k0_off5 v140 k0_t4) a + S128.size a ≤ S8336.size a) ∧
  (∀ k0_t4 : Fin (k0_t4_loop v140).trips, ∀ a, (k0_off6 i arg12 v140 k0_t4) a + S128.size a ≤ S10244096.size a) ∧
  (∀ (r : Fin 8), ∀ a, (k0_off7 v140 (BitVec.ofNat 32 (16 * r.val))) a + S16.size a ≤ S8336.size a)
theorem k0_t3_ok : ∀ (i : grid0.Coords) (arg12 : BitVec 32) (v140 : BitVec 32) (k0_hw2 : k0_chk2 i arg12 v140), (k0_t3_loop v140).OK := fun i arg12 v140 k0_hw2 => k0_hw2.1
theorem k0_mult1_dvd : ∀ (i : grid0.Coords) (arg12 : BitVec 32) (v140 : BitVec 32) (k0_hw2 : k0_chk2 i arg12 v140) (k0_t3 : Fin (k0_t3_loop v140).trips), 128 ∣ (k0_mult1 i arg12 v140 k0_t3).toNat := fun i arg12 v140 k0_hw2 k0_t3 => k0_hw2.2.1 k0_t3
theorem k0_off3_inb : ∀ (i : grid0.Coords) (arg12 : BitVec 32) (v140 : BitVec 32) (k0_hw2 : k0_chk2 i arg12 v140) (k0_t3 : Fin (k0_t3_loop v140).trips), ∀ a, (k0_off3 v140 k0_t3) a + S128.size a ≤ S8336.size a := fun i arg12 v140 k0_hw2 k0_t3 => k0_hw2.2.2.1 k0_t3
theorem k0_off4_inb : ∀ (i : grid0.Coords) (arg12 : BitVec 32) (v140 : BitVec 32) (k0_hw2 : k0_chk2 i arg12 v140) (k0_t3 : Fin (k0_t3_loop v140).trips), ∀ a, (k0_off4 i arg12 v140 k0_t3) a + S128.size a ≤ S10244096.size a := fun i arg12 v140 k0_hw2 k0_t3 => k0_hw2.2.2.2.1 k0_t3
theorem k0_t4_ok : ∀ (i : grid0.Coords) (arg12 : BitVec 32) (v140 : BitVec 32) (k0_hw2 : k0_chk2 i arg12 v140), (k0_t4_loop v140).OK := fun i arg12 v140 k0_hw2 => k0_hw2.2.2.2.2.1
theorem k0_mult2_dvd : ∀ (i : grid0.Coords) (arg12 : BitVec 32) (v140 : BitVec 32) (k0_hw2 : k0_chk2 i arg12 v140) (k0_t4 : Fin (k0_t4_loop v140).trips), 128 ∣ (k0_mult2 i arg12 v140 k0_t4).toNat := fun i arg12 v140 k0_hw2 k0_t4 => k0_hw2.2.2.2.2.2.1 k0_t4
theorem k0_off5_inb : ∀ (i : grid0.Coords) (arg12 : BitVec 32) (v140 : BitVec 32) (k0_hw2 : k0_chk2 i arg12 v140) (k0_t4 : Fin (k0_t4_loop v140).trips), ∀ a, (k0_off5 v140 k0_t4) a + S128.size a ≤ S8336.size a := fun i arg12 v140 k0_hw2 k0_t4 => k0_hw2.2.2.2.2.2.2.1 k0_t4
theorem k0_off6_inb : ∀ (i : grid0.Coords) (arg12 : BitVec 32) (v140 : BitVec 32) (k0_hw2 : k0_chk2 i arg12 v140) (k0_t4 : Fin (k0_t4_loop v140).trips), ∀ a, (k0_off6 i arg12 v140 k0_t4) a + S128.size a ≤ S10244096.size a := fun i arg12 v140 k0_hw2 k0_t4 => k0_hw2.2.2.2.2.2.2.2.1 k0_t4
theorem k0_off7_inb : ∀ (i : grid0.Coords) (arg12 : BitVec 32) (v140 : BitVec 32) (k0_hw2 : k0_chk2 i arg12 v140), ∀ (r : Fin 8), ∀ a, (k0_off7 v140 (BitVec.ofNat 32 (16 * r.val))) a + S16.size a ≤ S8336.size a := fun i arg12 v140 k0_hw2 r => k0_hw2.2.2.2.2.2.2.2.2 r

@[reducible] def k0_t5_loop (v6_1 : BitVec 32) : Scf.Loop 32 :=
  let c0_i32_51 : BitVec 32 := 0#32
  let c127_i32 : BitVec 32 := 127#32
  let v119 : BitVec 32 := Scalar.addi v6_1 c127_i32
  let c7_i32 : BitVec 32 := 7#32
  let v120 : BitVec 32 := Scalar.shrsi v119 c7_i32
  let c0_i32_45 : BitVec 32 := 0#32
  let v121 : BitVec 32 := Scalar.subi v120 c0_i32_45
  let c1_i32_46 : BitVec 32 := 1#32
  let c1_i32_47 : BitVec 32 := 1#32
  let v122 : BitVec 32 := Scalar.subi c1_i32_46 c1_i32_47
  let v123 : BitVec 32 := Scalar.addi v121 v122
  let c1_i32_48 : BitVec 32 := 1#32
  let v124 : BitVec 32 := Scalar.divsi v123 c1_i32_48
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_53 : BitVec 32 := 1#32
  ⟨c0_i32_51, v129, c1_i32_53⟩

def k0_mult3 (i : grid0.Coords) (v6_1 : BitVec 32) (v6_0 : BitVec 32) (k0_t5 : Fin (k0_t5_loop v6_1).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v138 : BitVec 32 := Scalar.muli v1 c320128_i32
  let v139 : BitVec 32 := Scalar.addi v138 v6_0
  let c128_i32 : BitVec 32 := 128#32
  let c0_i32_50 : BitVec 32 := 0#32
  let c0_i32_51 : BitVec 32 := 0#32
  let c1_i32_53 : BitVec 32 := 1#32
  let arg11 : BitVec 32 := Scf.iv c0_i32_51 c1_i32_53 k0_t5
  let c1_i32_49 : BitVec 32 := 1#32
  let v136 : BitVec 32 := Scalar.muli arg11 c1_i32_49
  let v137 : BitVec 32 := Scalar.addi c0_i32_50 v136
  let v140 : BitVec 32 := Scalar.muli c128_i32 v137
  let v141 : BitVec 32 := Scalar.addi v139 v140
  v141

def k0_off8 (v6_1 : BitVec 32) (k0_t5 : Fin (k0_t5_loop v6_1).trips) : Fin 1 → Nat :=
  let c128_i32_58 : BitVec 32 := 128#32
  let c0_i32_50 : BitVec 32 := 0#32
  let c0_i32_51 : BitVec 32 := 0#32
  let c1_i32_53 : BitVec 32 := 1#32
  let arg11 : BitVec 32 := Scf.iv c0_i32_51 c1_i32_53 k0_t5
  let c1_i32_49 : BitVec 32 := 1#32
  let v136 : BitVec 32 := Scalar.muli arg11 c1_i32_49
  let v137 : BitVec 32 := Scalar.addi c0_i32_50 v136
  let v143 : BitVec 32 := Scalar.muli c128_i32_58 v137
  ![v143.toNat]
def k0_off9 (i : grid0.Coords) (v6_1 : BitVec 32) (v6_0 : BitVec 32) (k0_t5 : Fin (k0_t5_loop v6_1).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v138 : BitVec 32 := Scalar.muli v1 c320128_i32
  let v139 : BitVec 32 := Scalar.addi v138 v6_0
  let c128_i32 : BitVec 32 := 128#32
  let c0_i32_50 : BitVec 32 := 0#32
  let c0_i32_51 : BitVec 32 := 0#32
  let c1_i32_53 : BitVec 32 := 1#32
  let arg11 : BitVec 32 := Scf.iv c0_i32_51 c1_i32_53 k0_t5
  let c1_i32_49 : BitVec 32 := 1#32
  let v136 : BitVec 32 := Scalar.muli arg11 c1_i32_49
  let v137 : BitVec 32 := Scalar.addi c0_i32_50 v136
  let v140 : BitVec 32 := Scalar.muli c128_i32 v137
  let v141 : BitVec 32 := Scalar.addi v139 v140
  let v142 : BitVec 32 := v141
  ![v142.toNat]
@[reducible] def k0_t6_loop (v6_1 : BitVec 32) : Scf.Loop 32 :=
  let c0_i32_51 : BitVec 32 := 0#32
  let c127_i32 : BitVec 32 := 127#32
  let v119 : BitVec 32 := Scalar.addi v6_1 c127_i32
  let c7_i32 : BitVec 32 := 7#32
  let v120 : BitVec 32 := Scalar.shrsi v119 c7_i32
  let c0_i32_45 : BitVec 32 := 0#32
  let v121 : BitVec 32 := Scalar.subi v120 c0_i32_45
  let c1_i32_46 : BitVec 32 := 1#32
  let c1_i32_47 : BitVec 32 := 1#32
  let v122 : BitVec 32 := Scalar.subi c1_i32_46 c1_i32_47
  let v123 : BitVec 32 := Scalar.addi v121 v122
  let c1_i32_48 : BitVec 32 := 1#32
  let v124 : BitVec 32 := Scalar.divsi v123 c1_i32_48
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let v126 : BitVec 32 := Scalar.addi c0_i32_51 v125
  let c1_i32_54 : BitVec 32 := 1#32
  ⟨v129, v126, c1_i32_54⟩
def k0_mult4 (i : grid0.Coords) (v6_1 : BitVec 32) (v6_0 : BitVec 32) (k0_t6 : Fin (k0_t6_loop v6_1).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v138 : BitVec 32 := Scalar.muli v1 c320128_i32
  let v139 : BitVec 32 := Scalar.addi v138 v6_0
  let c128_i32 : BitVec 32 := 128#32
  let c0_i32_50 : BitVec 32 := 0#32
  let c0_i32_51 : BitVec 32 := 0#32
  let c127_i32 : BitVec 32 := 127#32
  let v119 : BitVec 32 := Scalar.addi v6_1 c127_i32
  let c7_i32 : BitVec 32 := 7#32
  let v120 : BitVec 32 := Scalar.shrsi v119 c7_i32
  let c0_i32_45 : BitVec 32 := 0#32
  let v121 : BitVec 32 := Scalar.subi v120 c0_i32_45
  let c1_i32_46 : BitVec 32 := 1#32
  let c1_i32_47 : BitVec 32 := 1#32
  let v122 : BitVec 32 := Scalar.subi c1_i32_46 c1_i32_47
  let v123 : BitVec 32 := Scalar.addi v121 v122
  let c1_i32_48 : BitVec 32 := 1#32
  let v124 : BitVec 32 := Scalar.divsi v123 c1_i32_48
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t6
  let c1_i32_49 : BitVec 32 := 1#32
  let v136 : BitVec 32 := Scalar.muli arg11 c1_i32_49
  let v137 : BitVec 32 := Scalar.addi c0_i32_50 v136
  let v140 : BitVec 32 := Scalar.muli c128_i32 v137
  let v141 : BitVec 32 := Scalar.addi v139 v140
  v141
def k0_off10 (v6_1 : BitVec 32) (k0_t6 : Fin (k0_t6_loop v6_1).trips) : Fin 1 → Nat :=
  let c128_i32_58 : BitVec 32 := 128#32
  let c0_i32_50 : BitVec 32 := 0#32
  let c0_i32_51 : BitVec 32 := 0#32
  let c127_i32 : BitVec 32 := 127#32
  let v119 : BitVec 32 := Scalar.addi v6_1 c127_i32
  let c7_i32 : BitVec 32 := 7#32
  let v120 : BitVec 32 := Scalar.shrsi v119 c7_i32
  let c0_i32_45 : BitVec 32 := 0#32
  let v121 : BitVec 32 := Scalar.subi v120 c0_i32_45
  let c1_i32_46 : BitVec 32 := 1#32
  let c1_i32_47 : BitVec 32 := 1#32
  let v122 : BitVec 32 := Scalar.subi c1_i32_46 c1_i32_47
  let v123 : BitVec 32 := Scalar.addi v121 v122
  let c1_i32_48 : BitVec 32 := 1#32
  let v124 : BitVec 32 := Scalar.divsi v123 c1_i32_48
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t6
  let c1_i32_49 : BitVec 32 := 1#32
  let v136 : BitVec 32 := Scalar.muli arg11 c1_i32_49
  let v137 : BitVec 32 := Scalar.addi c0_i32_50 v136
  let v143 : BitVec 32 := Scalar.muli c128_i32_58 v137
  ![v143.toNat]

def k0_chk3 (v6_1 : BitVec 32) : Prop :=
  ((k0_t5_loop v6_1).OK) ∧
  (∀ k0_t5 : Fin (k0_t5_loop v6_1).trips, ∀ a, (k0_off8 v6_1 k0_t5) a + S128.size a ≤ S8336.size a) ∧
  ((k0_t6_loop v6_1).OK) ∧
  (∀ k0_t6 : Fin (k0_t6_loop v6_1).trips, ∀ a, (k0_off10 v6_1 k0_t6) a + S128.size a ≤ S8336.size a)
theorem k0_t5_ok : ∀ (v6_1 : BitVec 32) (k0_hw3 : k0_chk3 v6_1), (k0_t5_loop v6_1).OK := fun v6_1 k0_hw3 => k0_hw3.1
theorem k0_off8_inb : ∀ (v6_1 : BitVec 32) (k0_hw3 : k0_chk3 v6_1) (k0_t5 : Fin (k0_t5_loop v6_1).trips), ∀ a, (k0_off8 v6_1 k0_t5) a + S128.size a ≤ S8336.size a := fun v6_1 k0_hw3 k0_t5 => k0_hw3.2.1 k0_t5
theorem k0_t6_ok : ∀ (v6_1 : BitVec 32) (k0_hw3 : k0_chk3 v6_1), (k0_t6_loop v6_1).OK := fun v6_1 k0_hw3 => k0_hw3.2.2.1
theorem k0_off10_inb : ∀ (v6_1 : BitVec 32) (k0_hw3 : k0_chk3 v6_1) (k0_t6 : Fin (k0_t6_loop v6_1).trips), ∀ a, (k0_off10 v6_1 k0_t6) a + S128.size a ≤ S8336.size a := fun v6_1 k0_hw3 k0_t6 => k0_hw3.2.2.2 k0_t6

def k0_off11 (i : grid0.Coords) (v6_1 : BitVec 32) (v6_0 : BitVec 32) (k0_t6 : Fin (k0_t6_loop v6_1).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v138 : BitVec 32 := Scalar.muli v1 c320128_i32
  let v139 : BitVec 32 := Scalar.addi v138 v6_0
  let c128_i32 : BitVec 32 := 128#32
  let c0_i32_50 : BitVec 32 := 0#32
  let c0_i32_51 : BitVec 32 := 0#32
  let c127_i32 : BitVec 32 := 127#32
  let v119 : BitVec 32 := Scalar.addi v6_1 c127_i32
  let c7_i32 : BitVec 32 := 7#32
  let v120 : BitVec 32 := Scalar.shrsi v119 c7_i32
  let c0_i32_45 : BitVec 32 := 0#32
  let v121 : BitVec 32 := Scalar.subi v120 c0_i32_45
  let c1_i32_46 : BitVec 32 := 1#32
  let c1_i32_47 : BitVec 32 := 1#32
  let v122 : BitVec 32 := Scalar.subi c1_i32_46 c1_i32_47
  let v123 : BitVec 32 := Scalar.addi v121 v122
  let c1_i32_48 : BitVec 32 := 1#32
  let v124 : BitVec 32 := Scalar.divsi v123 c1_i32_48
  let v125 : BitVec 32 := Scalar.subi v124 c0_i32_51
  let c1_i32_52 : BitVec 32 := 1#32
  let v127 : BitVec 32 := Scalar.divsi v125 c1_i32_52
  let v128 : BitVec 32 := Scalar.muli v127 c1_i32_52
  let v129 : BitVec 32 := Scalar.addi c0_i32_51 v128
  let c1_i32_54 : BitVec 32 := 1#32
  let arg11 : BitVec 32 := Scf.iv v129 c1_i32_54 k0_t6
  let c1_i32_49 : BitVec 32 := 1#32
  let v136 : BitVec 32 := Scalar.muli arg11 c1_i32_49
  let v137 : BitVec 32 := Scalar.addi c0_i32_50 v136
  let v140 : BitVec 32 := Scalar.muli c128_i32 v137
  let v141 : BitVec 32 := Scalar.addi v139 v140
  let v142 : BitVec 32 := v141
  ![v142.toNat]

def k0_chk4 (i : grid0.Coords) (v6_1 : BitVec 32) (v6_0 : BitVec 32) : Prop :=
  (∀ k0_t5 : Fin (k0_t5_loop v6_1).trips, 128 ∣ (k0_mult3 i v6_1 v6_0 k0_t5).toNat) ∧
  (∀ k0_t5 : Fin (k0_t5_loop v6_1).trips, ∀ a, (k0_off9 i v6_1 v6_0 k0_t5) a + S128.size a ≤ S10244096.size a) ∧
  (∀ k0_t6 : Fin (k0_t6_loop v6_1).trips, 128 ∣ (k0_mult4 i v6_1 v6_0 k0_t6).toNat) ∧
  (∀ k0_t6 : Fin (k0_t6_loop v6_1).trips, ∀ a, (k0_off11 i v6_1 v6_0 k0_t6) a + S128.size a ≤ S10244096.size a)
theorem k0_mult3_dvd : ∀ (i : grid0.Coords) (v6_1 : BitVec 32) (v6_0 : BitVec 32) (k0_hw4 : k0_chk4 i v6_1 v6_0) (k0_t5 : Fin (k0_t5_loop v6_1).trips), 128 ∣ (k0_mult3 i v6_1 v6_0 k0_t5).toNat := fun i v6_1 v6_0 k0_hw4 k0_t5 => k0_hw4.1 k0_t5
theorem k0_off9_inb : ∀ (i : grid0.Coords) (v6_1 : BitVec 32) (v6_0 : BitVec 32) (k0_hw4 : k0_chk4 i v6_1 v6_0) (k0_t5 : Fin (k0_t5_loop v6_1).trips), ∀ a, (k0_off9 i v6_1 v6_0 k0_t5) a + S128.size a ≤ S10244096.size a := fun i v6_1 v6_0 k0_hw4 k0_t5 => k0_hw4.2.1 k0_t5
theorem k0_mult4_dvd : ∀ (i : grid0.Coords) (v6_1 : BitVec 32) (v6_0 : BitVec 32) (k0_hw4 : k0_chk4 i v6_1 v6_0) (k0_t6 : Fin (k0_t6_loop v6_1).trips), 128 ∣ (k0_mult4 i v6_1 v6_0 k0_t6).toNat := fun i v6_1 v6_0 k0_hw4 k0_t6 => k0_hw4.2.2.1 k0_t6
theorem k0_off11_inb : ∀ (i : grid0.Coords) (v6_1 : BitVec 32) (v6_0 : BitVec 32) (k0_hw4 : k0_chk4 i v6_1 v6_0) (k0_t6 : Fin (k0_t6_loop v6_1).trips), ∀ a, (k0_off11 i v6_1 v6_0 k0_t6) a + S128.size a ≤ S10244096.size a := fun i v6_1 v6_0 k0_hw4 k0_t6 => k0_hw4.2.2.2 k0_t6

def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_57 : BitVec 32 := 16#32
  let v134 : BitVec 32 := Scalar.muli v1 c16_i32_57
  v134
def k0_off12 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32_57 : BitVec 32 := 16#32
  let v134 : BitVec 32 := Scalar.muli v1 c16_i32_57
  let v135 : BitVec 32 := v134
  ![v135.toNat]
abbrev grid1 : Pipeline.Grid := ⟨2, ![2, 16], ![false, false]⟩

def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  v2
def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 32 := Scalar.muli v1 c16_i32
  let v3 : BitVec 32 := v2
  ![v3.toNat]
@[reducible] def k1_t1_loop : Scf.Loop 32 :=
  let c0_i32 : BitVec 32 := 0#32
  let c2568_i32 : BitVec 32 := 2568#32
  let v7 : BitVec 32 := Scalar.addi c0_i32 c2568_i32
  let c1_i32 : BitVec 32 := 1#32
  ⟨c0_i32, v7, c1_i32⟩
def k1_off2 (k1_t1 : Fin k1_t1_loop.trips) : Fin 1 → Nat :=
  let c16_i32_13 : BitVec 32 := 16#32
  let c0_i32_12 : BitVec 32 := 0#32
  let c0_i32 : BitVec 32 := 0#32
  let c1_i32 : BitVec 32 := 1#32
  let arg13 : BitVec 32 := Scf.iv c0_i32 c1_i32 k1_t1
  let c1_i32_11 : BitVec 32 := 1#32
  let v20 : BitVec 32 := Scalar.muli arg13 c1_i32_11
  let v21 : BitVec 32 := Scalar.addi c0_i32_12 v20
  let v23 : BitVec 32 := Scalar.muli c16_i32_13 v21
  let v24 : Index := Scalar.indexCast v23
  ![v24.toNat]
@[reducible] def k1_t2_loop (v6 : BitVec 32) : Scf.Loop 32 :=
  let c0_i32_7 : BitVec 32 := 0#32
  let c0_i32_1 : BitVec 32 := 0#32
  let v8 : BitVec 32 := Scalar.subi v6 c0_i32_1
  let c1_i32_2 : BitVec 32 := 1#32
  let c1_i32_3 : BitVec 32 := 1#32
  let v9 : BitVec 32 := Scalar.subi c1_i32_2 c1_i32_3
  let v10 : BitVec 32 := Scalar.addi v8 v9
  let c1_i32_4 : BitVec 32 := 1#32
  let v11 : BitVec 32 := Scalar.divsi v10 c1_i32_4
  let v12 : BitVec 32 := Scalar.subi v11 c0_i32_7
  let c1_i32_8 : BitVec 32 := 1#32
  let v14 : BitVec 32 := Scalar.divsi v12 c1_i32_8
  let v15 : BitVec 32 := Scalar.muli v14 c1_i32_8
  let v16 : BitVec 32 := Scalar.addi c0_i32_7 v15
  let c1_i32_9 : BitVec 32 := 1#32
  ⟨c0_i32_7, v16, c1_i32_9⟩

def k1_mult2 (i : grid1.Coords) (v6 : BitVec 32) (k1_t2 : Fin (k1_t2_loop v6).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v22 : BitVec 32 := Scalar.muli v1 c320128_i32
  let c128_i32_11 : BitVec 32 := 128#32
  let c0_i32_6 : BitVec 32 := 0#32
  let c0_i32_7 : BitVec 32 := 0#32
  let c1_i32_9 : BitVec 32 := 1#32
  let arg13 : BitVec 32 := Scf.iv c0_i32_7 c1_i32_9 k1_t2
  let c1_i32_5 : BitVec 32 := 1#32
  let v20 : BitVec 32 := Scalar.muli arg13 c1_i32_5
  let v21 : BitVec 32 := Scalar.addi c0_i32_6 v20
  let v23 : BitVec 32 := Scalar.muli c128_i32_11 v21
  let v24 : BitVec 32 := Scalar.addi v22 v23
  v24
def k1_off3 (i : grid1.Coords) (v6 : BitVec 32) (k1_t2 : Fin (k1_t2_loop v6).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v22 : BitVec 32 := Scalar.muli v1 c320128_i32
  let c128_i32_11 : BitVec 32 := 128#32
  let c0_i32_6 : BitVec 32 := 0#32
  let c0_i32_7 : BitVec 32 := 0#32
  let c1_i32_9 : BitVec 32 := 1#32
  let arg13 : BitVec 32 := Scf.iv c0_i32_7 c1_i32_9 k1_t2
  let c1_i32_5 : BitVec 32 := 1#32
  let v20 : BitVec 32 := Scalar.muli arg13 c1_i32_5
  let v21 : BitVec 32 := Scalar.addi c0_i32_6 v20
  let v23 : BitVec 32 := Scalar.muli c128_i32_11 v21
  let v24 : BitVec 32 := Scalar.addi v22 v23
  let v25 : BitVec 32 := v24
  ![v25.toNat]
@[reducible] def k1_t3_loop : Scf.Loop 32 :=
  let c0_i32_16 : BitVec 32 := 0#32
  let c8_i32 : BitVec 32 := 8#32
  let v28 : BitVec 32 := Scalar.addi c0_i32_16 c8_i32
  let c1_i32_17 : BitVec 32 := 1#32
  ⟨c0_i32_16, v28, c1_i32_17⟩
def k1_off4 (k1_t3 : Fin k1_t3_loop.trips) : Fin 1 → Nat :=
  let c16_i32_21 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v31 : BitVec 32 := Scalar.muli c16_i32_21 v30
  let v32 : Index := Scalar.indexCast v31
  ![v32.toNat]
def k1_off5 (v35 : BitVec 32) (c0_i32_25 : BitVec 32) : Fin 1 → Nat :=
  let c128_i32_22 : BitVec 32 := 128#32
  let v36 : BitVec 32 := Scalar.muli v35 c128_i32_22
  let v39 : BitVec 32 := Scalar.addi v36 c0_i32_25
  let v40 : Index := Scalar.indexCast v39
  ![v40.toNat]

def k1_chk2 (v35 : BitVec 32) : Prop :=
  (∀ (r : Fin 8), ∀ a, (k1_off5 v35 (BitVec.ofNat 32 (16 * r.val))) a + S16.size a ≤ S41088.size a)
theorem k1_off5_inb : ∀ (v35 : BitVec 32) (k1_hw2 : k1_chk2 v35), ∀ (r : Fin 8), ∀ a, (k1_off5 v35 (BitVec.ofNat 32 (16 * r.val))) a + S16.size a ≤ S41088.size a := fun v35 k1_hw2 r => k1_hw2 r

def k1_off6 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v42 : Index := Scalar.indexCast v38
  let c0_26 : Index := 0#32
  ![v42.toNat, 0]
def k1_off7 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v51 : Index := Scalar.indexCast v38
  let c16 : Index := 16#32
  ![v51.toNat, 16]
def k1_off8 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v60 : Index := Scalar.indexCast v38
  let c32 : Index := 32#32
  ![v60.toNat, 32]
def k1_off9 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v69 : Index := Scalar.indexCast v38
  let c48 : Index := 48#32
  ![v69.toNat, 48]
def k1_off10 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v78 : Index := Scalar.indexCast v38
  let c64 : Index := 64#32
  ![v78.toNat, 64]
def k1_off11 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v87 : Index := Scalar.indexCast v38
  let c80 : Index := 80#32
  ![v87.toNat, 80]
def k1_off12 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v96 : Index := Scalar.indexCast v38
  let c96 : Index := 96#32
  ![v96.toNat, 96]
def k1_off13 (k1_t3 : Fin k1_t3_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v105 : Index := Scalar.indexCast v38
  let c112 : Index := 112#32
  ![v105.toNat, 112]
def k1_off14 (v112 : BitVec 32) (c0_i32_39 : BitVec 32) : Fin 1 → Nat :=
  let c128_i32_36 : BitVec 32 := 128#32
  let v113 : BitVec 32 := Scalar.muli v112 c128_i32_36
  let v116 : BitVec 32 := Scalar.addi v113 c0_i32_39
  let v117 : Index := Scalar.indexCast v116
  ![v117.toNat]

def k1_chk3 (v112 : BitVec 32) : Prop :=
  (∀ (r : Fin 8), ∀ a, (k1_off14 v112 (BitVec.ofNat 32 (16 * r.val))) a + S16.size a ≤ S41088.size a)
theorem k1_off14_inb : ∀ (v112 : BitVec 32) (k1_hw3 : k1_chk3 v112), ∀ (r : Fin 8), ∀ a, (k1_off14 v112 (BitVec.ofNat 32 (16 * r.val))) a + S16.size a ≤ S41088.size a := fun v112 k1_hw3 r => k1_hw3 r

def k1_off15 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v119 : Index := Scalar.indexCast v115
  let c0_40 : Index := 0#32
  ![v119.toNat, 0]
def k1_off16 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v128 : Index := Scalar.indexCast v115
  let c16_43 : Index := 16#32
  ![v128.toNat, 16]
def k1_off17 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v137 : Index := Scalar.indexCast v115
  let c32_46 : Index := 32#32
  ![v137.toNat, 32]
def k1_off18 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v146 : Index := Scalar.indexCast v115
  let c48_49 : Index := 48#32
  ![v146.toNat, 48]
def k1_off19 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v155 : Index := Scalar.indexCast v115
  let c64_52 : Index := 64#32
  ![v155.toNat, 64]
def k1_off20 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v164 : Index := Scalar.indexCast v115
  let c80_55 : Index := 80#32
  ![v164.toNat, 80]
def k1_off21 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v173 : Index := Scalar.indexCast v115
  let c96_58 : Index := 96#32
  ![v173.toNat, 96]
def k1_off22 (k1_t3 : Fin k1_t3_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v182 : Index := Scalar.indexCast v115
  let c112_61 : Index := 112#32
  ![v182.toNat, 112]
def k1_off23 (v189 : BitVec 32) (c0_i32_66 : BitVec 32) : Fin 1 → Nat :=
  let c128_i32_63 : BitVec 32 := 128#32
  let v190 : BitVec 32 := Scalar.muli v189 c128_i32_63
  let v193 : BitVec 32 := Scalar.addi v190 c0_i32_66
  let v194 : Index := Scalar.indexCast v193
  ![v194.toNat]

def k1_chk4 (v189 : BitVec 32) : Prop :=
  (∀ (r : Fin 8), ∀ a, (k1_off23 v189 (BitVec.ofNat 32 (16 * r.val))) a + S16.size a ≤ S41088.size a)
theorem k1_off23_inb : ∀ (v189 : BitVec 32) (k1_hw4 : k1_chk4 v189), ∀ (r : Fin 8), ∀ a, (k1_off23 v189 (BitVec.ofNat 32 (16 * r.val))) a + S16.size a ≤ S41088.size a := fun v189 k1_hw4 r => k1_hw4 r

def k1_off24 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v196 : Index := Scalar.indexCast v192
  let c0_67 : Index := 0#32
  ![v196.toNat, 0]
def k1_off25 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v205 : Index := Scalar.indexCast v192
  let c16_70 : Index := 16#32
  ![v205.toNat, 16]
def k1_off26 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v214 : Index := Scalar.indexCast v192
  let c32_73 : Index := 32#32
  ![v214.toNat, 32]
def k1_off27 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v223 : Index := Scalar.indexCast v192
  let c48_76 : Index := 48#32
  ![v223.toNat, 48]
def k1_off28 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v232 : Index := Scalar.indexCast v192
  let c64_79 : Index := 64#32
  ![v232.toNat, 64]
def k1_off29 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v241 : Index := Scalar.indexCast v192
  let c80_82 : Index := 80#32
  ![v241.toNat, 80]
def k1_off30 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v250 : Index := Scalar.indexCast v192
  let c96_85 : Index := 96#32
  ![v250.toNat, 96]
def k1_off31 (k1_t3 : Fin k1_t3_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v259 : Index := Scalar.indexCast v192
  let c112_88 : Index := 112#32
  ![v259.toNat, 112]
def k1_off32 (v266 : BitVec 32) (c0_i32_92 : BitVec 32) : Fin 1 → Nat :=
  let c128_i32_90 : BitVec 32 := 128#32
  let v267 : BitVec 32 := Scalar.muli v266 c128_i32_90
  let v270 : BitVec 32 := Scalar.addi v267 c0_i32_92
  let v271 : Index := Scalar.indexCast v270
  ![v271.toNat]

def k1_chk5 (v266 : BitVec 32) : Prop :=
  (∀ (r : Fin 8), ∀ a, (k1_off32 v266 (BitVec.ofNat 32 (16 * r.val))) a + S16.size a ≤ S41088.size a)
theorem k1_off32_inb : ∀ (v266 : BitVec 32) (k1_hw5 : k1_chk5 v266), ∀ (r : Fin 8), ∀ a, (k1_off32 v266 (BitVec.ofNat 32 (16 * r.val))) a + S16.size a ≤ S41088.size a := fun v266 k1_hw5 r => k1_hw5 r

def k1_off33 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v273 : Index := Scalar.indexCast v269
  let c0_93 : Index := 0#32
  ![v273.toNat, 0]
def k1_off34 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v282 : Index := Scalar.indexCast v269
  let c16_96 : Index := 16#32
  ![v282.toNat, 16]
def k1_off35 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v291 : Index := Scalar.indexCast v269
  let c32_99 : Index := 32#32
  ![v291.toNat, 32]
def k1_off36 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v300 : Index := Scalar.indexCast v269
  let c48_102 : Index := 48#32
  ![v300.toNat, 48]
def k1_off37 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v309 : Index := Scalar.indexCast v269
  let c64_105 : Index := 64#32
  ![v309.toNat, 64]
def k1_off38 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v318 : Index := Scalar.indexCast v269
  let c80_108 : Index := 80#32
  ![v318.toNat, 80]
def k1_off39 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v327 : Index := Scalar.indexCast v269
  let c96_111 : Index := 96#32
  ![v327.toNat, 96]
def k1_off40 (k1_t3 : Fin k1_t3_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v336 : Index := Scalar.indexCast v269
  let c112_114 : Index := 112#32
  ![v336.toNat, 112]
def k1_off41 (v343 : BitVec 32) (c0_i32_118 : BitVec 32) : Fin 1 → Nat :=
  let c128_i32_116 : BitVec 32 := 128#32
  let v344 : BitVec 32 := Scalar.muli v343 c128_i32_116
  let v347 : BitVec 32 := Scalar.addi v344 c0_i32_118
  let v348 : Index := Scalar.indexCast v347
  ![v348.toNat]

def k1_chk6 (v343 : BitVec 32) : Prop :=
  (∀ (r : Fin 8), ∀ a, (k1_off41 v343 (BitVec.ofNat 32 (16 * r.val))) a + S16.size a ≤ S41088.size a)
theorem k1_off41_inb : ∀ (v343 : BitVec 32) (k1_hw6 : k1_chk6 v343), ∀ (r : Fin 8), ∀ a, (k1_off41 v343 (BitVec.ofNat 32 (16 * r.val))) a + S16.size a ≤ S41088.size a := fun v343 k1_hw6 r => k1_hw6 r

def k1_off42 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v350 : Index := Scalar.indexCast v346
  let c0_119 : Index := 0#32
  ![v350.toNat, 0]
def k1_off43 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v359 : Index := Scalar.indexCast v346
  let c16_122 : Index := 16#32
  ![v359.toNat, 16]
def k1_off44 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v368 : Index := Scalar.indexCast v346
  let c32_125 : Index := 32#32
  ![v368.toNat, 32]
def k1_off45 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v377 : Index := Scalar.indexCast v346
  let c48_128 : Index := 48#32
  ![v377.toNat, 48]
def k1_off46 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v386 : Index := Scalar.indexCast v346
  let c64_131 : Index := 64#32
  ![v386.toNat, 64]
def k1_off47 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v395 : Index := Scalar.indexCast v346
  let c80_134 : Index := 80#32
  ![v395.toNat, 80]
def k1_off48 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v404 : Index := Scalar.indexCast v346
  let c96_137 : Index := 96#32
  ![v404.toNat, 96]
def k1_off49 (k1_t3 : Fin k1_t3_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v413 : Index := Scalar.indexCast v346
  let c112_140 : Index := 112#32
  ![v413.toNat, 112]
def k1_off50 (v420 : BitVec 32) (c0_i32_144 : BitVec 32) : Fin 1 → Nat :=
  let c128_i32_142 : BitVec 32 := 128#32
  let v421 : BitVec 32 := Scalar.muli v420 c128_i32_142
  let v424 : BitVec 32 := Scalar.addi v421 c0_i32_144
  let v425 : Index := Scalar.indexCast v424
  ![v425.toNat]

def k1_chk7 (v420 : BitVec 32) : Prop :=
  (∀ (r : Fin 8), ∀ a, (k1_off50 v420 (BitVec.ofNat 32 (16 * r.val))) a + S16.size a ≤ S41088.size a)
theorem k1_off50_inb : ∀ (v420 : BitVec 32) (k1_hw7 : k1_chk7 v420), ∀ (r : Fin 8), ∀ a, (k1_off50 v420 (BitVec.ofNat 32 (16 * r.val))) a + S16.size a ≤ S41088.size a := fun v420 k1_hw7 r => k1_hw7 r

def k1_off51 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v427 : Index := Scalar.indexCast v423
  let c0_145 : Index := 0#32
  ![v427.toNat, 0]
def k1_off52 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v436 : Index := Scalar.indexCast v423
  let c16_148 : Index := 16#32
  ![v436.toNat, 16]
def k1_off53 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v445 : Index := Scalar.indexCast v423
  let c32_151 : Index := 32#32
  ![v445.toNat, 32]
def k1_off54 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v454 : Index := Scalar.indexCast v423
  let c48_154 : Index := 48#32
  ![v454.toNat, 48]
def k1_off55 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v463 : Index := Scalar.indexCast v423
  let c64_157 : Index := 64#32
  ![v463.toNat, 64]
def k1_off56 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v472 : Index := Scalar.indexCast v423
  let c80_160 : Index := 80#32
  ![v472.toNat, 80]
def k1_off57 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v481 : Index := Scalar.indexCast v423
  let c96_163 : Index := 96#32
  ![v481.toNat, 96]
def k1_off58 (k1_t3 : Fin k1_t3_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v490 : Index := Scalar.indexCast v423
  let c112_166 : Index := 112#32
  ![v490.toNat, 112]
def k1_off59 (v497 : BitVec 32) (c0_i32_170 : BitVec 32) : Fin 1 → Nat :=
  let c128_i32_168 : BitVec 32 := 128#32
  let v498 : BitVec 32 := Scalar.muli v497 c128_i32_168
  let v501 : BitVec 32 := Scalar.addi v498 c0_i32_170
  let v502 : Index := Scalar.indexCast v501
  ![v502.toNat]

def k1_chk8 (v497 : BitVec 32) : Prop :=
  (∀ (r : Fin 8), ∀ a, (k1_off59 v497 (BitVec.ofNat 32 (16 * r.val))) a + S16.size a ≤ S41088.size a)
theorem k1_off59_inb : ∀ (v497 : BitVec 32) (k1_hw8 : k1_chk8 v497), ∀ (r : Fin 8), ∀ a, (k1_off59 v497 (BitVec.ofNat 32 (16 * r.val))) a + S16.size a ≤ S41088.size a := fun v497 k1_hw8 r => k1_hw8 r

def k1_off60 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v504 : Index := Scalar.indexCast v500
  let c0_171 : Index := 0#32
  ![v504.toNat, 0]
def k1_off61 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v513 : Index := Scalar.indexCast v500
  let c16_174 : Index := 16#32
  ![v513.toNat, 16]
def k1_off62 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v522 : Index := Scalar.indexCast v500
  let c32_177 : Index := 32#32
  ![v522.toNat, 32]
def k1_off63 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v531 : Index := Scalar.indexCast v500
  let c48_180 : Index := 48#32
  ![v531.toNat, 48]
def k1_off64 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v540 : Index := Scalar.indexCast v500
  let c64_183 : Index := 64#32
  ![v540.toNat, 64]
def k1_off65 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v549 : Index := Scalar.indexCast v500
  let c80_186 : Index := 80#32
  ![v549.toNat, 80]
def k1_off66 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v558 : Index := Scalar.indexCast v500
  let c96_189 : Index := 96#32
  ![v558.toNat, 96]
def k1_off67 (k1_t3 : Fin k1_t3_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v567 : Index := Scalar.indexCast v500
  let c112_192 : Index := 112#32
  ![v567.toNat, 112]
def k1_off68 (v574 : BitVec 32) (c0_i32_196 : BitVec 32) : Fin 1 → Nat :=
  let c128_i32_194 : BitVec 32 := 128#32
  let v575 : BitVec 32 := Scalar.muli v574 c128_i32_194
  let v578 : BitVec 32 := Scalar.addi v575 c0_i32_196
  let v579 : Index := Scalar.indexCast v578
  ![v579.toNat]

def k1_chk9 (v574 : BitVec 32) : Prop :=
  (∀ (r : Fin 8), ∀ a, (k1_off68 v574 (BitVec.ofNat 32 (16 * r.val))) a + S16.size a ≤ S41088.size a)
theorem k1_off68_inb : ∀ (v574 : BitVec 32) (k1_hw9 : k1_chk9 v574), ∀ (r : Fin 8), ∀ a, (k1_off68 v574 (BitVec.ofNat 32 (16 * r.val))) a + S16.size a ≤ S41088.size a := fun v574 k1_hw9 r => k1_hw9 r

def k1_off69 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v581 : Index := Scalar.indexCast v577
  let c0_197 : Index := 0#32
  ![v581.toNat, 0]
def k1_off70 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v590 : Index := Scalar.indexCast v577
  let c16_200 : Index := 16#32
  ![v590.toNat, 16]
def k1_off71 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v599 : Index := Scalar.indexCast v577
  let c32_203 : Index := 32#32
  ![v599.toNat, 32]
def k1_off72 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v608 : Index := Scalar.indexCast v577
  let c48_206 : Index := 48#32
  ![v608.toNat, 48]
def k1_off73 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v617 : Index := Scalar.indexCast v577
  let c64_209 : Index := 64#32
  ![v617.toNat, 64]
def k1_off74 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v626 : Index := Scalar.indexCast v577
  let c80_212 : Index := 80#32
  ![v626.toNat, 80]
def k1_off75 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v635 : Index := Scalar.indexCast v577
  let c96_215 : Index := 96#32
  ![v635.toNat, 96]
def k1_off76 (k1_t3 : Fin k1_t3_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v644 : Index := Scalar.indexCast v577
  let c112_218 : Index := 112#32
  ![v644.toNat, 112]
def k1_off77 (v651 : BitVec 32) (c0_i32_223 : BitVec 32) : Fin 1 → Nat :=
  let c128_i32_220 : BitVec 32 := 128#32
  let v652 : BitVec 32 := Scalar.muli v651 c128_i32_220
  let v655 : BitVec 32 := Scalar.addi v652 c0_i32_223
  let v656 : Index := Scalar.indexCast v655
  ![v656.toNat]

def k1_chk10 (v651 : BitVec 32) : Prop :=
  (∀ (r : Fin 8), ∀ a, (k1_off77 v651 (BitVec.ofNat 32 (16 * r.val))) a + S16.size a ≤ S41088.size a)
theorem k1_off77_inb : ∀ (v651 : BitVec 32) (k1_hw10 : k1_chk10 v651), ∀ (r : Fin 8), ∀ a, (k1_off77 v651 (BitVec.ofNat 32 (16 * r.val))) a + S16.size a ≤ S41088.size a := fun v651 k1_hw10 r => k1_hw10 r

def k1_off78 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v658 : Index := Scalar.indexCast v654
  let c0_224 : Index := 0#32
  ![v658.toNat, 0]
def k1_off79 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v667 : Index := Scalar.indexCast v654
  let c16_227 : Index := 16#32
  ![v667.toNat, 16]
def k1_off80 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v676 : Index := Scalar.indexCast v654
  let c32_230 : Index := 32#32
  ![v676.toNat, 32]
def k1_off81 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v685 : Index := Scalar.indexCast v654
  let c48_233 : Index := 48#32
  ![v685.toNat, 48]
def k1_off82 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v694 : Index := Scalar.indexCast v654
  let c64_236 : Index := 64#32
  ![v694.toNat, 64]
def k1_off83 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v703 : Index := Scalar.indexCast v654
  let c80_239 : Index := 80#32
  ![v703.toNat, 80]
def k1_off84 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v712 : Index := Scalar.indexCast v654
  let c96_242 : Index := 96#32
  ![v712.toNat, 96]
def k1_off85 (k1_t3 : Fin k1_t3_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v721 : Index := Scalar.indexCast v654
  let c112_245 : Index := 112#32
  ![v721.toNat, 112]
def k1_off86 (v728 : BitVec 32) (c0_i32_249 : BitVec 32) : Fin 1 → Nat :=
  let c128_i32_247 : BitVec 32 := 128#32
  let v729 : BitVec 32 := Scalar.muli v728 c128_i32_247
  let v732 : BitVec 32 := Scalar.addi v729 c0_i32_249
  let v733 : Index := Scalar.indexCast v732
  ![v733.toNat]

def k1_chk11 (v728 : BitVec 32) : Prop :=
  (∀ (r : Fin 8), ∀ a, (k1_off86 v728 (BitVec.ofNat 32 (16 * r.val))) a + S16.size a ≤ S41088.size a)
theorem k1_off86_inb : ∀ (v728 : BitVec 32) (k1_hw11 : k1_chk11 v728), ∀ (r : Fin 8), ∀ a, (k1_off86 v728 (BitVec.ofNat 32 (16 * r.val))) a + S16.size a ≤ S41088.size a := fun v728 k1_hw11 r => k1_hw11 r

def k1_off87 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v735 : Index := Scalar.indexCast v731
  let c0_250 : Index := 0#32
  ![v735.toNat, 0]
def k1_off88 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v744 : Index := Scalar.indexCast v731
  let c16_253 : Index := 16#32
  ![v744.toNat, 16]
def k1_off89 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v753 : Index := Scalar.indexCast v731
  let c32_256 : Index := 32#32
  ![v753.toNat, 32]
def k1_off90 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v762 : Index := Scalar.indexCast v731
  let c48_259 : Index := 48#32
  ![v762.toNat, 48]
def k1_off91 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v771 : Index := Scalar.indexCast v731
  let c64_262 : Index := 64#32
  ![v771.toNat, 64]
def k1_off92 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v780 : Index := Scalar.indexCast v731
  let c80_265 : Index := 80#32
  ![v780.toNat, 80]
def k1_off93 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v789 : Index := Scalar.indexCast v731
  let c96_268 : Index := 96#32
  ![v789.toNat, 96]
def k1_off94 (k1_t3 : Fin k1_t3_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v798 : Index := Scalar.indexCast v731
  let c112_271 : Index := 112#32
  ![v798.toNat, 112]
def k1_off95 (v805 : BitVec 32) (c0_i32_275 : BitVec 32) : Fin 1 → Nat :=
  let c128_i32_273 : BitVec 32 := 128#32
  let v806 : BitVec 32 := Scalar.muli v805 c128_i32_273
  let v809 : BitVec 32 := Scalar.addi v806 c0_i32_275
  let v810 : Index := Scalar.indexCast v809
  ![v810.toNat]

def k1_chk12 (v805 : BitVec 32) : Prop :=
  (∀ (r : Fin 8), ∀ a, (k1_off95 v805 (BitVec.ofNat 32 (16 * r.val))) a + S16.size a ≤ S41088.size a)
theorem k1_off95_inb : ∀ (v805 : BitVec 32) (k1_hw12 : k1_chk12 v805), ∀ (r : Fin 8), ∀ a, (k1_off95 v805 (BitVec.ofNat 32 (16 * r.val))) a + S16.size a ≤ S41088.size a := fun v805 k1_hw12 r => k1_hw12 r

def k1_off96 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v812 : Index := Scalar.indexCast v808
  let c0_276 : Index := 0#32
  ![v812.toNat, 0]
def k1_off97 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v821 : Index := Scalar.indexCast v808
  let c16_279 : Index := 16#32
  ![v821.toNat, 16]
def k1_off98 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v830 : Index := Scalar.indexCast v808
  let c32_282 : Index := 32#32
  ![v830.toNat, 32]
def k1_off99 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v839 : Index := Scalar.indexCast v808
  let c48_285 : Index := 48#32
  ![v839.toNat, 48]
def k1_off100 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v848 : Index := Scalar.indexCast v808
  let c64_288 : Index := 64#32
  ![v848.toNat, 64]
def k1_off101 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v857 : Index := Scalar.indexCast v808
  let c80_291 : Index := 80#32
  ![v857.toNat, 80]
def k1_off102 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v866 : Index := Scalar.indexCast v808
  let c96_294 : Index := 96#32
  ![v866.toNat, 96]
def k1_off103 (k1_t3 : Fin k1_t3_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v875 : Index := Scalar.indexCast v808
  let c112_297 : Index := 112#32
  ![v875.toNat, 112]
def k1_off104 (v882 : BitVec 32) (c0_i32_301 : BitVec 32) : Fin 1 → Nat :=
  let c128_i32_299 : BitVec 32 := 128#32
  let v883 : BitVec 32 := Scalar.muli v882 c128_i32_299
  let v886 : BitVec 32 := Scalar.addi v883 c0_i32_301
  let v887 : Index := Scalar.indexCast v886
  ![v887.toNat]

def k1_chk13 (v882 : BitVec 32) : Prop :=
  (∀ (r : Fin 8), ∀ a, (k1_off104 v882 (BitVec.ofNat 32 (16 * r.val))) a + S16.size a ≤ S41088.size a)
theorem k1_off104_inb : ∀ (v882 : BitVec 32) (k1_hw13 : k1_chk13 v882), ∀ (r : Fin 8), ∀ a, (k1_off104 v882 (BitVec.ofNat 32 (16 * r.val))) a + S16.size a ≤ S41088.size a := fun v882 k1_hw13 r => k1_hw13 r

def k1_off105 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v889 : Index := Scalar.indexCast v885
  let c0_302 : Index := 0#32
  ![v889.toNat, 0]
def k1_off106 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v898 : Index := Scalar.indexCast v885
  let c16_305 : Index := 16#32
  ![v898.toNat, 16]
def k1_off107 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v907 : Index := Scalar.indexCast v885
  let c32_308 : Index := 32#32
  ![v907.toNat, 32]
def k1_off108 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v916 : Index := Scalar.indexCast v885
  let c48_311 : Index := 48#32
  ![v916.toNat, 48]
def k1_off109 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v925 : Index := Scalar.indexCast v885
  let c64_314 : Index := 64#32
  ![v925.toNat, 64]
def k1_off110 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v934 : Index := Scalar.indexCast v885
  let c80_317 : Index := 80#32
  ![v934.toNat, 80]
def k1_off111 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v943 : Index := Scalar.indexCast v885
  let c96_320 : Index := 96#32
  ![v943.toNat, 96]
def k1_off112 (k1_t3 : Fin k1_t3_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v952 : Index := Scalar.indexCast v885
  let c112_323 : Index := 112#32
  ![v952.toNat, 112]
def k1_off113 (v959 : BitVec 32) (c0_i32_327 : BitVec 32) : Fin 1 → Nat :=
  let c128_i32_325 : BitVec 32 := 128#32
  let v960 : BitVec 32 := Scalar.muli v959 c128_i32_325
  let v963 : BitVec 32 := Scalar.addi v960 c0_i32_327
  let v964 : Index := Scalar.indexCast v963
  ![v964.toNat]

def k1_chk14 (v959 : BitVec 32) : Prop :=
  (∀ (r : Fin 8), ∀ a, (k1_off113 v959 (BitVec.ofNat 32 (16 * r.val))) a + S16.size a ≤ S41088.size a)
theorem k1_off113_inb : ∀ (v959 : BitVec 32) (k1_hw14 : k1_chk14 v959), ∀ (r : Fin 8), ∀ a, (k1_off113 v959 (BitVec.ofNat 32 (16 * r.val))) a + S16.size a ≤ S41088.size a := fun v959 k1_hw14 r => k1_hw14 r

def k1_off114 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v966 : Index := Scalar.indexCast v962
  let c0_328 : Index := 0#32
  ![v966.toNat, 0]
def k1_off115 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v975 : Index := Scalar.indexCast v962
  let c16_331 : Index := 16#32
  ![v975.toNat, 16]
def k1_off116 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v984 : Index := Scalar.indexCast v962
  let c32_334 : Index := 32#32
  ![v984.toNat, 32]
def k1_off117 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v993 : Index := Scalar.indexCast v962
  let c48_337 : Index := 48#32
  ![v993.toNat, 48]
def k1_off118 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1002 : Index := Scalar.indexCast v962
  let c64_340 : Index := 64#32
  ![v1002.toNat, 64]
def k1_off119 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1011 : Index := Scalar.indexCast v962
  let c80_343 : Index := 80#32
  ![v1011.toNat, 80]
def k1_off120 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1020 : Index := Scalar.indexCast v962
  let c96_346 : Index := 96#32
  ![v1020.toNat, 96]
def k1_off121 (k1_t3 : Fin k1_t3_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1029 : Index := Scalar.indexCast v962
  let c112_349 : Index := 112#32
  ![v1029.toNat, 112]
def k1_off122 (v1036 : BitVec 32) (c0_i32_353 : BitVec 32) : Fin 1 → Nat :=
  let c128_i32_351 : BitVec 32 := 128#32
  let v1037 : BitVec 32 := Scalar.muli v1036 c128_i32_351
  let v1040 : BitVec 32 := Scalar.addi v1037 c0_i32_353
  let v1041 : Index := Scalar.indexCast v1040
  ![v1041.toNat]

def k1_chk15 (v1036 : BitVec 32) : Prop :=
  (∀ (r : Fin 8), ∀ a, (k1_off122 v1036 (BitVec.ofNat 32 (16 * r.val))) a + S16.size a ≤ S41088.size a)
theorem k1_off122_inb : ∀ (v1036 : BitVec 32) (k1_hw15 : k1_chk15 v1036), ∀ (r : Fin 8), ∀ a, (k1_off122 v1036 (BitVec.ofNat 32 (16 * r.val))) a + S16.size a ≤ S41088.size a := fun v1036 k1_hw15 r => k1_hw15 r

def k1_off123 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1043 : Index := Scalar.indexCast v1039
  let c0_354 : Index := 0#32
  ![v1043.toNat, 0]
def k1_off124 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1052 : Index := Scalar.indexCast v1039
  let c16_357 : Index := 16#32
  ![v1052.toNat, 16]
def k1_off125 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1061 : Index := Scalar.indexCast v1039
  let c32_360 : Index := 32#32
  ![v1061.toNat, 32]
def k1_off126 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1070 : Index := Scalar.indexCast v1039
  let c48_363 : Index := 48#32
  ![v1070.toNat, 48]
def k1_off127 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1079 : Index := Scalar.indexCast v1039
  let c64_366 : Index := 64#32
  ![v1079.toNat, 64]
def k1_off128 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1088 : Index := Scalar.indexCast v1039
  let c80_369 : Index := 80#32
  ![v1088.toNat, 80]
def k1_off129 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1097 : Index := Scalar.indexCast v1039
  let c96_372 : Index := 96#32
  ![v1097.toNat, 96]
def k1_off130 (k1_t3 : Fin k1_t3_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1106 : Index := Scalar.indexCast v1039
  let c112_375 : Index := 112#32
  ![v1106.toNat, 112]
def k1_off131 (v1113 : BitVec 32) (c0_i32_379 : BitVec 32) : Fin 1 → Nat :=
  let c128_i32_377 : BitVec 32 := 128#32
  let v1114 : BitVec 32 := Scalar.muli v1113 c128_i32_377
  let v1117 : BitVec 32 := Scalar.addi v1114 c0_i32_379
  let v1118 : Index := Scalar.indexCast v1117
  ![v1118.toNat]

def k1_chk16 (v1113 : BitVec 32) : Prop :=
  (∀ (r : Fin 8), ∀ a, (k1_off131 v1113 (BitVec.ofNat 32 (16 * r.val))) a + S16.size a ≤ S41088.size a)
theorem k1_off131_inb : ∀ (v1113 : BitVec 32) (k1_hw16 : k1_chk16 v1113), ∀ (r : Fin 8), ∀ a, (k1_off131 v1113 (BitVec.ofNat 32 (16 * r.val))) a + S16.size a ≤ S41088.size a := fun v1113 k1_hw16 r => k1_hw16 r

def k1_off132 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1120 : Index := Scalar.indexCast v1116
  let c0_380 : Index := 0#32
  ![v1120.toNat, 0]
def k1_off133 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1129 : Index := Scalar.indexCast v1116
  let c16_383 : Index := 16#32
  ![v1129.toNat, 16]
def k1_off134 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1138 : Index := Scalar.indexCast v1116
  let c32_386 : Index := 32#32
  ![v1138.toNat, 32]
def k1_off135 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1147 : Index := Scalar.indexCast v1116
  let c48_389 : Index := 48#32
  ![v1147.toNat, 48]
def k1_off136 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1156 : Index := Scalar.indexCast v1116
  let c64_392 : Index := 64#32
  ![v1156.toNat, 64]
def k1_off137 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1165 : Index := Scalar.indexCast v1116
  let c80_395 : Index := 80#32
  ![v1165.toNat, 80]
def k1_off138 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1174 : Index := Scalar.indexCast v1116
  let c96_398 : Index := 96#32
  ![v1174.toNat, 96]
def k1_off139 (k1_t3 : Fin k1_t3_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1183 : Index := Scalar.indexCast v1116
  let c112_401 : Index := 112#32
  ![v1183.toNat, 112]
def k1_off140 (v1190 : BitVec 32) (c0_i32_405 : BitVec 32) : Fin 1 → Nat :=
  let c128_i32_403 : BitVec 32 := 128#32
  let v1191 : BitVec 32 := Scalar.muli v1190 c128_i32_403
  let v1194 : BitVec 32 := Scalar.addi v1191 c0_i32_405
  let v1195 : Index := Scalar.indexCast v1194
  ![v1195.toNat]

def k1_chk17 (v1190 : BitVec 32) : Prop :=
  (∀ (r : Fin 8), ∀ a, (k1_off140 v1190 (BitVec.ofNat 32 (16 * r.val))) a + S16.size a ≤ S41088.size a)
theorem k1_off140_inb : ∀ (v1190 : BitVec 32) (k1_hw17 : k1_chk17 v1190), ∀ (r : Fin 8), ∀ a, (k1_off140 v1190 (BitVec.ofNat 32 (16 * r.val))) a + S16.size a ≤ S41088.size a := fun v1190 k1_hw17 r => k1_hw17 r

def k1_off141 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1197 : Index := Scalar.indexCast v1193
  let c0_406 : Index := 0#32
  ![v1197.toNat, 0]
def k1_off142 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1206 : Index := Scalar.indexCast v1193
  let c16_409 : Index := 16#32
  ![v1206.toNat, 16]
def k1_off143 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1215 : Index := Scalar.indexCast v1193
  let c32_412 : Index := 32#32
  ![v1215.toNat, 32]
def k1_off144 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1224 : Index := Scalar.indexCast v1193
  let c48_415 : Index := 48#32
  ![v1224.toNat, 48]
def k1_off145 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1233 : Index := Scalar.indexCast v1193
  let c64_418 : Index := 64#32
  ![v1233.toNat, 64]
def k1_off146 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1242 : Index := Scalar.indexCast v1193
  let c80_421 : Index := 80#32
  ![v1242.toNat, 80]
def k1_off147 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1251 : Index := Scalar.indexCast v1193
  let c96_424 : Index := 96#32
  ![v1251.toNat, 96]
def k1_off148 (k1_t3 : Fin k1_t3_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t3
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1260 : Index := Scalar.indexCast v1193
  let c112_427 : Index := 112#32
  ![v1260.toNat, 112]
@[reducible] def k1_t4_loop (v6 : BitVec 32) : Scf.Loop 32 :=
  let c0_i32_7 : BitVec 32 := 0#32
  let c0_i32_1 : BitVec 32 := 0#32
  let v8 : BitVec 32 := Scalar.subi v6 c0_i32_1
  let c1_i32_2 : BitVec 32 := 1#32
  let c1_i32_3 : BitVec 32 := 1#32
  let v9 : BitVec 32 := Scalar.subi c1_i32_2 c1_i32_3
  let v10 : BitVec 32 := Scalar.addi v8 v9
  let c1_i32_4 : BitVec 32 := 1#32
  let v11 : BitVec 32 := Scalar.divsi v10 c1_i32_4
  let v12 : BitVec 32 := Scalar.subi v11 c0_i32_7
  let c1_i32_8 : BitVec 32 := 1#32
  let v14 : BitVec 32 := Scalar.divsi v12 c1_i32_8
  let v15 : BitVec 32 := Scalar.muli v14 c1_i32_8
  let v16 : BitVec 32 := Scalar.addi c0_i32_7 v15
  let v13 : BitVec 32 := Scalar.addi c0_i32_7 v12
  let c1_i32_10 : BitVec 32 := 1#32
  ⟨v16, v13, c1_i32_10⟩
def k1_mult3 (i : grid1.Coords) (v6 : BitVec 32) (k1_t4 : Fin (k1_t4_loop v6).trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v22 : BitVec 32 := Scalar.muli v1 c320128_i32
  let c128_i32_11 : BitVec 32 := 128#32
  let c0_i32_6 : BitVec 32 := 0#32
  let c0_i32_7 : BitVec 32 := 0#32
  let c0_i32_1 : BitVec 32 := 0#32
  let v8 : BitVec 32 := Scalar.subi v6 c0_i32_1
  let c1_i32_2 : BitVec 32 := 1#32
  let c1_i32_3 : BitVec 32 := 1#32
  let v9 : BitVec 32 := Scalar.subi c1_i32_2 c1_i32_3
  let v10 : BitVec 32 := Scalar.addi v8 v9
  let c1_i32_4 : BitVec 32 := 1#32
  let v11 : BitVec 32 := Scalar.divsi v10 c1_i32_4
  let v12 : BitVec 32 := Scalar.subi v11 c0_i32_7
  let c1_i32_8 : BitVec 32 := 1#32
  let v14 : BitVec 32 := Scalar.divsi v12 c1_i32_8
  let v15 : BitVec 32 := Scalar.muli v14 c1_i32_8
  let v16 : BitVec 32 := Scalar.addi c0_i32_7 v15
  let c1_i32_10 : BitVec 32 := 1#32
  let arg13 : BitVec 32 := Scf.iv v16 c1_i32_10 k1_t4
  let c1_i32_5 : BitVec 32 := 1#32
  let v20 : BitVec 32 := Scalar.muli arg13 c1_i32_5
  let v21 : BitVec 32 := Scalar.addi c0_i32_6 v20
  let v23 : BitVec 32 := Scalar.muli c128_i32_11 v21
  let v24 : BitVec 32 := Scalar.addi v22 v23
  v24
def k1_off149 (i : grid1.Coords) (v6 : BitVec 32) (k1_t4 : Fin (k1_t4_loop v6).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320128_i32 : BitVec 32 := 320128#32
  let v22 : BitVec 32 := Scalar.muli v1 c320128_i32
  let c128_i32_11 : BitVec 32 := 128#32
  let c0_i32_6 : BitVec 32 := 0#32
  let c0_i32_7 : BitVec 32 := 0#32
  let c0_i32_1 : BitVec 32 := 0#32
  let v8 : BitVec 32 := Scalar.subi v6 c0_i32_1
  let c1_i32_2 : BitVec 32 := 1#32
  let c1_i32_3 : BitVec 32 := 1#32
  let v9 : BitVec 32 := Scalar.subi c1_i32_2 c1_i32_3
  let v10 : BitVec 32 := Scalar.addi v8 v9
  let c1_i32_4 : BitVec 32 := 1#32
  let v11 : BitVec 32 := Scalar.divsi v10 c1_i32_4
  let v12 : BitVec 32 := Scalar.subi v11 c0_i32_7
  let c1_i32_8 : BitVec 32 := 1#32
  let v14 : BitVec 32 := Scalar.divsi v12 c1_i32_8
  let v15 : BitVec 32 := Scalar.muli v14 c1_i32_8
  let v16 : BitVec 32 := Scalar.addi c0_i32_7 v15
  let c1_i32_10 : BitVec 32 := 1#32
  let arg13 : BitVec 32 := Scf.iv v16 c1_i32_10 k1_t4
  let c1_i32_5 : BitVec 32 := 1#32
  let v20 : BitVec 32 := Scalar.muli arg13 c1_i32_5
  let v21 : BitVec 32 := Scalar.addi c0_i32_6 v20
  let v23 : BitVec 32 := Scalar.muli c128_i32_11 v21
  let v24 : BitVec 32 := Scalar.addi v22 v23
  let v25 : BitVec 32 := v24
  ![v25.toNat]

def k1_chk1 (i : grid1.Coords) (v6 : BitVec 32) : Prop :=
  ((k1_t2_loop v6).OK) ∧
  (∀ k1_t2 : Fin (k1_t2_loop v6).trips, 128 ∣ (k1_mult2 i v6 k1_t2).toNat) ∧
  (∀ k1_t2 : Fin (k1_t2_loop v6).trips, ∀ a, (k1_off3 i v6 k1_t2) a + S128.size a ≤ S10244096.size a) ∧
  ((k1_t4_loop v6).OK) ∧
  (∀ k1_t4 : Fin (k1_t4_loop v6).trips, 128 ∣ (k1_mult3 i v6 k1_t4).toNat) ∧
  (∀ k1_t4 : Fin (k1_t4_loop v6).trips, ∀ a, (k1_off149 i v6 k1_t4) a + S128.size a ≤ S10244096.size a)
theorem k1_t2_ok : ∀ (i : grid1.Coords) (v6 : BitVec 32) (k1_hw1 : k1_chk1 i v6), (k1_t2_loop v6).OK := fun i v6 k1_hw1 => k1_hw1.1
theorem k1_mult2_dvd : ∀ (i : grid1.Coords) (v6 : BitVec 32) (k1_hw1 : k1_chk1 i v6) (k1_t2 : Fin (k1_t2_loop v6).trips), 128 ∣ (k1_mult2 i v6 k1_t2).toNat := fun i v6 k1_hw1 k1_t2 => k1_hw1.2.1 k1_t2
theorem k1_off3_inb : ∀ (i : grid1.Coords) (v6 : BitVec 32) (k1_hw1 : k1_chk1 i v6) (k1_t2 : Fin (k1_t2_loop v6).trips), ∀ a, (k1_off3 i v6 k1_t2) a + S128.size a ≤ S10244096.size a := fun i v6 k1_hw1 k1_t2 => k1_hw1.2.2.1 k1_t2
theorem k1_t4_ok : ∀ (i : grid1.Coords) (v6 : BitVec 32) (k1_hw1 : k1_chk1 i v6), (k1_t4_loop v6).OK := fun i v6 k1_hw1 => k1_hw1.2.2.2.1
theorem k1_mult3_dvd : ∀ (i : grid1.Coords) (v6 : BitVec 32) (k1_hw1 : k1_chk1 i v6) (k1_t4 : Fin (k1_t4_loop v6).trips), 128 ∣ (k1_mult3 i v6 k1_t4).toNat := fun i v6 k1_hw1 k1_t4 => k1_hw1.2.2.2.2.1 k1_t4
theorem k1_off149_inb : ∀ (i : grid1.Coords) (v6 : BitVec 32) (k1_hw1 : k1_chk1 i v6) (k1_t4 : Fin (k1_t4_loop v6).trips), ∀ a, (k1_off149 i v6 k1_t4) a + S128.size a ≤ S10244096.size a := fun i v6 k1_hw1 k1_t4 => k1_hw1.2.2.2.2.2 k1_t4

@[reducible] def k1_t5_loop : Scf.Loop 32 :=
  let c0_i32_16 : BitVec 32 := 0#32
  let c8_i32 : BitVec 32 := 8#32
  let v28 : BitVec 32 := Scalar.addi c0_i32_16 c8_i32
  let c1_i32_17 : BitVec 32 := 1#32
  ⟨c0_i32_16, v28, c1_i32_17⟩
def k1_off150 (k1_t5 : Fin k1_t5_loop.trips) : Fin 1 → Nat :=
  let c16_i32_21 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v31 : BitVec 32 := Scalar.muli c16_i32_21 v30
  let v32 : Index := Scalar.indexCast v31
  ![v32.toNat]
def k1_off151 (v35 : BitVec 32) (c0_i32_25 : BitVec 32) : Fin 1 → Nat :=
  let c128_i32_22 : BitVec 32 := 128#32
  let v36 : BitVec 32 := Scalar.muli v35 c128_i32_22
  let v39 : BitVec 32 := Scalar.addi v36 c0_i32_25
  let v40 : Index := Scalar.indexCast v39
  ![v40.toNat]

def k1_chk18 (v35 : BitVec 32) : Prop :=
  (∀ (r : Fin 8), ∀ a, (k1_off151 v35 (BitVec.ofNat 32 (16 * r.val))) a + S16.size a ≤ S41088.size a)
theorem k1_off151_inb : ∀ (v35 : BitVec 32) (k1_hw18 : k1_chk18 v35), ∀ (r : Fin 8), ∀ a, (k1_off151 v35 (BitVec.ofNat 32 (16 * r.val))) a + S16.size a ≤ S41088.size a := fun v35 k1_hw18 r => k1_hw18 r

def k1_off152 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v42 : Index := Scalar.indexCast v38
  let c0_26 : Index := 0#32
  ![v42.toNat, 0]
def k1_off153 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v51 : Index := Scalar.indexCast v38
  let c16 : Index := 16#32
  ![v51.toNat, 16]
def k1_off154 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v60 : Index := Scalar.indexCast v38
  let c32 : Index := 32#32
  ![v60.toNat, 32]
def k1_off155 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v69 : Index := Scalar.indexCast v38
  let c48 : Index := 48#32
  ![v69.toNat, 48]
def k1_off156 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v78 : Index := Scalar.indexCast v38
  let c64 : Index := 64#32
  ![v78.toNat, 64]
def k1_off157 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v87 : Index := Scalar.indexCast v38
  let c80 : Index := 80#32
  ![v87.toNat, 80]
def k1_off158 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v96 : Index := Scalar.indexCast v38
  let c96 : Index := 96#32
  ![v96.toNat, 96]
def k1_off159 (k1_t5 : Fin k1_t5_loop.trips) : Fin 2 → Nat :=
  let c16_i32_23 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v37 : BitVec 32 := Scalar.muli c16_i32_23 v30
  let c0_i32_24 : BitVec 32 := 0#32
  let v38 : BitVec 32 := Scalar.addi v37 c0_i32_24
  let v105 : Index := Scalar.indexCast v38
  let c112 : Index := 112#32
  ![v105.toNat, 112]
def k1_off160 (v112 : BitVec 32) (c0_i32_39 : BitVec 32) : Fin 1 → Nat :=
  let c128_i32_36 : BitVec 32 := 128#32
  let v113 : BitVec 32 := Scalar.muli v112 c128_i32_36
  let v116 : BitVec 32 := Scalar.addi v113 c0_i32_39
  let v117 : Index := Scalar.indexCast v116
  ![v117.toNat]

def k1_chk19 (v112 : BitVec 32) : Prop :=
  (∀ (r : Fin 8), ∀ a, (k1_off160 v112 (BitVec.ofNat 32 (16 * r.val))) a + S16.size a ≤ S41088.size a)
theorem k1_off160_inb : ∀ (v112 : BitVec 32) (k1_hw19 : k1_chk19 v112), ∀ (r : Fin 8), ∀ a, (k1_off160 v112 (BitVec.ofNat 32 (16 * r.val))) a + S16.size a ≤ S41088.size a := fun v112 k1_hw19 r => k1_hw19 r

def k1_off161 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v119 : Index := Scalar.indexCast v115
  let c0_40 : Index := 0#32
  ![v119.toNat, 0]
def k1_off162 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v128 : Index := Scalar.indexCast v115
  let c16_43 : Index := 16#32
  ![v128.toNat, 16]
def k1_off163 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v137 : Index := Scalar.indexCast v115
  let c32_46 : Index := 32#32
  ![v137.toNat, 32]
def k1_off164 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v146 : Index := Scalar.indexCast v115
  let c48_49 : Index := 48#32
  ![v146.toNat, 48]
def k1_off165 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v155 : Index := Scalar.indexCast v115
  let c64_52 : Index := 64#32
  ![v155.toNat, 64]
def k1_off166 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v164 : Index := Scalar.indexCast v115
  let c80_55 : Index := 80#32
  ![v164.toNat, 80]
def k1_off167 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v173 : Index := Scalar.indexCast v115
  let c96_58 : Index := 96#32
  ![v173.toNat, 96]
def k1_off168 (k1_t5 : Fin k1_t5_loop.trips) : Fin 2 → Nat :=
  let c16_i32_37 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v114 : BitVec 32 := Scalar.muli c16_i32_37 v30
  let c1_i32_38 : BitVec 32 := 1#32
  let v115 : BitVec 32 := Scalar.addi v114 c1_i32_38
  let v182 : Index := Scalar.indexCast v115
  let c112_61 : Index := 112#32
  ![v182.toNat, 112]
def k1_off169 (v189 : BitVec 32) (c0_i32_66 : BitVec 32) : Fin 1 → Nat :=
  let c128_i32_63 : BitVec 32 := 128#32
  let v190 : BitVec 32 := Scalar.muli v189 c128_i32_63
  let v193 : BitVec 32 := Scalar.addi v190 c0_i32_66
  let v194 : Index := Scalar.indexCast v193
  ![v194.toNat]

def k1_chk20 (v189 : BitVec 32) : Prop :=
  (∀ (r : Fin 8), ∀ a, (k1_off169 v189 (BitVec.ofNat 32 (16 * r.val))) a + S16.size a ≤ S41088.size a)
theorem k1_off169_inb : ∀ (v189 : BitVec 32) (k1_hw20 : k1_chk20 v189), ∀ (r : Fin 8), ∀ a, (k1_off169 v189 (BitVec.ofNat 32 (16 * r.val))) a + S16.size a ≤ S41088.size a := fun v189 k1_hw20 r => k1_hw20 r

def k1_off170 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v196 : Index := Scalar.indexCast v192
  let c0_67 : Index := 0#32
  ![v196.toNat, 0]
def k1_off171 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v205 : Index := Scalar.indexCast v192
  let c16_70 : Index := 16#32
  ![v205.toNat, 16]
def k1_off172 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v214 : Index := Scalar.indexCast v192
  let c32_73 : Index := 32#32
  ![v214.toNat, 32]
def k1_off173 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v223 : Index := Scalar.indexCast v192
  let c48_76 : Index := 48#32
  ![v223.toNat, 48]
def k1_off174 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v232 : Index := Scalar.indexCast v192
  let c64_79 : Index := 64#32
  ![v232.toNat, 64]
def k1_off175 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v241 : Index := Scalar.indexCast v192
  let c80_82 : Index := 80#32
  ![v241.toNat, 80]
def k1_off176 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v250 : Index := Scalar.indexCast v192
  let c96_85 : Index := 96#32
  ![v250.toNat, 96]
def k1_off177 (k1_t5 : Fin k1_t5_loop.trips) : Fin 2 → Nat :=
  let c16_i32_64 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v191 : BitVec 32 := Scalar.muli c16_i32_64 v30
  let c2_i32_65 : BitVec 32 := 2#32
  let v192 : BitVec 32 := Scalar.addi v191 c2_i32_65
  let v259 : Index := Scalar.indexCast v192
  let c112_88 : Index := 112#32
  ![v259.toNat, 112]
def k1_off178 (v266 : BitVec 32) (c0_i32_92 : BitVec 32) : Fin 1 → Nat :=
  let c128_i32_90 : BitVec 32 := 128#32
  let v267 : BitVec 32 := Scalar.muli v266 c128_i32_90
  let v270 : BitVec 32 := Scalar.addi v267 c0_i32_92
  let v271 : Index := Scalar.indexCast v270
  ![v271.toNat]

def k1_chk21 (v266 : BitVec 32) : Prop :=
  (∀ (r : Fin 8), ∀ a, (k1_off178 v266 (BitVec.ofNat 32 (16 * r.val))) a + S16.size a ≤ S41088.size a)
theorem k1_off178_inb : ∀ (v266 : BitVec 32) (k1_hw21 : k1_chk21 v266), ∀ (r : Fin 8), ∀ a, (k1_off178 v266 (BitVec.ofNat 32 (16 * r.val))) a + S16.size a ≤ S41088.size a := fun v266 k1_hw21 r => k1_hw21 r

def k1_off179 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v273 : Index := Scalar.indexCast v269
  let c0_93 : Index := 0#32
  ![v273.toNat, 0]
def k1_off180 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v282 : Index := Scalar.indexCast v269
  let c16_96 : Index := 16#32
  ![v282.toNat, 16]
def k1_off181 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v291 : Index := Scalar.indexCast v269
  let c32_99 : Index := 32#32
  ![v291.toNat, 32]
def k1_off182 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v300 : Index := Scalar.indexCast v269
  let c48_102 : Index := 48#32
  ![v300.toNat, 48]
def k1_off183 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v309 : Index := Scalar.indexCast v269
  let c64_105 : Index := 64#32
  ![v309.toNat, 64]
def k1_off184 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v318 : Index := Scalar.indexCast v269
  let c80_108 : Index := 80#32
  ![v318.toNat, 80]
def k1_off185 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v327 : Index := Scalar.indexCast v269
  let c96_111 : Index := 96#32
  ![v327.toNat, 96]
def k1_off186 (k1_t5 : Fin k1_t5_loop.trips) : Fin 2 → Nat :=
  let c16_i32_91 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v268 : BitVec 32 := Scalar.muli c16_i32_91 v30
  let c3_i32 : BitVec 32 := 3#32
  let v269 : BitVec 32 := Scalar.addi v268 c3_i32
  let v336 : Index := Scalar.indexCast v269
  let c112_114 : Index := 112#32
  ![v336.toNat, 112]
def k1_off187 (v343 : BitVec 32) (c0_i32_118 : BitVec 32) : Fin 1 → Nat :=
  let c128_i32_116 : BitVec 32 := 128#32
  let v344 : BitVec 32 := Scalar.muli v343 c128_i32_116
  let v347 : BitVec 32 := Scalar.addi v344 c0_i32_118
  let v348 : Index := Scalar.indexCast v347
  ![v348.toNat]

def k1_chk22 (v343 : BitVec 32) : Prop :=
  (∀ (r : Fin 8), ∀ a, (k1_off187 v343 (BitVec.ofNat 32 (16 * r.val))) a + S16.size a ≤ S41088.size a)
theorem k1_off187_inb : ∀ (v343 : BitVec 32) (k1_hw22 : k1_chk22 v343), ∀ (r : Fin 8), ∀ a, (k1_off187 v343 (BitVec.ofNat 32 (16 * r.val))) a + S16.size a ≤ S41088.size a := fun v343 k1_hw22 r => k1_hw22 r

def k1_off188 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v350 : Index := Scalar.indexCast v346
  let c0_119 : Index := 0#32
  ![v350.toNat, 0]
def k1_off189 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v359 : Index := Scalar.indexCast v346
  let c16_122 : Index := 16#32
  ![v359.toNat, 16]
def k1_off190 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v368 : Index := Scalar.indexCast v346
  let c32_125 : Index := 32#32
  ![v368.toNat, 32]
def k1_off191 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v377 : Index := Scalar.indexCast v346
  let c48_128 : Index := 48#32
  ![v377.toNat, 48]
def k1_off192 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v386 : Index := Scalar.indexCast v346
  let c64_131 : Index := 64#32
  ![v386.toNat, 64]
def k1_off193 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v395 : Index := Scalar.indexCast v346
  let c80_134 : Index := 80#32
  ![v395.toNat, 80]
def k1_off194 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v404 : Index := Scalar.indexCast v346
  let c96_137 : Index := 96#32
  ![v404.toNat, 96]
def k1_off195 (k1_t5 : Fin k1_t5_loop.trips) : Fin 2 → Nat :=
  let c16_i32_117 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v345 : BitVec 32 := Scalar.muli c16_i32_117 v30
  let c4_i32 : BitVec 32 := 4#32
  let v346 : BitVec 32 := Scalar.addi v345 c4_i32
  let v413 : Index := Scalar.indexCast v346
  let c112_140 : Index := 112#32
  ![v413.toNat, 112]
def k1_off196 (v420 : BitVec 32) (c0_i32_144 : BitVec 32) : Fin 1 → Nat :=
  let c128_i32_142 : BitVec 32 := 128#32
  let v421 : BitVec 32 := Scalar.muli v420 c128_i32_142
  let v424 : BitVec 32 := Scalar.addi v421 c0_i32_144
  let v425 : Index := Scalar.indexCast v424
  ![v425.toNat]

def k1_chk23 (v420 : BitVec 32) : Prop :=
  (∀ (r : Fin 8), ∀ a, (k1_off196 v420 (BitVec.ofNat 32 (16 * r.val))) a + S16.size a ≤ S41088.size a)
theorem k1_off196_inb : ∀ (v420 : BitVec 32) (k1_hw23 : k1_chk23 v420), ∀ (r : Fin 8), ∀ a, (k1_off196 v420 (BitVec.ofNat 32 (16 * r.val))) a + S16.size a ≤ S41088.size a := fun v420 k1_hw23 r => k1_hw23 r

def k1_off197 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v427 : Index := Scalar.indexCast v423
  let c0_145 : Index := 0#32
  ![v427.toNat, 0]
def k1_off198 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v436 : Index := Scalar.indexCast v423
  let c16_148 : Index := 16#32
  ![v436.toNat, 16]
def k1_off199 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v445 : Index := Scalar.indexCast v423
  let c32_151 : Index := 32#32
  ![v445.toNat, 32]
def k1_off200 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v454 : Index := Scalar.indexCast v423
  let c48_154 : Index := 48#32
  ![v454.toNat, 48]
def k1_off201 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v463 : Index := Scalar.indexCast v423
  let c64_157 : Index := 64#32
  ![v463.toNat, 64]
def k1_off202 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v472 : Index := Scalar.indexCast v423
  let c80_160 : Index := 80#32
  ![v472.toNat, 80]
def k1_off203 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v481 : Index := Scalar.indexCast v423
  let c96_163 : Index := 96#32
  ![v481.toNat, 96]
def k1_off204 (k1_t5 : Fin k1_t5_loop.trips) : Fin 2 → Nat :=
  let c16_i32_143 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v422 : BitVec 32 := Scalar.muli c16_i32_143 v30
  let c5_i32 : BitVec 32 := 5#32
  let v423 : BitVec 32 := Scalar.addi v422 c5_i32
  let v490 : Index := Scalar.indexCast v423
  let c112_166 : Index := 112#32
  ![v490.toNat, 112]
def k1_off205 (v497 : BitVec 32) (c0_i32_170 : BitVec 32) : Fin 1 → Nat :=
  let c128_i32_168 : BitVec 32 := 128#32
  let v498 : BitVec 32 := Scalar.muli v497 c128_i32_168
  let v501 : BitVec 32 := Scalar.addi v498 c0_i32_170
  let v502 : Index := Scalar.indexCast v501
  ![v502.toNat]

def k1_chk24 (v497 : BitVec 32) : Prop :=
  (∀ (r : Fin 8), ∀ a, (k1_off205 v497 (BitVec.ofNat 32 (16 * r.val))) a + S16.size a ≤ S41088.size a)
theorem k1_off205_inb : ∀ (v497 : BitVec 32) (k1_hw24 : k1_chk24 v497), ∀ (r : Fin 8), ∀ a, (k1_off205 v497 (BitVec.ofNat 32 (16 * r.val))) a + S16.size a ≤ S41088.size a := fun v497 k1_hw24 r => k1_hw24 r

def k1_off206 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v504 : Index := Scalar.indexCast v500
  let c0_171 : Index := 0#32
  ![v504.toNat, 0]
def k1_off207 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v513 : Index := Scalar.indexCast v500
  let c16_174 : Index := 16#32
  ![v513.toNat, 16]
def k1_off208 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v522 : Index := Scalar.indexCast v500
  let c32_177 : Index := 32#32
  ![v522.toNat, 32]
def k1_off209 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v531 : Index := Scalar.indexCast v500
  let c48_180 : Index := 48#32
  ![v531.toNat, 48]
def k1_off210 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v540 : Index := Scalar.indexCast v500
  let c64_183 : Index := 64#32
  ![v540.toNat, 64]
def k1_off211 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v549 : Index := Scalar.indexCast v500
  let c80_186 : Index := 80#32
  ![v549.toNat, 80]
def k1_off212 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v558 : Index := Scalar.indexCast v500
  let c96_189 : Index := 96#32
  ![v558.toNat, 96]
def k1_off213 (k1_t5 : Fin k1_t5_loop.trips) : Fin 2 → Nat :=
  let c16_i32_169 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v499 : BitVec 32 := Scalar.muli c16_i32_169 v30
  let c6_i32 : BitVec 32 := 6#32
  let v500 : BitVec 32 := Scalar.addi v499 c6_i32
  let v567 : Index := Scalar.indexCast v500
  let c112_192 : Index := 112#32
  ![v567.toNat, 112]
def k1_off214 (v574 : BitVec 32) (c0_i32_196 : BitVec 32) : Fin 1 → Nat :=
  let c128_i32_194 : BitVec 32 := 128#32
  let v575 : BitVec 32 := Scalar.muli v574 c128_i32_194
  let v578 : BitVec 32 := Scalar.addi v575 c0_i32_196
  let v579 : Index := Scalar.indexCast v578
  ![v579.toNat]

def k1_chk25 (v574 : BitVec 32) : Prop :=
  (∀ (r : Fin 8), ∀ a, (k1_off214 v574 (BitVec.ofNat 32 (16 * r.val))) a + S16.size a ≤ S41088.size a)
theorem k1_off214_inb : ∀ (v574 : BitVec 32) (k1_hw25 : k1_chk25 v574), ∀ (r : Fin 8), ∀ a, (k1_off214 v574 (BitVec.ofNat 32 (16 * r.val))) a + S16.size a ≤ S41088.size a := fun v574 k1_hw25 r => k1_hw25 r

def k1_off215 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v581 : Index := Scalar.indexCast v577
  let c0_197 : Index := 0#32
  ![v581.toNat, 0]
def k1_off216 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v590 : Index := Scalar.indexCast v577
  let c16_200 : Index := 16#32
  ![v590.toNat, 16]
def k1_off217 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v599 : Index := Scalar.indexCast v577
  let c32_203 : Index := 32#32
  ![v599.toNat, 32]
def k1_off218 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v608 : Index := Scalar.indexCast v577
  let c48_206 : Index := 48#32
  ![v608.toNat, 48]
def k1_off219 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v617 : Index := Scalar.indexCast v577
  let c64_209 : Index := 64#32
  ![v617.toNat, 64]
def k1_off220 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v626 : Index := Scalar.indexCast v577
  let c80_212 : Index := 80#32
  ![v626.toNat, 80]
def k1_off221 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v635 : Index := Scalar.indexCast v577
  let c96_215 : Index := 96#32
  ![v635.toNat, 96]
def k1_off222 (k1_t5 : Fin k1_t5_loop.trips) : Fin 2 → Nat :=
  let c16_i32_195 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v576 : BitVec 32 := Scalar.muli c16_i32_195 v30
  let c7_i32 : BitVec 32 := 7#32
  let v577 : BitVec 32 := Scalar.addi v576 c7_i32
  let v644 : Index := Scalar.indexCast v577
  let c112_218 : Index := 112#32
  ![v644.toNat, 112]
def k1_off223 (v651 : BitVec 32) (c0_i32_223 : BitVec 32) : Fin 1 → Nat :=
  let c128_i32_220 : BitVec 32 := 128#32
  let v652 : BitVec 32 := Scalar.muli v651 c128_i32_220
  let v655 : BitVec 32 := Scalar.addi v652 c0_i32_223
  let v656 : Index := Scalar.indexCast v655
  ![v656.toNat]

def k1_chk26 (v651 : BitVec 32) : Prop :=
  (∀ (r : Fin 8), ∀ a, (k1_off223 v651 (BitVec.ofNat 32 (16 * r.val))) a + S16.size a ≤ S41088.size a)
theorem k1_off223_inb : ∀ (v651 : BitVec 32) (k1_hw26 : k1_chk26 v651), ∀ (r : Fin 8), ∀ a, (k1_off223 v651 (BitVec.ofNat 32 (16 * r.val))) a + S16.size a ≤ S41088.size a := fun v651 k1_hw26 r => k1_hw26 r

def k1_off224 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v658 : Index := Scalar.indexCast v654
  let c0_224 : Index := 0#32
  ![v658.toNat, 0]
def k1_off225 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v667 : Index := Scalar.indexCast v654
  let c16_227 : Index := 16#32
  ![v667.toNat, 16]
def k1_off226 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v676 : Index := Scalar.indexCast v654
  let c32_230 : Index := 32#32
  ![v676.toNat, 32]
def k1_off227 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v685 : Index := Scalar.indexCast v654
  let c48_233 : Index := 48#32
  ![v685.toNat, 48]
def k1_off228 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v694 : Index := Scalar.indexCast v654
  let c64_236 : Index := 64#32
  ![v694.toNat, 64]
def k1_off229 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v703 : Index := Scalar.indexCast v654
  let c80_239 : Index := 80#32
  ![v703.toNat, 80]
def k1_off230 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v712 : Index := Scalar.indexCast v654
  let c96_242 : Index := 96#32
  ![v712.toNat, 96]
def k1_off231 (k1_t5 : Fin k1_t5_loop.trips) : Fin 2 → Nat :=
  let c16_i32_221 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v653 : BitVec 32 := Scalar.muli c16_i32_221 v30
  let c8_i32_222 : BitVec 32 := 8#32
  let v654 : BitVec 32 := Scalar.addi v653 c8_i32_222
  let v721 : Index := Scalar.indexCast v654
  let c112_245 : Index := 112#32
  ![v721.toNat, 112]
def k1_off232 (v728 : BitVec 32) (c0_i32_249 : BitVec 32) : Fin 1 → Nat :=
  let c128_i32_247 : BitVec 32 := 128#32
  let v729 : BitVec 32 := Scalar.muli v728 c128_i32_247
  let v732 : BitVec 32 := Scalar.addi v729 c0_i32_249
  let v733 : Index := Scalar.indexCast v732
  ![v733.toNat]

def k1_chk27 (v728 : BitVec 32) : Prop :=
  (∀ (r : Fin 8), ∀ a, (k1_off232 v728 (BitVec.ofNat 32 (16 * r.val))) a + S16.size a ≤ S41088.size a)
theorem k1_off232_inb : ∀ (v728 : BitVec 32) (k1_hw27 : k1_chk27 v728), ∀ (r : Fin 8), ∀ a, (k1_off232 v728 (BitVec.ofNat 32 (16 * r.val))) a + S16.size a ≤ S41088.size a := fun v728 k1_hw27 r => k1_hw27 r

def k1_off233 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v735 : Index := Scalar.indexCast v731
  let c0_250 : Index := 0#32
  ![v735.toNat, 0]
def k1_off234 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v744 : Index := Scalar.indexCast v731
  let c16_253 : Index := 16#32
  ![v744.toNat, 16]
def k1_off235 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v753 : Index := Scalar.indexCast v731
  let c32_256 : Index := 32#32
  ![v753.toNat, 32]
def k1_off236 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v762 : Index := Scalar.indexCast v731
  let c48_259 : Index := 48#32
  ![v762.toNat, 48]
def k1_off237 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v771 : Index := Scalar.indexCast v731
  let c64_262 : Index := 64#32
  ![v771.toNat, 64]
def k1_off238 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v780 : Index := Scalar.indexCast v731
  let c80_265 : Index := 80#32
  ![v780.toNat, 80]
def k1_off239 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v789 : Index := Scalar.indexCast v731
  let c96_268 : Index := 96#32
  ![v789.toNat, 96]
def k1_off240 (k1_t5 : Fin k1_t5_loop.trips) : Fin 2 → Nat :=
  let c16_i32_248 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v730 : BitVec 32 := Scalar.muli c16_i32_248 v30
  let c9_i32 : BitVec 32 := 9#32
  let v731 : BitVec 32 := Scalar.addi v730 c9_i32
  let v798 : Index := Scalar.indexCast v731
  let c112_271 : Index := 112#32
  ![v798.toNat, 112]
def k1_off241 (v805 : BitVec 32) (c0_i32_275 : BitVec 32) : Fin 1 → Nat :=
  let c128_i32_273 : BitVec 32 := 128#32
  let v806 : BitVec 32 := Scalar.muli v805 c128_i32_273
  let v809 : BitVec 32 := Scalar.addi v806 c0_i32_275
  let v810 : Index := Scalar.indexCast v809
  ![v810.toNat]

def k1_chk28 (v805 : BitVec 32) : Prop :=
  (∀ (r : Fin 8), ∀ a, (k1_off241 v805 (BitVec.ofNat 32 (16 * r.val))) a + S16.size a ≤ S41088.size a)
theorem k1_off241_inb : ∀ (v805 : BitVec 32) (k1_hw28 : k1_chk28 v805), ∀ (r : Fin 8), ∀ a, (k1_off241 v805 (BitVec.ofNat 32 (16 * r.val))) a + S16.size a ≤ S41088.size a := fun v805 k1_hw28 r => k1_hw28 r

def k1_off242 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v812 : Index := Scalar.indexCast v808
  let c0_276 : Index := 0#32
  ![v812.toNat, 0]
def k1_off243 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v821 : Index := Scalar.indexCast v808
  let c16_279 : Index := 16#32
  ![v821.toNat, 16]
def k1_off244 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v830 : Index := Scalar.indexCast v808
  let c32_282 : Index := 32#32
  ![v830.toNat, 32]
def k1_off245 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v839 : Index := Scalar.indexCast v808
  let c48_285 : Index := 48#32
  ![v839.toNat, 48]
def k1_off246 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v848 : Index := Scalar.indexCast v808
  let c64_288 : Index := 64#32
  ![v848.toNat, 64]
def k1_off247 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v857 : Index := Scalar.indexCast v808
  let c80_291 : Index := 80#32
  ![v857.toNat, 80]
def k1_off248 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v866 : Index := Scalar.indexCast v808
  let c96_294 : Index := 96#32
  ![v866.toNat, 96]
def k1_off249 (k1_t5 : Fin k1_t5_loop.trips) : Fin 2 → Nat :=
  let c16_i32_274 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v807 : BitVec 32 := Scalar.muli c16_i32_274 v30
  let c10_i32 : BitVec 32 := 10#32
  let v808 : BitVec 32 := Scalar.addi v807 c10_i32
  let v875 : Index := Scalar.indexCast v808
  let c112_297 : Index := 112#32
  ![v875.toNat, 112]
def k1_off250 (v882 : BitVec 32) (c0_i32_301 : BitVec 32) : Fin 1 → Nat :=
  let c128_i32_299 : BitVec 32 := 128#32
  let v883 : BitVec 32 := Scalar.muli v882 c128_i32_299
  let v886 : BitVec 32 := Scalar.addi v883 c0_i32_301
  let v887 : Index := Scalar.indexCast v886
  ![v887.toNat]

def k1_chk29 (v882 : BitVec 32) : Prop :=
  (∀ (r : Fin 8), ∀ a, (k1_off250 v882 (BitVec.ofNat 32 (16 * r.val))) a + S16.size a ≤ S41088.size a)
theorem k1_off250_inb : ∀ (v882 : BitVec 32) (k1_hw29 : k1_chk29 v882), ∀ (r : Fin 8), ∀ a, (k1_off250 v882 (BitVec.ofNat 32 (16 * r.val))) a + S16.size a ≤ S41088.size a := fun v882 k1_hw29 r => k1_hw29 r

def k1_off251 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v889 : Index := Scalar.indexCast v885
  let c0_302 : Index := 0#32
  ![v889.toNat, 0]
def k1_off252 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v898 : Index := Scalar.indexCast v885
  let c16_305 : Index := 16#32
  ![v898.toNat, 16]
def k1_off253 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v907 : Index := Scalar.indexCast v885
  let c32_308 : Index := 32#32
  ![v907.toNat, 32]
def k1_off254 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v916 : Index := Scalar.indexCast v885
  let c48_311 : Index := 48#32
  ![v916.toNat, 48]
def k1_off255 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v925 : Index := Scalar.indexCast v885
  let c64_314 : Index := 64#32
  ![v925.toNat, 64]
def k1_off256 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v934 : Index := Scalar.indexCast v885
  let c80_317 : Index := 80#32
  ![v934.toNat, 80]
def k1_off257 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v943 : Index := Scalar.indexCast v885
  let c96_320 : Index := 96#32
  ![v943.toNat, 96]
def k1_off258 (k1_t5 : Fin k1_t5_loop.trips) : Fin 2 → Nat :=
  let c16_i32_300 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v884 : BitVec 32 := Scalar.muli c16_i32_300 v30
  let c11_i32 : BitVec 32 := 11#32
  let v885 : BitVec 32 := Scalar.addi v884 c11_i32
  let v952 : Index := Scalar.indexCast v885
  let c112_323 : Index := 112#32
  ![v952.toNat, 112]
def k1_off259 (v959 : BitVec 32) (c0_i32_327 : BitVec 32) : Fin 1 → Nat :=
  let c128_i32_325 : BitVec 32 := 128#32
  let v960 : BitVec 32 := Scalar.muli v959 c128_i32_325
  let v963 : BitVec 32 := Scalar.addi v960 c0_i32_327
  let v964 : Index := Scalar.indexCast v963
  ![v964.toNat]

def k1_chk30 (v959 : BitVec 32) : Prop :=
  (∀ (r : Fin 8), ∀ a, (k1_off259 v959 (BitVec.ofNat 32 (16 * r.val))) a + S16.size a ≤ S41088.size a)
theorem k1_off259_inb : ∀ (v959 : BitVec 32) (k1_hw30 : k1_chk30 v959), ∀ (r : Fin 8), ∀ a, (k1_off259 v959 (BitVec.ofNat 32 (16 * r.val))) a + S16.size a ≤ S41088.size a := fun v959 k1_hw30 r => k1_hw30 r

def k1_off260 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v966 : Index := Scalar.indexCast v962
  let c0_328 : Index := 0#32
  ![v966.toNat, 0]
def k1_off261 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v975 : Index := Scalar.indexCast v962
  let c16_331 : Index := 16#32
  ![v975.toNat, 16]
def k1_off262 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v984 : Index := Scalar.indexCast v962
  let c32_334 : Index := 32#32
  ![v984.toNat, 32]
def k1_off263 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v993 : Index := Scalar.indexCast v962
  let c48_337 : Index := 48#32
  ![v993.toNat, 48]
def k1_off264 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1002 : Index := Scalar.indexCast v962
  let c64_340 : Index := 64#32
  ![v1002.toNat, 64]
def k1_off265 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1011 : Index := Scalar.indexCast v962
  let c80_343 : Index := 80#32
  ![v1011.toNat, 80]
def k1_off266 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1020 : Index := Scalar.indexCast v962
  let c96_346 : Index := 96#32
  ![v1020.toNat, 96]
def k1_off267 (k1_t5 : Fin k1_t5_loop.trips) : Fin 2 → Nat :=
  let c16_i32_326 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v961 : BitVec 32 := Scalar.muli c16_i32_326 v30
  let c12_i32 : BitVec 32 := 12#32
  let v962 : BitVec 32 := Scalar.addi v961 c12_i32
  let v1029 : Index := Scalar.indexCast v962
  let c112_349 : Index := 112#32
  ![v1029.toNat, 112]
def k1_off268 (v1036 : BitVec 32) (c0_i32_353 : BitVec 32) : Fin 1 → Nat :=
  let c128_i32_351 : BitVec 32 := 128#32
  let v1037 : BitVec 32 := Scalar.muli v1036 c128_i32_351
  let v1040 : BitVec 32 := Scalar.addi v1037 c0_i32_353
  let v1041 : Index := Scalar.indexCast v1040
  ![v1041.toNat]

def k1_chk31 (v1036 : BitVec 32) : Prop :=
  (∀ (r : Fin 8), ∀ a, (k1_off268 v1036 (BitVec.ofNat 32 (16 * r.val))) a + S16.size a ≤ S41088.size a)
theorem k1_off268_inb : ∀ (v1036 : BitVec 32) (k1_hw31 : k1_chk31 v1036), ∀ (r : Fin 8), ∀ a, (k1_off268 v1036 (BitVec.ofNat 32 (16 * r.val))) a + S16.size a ≤ S41088.size a := fun v1036 k1_hw31 r => k1_hw31 r

def k1_off269 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1043 : Index := Scalar.indexCast v1039
  let c0_354 : Index := 0#32
  ![v1043.toNat, 0]
def k1_off270 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1052 : Index := Scalar.indexCast v1039
  let c16_357 : Index := 16#32
  ![v1052.toNat, 16]
def k1_off271 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1061 : Index := Scalar.indexCast v1039
  let c32_360 : Index := 32#32
  ![v1061.toNat, 32]
def k1_off272 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1070 : Index := Scalar.indexCast v1039
  let c48_363 : Index := 48#32
  ![v1070.toNat, 48]
def k1_off273 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1079 : Index := Scalar.indexCast v1039
  let c64_366 : Index := 64#32
  ![v1079.toNat, 64]
def k1_off274 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1088 : Index := Scalar.indexCast v1039
  let c80_369 : Index := 80#32
  ![v1088.toNat, 80]
def k1_off275 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1097 : Index := Scalar.indexCast v1039
  let c96_372 : Index := 96#32
  ![v1097.toNat, 96]
def k1_off276 (k1_t5 : Fin k1_t5_loop.trips) : Fin 2 → Nat :=
  let c16_i32_352 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1038 : BitVec 32 := Scalar.muli c16_i32_352 v30
  let c13_i32 : BitVec 32 := 13#32
  let v1039 : BitVec 32 := Scalar.addi v1038 c13_i32
  let v1106 : Index := Scalar.indexCast v1039
  let c112_375 : Index := 112#32
  ![v1106.toNat, 112]
def k1_off277 (v1113 : BitVec 32) (c0_i32_379 : BitVec 32) : Fin 1 → Nat :=
  let c128_i32_377 : BitVec 32 := 128#32
  let v1114 : BitVec 32 := Scalar.muli v1113 c128_i32_377
  let v1117 : BitVec 32 := Scalar.addi v1114 c0_i32_379
  let v1118 : Index := Scalar.indexCast v1117
  ![v1118.toNat]

def k1_chk32 (v1113 : BitVec 32) : Prop :=
  (∀ (r : Fin 8), ∀ a, (k1_off277 v1113 (BitVec.ofNat 32 (16 * r.val))) a + S16.size a ≤ S41088.size a)
theorem k1_off277_inb : ∀ (v1113 : BitVec 32) (k1_hw32 : k1_chk32 v1113), ∀ (r : Fin 8), ∀ a, (k1_off277 v1113 (BitVec.ofNat 32 (16 * r.val))) a + S16.size a ≤ S41088.size a := fun v1113 k1_hw32 r => k1_hw32 r

def k1_off278 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1120 : Index := Scalar.indexCast v1116
  let c0_380 : Index := 0#32
  ![v1120.toNat, 0]
def k1_off279 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1129 : Index := Scalar.indexCast v1116
  let c16_383 : Index := 16#32
  ![v1129.toNat, 16]
def k1_off280 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1138 : Index := Scalar.indexCast v1116
  let c32_386 : Index := 32#32
  ![v1138.toNat, 32]
def k1_off281 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1147 : Index := Scalar.indexCast v1116
  let c48_389 : Index := 48#32
  ![v1147.toNat, 48]
def k1_off282 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1156 : Index := Scalar.indexCast v1116
  let c64_392 : Index := 64#32
  ![v1156.toNat, 64]
def k1_off283 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1165 : Index := Scalar.indexCast v1116
  let c80_395 : Index := 80#32
  ![v1165.toNat, 80]
def k1_off284 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1174 : Index := Scalar.indexCast v1116
  let c96_398 : Index := 96#32
  ![v1174.toNat, 96]
def k1_off285 (k1_t5 : Fin k1_t5_loop.trips) : Fin 2 → Nat :=
  let c16_i32_378 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1115 : BitVec 32 := Scalar.muli c16_i32_378 v30
  let c14_i32 : BitVec 32 := 14#32
  let v1116 : BitVec 32 := Scalar.addi v1115 c14_i32
  let v1183 : Index := Scalar.indexCast v1116
  let c112_401 : Index := 112#32
  ![v1183.toNat, 112]
def k1_off286 (v1190 : BitVec 32) (c0_i32_405 : BitVec 32) : Fin 1 → Nat :=
  let c128_i32_403 : BitVec 32 := 128#32
  let v1191 : BitVec 32 := Scalar.muli v1190 c128_i32_403
  let v1194 : BitVec 32 := Scalar.addi v1191 c0_i32_405
  let v1195 : Index := Scalar.indexCast v1194
  ![v1195.toNat]

def k1_chk33 (v1190 : BitVec 32) : Prop :=
  (∀ (r : Fin 8), ∀ a, (k1_off286 v1190 (BitVec.ofNat 32 (16 * r.val))) a + S16.size a ≤ S41088.size a)
theorem k1_off286_inb : ∀ (v1190 : BitVec 32) (k1_hw33 : k1_chk33 v1190), ∀ (r : Fin 8), ∀ a, (k1_off286 v1190 (BitVec.ofNat 32 (16 * r.val))) a + S16.size a ≤ S41088.size a := fun v1190 k1_hw33 r => k1_hw33 r

def k1_off287 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1197 : Index := Scalar.indexCast v1193
  let c0_406 : Index := 0#32
  ![v1197.toNat, 0]
def k1_off288 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1206 : Index := Scalar.indexCast v1193
  let c16_409 : Index := 16#32
  ![v1206.toNat, 16]
def k1_off289 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1215 : Index := Scalar.indexCast v1193
  let c32_412 : Index := 32#32
  ![v1215.toNat, 32]
def k1_off290 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1224 : Index := Scalar.indexCast v1193
  let c48_415 : Index := 48#32
  ![v1224.toNat, 48]
def k1_off291 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1233 : Index := Scalar.indexCast v1193
  let c64_418 : Index := 64#32
  ![v1233.toNat, 64]
def k1_off292 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1242 : Index := Scalar.indexCast v1193
  let c80_421 : Index := 80#32
  ![v1242.toNat, 80]
def k1_off293 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1251 : Index := Scalar.indexCast v1193
  let c96_424 : Index := 96#32
  ![v1251.toNat, 96]
def k1_off294 (k1_t5 : Fin k1_t5_loop.trips) : Fin 2 → Nat :=
  let c16_i32_404 : BitVec 32 := 16#32
  let c0_i32_20 : BitVec 32 := 0#32
  let c0_i32_16 : BitVec 32 := 0#32
  let c1_i32_17 : BitVec 32 := 1#32
  let arg14 : BitVec 32 := Scf.iv c0_i32_16 c1_i32_17 k1_t5
  let c1_i32_19 : BitVec 32 := 1#32
  let v29 : BitVec 32 := Scalar.muli arg14 c1_i32_19
  let v30 : BitVec 32 := Scalar.addi c0_i32_20 v29
  let v1192 : BitVec 32 := Scalar.muli c16_i32_404 v30
  let c15_i32 : BitVec 32 := 15#32
  let v1193 : BitVec 32 := Scalar.addi v1192 c15_i32
  let v1260 : Index := Scalar.indexCast v1193
  let c112_427 : Index := 112#32
  ![v1260.toNat, 112]
def k1_mult4 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v17 : BitVec 32 := Scalar.muli v1 c320_i32
  let c128_i32 : BitVec 32 := 128#32
  let v18 : BitVec 32 := Scalar.muli v17 c128_i32
  v18
def k1_off295 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c320_i32 : BitVec 32 := 320#32
  let v17 : BitVec 32 := Scalar.muli v1 c320_i32
  let c128_i32 : BitVec 32 := 128#32
  let v18 : BitVec 32 := Scalar.muli v17 c128_i32
  let v19 : BitVec 32 := v18
  ![v19.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S320000x128 : Shape := ⟨2, ![320000, 128]⟩
abbrev S320000 : Shape := ⟨1, ![320000]⟩
abbrev S1x320000 : Shape := ⟨2, ![1, 320000]⟩
abbrev S10000 : Shape := ⟨1, ![10000]⟩
abbrev S10000x1 : Shape := ⟨2, ![10000, 1]⟩
abbrev S10000x320000 : Shape := ⟨2, ![10000, 320000]⟩
abbrev S10000x320000x1 : Shape := ⟨3, ![10000, 320000, 1]⟩
abbrev S1x320000x128 : Shape := ⟨3, ![1, 320000, 128]⟩
abbrev S_ : Shape := ⟨0, ![]⟩
abbrev S10000x320000x128 : Shape := ⟨3, ![10000, 320000, 128]⟩
abbrev S10000x128 : Shape := ⟨2, ![10000, 128]⟩

abbrev nBuf : Space → Nat
  | .hbm => 28
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S1x320000, .i32⟩
  | .hbm, ⟨3, _⟩ => ⟨S10000, .i32⟩
  | .hbm, ⟨4, _⟩ => ⟨S10000x1, .i32⟩
  | .hbm, ⟨5, _⟩ => ⟨S10000x320000, .i32⟩
  | .hbm, ⟨6, _⟩ => ⟨S10000x320000, .i32⟩
  | .hbm, ⟨7, _⟩ => ⟨S10000x320000, .i1⟩
  | .hbm, ⟨8, _⟩ => ⟨S10000x320000x1, .i1⟩
  | .hbm, ⟨9, _⟩ => ⟨S1x320000x128, .f32⟩
  | .hbm, ⟨10, _⟩ => ⟨S_, .f32⟩
  | .hbm, ⟨11, _⟩ => ⟨S_, .f32⟩
  | .hbm, ⟨12, _⟩ => ⟨S10000x320000x128, .i1⟩
  | .hbm, ⟨13, _⟩ => ⟨S10000x320000x128, .f32⟩
  | .hbm, ⟨14, _⟩ => ⟨S10000x320000x128, .f32⟩
  | .hbm, ⟨15, _⟩ => ⟨S10000x320000x128, .f32⟩
  | .hbm, ⟨16, _⟩ => ⟨S_, .f32⟩
  | .hbm, ⟨17, _⟩ => ⟨S10000x128, .f32⟩
  | .hbm, ⟨18, _⟩ => ⟨S_, .f32⟩
  | .hbm, ⟨19, _⟩ => ⟨S10000x128, .f32⟩
  | .hbm, ⟨20, _⟩ => ⟨S10000x128, .i1⟩
  | .hbm, ⟨21, _⟩ => ⟨S_, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S_, .f32⟩
  | .hbm, ⟨26, _⟩ => ⟨S10000x128, .f32⟩
  | .hbm, ⟨27, _⟩ => ⟨S10000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_call1_v0 : Ref sig .tc := ⟨.hbm, 22, rfl⟩
abbrev main_call1_v1 : Ref sig .tc := ⟨.hbm, 23, rfl⟩
abbrev main_v12 : Ref sig .tc := ⟨.hbm, 24, rfl⟩
abbrev main_call2_cst : Ref sig .tc := ⟨.hbm, 25, rfl⟩
abbrev main_call2_v0 : Ref sig .tc := ⟨.hbm, 26, rfl⟩
abbrev main_v13 : Ref sig .tc := ⟨.hbm, 27, rfl⟩

abbrev nD : Nat := 1
abbrev τ : Topo := Topo.v7x

variable {F : FTy → Type} [FloatOps F]
-- ==== Gather.lean ====
abbrev S10000x128 : Shape := ⟨2, ![10000, 128]⟩
abbrev S320000 : Shape := ⟨1, ![320000]⟩
abbrev S320000x128 : Shape := ⟨2, ![320000, 128]⟩
abbrev S128 : Shape := ⟨1, ![128]⟩
abbrev S128x128 : Shape := ⟨2, ![128, 128]⟩
abbrev S_ : Shape := ⟨0, ![]⟩

abbrev nBuf : Table → Nat
  | .hbm => 6
  | .local .scVector .vmem => 4
  | _ => 0

abbrev bufTy : (tb : Table) → Fin (nBuf tb) → BufTy
  | .hbm, ⟨0, _⟩ => ⟨S10000x128, .f32⟩
  | .hbm, ⟨1, _⟩ => ⟨S10000x128, .f32⟩
  | .hbm, ⟨2, _⟩ => ⟨S320000, .i32⟩
  | .hbm, ⟨3, _⟩ => ⟨S320000, .i32⟩
  | .hbm, ⟨4, _⟩ => ⟨S320000x128, .f32⟩
  | .hbm, ⟨5, _⟩ => ⟨S320000x128, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | _, _ => ⟨S10000x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_v0_0_scv : Ref sig .scVector := ⟨.hbm, 4, rfl⟩
abbrev main_v0_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32_6 : BitVec 32 := 0#32
  let c78_i32 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let c1_i32 : BitVec 32 := 1#32
  let c0_i32 : BitVec 32 := 0#32
  let v3 : BitVec 32 := Scalar.select v2 c1_i32 c0_i32
  let v4 : BitVec 32 := Scalar.addi c78_i32 v3
  let c0_i32_0 : BitVec 32 := 0#32
  let v5 : BitVec 32 := Scalar.subi v4 c0_i32_0
  let c1_i32_1 : BitVec 32 := 1#32
  let c1_i32_2 : BitVec 32 := 1#32
  let v6 : BitVec 32 := Scalar.subi c1_i32_1 c1_i32_2
  let v7 : BitVec 32 := Scalar.addi v5 v6
  let c1_i32_3 : BitVec 32 := 1#32
  let v8 : BitVec 32 := Scalar.divsi v7 c1_i32_3
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_8 : BitVec 32 := 1#32
  ⟨c0_i32_6, v13, c1_i32_8⟩
def k0_off1 (i : grid0.Coords) (k0_t1 : Fin (k0_t1_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let c0_i32_6 : BitVec 32 := 0#32
  let c1_i32_8 : BitVec 32 := 1#32
  let arg14 : BitVec 32 := Scf.iv c0_i32_6 c1_i32_8 k0_t1
  let c1_i32_4 : BitVec 32 := 1#32
  let v14 : BitVec 32 := Scalar.muli arg14 c1_i32_4
  let v15 : BitVec 32 := Scalar.addi c0_i32_5 v14
  let c32_i32 : BitVec 32 := 32#32
  let v16 : BitVec 32 := Scalar.muli v15 c32_i32
  let v17 : BitVec 32 := Scalar.addi v1 v16
  let c128_i32 : BitVec 32 := 128#32
  let v18 : BitVec 32 := Scalar.muli v17 c128_i32
  ![v18.toNat]
def k0_off2 (i : grid0.Coords) (k0_t1 : Fin (k0_t1_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let c0_i32_6 : BitVec 32 := 0#32
  let c1_i32_8 : BitVec 32 := 1#32
  let arg14 : BitVec 32 := Scf.iv c0_i32_6 c1_i32_8 k0_t1
  let c1_i32_4 : BitVec 32 := 1#32
  let v14 : BitVec 32 := Scalar.muli arg14 c1_i32_4
  let v15 : BitVec 32 := Scalar.addi c0_i32_5 v14
  let c32_i32 : BitVec 32 := 32#32
  let v16 : BitVec 32 := Scalar.muli v15 c32_i32
  let v17 : BitVec 32 := Scalar.addi v1 v16
  let c128_i32 : BitVec 32 := 128#32
  let v18 : BitVec 32 := Scalar.muli v17 c128_i32
  let c0_i32_18_r2 : BitVec 32 := 0#32
  ![v18.toNat, 0]
@[reducible] def k0_t2_loop (i : grid0.Coords) : Scf.Loop 32 :=
  let c0_i32_6 : BitVec 32 := 0#32
  let c78_i32 : BitVec 32 := 78#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 1 := Scalar.cmpi .slt v1 c4_i32
  let c1_i32 : BitVec 32 := 1#32
  let c0_i32 : BitVec 32 := 0#32
  let v3 : BitVec 32 := Scalar.select v2 c1_i32 c0_i32
  let v4 : BitVec 32 := Scalar.addi c78_i32 v3
  let c0_i32_0 : BitVec 32 := 0#32
  let v5 : BitVec 32 := Scalar.subi v4 c0_i32_0
  let c1_i32_1 : BitVec 32 := 1#32
  let c1_i32_2 : BitVec 32 := 1#32
  let v6 : BitVec 32 := Scalar.subi c1_i32_1 c1_i32_2
  let v7 : BitVec 32 := Scalar.addi v5 v6
  let c1_i32_3 : BitVec 32 := 1#32
  let v8 : BitVec 32 := Scalar.divsi v7 c1_i32_3
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let v10 : BitVec 32 := Scalar.addi c0_i32_6 v9
  let c1_i32_9 : BitVec 32 := 1#32
  ⟨v13, v10, c1_i32_9⟩
def k0_off3 (i : grid0.Coords) (k0_t2 : Fin (k0_t2_loop i).trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let c0_i32_6 : BitVec 32 := 0#32
  let c78_i32 : BitVec 32 := 78#32
  let c4_i32 : BitVec 32 := 4#32
  let v2 : BitVec 1 := Scalar.cmpi .slt v1 c4_i32
  let c1_i32 : BitVec 32 := 1#32
  let c0_i32 : BitVec 32 := 0#32
  let v3 : BitVec 32 := Scalar.select v2 c1_i32 c0_i32
  let v4 : BitVec 32 := Scalar.addi c78_i32 v3
  let c0_i32_0 : BitVec 32 := 0#32
  let v5 : BitVec 32 := Scalar.subi v4 c0_i32_0
  let c1_i32_1 : BitVec 32 := 1#32
  let c1_i32_2 : BitVec 32 := 1#32
  let v6 : BitVec 32 := Scalar.subi c1_i32_1 c1_i32_2
  let v7 : BitVec 32 := Scalar.addi v5 v6
  let c1_i32_3 : BitVec 32 := 1#32
  let v8 : BitVec 32 := Scalar.divsi v7 c1_i32_3
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_9 : BitVec 32 := 1#32
  let arg14 : BitVec 32 := Scf.iv v13 c1_i32_9 k0_t2
  let c1_i32_4 : BitVec 32 := 1#32
  let v14 : BitVec 32 := Scalar.muli arg14 c1_i32_4
  let v15 : BitVec 32 := Scalar.addi c0_i32_5 v14
  let c32_i32 : BitVec 32 := 32#32
  let v16 : BitVec 32 := Scalar.muli v15 c32_i32
  let v17 : BitVec 32 := Scalar.addi v1 v16
  let c128_i32 : BitVec 32 := 128#32
  let v18 : BitVec 32 := Scalar.muli v17 c128_i32
  ![v18.toNat]
def k0_off4 (i : grid0.Coords) (k0_t2 : Fin (k0_t2_loop i).trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_5 : BitVec 32 := 0#32
  let c0_i32_6 : BitVec 32 := 0#32
  let c78_i32 : BitVec 32 := 78#32
  let c4_i32 : BitVec 32 := 4#32
  let v2 : BitVec 1 := Scalar.cmpi .slt v1 c4_i32
  let c1_i32 : BitVec 32 := 1#32
  let c0_i32 : BitVec 32 := 0#32
  let v3 : BitVec 32 := Scalar.select v2 c1_i32 c0_i32
  let v4 : BitVec 32 := Scalar.addi c78_i32 v3
  let c0_i32_0 : BitVec 32 := 0#32
  let v5 : BitVec 32 := Scalar.subi v4 c0_i32_0
  let c1_i32_1 : BitVec 32 := 1#32
  let c1_i32_2 : BitVec 32 := 1#32
  let v6 : BitVec 32 := Scalar.subi c1_i32_1 c1_i32_2
  let v7 : BitVec 32 := Scalar.addi v5 v6
  let c1_i32_3 : BitVec 32 := 1#32
  let v8 : BitVec 32 := Scalar.divsi v7 c1_i32_3
  let v9 : BitVec 32 := Scalar.subi v8 c0_i32_6
  let c1_i32_7 : BitVec 32 := 1#32
  let v11 : BitVec 32 := Scalar.divsi v9 c1_i32_7
  let v12 : BitVec 32 := Scalar.muli v11 c1_i32_7
  let v13 : BitVec 32 := Scalar.addi c0_i32_6 v12
  let c1_i32_9 : BitVec 32 := 1#32
  let arg14 : BitVec 32 := Scf.iv v13 c1_i32_9 k0_t2
  let c1_i32_4 : BitVec 32 := 1#32
  let v14 : BitVec 32 := Scalar.muli arg14 c1_i32_4
  let v15 : BitVec 32 := Scalar.addi c0_i32_5 v14
  let c32_i32 : BitVec 32 := 32#32
  let v16 : BitVec 32 := Scalar.muli v15 c32_i32
  let v17 : BitVec 32 := Scalar.addi v1 v16
  let c128_i32 : BitVec 32 := 128#32
  let v18 : BitVec 32 := Scalar.muli v17 c128_i32
  let c0_i32_18_r6 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== GatherReferenceIdeal.lean ====
abbrev S10000x128 : Shape := ⟨2, ![10000, 128]⟩
abbrev S320000 : Shape := ⟨1, ![320000]⟩
abbrev S_ : Shape := ⟨0, ![]⟩
abbrev S320000x1 : Shape := ⟨2, ![320000, 1]⟩
abbrev S320000x128 : Shape := ⟨2, ![320000, 128]⟩

abbrev nBuf : Space → Nat
  | .hbm => 22
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S320000, .i32⟩
  | .hbm, ⟨3, _⟩ => ⟨S320000, .i32⟩
  | .hbm, ⟨4, _⟩ => ⟨S_, .i32⟩
  | .hbm, ⟨5, _⟩ => ⟨S320000, .i32⟩
  | .hbm, ⟨6, _⟩ => ⟨S320000, .i1⟩
  | .hbm, ⟨7, _⟩ => ⟨S_, .i32⟩
  | .hbm, ⟨8, _⟩ => ⟨S320000, .i32⟩
  | .hbm, ⟨9, _⟩ => ⟨S320000, .i32⟩
  | .hbm, ⟨10, _⟩ => ⟨S320000, .i32⟩
  | .hbm, ⟨11, _⟩ => ⟨S320000x1, .i32⟩
  | .hbm, ⟨12, _⟩ => ⟨S320000x128, .f32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S320000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Edge.lean ====
abbrev S320000x128 : Shape := ⟨2, ![320000, 128]⟩
abbrev S128x128 : Shape := ⟨2, ![128, 128]⟩
abbrev S128 : Shape := ⟨1, ![128]⟩
abbrev S1x128 : Shape := ⟨2, ![1, 128]⟩
abbrev S4000x128 : Shape := ⟨2, ![4000, 128]⟩

abbrev nBuf : Space → Nat
  | .hbm => 6
  | .vmem => 8
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S320000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== EdgeReferenceIdeal.lean ====
abbrev S320000x128 : Shape := ⟨2, ![320000, 128]⟩
abbrev S128x128 : Shape := ⟨2, ![128, 128]⟩
abbrev S128 : Shape := ⟨1, ![128]⟩
abbrev S_ : Shape := ⟨0, ![]⟩
abbrev S1x128 : Shape := ⟨2, ![1, 128]⟩

abbrev nBuf : Space → Nat
  | .hbm => 12
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000x128, .f32⟩
  | .hbm, ⟨2, _⟩ => ⟨S128x128, .f32⟩
  | .hbm, ⟨3, _⟩ => ⟨S128, .f32⟩
  | .hbm, ⟨4, _⟩ => ⟨S320000x128, .f32⟩
  | .hbm, ⟨5, _⟩ => ⟨S_, .f32⟩
  | .hbm, ⟨6, _⟩ => ⟨S320000x128, .f32⟩
  | .hbm, ⟨7, _⟩ => ⟨S320000x128, .f32⟩
  | .hbm, ⟨8, _⟩ => ⟨S320000x128, .f32⟩
  | .hbm, ⟨9, _⟩ => ⟨S1x128, .f32⟩
  | .hbm, ⟨10, _⟩ => ⟨S320000x128, .f32⟩
  | .hbm, ⟨11, _⟩ => ⟨S320000x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Decoder.lean ====
abbrev S10000x128 : Shape := ⟨2, ![10000, 128]⟩
abbrev S128x256 : Shape := ⟨2, ![128, 256]⟩
abbrev S256 : Shape := ⟨1, ![256]⟩
abbrev S256x256 : Shape := ⟨2, ![256, 256]⟩
abbrev S1x256 : Shape := ⟨2, ![1, 256]⟩
abbrev S10000x256 : Shape := ⟨2, ![10000, 256]⟩
abbrev S2000x128 : Shape := ⟨2, ![2000, 128]⟩
abbrev S2000x256 : Shape := ⟨2, ![2000, 256]⟩

abbrev nBuf : Space → Nat
  | .hbm => 8
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S1x256, .f32⟩
  | .hbm, ⟨6, _⟩ => ⟨S1x256, .f32⟩
  | .hbm, ⟨7, _⟩ => ⟨S10000x256, .f32⟩
  | .local _ .vmem, ⟨0, _⟩ => ⟨S2000x128, .f32⟩
  | .local _ .vmem, ⟨1, _⟩ => ⟨S2000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S2000x256, .f32⟩
  | .local _ .vmem, ⟨7, _⟩ => ⟨S2000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DecoderReferenceIdeal.lean ====
abbrev S10000x128 : Shape := ⟨2, ![10000, 128]⟩
abbrev S128x256 : Shape := ⟨2, ![128, 256]⟩
abbrev S256 : Shape := ⟨1, ![256]⟩
abbrev S256x256 : Shape := ⟨2, ![256, 256]⟩
abbrev S10000x256 : Shape := ⟨2, ![10000, 256]⟩
abbrev S1x256 : Shape := ⟨2, ![1, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S128x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S10000x256, .f32⟩
  | .hbm, ⟨6, _⟩ => ⟨S1x256, .f32⟩
  | .hbm, ⟨7, _⟩ => ⟨S10000x256, .f32⟩
  | .hbm, ⟨8, _⟩ => ⟨S10000x256, .f32⟩
  | .hbm, ⟨9, _⟩ => ⟨S_, .f32⟩
  | .hbm, ⟨10, _⟩ => ⟨S10000x256, .f32⟩
  | .hbm, ⟨11, _⟩ => ⟨S10000x256, .f32⟩
  | .hbm, ⟨12, _⟩ => ⟨S10000x256, .f32⟩
  | .hbm, ⟨13, _⟩ => ⟨S1x256, .f32⟩
  | .hbm, ⟨14, _⟩ => ⟨S10000x256, .f32⟩
  | .hbm, ⟨15, _⟩ => ⟨S10000x256, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== First.lean ====
abbrev S10000x256 : Shape := ⟨2, ![10000, 256]⟩
abbrev S10000x3 : Shape := ⟨2, ![10000, 3]⟩
abbrev S259x128 : Shape := ⟨2, ![259, 128]⟩
abbrev S128 : Shape := ⟨1, ![128]⟩
abbrev S256x128 : Shape := ⟨2, ![256, 128]⟩
abbrev S3x128 : Shape := ⟨2, ![3, 128]⟩
abbrev S1x128 : Shape := ⟨2, ![1, 128]⟩
abbrev S10000x128 : Shape := ⟨2, ![10000, 128]⟩
abbrev S2000x256 : Shape := ⟨2, ![2000, 256]⟩
abbrev S2000x3 : Shape := ⟨2, ![2000, 3]⟩
abbrev S2000x128 : Shape := ⟨2, ![2000, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x3, .f32⟩
  | .hbm, ⟨2, _⟩ => ⟨S259x128, .f32⟩
  | .hbm, ⟨3, _⟩ => ⟨S128, .f32⟩
  | .hbm, ⟨4, _⟩ => ⟨S256x128, .f32⟩
  | .hbm, ⟨5, _⟩ => ⟨S3x128, .f32⟩
  | .hbm, ⟨6, _⟩ => ⟨S1x128, .f32⟩
  | .hbm, ⟨7, _⟩ => ⟨S10000x128, .f32⟩
  | .hbm, ⟨8, _⟩ => ⟨S10000x128, .f32⟩
  | .local _ .vmem, ⟨0, _⟩ => ⟨S2000x256, .f32⟩
  | .local _ .vmem, ⟨1, _⟩ => ⟨S2000x256, .f32⟩
  | .local _ .vmem, ⟨2, _⟩ => ⟨S2000x3, .f32⟩
  | .local _ .vmem, ⟨3, _⟩ => ⟨S2000x3, .f32⟩
  | .local _ .vmem, ⟨4, _⟩ => ⟨S256x128, .f32⟩
  | .local _ .vmem, ⟨5, _⟩ => ⟨S3x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstIdeal.lean ====
abbrev S10000x256 : Shape := ⟨2, ![10000, 256]⟩
abbrev S10000x3 : Shape := ⟨2, ![10000, 3]⟩
abbrev S259x128 : Shape := ⟨2, ![259, 128]⟩
abbrev S128 : Shape := ⟨1, ![128]⟩
abbrev S256x128 : Shape := ⟨2, ![256, 128]⟩
abbrev S3x128 : Shape := ⟨2, ![3, 128]⟩
abbrev S1x128 : Shape := ⟨2, ![1, 128]⟩
abbrev S10000x128 : Shape := ⟨2, ![10000, 128]⟩
abbrev S2000x256 : Shape := ⟨2, ![2000, 256]⟩
abbrev S2000x3 : Shape := ⟨2, ![2000, 3]⟩
abbrev S2000x128 : Shape := ⟨2, ![2000, 128]⟩

abbrev nBuf : Space → Nat
  | .hbm => 9
  | .vmem => 11
  | .smem => 0
  | _ => 0

abbrev bufTy : (tb : Table) → Fin (tcTables nBuf tb) → BufTy
  | .hbm, ⟨0, _⟩ => ⟨S10000x256, .f32⟩
  | .hbm, ⟨1, _⟩ => ⟨S10000x3, .f32⟩
  | .hbm, ⟨2, _⟩ => ⟨S259x128, .f32⟩
  | .hbm, ⟨3, _⟩ => ⟨S128, .f32⟩
  | .hbm, ⟨4, _⟩ => ⟨S256x128, .f32⟩
  | .hbm, ⟨5, _⟩ => ⟨S3x128, .f32⟩
  | .hbm, ⟨6, _⟩ => ⟨S1x128, .f32⟩
  | .hbm, ⟨7, _⟩ => ⟨S10000x128, .f32⟩
  | .hbm, ⟨8, _⟩ => ⟨S10000x128, .f32⟩
  | .local _ .vmem, ⟨0, _⟩ => ⟨S2000x256, .f32⟩
  | .local _ .vmem, ⟨1, _⟩ => ⟨S2000x256, .f32⟩
  | .local _ .vmem, ⟨2, _⟩ => ⟨S2000x3, .f32⟩
  | .local _ .vmem, ⟨3, _⟩ => ⟨S2000x3, .f32⟩
  | .local _ .vmem, ⟨4, _⟩ => ⟨S256x128, .f32⟩
  | .local _ .vmem, ⟨5, _⟩ => ⟨S3x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FirstReferenceIdeal.lean ====
abbrev S10000x256 : Shape := ⟨2, ![10000, 256]⟩
abbrev S10000x3 : Shape := ⟨2, ![10000, 3]⟩
abbrev S259x128 : Shape := ⟨2, ![259, 128]⟩
abbrev S128 : Shape := ⟨1, ![128]⟩
abbrev S10000x259 : Shape := ⟨2, ![10000, 259]⟩
abbrev S10000x128 : Shape := ⟨2, ![10000, 128]⟩
abbrev S1x128 : Shape := ⟨2, ![1, 128]⟩
abbrev S3x128 : Shape := ⟨2, ![3, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S10000x3, .f32⟩
  | .hbm, ⟨2, _⟩ => ⟨S259x128, .f32⟩
  | .hbm, ⟨3, _⟩ => ⟨S128, .f32⟩
  | .hbm, ⟨4, _⟩ => ⟨S10000x259, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S3x128, .f32⟩
  | .hbm, ⟨10, _⟩ => ⟨S10000x128, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Second.lean ====
abbrev S10000x128 : Shape := ⟨2, ![10000, 128]⟩
abbrev S10000x3 : Shape := ⟨2, ![10000, 3]⟩
abbrev S131x128 : Shape := ⟨2, ![131, 128]⟩
abbrev S128 : Shape := ⟨1, ![128]⟩
abbrev S128x128 : Shape := ⟨2, ![128, 128]⟩
abbrev S3x128 : Shape := ⟨2, ![3, 128]⟩
abbrev S1x128 : Shape := ⟨2, ![1, 128]⟩
abbrev S2000x128 : Shape := ⟨2, ![2000, 128]⟩
abbrev S2000x3 : Shape := ⟨2, ![2000, 3]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S131x128, .f32⟩
  | .hbm, ⟨3, _⟩ => ⟨S128, .f32⟩
  | .hbm, ⟨4, _⟩ => ⟨S128x128, .f32⟩
  | .hbm, ⟨5, _⟩ => ⟨S3x128, .f32⟩
  | .hbm, ⟨6, _⟩ => ⟨S1x128, .f32⟩
  | .hbm, ⟨7, _⟩ => ⟨S10000x128, .f32⟩
  | .hbm, ⟨8, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S2000x3, .f32⟩
  | .local _ .vmem, ⟨3, _⟩ => ⟨S2000x3, .f32⟩
  | .local _ .vmem, ⟨4, _⟩ => ⟨S128x128, .f32⟩
  | .local _ .vmem, ⟨5, _⟩ => ⟨S3x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SecondReferenceIdeal.lean ====
abbrev S10000x128 : Shape := ⟨2, ![10000, 128]⟩
abbrev S10000x3 : Shape := ⟨2, ![10000, 3]⟩
abbrev S131x128 : Shape := ⟨2, ![131, 128]⟩
abbrev S128 : Shape := ⟨1, ![128]⟩
abbrev S10000x131 : Shape := ⟨2, ![10000, 131]⟩
abbrev S1x128 : Shape := ⟨2, ![1, 128]⟩
abbrev S3x128 : Shape := ⟨2, ![3, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x3, .f32⟩
  | .hbm, ⟨2, _⟩ => ⟨S131x128, .f32⟩
  | .hbm, ⟨3, _⟩ => ⟨S128, .f32⟩
  | .hbm, ⟨4, _⟩ => ⟨S10000x131, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S3x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Counting.lean ====
/-
  The counting behind the bucketing step, free of any machine: which edges a tile keeps, how many of them
  come before a given edge (`Nat.count`), what the running sum of sixteen 0/1 lanes is, and what a scatter of
  sixteen lanes into a vector leaves.
-/
module

public import proofs.«01_k».proof.Proof.Gen.KernelIdeal.Skeleton
public import Mathlib.Data.Nat.Count
public import Mathlib.Tactic.IntervalCases

@[expose] public section

namespace Cert.Proof.Counting

open Cert.KernelIdeal Cert.KernelIdeal.Gen
open Idealize.ShloMosaic

/-! ## Rank-one indices -/

/-- The index of a rank-one shape at a number. -/
abbrev at1 {N : ℕ} (n : ℕ) (h : n < N) : (⟨1, ![N]⟩ : Shape).Idx := fun a => ⟨n, by rw [Fin.eq_zero a]; exact h⟩

theorem at1_val {N : ℕ} (n : ℕ) (h : n < N) : (at1 n h 0).val = n := rfl

theorem eq_at1 {N : ℕ} (j : (⟨1, ![N]⟩ : Shape).Idx) : j = at1 (j 0).val (j 0).isLt := by
  funext a; rw [Fin.eq_zero a]; rfl

theorem ext1 {N : ℕ} {i j : (⟨1, ![N]⟩ : Shape).Idx} (h : (i 0).val = (j 0).val) : i = j := by
  funext a; rw [Fin.eq_zero a]; exact Fin.ext h

/-! ## The edges of a bucket -/

/-- The destination word of edge `n` (0 past the last edge). -/
def dN (x : S320000.Idx → BitVec 32) (n : ℕ) : BitVec 32 := if h : n < 320000 then x (at1 n h) else 0

theorem dN_lt (x : S320000.Idx → BitVec 32) {n : ℕ} (h : n < 320000) : dN x n = x (at1 n h) := dif_pos h

/-- Edge `n` belongs to the bucket of tile `w`: its destination is one of the 320 nodes from `320 w` on. -/
def hit (x : S320000.Idx → BitVec 32) (w : ℕ) (n : ℕ) : Prop :=
  (320 * w : ℤ) ≤ (dN x n).toInt ∧ (dN x n).toInt < 320 * w + 320

instance (x : S320000.Idx → BitVec 32) (w : ℕ) : DecidablePred (hit x w) := fun _ => inferInstanceAs (Decidable (_ ∧ _))

/-- How many of the first `n` edges belong to the bucket. -/
abbrev cnt (x : S320000.Idx → BitVec 32) (w n : ℕ) : ℕ := Nat.count (hit x w) n

theorem cnt_le (x : S320000.Idx → BitVec 32) (w n : ℕ) : cnt x w n ≤ n := Nat.count_le _

/-! ## The sixteen-lane running sum -/

theorem ofNat_ite (p : Prop) [Decidable p] : (if p then 1#32 else 0#32) = BitVec.ofNat 32 (if p then 1 else 0) := by
  split <;> rfl

/-- The running sum of sixteen 0/1 lanes counts the set lanes up to and including the lane. -/
theorem scan_count (q : ℕ → Prop) [DecidablePred q] (v : IVec S16 32)
    (hv : ∀ i : S16.Idx, v i = if q (i 0).val then 1#32 else 0#32) (i : S16.Idx) :
    scan .sum v i = BitVec.ofNat 32 (Nat.count q ((i 0).val + 1)) := by
  obtain ⟨u, hu⟩ : ∃ u : Fin 16 → BitVec 32, u = fun k => v (Shape.ofLane (d := ![16]) k) := ⟨_, rfl⟩
  have hl : ∀ k : Fin 16, u k = BitVec.ofNat 32 (if q k.val then 1 else 0) := fun k => by
    rw [hu]; dsimp only; rw [hv, ofNat_ite]; rfl
  have hstep : ∀ n : Fin 15, ((List.finRange 16).filter fun k => decide (0 < k.val ∧ k.val ≤ n.val + 1))
      = ((List.finRange 16).filter fun k => decide (0 < k.val ∧ k.val ≤ n.val)) ++ [⟨n.val + 1, by omega⟩] := by decide
  have h0 : ((List.finRange 16).filter fun k => decide (0 < k.val ∧ k.val ≤ 0)) = [] := by decide
  have key : ∀ (n : ℕ) (hn : n < 16), ((List.finRange 16).filter fun k => decide (0 < k.val ∧ k.val ≤ n)).foldl
      (fun r k => ScanKind.step .sum r (u k)) (u 0)
      = BitVec.ofNat 32 (Nat.count q (n + 1)) := by
    intro n
    induction n with
    | zero => intro _; rw [h0, List.foldl_nil, hl, Nat.count_succ, Nat.count_zero, Nat.zero_add]; rfl
    | succ n ih =>
      intro hn
      rw [hstep ⟨n, by omega⟩, List.foldl_append, ih (by omega), List.foldl_cons, List.foldl_nil, hl, Nat.count_succ q (n + 1), BitVec.ofNat_add]
      rfl
  subst hu; exact key (i 0).val (i 0).isLt

/-! ## A scatter of sixteen lanes -/

section Scatter
variable {F : FTy → Type} [FloatOps F] {N : ℕ} {e : EltTy}

theorem storeIdx_miss (f : Vec F ⟨1, ![N]⟩ e) (p : IVec S16 32) (v : Vec F S16 e)
    (mask : IVec S16 1)
    (h : ∀ a x, ((![p] : Fin 1 → IVec S16 32) a x).toNat < (⟨1, ![N]⟩ : Shape).size a)
    (j : (⟨1, ![N]⟩ : Shape).Idx) (hj : ∀ i : S16.Idx, (p i).toNat ≠ (j 0).val) :
    storeIdx f ![p] v mask false h j = f j := by
  unfold storeIdx
  generalize List.finRange _ = l
  induction l generalizing f with
  | nil => rfl
  | cons k l ih =>
    rw [List.foldl_cons, ih]
    dsimp only
    split
    · exact if_neg fun hc => hj _ (hc 0).symm
    · rfl

theorem foldl_hit {α ι β : Type} (step : (ι → β) → α → ι → β) (j : ι) (y : β) (k₀ : α)
    (h1 : ∀ g, step g k₀ j = y) (h2 : ∀ g k, k ≠ k₀ → step g k j = g j) :
    ∀ (l : List α) (f : ι → β), (k₀ ∈ l ∨ f j = y) → l.foldl step f j = y := by
  intro l
  induction l with
  | nil => intro f hf; exact hf.elim (fun h => absurd h List.not_mem_nil) id
  | cons k l ih =>
    intro f hf
    rw [List.foldl_cons]
    apply ih
    by_cases hk : k = k₀
    · right; rw [hk]; exact h1 _
    · rcases hf with hf | hf
      · rcases List.mem_cons.mp hf with hf | hf
        · exact absurd hf.symm hk
        · exact .inl hf
      · right; rw [h2 _ _ hk]; exact hf

theorem storeIdx_hit (f : Vec F ⟨1, ![N]⟩ e) (p : IVec S16 32) (v : Vec F S16 e)
    (mask : IVec S16 1) (hm : ∀ i, mask i = 1)
    (h : ∀ a x, ((![p] : Fin 1 → IVec S16 32) a x).toNat < (⟨1, ![N]⟩ : Shape).size a)
    (j : (⟨1, ![N]⟩ : Shape).Idx) (i : S16.Idx) (hi : (p i).toNat = (j 0).val)
    (hu : ∀ i' : S16.Idx, (p i').toNat = (j 0).val → i' = i) :
    storeIdx f ![p] v mask false h j = v i := by
  unfold storeIdx
  have hlane : ∀ k : Fin 16, Shape.ofLane (d := ![16]) k = i ↔ k = i 0 := fun k =>
    ⟨fun hk => by rw [← hk]; rfl, fun hk => by rw [hk]; exact ext1 rfl⟩
  refine foldl_hit _ j (v i) (i 0) (fun g => ?_) (fun g k hk => ?_) _ f (.inl (List.mem_finRange _))
  · have hi0 : Shape.ofLane (d := ![16]) (i 0) = i := (hlane _).mpr rfl
    dsimp only
    rw [if_pos (hm _)]
    refine (if_pos ?_).trans (by rw [hi0]; rfl)
    intro a; rw [Fin.eq_zero a]
    refine hi.symm.trans ?_
    show _ = (p (Shape.ofLane (d := ![16]) (i 0))).toNat
    rw [hi0]
  · dsimp only
    rw [if_pos (hm _)]
    exact if_neg fun hc => hk ((hlane k).mp (hu _ (hc 0).symm))

end Scatter

/-! ## One trip of the scan over a chunk -/

/-- The staging buffers after `n` edges, `gc` of the kept ones already written out: the kept edge `e` (of those not written
    out) sits at its rank less `gc`, its number in the one buffer and its row within the bucket in the other. -/
def Staged (x : S320000.Idx → BitVec 32) (w gc n : ℕ) (fM fL : S8336.Idx → BitVec 32) : Prop :=
  ∀ e < n, hit x w e → gc ≤ cnt x w e → ∀ j : S8336.Idx, (j 0).val = cnt x w e - gc →
    fM j = BitVec.ofNat 32 e ∧ fL j = dN x e - BitVec.ofNat 32 (320 * w)

section Trip
variable {F : FTy → Type} [FloatOps F]
variable (x : S320000.Idx → BitVec 32) (w gc n : ℕ)

theorem sge_ofNat (y : BitVec 32) (m : ℕ) (hm : m < 20000) : (BitVec.ofNat 32 m).sle y = decide ((m : ℤ) ≤ y.toInt) := by
  rw [BitVec.sle_eq_decide]
  congr 2
  rw [BitVec.toInt_ofNat', Int.bmod_eq_of_le] <;> omega

theorem slt_ofNat (y : BitVec 32) (m : ℕ) (hm : m < 20000) : y.slt (BitVec.ofNat 32 m) = decide (y.toInt < (m : ℤ)) := by
  rw [BitVec.slt_eq_decide]
  congr 2
  rw [BitVec.toInt_ofNat', Int.bmod_eq_of_le] <;> omega

theorem pay1_apply (hw : w < 32) (v : Vec F S16 .i32) (i : S16.Idx) (hv : v i = dN x (n + (i 0).val)) :
    k0_pay1 (F := F) (BitVec.ofNat 32 (320 * w)) (BitVec.ofNat 32 (320 * w + 320)) v i = if hit x w (n + (i 0).val) then 1#1 else 0#1 := by
  show IntOp.andi (IntOp.cmpi .sge (v i) (BitVec.ofNat 32 (320 * w))) (IntOp.cmpi .slt (v i) (BitVec.ofNat 32 (320 * w + 320))) = _
  have hv' : (v i : BitVec 32) = dN x (n + (i 0).val) := hv
  rw [hv']
  simp only [IntOp.andi, IntOp.cmpi, sge_ofNat _ _ (show 320 * w < 20000 by omega), slt_ofNat _ _ (show 320 * w + 320 < 20000 by omega), hit]
  by_cases h1 : ((320 * w : ℕ) : ℤ) ≤ (dN x (n + (i 0).val)).toInt <;> by_cases h2 : (dN x (n + (i 0).val)).toInt < ((320 * w + 320 : ℕ) : ℤ) <;>
    simp only [h1, h2, decide_true, decide_false] <;> push_cast at h1 h2 <;> simp [h1, h2]

theorem pay2_apply (hw : w < 32) (v : Vec F S16 .i32) (hv : ∀ i, v i = dN x (n + (i 0).val)) (i : S16.Idx) :
    k0_pay2 (F := F) (BitVec.ofNat 32 (320 * w)) (BitVec.ofNat 32 (320 * w + 320)) v i
      = BitVec.ofNat 32 (Nat.count (fun k => hit x w (n + k)) ((i 0).val + 1)) := by
  refine scan_count (fun k => hit x w (n + k)) _ (fun i => ?_) i
  show Scalar.select (k0_pay1 (F := F) _ _ v i) 1#32 0#32 = _
  rw [pay1_apply x w n hw v i (hv i)]
  unfold Scalar.select
  by_cases h : hit x w (n + (i 0).val) <;> simp [h]

theorem pay3_apply (hw : w < 32) (hg : gc ≤ cnt x w n) (v : Vec F S16 .i32) (hv : ∀ i, v i = dN x (n + (i 0).val)) (i : S16.Idx) :
    k0_pay3 (F := F) (BitVec.ofNat 32 (320 * w)) (BitVec.ofNat 32 (320 * w + 320)) (BitVec.ofNat 32 (cnt x w n - gc)) v i
      = if hit x w (n + (i 0).val) then BitVec.ofNat 32 (cnt x w (n + (i 0).val) - gc) else 8320#32 := by
  show Scalar.select (k0_pay1 (F := F) _ _ v i) (IntOp.subi (IntOp.addi (BitVec.ofNat 32 (cnt x w n - gc)) (k0_pay2 (F := F) _ _ v i)) 1#32) 8320#32 = _
  rw [pay1_apply x w n hw v i (hv i), pay2_apply x w n hw v hv i]
  unfold Scalar.select
  by_cases h : hit x w (n + (i 0).val)
  · rw [if_pos h, if_pos h, if_pos (show (1#1 : BitVec 1) = 1 from rfl), Nat.count_succ, if_pos h]
    simp only [IntOp.subi, IntOp.addi]
    rw [BitVec.ofNat_add (_ : ℕ) 1, ← BitVec.add_assoc, BitVec.add_sub_cancel, ← BitVec.ofNat_add]
    unfold cnt at hg ⊢
    rw [Nat.count_add (hit x w) n]
    congr 1; omega
  · rw [if_neg h, if_neg h]; rfl

theorem scan_step (hw : w < 32) (hg : gc ≤ cnt x w n) (hl : cnt x w n - gc + 16 ≤ 8320)
    (v : Vec F S16 .i32) (hv : ∀ i, v i = dN x (n + (i 0).val)) (mv : Vec F S16 .i32) (hmv : ∀ i : S16.Idx, mv i = BitVec.ofNat 32 (n + (i 0).val))
    (fM fL : Vec F S8336 .i32) (hst : Staged x w gc n fM fL) (p : IVec S16 32)
    (hp : p = k0_pay3 (F := F) (BitVec.ofNat 32 (320 * w)) (BitVec.ofNat 32 (320 * w + 320)) (BitVec.ofNat 32 (cnt x w n - gc)) v)
    (mask : IVec S16 1) (hm : ∀ i, mask i = 1)
    (h1 h2 : ∀ a y, ((![p] : Fin 1 → IVec S16 32) a y).toNat < S8336.size a) :
    Staged x w gc (n + 16) (storeIdx fM ![p] mv mask false h1) (storeIdx fL ![p] (k0_pay5 (F := F) (BitVec.ofNat 32 (320 * w)) v) mask false h2) := by
  have hpi : ∀ i, p i = if hit x w (n + (i 0).val) then BitVec.ofNat 32 (cnt x w (n + (i 0).val) - gc) else 8320#32 := fun i => by
    rw [hp]; exact pay3_apply x w gc n hw hg v hv i
  have hcl : ∀ i : S16.Idx, cnt x w n ≤ cnt x w (n + (i 0).val) ∧ cnt x w (n + (i 0).val) ≤ cnt x w n + (i 0).val := fun i => by
    constructor
    · exact Nat.count_monotone _ (Nat.le_add_right _ _)
    · rw [cnt, Nat.count_add]; exact Nat.add_le_add_left (Nat.count_le _) _
  have hnat : ∀ i : S16.Idx, (p i).toNat = if hit x w (n + (i 0).val) then cnt x w (n + (i 0).val) - gc else 8320 := fun i => by
    rw [hpi]
    have := hcl i
    have := (i 0).isLt
    split
    · rw [BitVec.toNat_ofNat, Nat.mod_eq_of_lt]
      simp at this; omega
    · rfl
  intro e he hh hge j hj
  by_cases hen : e < n
  · have hlt : cnt x w e < cnt x w n := Nat.count_strict_mono hh hen
    have hmiss : ∀ i : S16.Idx, (p i).toNat ≠ (j 0).val := fun i => by
      rw [hnat, hj]
      have := (hcl i).1
      split <;> omega
    have hmiss' : ∀ i : S16.Idx, (p i).toNat ≠ (j 0).val := hmiss
    constructor
    · exact (storeIdx_miss (N := 8336) fM p mv mask h1 j hmiss).trans (hst e hen hh hge j hj).1
    · exact (storeIdx_miss (N := 8336) fL p _ mask h2 j hmiss).trans (hst e hen hh hge j hj).2
  · obtain ⟨k, rfl⟩ := Nat.exists_eq_add_of_le (Nat.le_of_not_lt hen)
    have hk : k < 16 := by omega
    have hi : (p (at1 k hk)).toNat = (j 0).val := by
      rw [hnat, hj]; exact if_pos hh
    have hu : ∀ i' : S16.Idx, (p i').toNat = (j 0).val → i' = at1 k hk := fun i' hi' => by
      rw [hnat, hj] at hi'
      have hc' := hcl i'
      have hc := hcl (at1 k hk)
      simp only [at1_val] at hc
      by_cases h' : hit x w (n + (i' 0).val)
      · rw [if_pos h'] at hi'
        have hinj : n + (i' 0).val = n + k := Nat.count_injective h' hh (by
          have e1 : cnt x w (n + (i' 0).val) = Nat.count (hit x w) (n + (i' 0).val) := rfl
          have e2 : cnt x w (n + k) = Nat.count (hit x w) (n + k) := rfl
          omega)
        apply ext1; show (i' 0).val = k; omega
      · rw [if_neg h'] at hi'
        omega
    constructor
    · exact (storeIdx_hit (N := 8336) fM p mv mask hm h1 j (at1 k hk) hi hu).trans (hmv _)
    · refine (storeIdx_hit (N := 8336) fL p _ mask hm h2 j (at1 k hk) hi hu).trans ?_
      show IntOp.subi (v (at1 k hk)) (BitVec.ofNat 32 (320 * w)) = _
      have hv' : (v (at1 k hk) : BitVec 32) = dN x (n + k) := hv _
      rw [hv']; rfl

theorem chk1_ok (hw : w < 32) (hg : gc ≤ cnt x w n) (hl : cnt x w n - gc + 16 ≤ 8320)
    (v : Vec F S16 .i32) (hv : ∀ i, v i = dN x (n + (i 0).val)) :
    k0_chk1 (k0_pay3 (F := F) (BitVec.ofNat 32 (320 * w)) (BitVec.ofNat 32 (320 * w + 320)) (BitVec.ofNat 32 (cnt x w n - gc)) v) := by
  have hin : ∀ (a : Fin 1) (y : S16.Idx), ((![k0_pay3 (F := F) (BitVec.ofNat 32 (320 * w)) (BitVec.ofNat 32 (320 * w + 320)) (BitVec.ofNat 32 (cnt x w n - gc)) v] : Fin 1 → IVec S16 32) a y).toNat < S8336.size a := fun a i => by
    rw [Fin.eq_zero a]
    show (k0_pay3 (F := F) (BitVec.ofNat 32 (320 * w)) (BitVec.ofNat 32 (320 * w + 320)) (BitVec.ofNat 32 (cnt x w n - gc)) v i).toNat < 8336
    rw [pay3_apply x w gc n hw hg v hv i]
    have h2 : cnt x w (n + (i 0).val) ≤ cnt x w n + (i 0).val := by rw [cnt, Nat.count_add]; exact Nat.add_le_add_left (Nat.count_le _) _
    have h3 : (i 0).val < 16 := (i 0).isLt
    split
    · rw [BitVec.toNat_ofNat]; exact lt_of_le_of_lt (Nat.mod_le _ _) (by omega)
    · decide
  exact ⟨hin, hin⟩

theorem next_lc (hw : w < 32) (hg : gc ≤ cnt x w n) (v : Vec F S16 .i32) (hv : ∀ i, v i = dN x (n + (i 0).val)) :
    Scalar.addi (BitVec.ofNat 32 (cnt x w n - gc))
      (extractAt ![0] (k0_pay6 (F := F) (BitVec.ofNat 32 (320 * w)) (BitVec.ofNat 32 (320 * w + 320)) v) inpos_S1_p0)
      = BitVec.ofNat 32 (cnt x w (n + 16) - gc) := by
  have h : extractAt ![0] (k0_pay6 (F := F) (BitVec.ofNat 32 (320 * w)) (BitVec.ofNat 32 (320 * w + 320)) v) inpos_S1_p0
      = BitVec.ofNat 32 (Nat.count (fun k => hit x w (n + k)) 16) := by
    have := pay2_apply x w n hw v hv (at1 15 (by decide))
    refine Eq.trans ?_ this
    unfold extractAt k0_pay6 extractStridedSlice
    dsimp only
    exact congrArg _ (ext1 rfl)
  rw [h]
  simp only [Scalar.addi, IntOp.addi, ← BitVec.ofNat_add]
  unfold cnt at hg ⊢
  rw [Nat.count_add]
  congr 1; omega

end Trip

end Cert.Proof.Counting
-- ==== Proof.Steps.lean ====
/-
  What the proofs of both SparseCore calls share: the program as the launch theorem sees it, the resource algebra, and
  the few steps of a tile's body that are not single rules of the logic (a copy that is issued and at once waited for,
  what a load reads and a store leaves in a buffer held whole).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Counting

@[expose] public section

noncomputable section

namespace Cert.Proof.Steps

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 2 := sc (F := F)
theorem nSub_eq (q : Fin 2) : (K (F := F)).nSub q = 16 := match q with | 0 => rfl | 1 => rfl
theorem nCore_eq (q : Fin 2) : (K (F := F)).nCore q = 2 := match q with | 0 => rfl | 1 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 2) (Elt F) ℕ UU ℕ

abbrev EH : Emb UH (MT nD τ sig (HIx 2) (Elt F) ℕ UU ℕ) := embL

/-! ## Buffers held whole: what a load reads and a store leaves -/

theorem emb1 {N : ℕ} (off sz : Fin 1 → ℕ) (inb : ∀ a, off a + sz a ≤ (⟨1, ![N]⟩ : Shape).size a) (i : (Rect.unit (s := ⟨1, ![N]⟩) off sz inb).shape.Idx) :
    ((Rect.unit (s := ⟨1, ![N]⟩) off sz inb).emb i 0).val = off 0 + (i 0).val := by
  rw [Rect.emb_apply]
  show off 0 + 1 * (i 0).val = _
  rw [Nat.one_mul]

theorem unit1 {N : ℕ} (off sz : Fin 1 → ℕ) (inb : ∀ a, off a + sz a ≤ (⟨1, ![N]⟩ : Shape).size a) (j : (⟨1, ![N]⟩ : Shape).Idx) (o z : ℕ)
    (ho : off = ![o]) (hz : sz = ![z]) (hj : j ∈ (Rect.unit (s := ⟨1, ![N]⟩) off sz inb).set) : o ≤ (j 0).val ∧ (j 0).val < o + z := by
  subst ho hz
  exact (Rect.mem_set_unit.mp hj) 0

/-- `g'` is `g` with the sixteen lanes of `v` put at `o`. -/
structure Wr {N : ℕ} {β : Type} (o : ℕ) (v : S16.Idx → β) (g g' : (⟨1, ![N]⟩ : Shape).Idx → β) : Prop where
  inn : ∀ (j : (⟨1, ![N]⟩ : Shape).Idx) (i : S16.Idx), (j 0).val = o + (i 0).val → g' j = v i
  out : ∀ j : (⟨1, ![N]⟩ : Shape).Idx, ((j 0).val < o ∨ o + 16 ≤ (j 0).val) → g' j = g j

/-- `v` is the sixteen lanes of `g` from `o` on. -/
def Rd {N : ℕ} {β : Type} (o : ℕ) (v : S16.Idx → β) (g : (⟨1, ![N]⟩ : Shape).Idx → β) : Prop :=
  ∀ (j : (⟨1, ![N]⟩ : Shape).Idx) (i : S16.Idx), (j 0).val = o + (i 0).val → v i = g j

section Whole
variable (b : Ref sig .scVector) (r : Rect b.ty.shape)

theorem rd (f : b.ty.Contents (Elt F)) (i : r.shape.Idx) :
    ((Memref.whole b).access r).read (Elt F) f i = f (r.emb i) := rfl

theorem wr_in (f : b.ty.Contents (Elt F)) (w : r.shape.Idx → Elt F b.ty.elt) (x : r.shape.Idx) :
    ((Memref.whole b).access r).write (Elt F) f w Finset.univ (r.emb x) = w x :=
  (View.write_emb_of_mem (v := (Memref.whole b).access r) f w (Finset.mem_univ x))

theorem wr_out (f : b.ty.Contents (Elt F)) (w : r.shape.Idx → Elt F b.ty.elt) (j : b.ty.shape.Idx) (hj : j ∉ r.set) :
    ((Memref.whole b).access r).write (Elt F) f w Finset.univ j = f j :=
  View.write_of_not_mem (v := (Memref.whole b).access r) f w Finset.univ (by
    rw [View.setOn_univ]; show j ∉ ((View.whole b).slice r).set
    rw [View.set_slice_whole]; exact hj)

/-- A slice of a whole buffer lies in a set that holds its box. -/
theorem slice_sub (r : Rect b.ty.shape) (h : ∀ a, r.stride a = 1) (S' : Finset b.ty.Idx) (hs : ∀ j ∈ r.set, j ∈ S') :
    (show Finset b.ty.Idx from ((Memref.whole b).slice r h).view.set) ⊆ S' := by
  intro j hj
  have e : ((Memref.whole b).slice r h).view.set = r.set := View.set_slice_whole b r
  rw [e] at hj
  exact hs j hj

end Whole

/-! ## A copy issued and at once waited for -/

section Sync
variable {Λ : Labels} (defs : Defs nD τ sig (Elt F) Λ) {c : Thread nD τ} {α : Type}

/-- `pltpu.sync_copy` into a destination held on a set `Sd`: the source's share comes back, the destination holds what the
    source read, the semaphore is at zero again and the wait is recorded. -/
theorem step_sync {sp sp' : Space} {s : Shape} {e : EltTy} {sem : DmaSem sig} {s₁ s₂ : Shape} {e₁ e₂ : EltTy} {sp₁ sp₂ : Space}
    {src : Memref sig c.2.kind sp s e} {dst : Memref sig c.2.kind sp' s e}
    {hsrc : src.view.WordExact} {hdst : dst.view.WordExact} {hsem : DmaTarget.Typed (nD := nD) sp (.dma sem) (.here dst)}
    {srcw : Memref sig c.2.kind sp₁ s₁ e₁} {dstw : Memref sig c.2.kind sp₂ s₂ e₂} {hsrcw : srcw.view.WordExact} {hdstw : dstw.view.WordExact}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)} {O : CellTallies nD τ sig (HIx 2)} {W : Waits sig (HIx 2)}
    {Q : α → sProp 𝕄} (N : ℕ) (hN : dst.view.amount (.dma sem) = N) (hN0 : 0 < N) (hNw : dstw.view.dmaCredit = N) (hSd : dst.view.set ⊆ Sd) :
    (iprop((src.view.loc c ↦[src.view.set]{q} fs) ∗ (dst.view.loc c ↦[Sd]{fullShare} fd) ∗ semVal (c, .dma sem) 0 ∗ owes c O W
        ∗ Transfers.MayWaits c (default : HIx 2) O) : sProp 𝕄)
      ⊢ iprop((iprop((dst.view.loc c ↦[Sd]{fullShare} (dst.view.write (Elt F) fd (src.view.read (Elt F) fs) Finset.univ))
            ∗ (src.view.loc c ↦[src.view.set]{q} fs) ∗ semVal (c, .dma sem) 0
            ∗ owes c O (insert (SemLoc.dma sem, default) W)) -∗ wp frame (wpE defs 𝒱₀ c none) Set.univ (k ⟨⟩) Q)
        -∗ wp frame (wpE defs 𝒱₀ c none) Set.univ
            (.op (.enqueueDma src (.here dst) (.dma sem) hsrc hdst hsem) fun _ => .op (.waitDma2 sem srcw dstw hsrcw hdstw) k) Q) := by
  iintro ⟨Hs, Hd, Hsem, HO, Hmw⟩ Hk
  iapply (Transfers.wp_dmaLocal countersEmb 𝒱₀ c none (via := ReadAs.same) (default : HIx 2) N hN hN0 hSd) $$ [Hs Hd Hsem]
  · isplitl [Hs]; · iexact Hs
    isplitl [Hd]; · iexact Hd
    iexact Hsem
  iintro Hfl
  iapply (Transfers.wp_waitLocalO countersEmb 𝒱₀ c none (default : HIx 2) hNw) $$ [Hfl HO Hmw]
  · isplitl [Hfl]; · iexact Hfl
    isplitl [HO]; · iexact HO
    iapply (Transfers.MayWaits.elim (ι := (default : HIx 2)) (c := c) (O := O) (SemLoc.dma sem)) $$ Hmw
  iintro ⟨⟨Hd, Hs⟩, Hsem, HO⟩
  iapply Hk
  isplitl [Hd]; · iexact Hd
  isplitl [Hs]; · iexact Hs
  isplitl [Hsem]; · iexact Hsem
  iexact HO

/-- The same with the source held on a larger set. -/
theorem step_sync' {sp sp' : Space} {s : Shape} {e : EltTy} {sem : DmaSem sig} {s₁ s₂ : Shape} {e₁ e₂ : EltTy} {sp₁ sp₂ : Space}
    {src : Memref sig c.2.kind sp s e} {dst : Memref sig c.2.kind sp' s e}
    {hsrc : src.view.WordExact} {hdst : dst.view.WordExact} {hsem : DmaTarget.Typed (nD := nD) sp (.dma sem) (.here dst)}
    {srcw : Memref sig c.2.kind sp₁ s₁ e₁} {dstw : Memref sig c.2.kind sp₂ s₂ e₂} {hsrcw : srcw.view.WordExact} {hdstw : dstw.view.WordExact}
    {k : PUnit → Prog (TpuEff nD τ sig (Elt F) Λ c.2) α} {q : PosShare TreeShare} {Ss : Finset (Idx (src.view.loc c))} {fs : Buf (Elt F) (src.view.loc c)}
    {Sd : Finset (Idx (dst.view.loc c))} {fd : Buf (Elt F) (dst.view.loc c)} {O : CellTallies nD τ sig (HIx 2)} {W : Waits sig (HIx 2)}
    {Q : α → sProp 𝕄} (N : ℕ) (hN : dst.view.amount (.dma sem) = N) (hN0 : 0 < N) (hNw : dstw.view.dmaCredit = N)
    (hSs : src.view.set ⊆ Ss) (hSd : dst.view.set ⊆ Sd) :
    (iprop((src.view.loc c ↦[Ss]{q} fs) ∗ (dst.view.loc c ↦[Sd]{fullShare} fd) ∗ semVal (c, .dma sem) 0 ∗ owes c O W
        ∗ Transfers.MayWaits c (default : HIx 2) O) : sProp 𝕄)
      ⊢ iprop((iprop((dst.view.loc c ↦[Sd]{fullShare} (dst.view.write (Elt F) fd (src.view.read (Elt F) fs) Finset.univ))
            ∗ (src.view.loc c ↦[Ss]{q} fs) ∗ semVal (c, .dma sem) 0
            ∗ owes c O (insert (SemLoc.dma sem, default) W)) -∗ wp frame (wpE defs 𝒱₀ c none) Set.univ (k ⟨⟩) Q)
        -∗ wp frame (wpE defs 𝒱₀ c none) Set.univ
            (.op (.enqueueDma src (.here dst) (.dma sem) hsrc hdst hsem) fun _ => .op (.waitDma2 sem srcw dstw hsrcw hdstw) k) Q) := by
  iintro ⟨Hs, Hd, Hsem, HO, Hmw⟩ Hk
  ihave Hss := (pointsTo_split_subset (q := q) (f := fs) (S := Ss) hSs).1 $$ Hs
  icases Hss with ⟨Hs, Hr⟩
  iapply (step_sync defs N hN hN0 hNw hSd) $$ [Hs Hd Hsem HO Hmw]
  · isplitl [Hs]; · iexact Hs
    isplitl [Hd]; · iexact Hd
    isplitl [Hsem]; · iexact Hsem
    isplitl [HO]; · iexact HO
    iexact Hmw
  iintro ⟨Hd, Hs, Hsem, HO⟩
  iapply Hk
  isplitl [Hd]; · iexact Hd
  isplitl [Hs Hr]
  · iapply (pointsTo_split_subset (q := q) (f := fs) (S := Ss) hSs).2
    isplitl [Hs]; · iexact Hs
    iexact Hr
  isplitl [Hsem]; · iexact Hsem
  iexact HO

end Sync

end Cert.Proof.Steps

end
-- ==== Proof.Words.lean ====
/-
  The 32-bit words the bucketing step computes its loop bounds and offsets with, in plain numbers: the number of full
  blocks of 128 among the staged edges, the place of a block in a tile's part of the outputs, and that each of the step's
  in-range conditions holds.
-/
module

public import proofs.«01_k».proof.Proof.Counting

@[expose] public section

namespace Cert.Proof.Words

open Cert.KernelIdeal Cert.KernelIdeal.Gen
open Idealize.ShloMosaic

/-- The number of a tile among the thirty-two. -/
abbrev wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

theorem toInt_small {n : ℕ} (h : n < 2147483648) : (BitVec.ofNat 32 n).toInt = n := by
  rw [BitVec.toInt_ofNat', Int.bmod_eq_of_le] <;> omega

theorem toNat_small {n : ℕ} (h : n < 4294967296) : (BitVec.ofNat 32 n).toNat = n := by
  rw [BitVec.toNat_ofNat]; exact Nat.mod_eq_of_lt h

theorem divsi_one (x : BitVec 32) : Scalar.divsi x 1#32 = x := by
  unfold Scalar.divsi IntOp.divsi
  rw [if_neg]
  · exact BitVec.sdiv_one
  · unfold IntOp.SDivCorner
    rintro (h | ⟨-, h⟩) <;> exact absurd h (by decide)

theorem shrsi_seven {n : ℕ} (h : n < 2147483648) : Scalar.shrsi (BitVec.ofNat 32 n) 7#32 = BitVec.ofNat 32 (n / 128) := by
  unfold Scalar.shrsi IntOp.shrsi
  rw [if_pos (by decide)]
  apply BitVec.eq_of_toInt_eq
  rw [show (BitVec.ofNat 32 n).sshiftRight' 7#32 = (BitVec.ofNat 32 n).sshiftRight 7 from rfl, BitVec.toInt_sshiftRight, toInt_small h, toInt_small (by omega)]
  show (n : ℤ) >>> 7 = _
  rw [Int.shiftRight_eq_div_pow]; norm_num

theorem trips_zero_one {n : ℕ} (h : n < 2147483648) : Scf.trips 0#32 (BitVec.ofNat 32 n) 1#32 = n := by
  unfold Scf.trips
  rw [toInt_small h]
  show (((n : ℤ) - 0 + 1 - 1) / 1).toNat = n
  simp

theorem trips_same (x : BitVec 32) : Scf.trips x x 1#32 = 0 := by
  unfold Scf.trips
  rw [sub_self]; rfl

theorem iv_zero_one {n : ℕ} (k : Fin n) : Scf.iv 0#32 1#32 k = BitVec.ofNat 32 k.val := by
  unfold Scf.iv
  rw [BitVec.zero_add, BitVec.mul_one]

/-! ## The bounds of the block loops -/

theorem t3_loop_eq (v : BitVec 32) : k0_t3_loop v = ⟨0#32, Scalar.shrsi v 7#32, 1#32⟩ := by
  unfold k0_t3_loop
  simp only [divsi_one]
  simp [Scalar.addi, Scalar.subi, Scalar.muli, IntOp.addi, IntOp.subi, IntOp.muli]

theorem t4_loop_eq (v : BitVec 32) : k0_t4_loop v = ⟨Scalar.shrsi v 7#32, Scalar.shrsi v 7#32, 1#32⟩ := by
  unfold k0_t4_loop
  simp only [divsi_one]
  simp [Scalar.addi, Scalar.subi, Scalar.muli, IntOp.addi, IntOp.subi, IntOp.muli]

theorem t5_loop_eq (v : BitVec 32) : k0_t5_loop v = ⟨0#32, Scalar.shrsi (Scalar.addi v 127#32) 7#32, 1#32⟩ := by
  unfold k0_t5_loop
  simp only [divsi_one]
  simp [Scalar.addi, Scalar.subi, Scalar.muli, IntOp.addi, IntOp.subi, IntOp.muli]

theorem t6_loop_eq (v : BitVec 32) : k0_t6_loop v = ⟨Scalar.shrsi (Scalar.addi v 127#32) 7#32, Scalar.shrsi (Scalar.addi v 127#32) 7#32, 1#32⟩ := by
  unfold k0_t6_loop
  simp only [divsi_one]
  simp [Scalar.addi, Scalar.subi, Scalar.muli, IntOp.addi, IntOp.subi, IntOp.muli]

theorem t3_trips {n : ℕ} (h : n < 100000) : (k0_t3_loop (BitVec.ofNat 32 n)).trips = n / 128 := by
  rw [t3_loop_eq, shrsi_seven (by omega)]; exact trips_zero_one (by omega)
theorem t4_trips (v : BitVec 32) : (k0_t4_loop v).trips = 0 := by
  rw [t4_loop_eq]; exact trips_same _
theorem addi_127 (n : ℕ) : Scalar.addi (BitVec.ofNat 32 n) 127#32 = BitVec.ofNat 32 (n + 127) := by
  rw [BitVec.ofNat_add]; rfl
theorem t5_trips {n : ℕ} (h : n < 100000) : (k0_t5_loop (BitVec.ofNat 32 n)).trips = (n + 127) / 128 := by
  rw [t5_loop_eq, addi_127, shrsi_seven (by omega)]; exact trips_zero_one (by omega)
theorem t6_trips (v : BitVec 32) : (k0_t6_loop v).trips = 0 := by
  rw [t6_loop_eq]; exact trips_same _

theorem ok_zero_one {n : ℕ} (h : n < 1000000) : Scf.OK 0#32 (BitVec.ofNat 32 n) 1#32 := by
  refine ⟨by decide, ?_⟩
  rw [trips_zero_one (by omega)]
  show (0 : ℤ) + n * 1 < 2 ^ 31
  omega
theorem ok_same {n : ℕ} (h : n < 1000000) : Scf.OK (BitVec.ofNat 32 n) (BitVec.ofNat 32 n) 1#32 := by
  refine ⟨by decide, ?_⟩
  rw [trips_same, toInt_small (by omega)]
  show (n : ℤ) + 0 * 1 < 2 ^ 31
  omega

/-! ## The offsets -/

theorem off7_eq {n : ℕ} (h : n < 100000) (r : Fin 8) :
    k0_off7 (BitVec.ofNat 32 n) (BitVec.ofNat 32 (16 * r.val)) = ![128 * (n / 128) + 16 * r.val] := by
  have hr := r.isLt
  unfold k0_off7
  dsimp only
  rw [shrsi_seven (by omega)]
  congr 1
  show (IntOp.addi (Scalar.shli (BitVec.ofNat 32 (n / 128)) 7#32) (BitVec.ofNat 32 (16 * r.val))).toNat = _
  have : Scalar.shli (BitVec.ofNat 32 (n / 128)) 7#32 = BitVec.ofNat 32 (128 * (n / 128)) := by
    unfold Scalar.shli IntOp.shli
    rw [if_pos (by decide)]
    apply BitVec.eq_of_toNat_eq
    show ((BitVec.ofNat 32 (n / 128)) <<< 7).toNat = _
    rw [BitVec.toNat_shiftLeft, toNat_small (by omega), toNat_small (by omega), Nat.shiftLeft_eq, Nat.mod_eq_of_lt (by omega)]
    omega
  rw [this]
  simp only [IntOp.addi, ← BitVec.ofNat_add]
  exact toNat_small (by omega)

theorem mul128 (k : ℕ) : Scalar.muli 128#32 (Scalar.addi 0#32 (Scalar.muli (BitVec.ofNat 32 k) 1#32)) = BitVec.ofNat 32 (128 * k) := by
  simp only [Scalar.muli, Scalar.addi, IntOp.addi, IntOp.muli, BitVec.zero_add, BitVec.mul_one]
  rw [BitVec.ofNat_mul]

theorem base_eq (i : grid0.Coords) :
    Scalar.addi (Scalar.muli (BitVec.ofNat 32 (i 1).val) 2#32) (BitVec.ofNat 32 (i 0).val) = BitVec.ofNat 32 (wid i) := by
  simp only [Scalar.muli, Scalar.addi, IntOp.addi, IntOp.muli]
  unfold wid
  rw [BitVec.ofNat_add, Nat.mul_comm, BitVec.ofNat_mul]

theorem place_eq (w g k : ℕ) :
    Scalar.addi (Scalar.addi (Scalar.muli (BitVec.ofNat 32 w) 320128#32) (BitVec.ofNat 32 g)) (BitVec.ofNat 32 (128 * k))
      = BitVec.ofNat 32 (w * 320128 + g + 128 * k) := by
  simp only [Scalar.muli, Scalar.addi, IntOp.addi, IntOp.muli]
  rw [BitVec.ofNat_add, BitVec.ofNat_add, BitVec.ofNat_mul w 320128]

section Offs
variable (i : grid0.Coords) (g l : ℕ)

theorem off3_eq (v : BitVec 32) (k : Fin (k0_t3_loop v).trips) (hk : k.val < 10000) : k0_off3 v k = ![128 * k.val] := by
  unfold k0_off3
  dsimp only
  rw [iv_zero_one, mul128, toNat_small (by omega)]

theorem off4_eq (v : BitVec 32) (k : Fin (k0_t3_loop v).trips) (hk : k.val < 10000) (hg : g ≤ 400000) :
    k0_off4 i (BitVec.ofNat 32 g) v k = ![wid i * 320128 + g + 128 * k.val] := by
  have hw := wid_lt i
  unfold k0_off4
  dsimp only
  rw [iv_zero_one, mul128, base_eq, place_eq, toNat_small (by omega)]

theorem mult1_eq (v : BitVec 32) (k : Fin (k0_t3_loop v).trips) :
    k0_mult1 i (BitVec.ofNat 32 g) v k = BitVec.ofNat 32 (wid i * 320128 + g + 128 * k.val) := by
  unfold k0_mult1
  dsimp only
  rw [iv_zero_one, mul128, base_eq, place_eq]

theorem off8_eq (v : BitVec 32) (k : Fin (k0_t5_loop v).trips) (hk : k.val < 10000) : k0_off8 v k = ![128 * k.val] := by
  unfold k0_off8
  dsimp only
  rw [iv_zero_one, mul128, toNat_small (by omega)]

theorem off9_eq (v : BitVec 32) (k : Fin (k0_t5_loop v).trips) (hk : k.val < 10000) (hg : g ≤ 400000) :
    k0_off9 i v (BitVec.ofNat 32 g) k = ![wid i * 320128 + g + 128 * k.val] := by
  have hw := wid_lt i
  unfold k0_off9
  dsimp only
  rw [iv_zero_one, mul128, base_eq, place_eq, toNat_small (by omega)]

theorem mult3_eq (v : BitVec 32) (k : Fin (k0_t5_loop v).trips) :
    k0_mult3 i v (BitVec.ofNat 32 g) k = BitVec.ofNat 32 (wid i * 320128 + g + 128 * k.val) := by
  unfold k0_mult3
  dsimp only
  rw [iv_zero_one, mul128, base_eq, place_eq]

theorem chk2_ok (hg : 128 ∣ g) (hl : l < 8128) (hgl : g + l ≤ 320000) : k0_chk2 i (BitVec.ofNat 32 g) (BitVec.ofNat 32 l) := by
  have hw := wid_lt i
  have ht3 := t3_trips (n := l) (by omega)
  have e4 : ∀ k : Fin (k0_t4_loop (BitVec.ofNat 32 l)).trips, False := fun k => absurd (lt_of_lt_of_eq k.isLt (t4_trips _)) (Nat.not_lt_zero _)
  refine ⟨?_, fun k => ?_, fun k a => ?_, fun k a => ?_, ?_, fun k => (e4 k).elim, fun k => (e4 k).elim, fun k => (e4 k).elim, fun r a => ?_⟩
  · rw [t3_loop_eq, shrsi_seven (by omega)]; exact ok_zero_one (by omega)
  · have hk : k.val < l / 128 := lt_of_lt_of_eq k.isLt ht3
    rw [mult1_eq, toNat_small (by omega)]
    omega
  · have hk : k.val < l / 128 := lt_of_lt_of_eq k.isLt ht3
    rw [off3_eq _ _ (by omega), Fin.eq_zero a]
    show 128 * k.val + 128 ≤ 8336
    omega
  · have hk : k.val < l / 128 := lt_of_lt_of_eq k.isLt ht3
    rw [off4_eq _ _ _ _ (by omega) (by omega), Fin.eq_zero a]
    show wid i * 320128 + g + 128 * k.val + 128 ≤ 10244096
    omega
  · rw [t4_loop_eq, shrsi_seven (by omega)]; exact ok_same (by omega)
  · have hr := r.isLt
    rw [off7_eq (by omega), Fin.eq_zero a]
    show 128 * (l / 128) + 16 * r.val + 16 ≤ 8336
    omega

theorem chk3_ok (hl : l < 128) : k0_chk3 (BitVec.ofNat 32 l) := by
  have ht5 := t5_trips (n := l) (by omega)
  have e6 : ∀ k : Fin (k0_t6_loop (BitVec.ofNat 32 l)).trips, False := fun k => absurd (lt_of_lt_of_eq k.isLt (t6_trips _)) (Nat.not_lt_zero _)
  refine ⟨?_, fun k a => ?_, ?_, fun k => (e6 k).elim⟩
  · rw [t5_loop_eq, addi_127, shrsi_seven (by omega)]; exact ok_zero_one (by omega)
  · have hk : k.val < (l + 127) / 128 := lt_of_lt_of_eq k.isLt ht5
    rw [off8_eq _ _ (by omega), Fin.eq_zero a]
    show 128 * k.val + 128 ≤ 8336
    omega
  · rw [t6_loop_eq, addi_127, shrsi_seven (by omega)]; exact ok_same (by omega)

theorem chk4_ok (hg : 128 ∣ g) (hl : l < 128) (hgl : g + l ≤ 320000) : k0_chk4 i (BitVec.ofNat 32 l) (BitVec.ofNat 32 g) := by
  have hw := wid_lt i
  have ht5 := t5_trips (n := l) (by omega)
  have e6 : ∀ k : Fin (k0_t6_loop (BitVec.ofNat 32 l)).trips, False := fun k => absurd (lt_of_lt_of_eq k.isLt (t6_trips _)) (Nat.not_lt_zero _)
  refine ⟨fun k => ?_, fun k a => ?_, fun k => (e6 k).elim, fun k => (e6 k).elim⟩
  · have hk : k.val < (l + 127) / 128 := lt_of_lt_of_eq k.isLt ht5
    rw [mult3_eq, toNat_small (by omega)]
    omega
  · have hk : k.val < (l + 127) / 128 := lt_of_lt_of_eq k.isLt ht5
    rw [off9_eq _ _ _ _ (by omega) (by omega), Fin.eq_zero a]
    show wid i * 320128 + g + 128 * k.val + 128 ≤ 10244096
    omega

end Offs

end Cert.Proof.Words
-- ==== Proof.Bucket.lean ====
/-
  The body of the bucketing call on one tile, with what it leaves in memory.
-/
module

public import proofs.«01_k».proof.Proof.Steps
public import proofs.«01_k».proof.Proof.Words

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

abbrev cV (L : grid0.Coords) : Fin τ.nSC := (L 0).castLE hcore0
abbrev jV (L : grid0.Coords) : Fin τ.nSub := (L 1).castLE hsub0
/-- The thread of the tile at `L`. -/
abbrev thr (d : Dev nD) (L : grid0.Coords) : Thread nD τ := V d (cV L) (jV L)

abbrev atD (f : Buf (Elt F) ((thr d L).loc cc0_scratch0)) : sProp 𝕄 := (thr d L).loc cc0_scratch0 ↦{fullShare} f
abbrev atM (f : Buf (Elt F) ((thr d L).loc cc0_scratch1)) : sProp 𝕄 := (thr d L).loc cc0_scratch1 ↦{fullShare} f
abbrev atL (f : Buf (Elt F) ((thr d L).loc cc0_scratch2)) : sProp 𝕄 := (thr d L).loc cc0_scratch2 ↦{fullShare} f
abbrev atC (f : Buf (Elt F) ((thr d L).loc cc0_scratch3)) : sProp 𝕄 := (thr d L).loc cc0_scratch3 ↦{fullShare} f

theorem atM_whole (f : Buf (Elt F) ((thr d L).loc cc0_scratch1)) :
    atM (F := F) d L f = (((sM).access (Rect.whole S8336)).loc (thr d L) ↦[((sM).access (Rect.whole S8336)).set]{fullShare} f : sProp 𝕄) := by
  rw [show ((sM).access (Rect.whole S8336)).set = Finset.univ from (View.set_slice_whole _ _).trans (Rect.set_whole _)]
theorem atL_whole (f : Buf (Elt F) ((thr d L).loc cc0_scratch2)) :
    atL (F := F) d L f = (((sL).access (Rect.whole S8336)).loc (thr d L) ↦[((sL).access (Rect.whole S8336)).set]{fullShare} f : sProp 𝕄) := by
  rw [show ((sL).access (Rect.whole S8336)).set = Finset.univ from (View.set_slice_whole _ _).trans (Rect.set_whole _)]

/-- A scatter of sixteen lanes into the staging buffer M. -/
theorem scatterM {α : Type} {Q : α → sProp 𝕄} {p : IVec S16 32} {v : Vec F S16 .i32} {mask : IVec S16 1}
    {h : ∀ a y, ((![p] : Fin 1 → IVec S16 32) a y).toNat < S8336.size a} {hs : ((sM).access (.whole S8336)).Stores Finset.univ}
    {k : PUnit → Prog (TpuEff nD τ sig (Elt F) Λ₀ (.scVector (cV L) (jV L))) α} {f : Buf (Elt F) ((thr d L).loc cc0_scratch1)} :
    (atM d L f : sProp 𝕄)
      ⊢ iprop((atM d L (storeIdx (F := F) (s := S8336) (e := .i32) f ![p] v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sM ![p] v mask false h hs >>= k) Q) := by
  iintro H Hk
  ihave H' := (Entails.of_eq (atM_whole d L f)) $$ H
  iapply (SparseCore.wp_vectorStoreIdx 𝒱₀ (thr d L) none Set.univ (base := sM) (f := f)) $$ H'; iintro H
  iapply Hk
  iapply (Entails.of_eq (atM_whole d L _).symm)
  rw [Memref.read_access_whole (Elt F) cc0_scratch1, Memref.write_access_whole_univ]
  iexact H

/-- A scatter of sixteen lanes into the staging buffer L. -/
theorem scatterL {α : Type} {Q : α → sProp 𝕄} {p : IVec S16 32} {v : Vec F S16 .i32} {mask : IVec S16 1}
    {h : ∀ a y, ((![p] : Fin 1 → IVec S16 32) a y).toNat < S8336.size a} {hs : ((sL).access (.whole S8336)).Stores Finset.univ}
    {k : PUnit → Prog (TpuEff nD τ sig (Elt F) Λ₀ (.scVector (cV L) (jV L))) α} {f : Buf (Elt F) ((thr d L).loc cc0_scratch2)} :
    (atL d L f : sProp 𝕄)
      ⊢ iprop((atL d L (storeIdx (F := F) (s := S8336) (e := .i32) f ![p] v mask false h) -∗ wp frame (wpE (defs₀ (F := F)) 𝒱₀ (thr d L) none) Set.univ (k ⟨⟩) Q)
        -∗ wp frame (wpE (defs₀ (F := F)) 𝒱₀ (thr d L) none) Set.univ (SparseCore.vectorStoreIdx sL ![p] v mask false h hs >>= k) Q) := by
  iintro H Hk
  ihave H' := (Entails.of_eq (atL_whole d L f)) $$ H
  iapply (SparseCore.wp_vectorStoreIdx 𝒱₀ (thr d L) none Set.univ (base := sL) (f := f)) $$ H'; iintro H
  iapply Hk
  iapply (Entails.of_eq (atL_whole d L _).symm)
  rw [Memref.read_access_whole (Elt F) cc0_scratch2, Memref.write_access_whole_univ]
  iexact H

section Scan
variable (x : S320000.Idx → BitVec 32)

omit [FloatOps F] in
theorem pay4_eq (v4 : IVec S16 32) (hv4 : ∀ i, v4 i = BitVec.ofNat 32 (i 0).val) (t : Fin k0_t1_loop.trips) (k : Fin k0_t2_loop.trips) (i : S16.Idx) :
    k0_pay4 v4 0#32 1#32 t k i = BitVec.ofNat 32 (8000 * t.val + 16 * k.val + (i 0).val) := by
  unfold k0_pay4
  show IntOp.addi (Scalar.addi (Scalar.muli (Scalar.addi 0#32 (Scalar.muli (Scf.iv 0#32 1#32 t) 1#32)) 8000#32)
    (Scalar.muli 16#32 (Scalar.addi 0#32 (Scalar.muli (Scf.iv 0#32 1#32 k) 1#32)))) (v4 i) = _
  rw [hv4, iv_zero_one, iv_zero_one]
  simp only [Scalar.muli, Scalar.addi, IntOp.addi, IntOp.muli, BitVec.zero_add, BitVec.mul_one]
  rw [BitVec.ofNat_add, BitVec.ofNat_add, Nat.mul_comm 8000, BitVec.ofNat_mul t.val 8000, BitVec.ofNat_mul 16]

/-- One trip of the scan over a chunk: from the staging buffers at `n = 8000 t + 16 k` to those at `n + 16`. -/
theorem t2_body (w gc : ℕ) (hw : w < 32) (t : Fin k0_t1_loop.trips) (k : Fin k0_t2_loop.trips) (a12 a13 v1 : BitVec 32)
    (v4 : IVec S16 32) (hv4 : ∀ i, v4 i = BitVec.ofNat 32 (i 0).val)
    (n : ℕ) (hn : n = 8000 * t.val + 16 * k.val) (hg : gc ≤ cnt x w n) (hl : cnt x w n - gc + 16 ≤ 8320)
    (fD : Buf (Elt F) ((thr d L).loc cc0_scratch0)) (hD : ∀ j : S8000.Idx, fD j = dN x (8000 * t.val + (j 0).val))
    (fM : Buf (Elt F) ((thr d L).loc cc0_scratch1)) (fL : Buf (Elt F) ((thr d L).loc cc0_scratch2)) (hst : Staged x w gc n fM fL) :
    (iprop(atD d L fD ∗ atM d L fM ∗ atL d L fL) : sProp 𝕄)
      ⊢ wp frame (wpE (defs₀ (F := F)) 𝒱₀ (thr d L) none) Set.univ
          (k0_t2_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 (BitVec.ofNat 32 (320 * w)) (BitVec.ofNat 32 (320 * w + 320)) v4 0#32 1#32 t a12 a13 k (BitVec.ofNat 32 (cnt x w n - gc)))
          fun r => iprop(atD d L fD ∗ ∃ fM' fL', atM d L fM' ∗ atL d L fL'
            ∗ ⌜Staged x w gc (n + 16) fM' fL' ∧ r = BitVec.ofNat 32 (cnt x w (n + 16) - gc)⌝) := by
  unfold k0_t2_body
  simp only [Prog.lift, Prog.bind_op, Prog.bind_ret, Prog.pure_eq_ret, Prog.bind_assoc]
  iintro ⟨HD, HM, HL⟩
  iapply (wp_load_rect 𝒱₀ (thr d L) none Set.univ (m := sD) (r := Rect.unit (s := S8000) (k0_off2 k) S16.size (k0_off2_inb k)) (S := Finset.univ) (q := fullShare) (f := fD) (Finset.subset_univ _)) $$ HD; iintro HD
  set v : Vec F S16 .i32 := ((sD).access (Rect.unit (s := S8000) (k0_off2 k) S16.size (k0_off2_inb k))).read (Elt F) fD with hvdef
  have hv : ∀ i, v i = dN x (n + (i 0).val) := fun i => by
    rw [hvdef]
    refine (hD _).trans ?_
    congr 1
    have he := emb1 (N := 8000) (k0_off2 k) S16.size (k0_off2_inb k) i
    rw [congrFun (k0_off2_eq k) 0] at he
    refine (congrArg (8000 * t.val + ·) he).trans ?_
    show 8000 * t.val + (16 * k.val + (i 0).val) = _
    omega
  rw [wp_assume_of _ _ _ _ (chk1_ok x w gc n hw hg hl v hv)]
  have hmv : ∀ i : S16.Idx, k0_pay4 v4 0#32 1#32 t k i = BitVec.ofNat 32 (n + (i 0).val) := fun i => by
    rw [hn]; exact pay4_eq v4 hv4 t k i
  iapply (scatterM d L) $$ HM; iintro HM
  iapply (scatterL d L) $$ HL; iintro HL
  rw [wp_ret]
  imodintro
  isplitl [HD]; · iexact HD
  iexists _; iexists _
  isplitl [HM]; · iexact HM
  isplitl [HL]; · iexact HL
  ipureintro
  exact ⟨scan_step x w gc n hw hg hl v hv _ hmv fM fL hst _ rfl _ (fun _ => rfl) _ _, next_lc x w gc n hw hg v hv⟩

end Scan

/-! ## The tile's part of the outputs -/

-- the tile's own names of the four arrays it shares
abbrev dLoc (d : Dev nD) (L : grid0.Coords) : Loc nD τ sig := (thr d L).loc main_arg1_scv
abbrev iLoc (d : Dev nD) (L : grid0.Coords) : Loc nD τ sig := (thr d L).loc main_v0_0_scv
abbrev lLoc (d : Dev nD) (L : grid0.Coords) : Loc nD τ sig := (thr d L).loc main_v0_1_scv
abbrev cLoc (d : Dev nD) (L : grid0.Coords) : Loc nD τ sig := (thr d L).loc main_v0_2_scv

theorem iLoc_eq : iLoc d L = (SparseCore.T d).loc main_v0_0 := rfl

/-- The places of tile `w` in the two edge lists. -/
@[irreducible] def reg (w : ℕ) : Finset S10244096.Idx := Finset.univ.filter fun j => w * 320128 ≤ (j 0).val ∧ (j 0).val < w * 320128 + 320128
/-- The places of tile `w` among the block counts. -/
@[irreducible] def regC (w : ℕ) : Finset S512.Idx := Finset.univ.filter fun j => w * 16 ≤ (j 0).val ∧ (j 0).val < w * 16 + 16

theorem mem_reg (w : ℕ) (j : S10244096.Idx) : j ∈ reg w ↔ w * 320128 ≤ (j 0).val ∧ (j 0).val < w * 320128 + 320128 := by
  unfold reg; rw [Finset.mem_filter]; exact and_iff_right (Finset.mem_univ _)
theorem mem_regC (w : ℕ) (j : S512.Idx) : j ∈ regC w ↔ w * 16 ≤ (j 0).val ∧ (j 0).val < w * 16 + 16 := by
  unfold regC; rw [Finset.mem_filter]; exact and_iff_right (Finset.mem_univ _)

abbrev atI (w : ℕ) (f : Buf (Elt F) (iLoc d L)) : sProp 𝕄 := iLoc d L ↦[reg w]{fullShare} f
abbrev atJ (w : ℕ) (f : Buf (Elt F) (lLoc d L)) : sProp 𝕄 := lLoc d L ↦[reg w]{fullShare} f

/-- The lists with the first `gc` kept edges written out. -/
def Out (x : S320000.Idx → BitVec 32) (w gc : ℕ) (fI fJ : S10244096.Idx → BitVec 32) : Prop :=
  ∀ e, hit x w e → cnt x w e < gc → ∀ j : S10244096.Idx, (j 0).val = w * 320128 + cnt x w e →
    fI j = BitVec.ofNat 32 e ∧ fJ j = dN x e - BitVec.ofNat 32 (320 * w)

/-- `g` is `f` with the 128 words of `s` from `a` on put at `b` and after. -/
def Copied (a b : ℕ) (s : S8336.Idx → BitVec 32) (f g : S10244096.Idx → BitVec 32) : Prop :=
  (∀ (j : S10244096.Idx) (i : S8336.Idx) (r : ℕ), r < 128 → (j 0).val = b + r → (i 0).val = a + r → g j = s i)
    ∧ ∀ j : S10244096.Idx, ((j 0).val < b ∨ b + 128 ≤ (j 0).val) → g j = f j

theorem out_step (x : S320000.Idx → BitVec 32) (w gc n k : ℕ) (hn : n ≤ 320000) (hk : gc + 128 * k + 128 ≤ cnt x w n) (hw : w < 32)
    (fM fL : S8336.Idx → BitVec 32) (hst : Staged x w gc n fM fL) (hlc : cnt x w n - gc ≤ 8128) (fI fJ uI uJ : S10244096.Idx → BitVec 32)
    (ho : Out x w (gc + 128 * k) fI fJ) (hI : Copied (128 * k) (w * 320128 + gc + 128 * k) fM fI uI)
    (hJ : Copied (128 * k) (w * 320128 + gc + 128 * k) fL fJ uJ) : Out x w (gc + 128 * (k + 1)) uI uJ := by
  intro e he hc j hj
  by_cases h : cnt x w e < gc + 128 * k
  · rw [hI.2 j (.inl (by omega)), hJ.2 j (.inl (by omega))]
    exact ho e he h j hj
  · have hen : e < n := by
      by_contra hne
      have := Nat.count_monotone (hit x w) (Nat.le_of_not_lt hne)
      have e1 : cnt x w e = Nat.count (hit x w) e := rfl
      have e2 : cnt x w n = Nat.count (hit x w) n := rfl
      omega
    have hl : cnt x w e - gc < 8336 := by omega
    have hs := hst e hen he (by omega) (at1 (cnt x w e - gc) hl) rfl
    obtain ⟨r, hr⟩ : ∃ r, r = cnt x w e - gc - 128 * k := ⟨_, rfl⟩
    have h1 : r < 128 := by omega
    have h2 : (j 0).val = w * 320128 + gc + 128 * k + r := by rw [hj, hr]; omega
    have h3 : (at1 (cnt x w e - gc) hl 0).val = 128 * k + r := by rw [at1_val, hr]; omega
    rw [hI.1 j (at1 (cnt x w e - gc) hl) r h1 h2 h3, hJ.1 j (at1 (cnt x w e - gc) hl) r h1 h2 h3]
    exact hs

/-- What a copy of 128 words from a staging buffer to a list leaves. -/
theorem copiedI (o3 o4 : Fin 1 → ℕ) (h3 : ∀ a, o3 a + S128.size a ≤ S8336.size a) (h4 : ∀ a, o4 a + S128.size a ≤ S10244096.size a)
    (s : Buf (Elt F) ((thr d L).loc cc0_scratch1)) (f : Buf (Elt F) (iLoc d L)) :
    Copied (o3 0) (o4 0) s f ((((gI).slice (Rect.unit (s := S10244096) o4 S128.size h4) (fun _ => rfl)).view).write (Elt F) f
      ((((sM).slice (Rect.unit (s := S8336) o3 S128.size h3) (fun _ => rfl)).view).read (Elt F) s) Finset.univ) := by
  refine ⟨fun j i r hr hj hi => ?_, fun j hj => ?_⟩
  · have ej : j = (Rect.unit (s := S10244096) o4 S128.size h4).emb (at1 r hr) := ext1 (by
      rw [hj]; exact (emb1 (N := 10244096) o4 S128.size h4 (at1 r hr)).symm)
    have ei : i = (Rect.unit (s := S8336) o3 S128.size h3).emb (at1 r hr) := ext1 (by
      rw [hi]; exact (emb1 (N := 8336) o3 S128.size h3 (at1 r hr)).symm)
    rw [ej, ei]
    exact wr_in (F := F) main_v0_0_scv (Rect.unit (s := S10244096) o4 S128.size h4) f _ (at1 r hr)
  · refine wr_out (F := F) main_v0_0_scv (Rect.unit (s := S10244096) o4 S128.size h4) f _ j fun hm => ?_
    have := (Rect.mem_set_unit.mp hm) 0
    have e : S128.size 0 = 128 := rfl
    omega

theorem copiedJ (o3 o4 : Fin 1 → ℕ) (h3 : ∀ a, o3 a + S128.size a ≤ S8336.size a) (h4 : ∀ a, o4 a + S128.size a ≤ S10244096.size a)
    (s : Buf (Elt F) ((thr d L).loc cc0_scratch2)) (f : Buf (Elt F) (lLoc d L)) :
    Copied (o3 0) (o4 0) s f ((((gL).slice (Rect.unit (s := S10244096) o4 S128.size h4) (fun _ => rfl)).view).write (Elt F) f
      ((((sL).slice (Rect.unit (s := S8336) o3 S128.size h3) (fun _ => rfl)).view).read (Elt F) s) Finset.univ) := by
  refine ⟨fun j i r hr hj hi => ?_, fun j hj => ?_⟩
  · have ej : j = (Rect.unit (s := S10244096) o4 S128.size h4).emb (at1 r hr) := ext1 (by
      rw [hj]; exact (emb1 (N := 10244096) o4 S128.size h4 (at1 r hr)).symm)
    have ei : i = (Rect.unit (s := S8336) o3 S128.size h3).emb (at1 r hr) := ext1 (by
      rw [hi]; exact (emb1 (N := 8336) o3 S128.size h3 (at1 r hr)).symm)
    rw [ej, ei]
    exact wr_in (F := F) main_v0_1_scv (Rect.unit (s := S10244096) o4 S128.size h4) f _ (at1 r hr)
  · refine wr_out (F := F) main_v0_1_scv (Rect.unit (s := S10244096) o4 S128.size h4) f _ j fun hm => ?_
    have := (Rect.mem_set_unit.mp hm) 0
    have e : S128.size 0 = 128 := rfl
    omega

end Cert.Proof.Bucket

end
-- ==== Proof.SegSteps.lean ====
/-
  The register moves of the maximum call: its accumulator, its fetched rows, its fetched list.
-/
module

public import proofs.«01_k».proof.Proof.Bucket
public import Idealize.ShloMosaic.Lib.Pipeline.Value

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

abbrev atX (f : Buf (Elt F) ((thr d L).loc cc1_scratch0)) : sProp 𝕄 := (thr d L).loc cc1_scratch0 ↦{fullShare} f
abbrev atY (f : Buf (Elt F) ((thr d L).loc cc1_scratch1)) : sProp 𝕄 := (thr d L).loc cc1_scratch1 ↦{fullShare} f
abbrev atR (f : Buf (Elt F) ((thr d L).loc cc1_scratch2)) : sProp 𝕄 := (thr d L).loc cc1_scratch2 ↦{fullShare} f
abbrev atA (f : Buf (Elt F) ((thr d L).loc cc1_scratch3)) : sProp 𝕄 := (thr d L).loc cc1_scratch3 ↦{fullShare} f
abbrev atN (f : Buf (Elt F) ((thr d L).loc cc1_scratch4)) : sProp 𝕄 := (thr d L).loc cc1_scratch4 ↦{fullShare} f

theorem loadA {α : Type} {Q : α → sProp 𝕄} {off : Fin 1 → ℕ} {inb : ∀ a, off a + S16.size a ≤ S41088.size a}
    {hl : (sA).view.LoadsAt (Rect.unit (s := S41088) off S16.size inb).toLoadRect}
    {k : Vec F S16 .f32 → Prog (TpuEff nD τ sig (Elt F) Λ₀ (.scVector (cV L) (jV L))) α} (o : ℕ) (ho : off = ![o])
    (g : Buf (Elt F) ((thr d L).loc cc1_scratch3)) :
    (atA d L g : sProp 𝕄)
      ⊢ iprop((∀ v, iprop(⌜Rd (N := 41088) o v g⌝ ∗ atA d L g) -∗ wp frame (wpE (defs₀ (F := F)) 𝒱₀ (thr d L) none) Set.univ (k v) Q)
        -∗ wp frame (wpE (defs₀ (F := F)) 𝒱₀ (thr d L) none) Set.univ (.op (.load sA (Rect.unit (s := S41088) off S16.size inb).toLoadRect hl) k) Q) := by
  iintro H Hk
  iapply (wp_load_rect 𝒱₀ (thr d L) none Set.univ (m := sA) (r := Rect.unit (s := S41088) off S16.size inb) (S := Finset.univ) (q := fullShare) (f := g) (Finset.subset_univ _)) $$ H; iintro H
  iapply Hk $$ %(((sA).access (Rect.unit (s := S41088) off S16.size inb)).read (Elt F) g)
  isplitr [H]
  · ipureintro
    intro j i hj
    have e : j = (Rect.unit (s := S41088) off S16.size inb).emb i := ext1 (by
      rw [hj]; exact ((emb1 (N := 41088) off S16.size inb i).trans (congrArg (· + (i 0).val) (congrFun ho 0))).symm)
    rw [e]; rfl
  iexact H

theorem loadY {α : Type} {Q : α → sProp 𝕄} {off : Fin 1 → ℕ} {inb : ∀ a, off a + S16.size a ≤ S128.size a}
    {hl : (sY).view.LoadsAt (Rect.unit (s := S128) off S16.size inb).toLoadRect}
    {k : Vec F S16 .i32 → Prog (TpuEff nD τ sig (Elt F) Λ₀ (.scVector (cV L) (jV L))) α} (o : ℕ) (ho : off = ![o])
    (g : Buf (Elt F) ((thr d L).loc cc1_scratch1)) :
    (atY d L g : sProp 𝕄)
      ⊢ iprop((∀ v, iprop(⌜Rd (N := 128) o v g⌝ ∗ atY d L g) -∗ wp frame (wpE (defs₀ (F := F)) 𝒱₀ (thr d L) none) Set.univ (k v) Q)
        -∗ wp frame (wpE (defs₀ (F := F)) 𝒱₀ (thr d L) none) Set.univ (.op (.load sY (Rect.unit (s := S128) off S16.size inb).toLoadRect hl) k) Q) := by
  iintro H Hk
  iapply (wp_load_rect 𝒱₀ (thr d L) none Set.univ (m := sY) (r := Rect.unit (s := S128) off S16.size inb) (S := Finset.univ) (q := fullShare) (f := g) (Finset.subset_univ _)) $$ H; iintro H
  iapply Hk $$ %(((sY).access (Rect.unit (s := S128) off S16.size inb)).read (Elt F) g)
  isplitr [H]
  · ipureintro
    intro j i hj
    have e : j = (Rect.unit (s := S128) off S16.size inb).emb i := ext1 (by
      rw [hj]; exact ((emb1 (N := 128) off S16.size inb i).trans (congrArg (· + (i 0).val) (congrFun ho 0))).symm)
    rw [e]; rfl
  iexact H

theorem loadN {α : Type} {Q : α → sProp 𝕄} {off : Fin 1 → ℕ} {inb : ∀ a, off a + S16.size a ≤ S16.size a}
    {hl : (sN).view.LoadsAt (Rect.unit (s := S16) off S16.size inb).toLoadRect}
    {k : Vec F S16 .i32 → Prog (TpuEff nD τ sig (Elt F) Λ₀ (.scVector (cV L) (jV L))) α} (o : ℕ) (ho : off = ![o])
    (g : Buf (Elt F) ((thr d L).loc cc1_scratch4)) :
    (atN d L g : sProp 𝕄)
      ⊢ iprop((∀ v, iprop(⌜Rd (N := 16) o v g⌝ ∗ atN d L g) -∗ wp frame (wpE (defs₀ (F := F)) 𝒱₀ (thr d L) none) Set.univ (k v) Q)
        -∗ wp frame (wpE (defs₀ (F := F)) 𝒱₀ (thr d L) none) Set.univ (.op (.load sN (Rect.unit (s := S16) off S16.size inb).toLoadRect hl) k) Q) := by
  iintro H Hk
  iapply (wp_load_rect 𝒱₀ (thr d L) none Set.univ (m := sN) (r := Rect.unit (s := S16) off S16.size inb) (S := Finset.univ) (q := fullShare) (f := g) (Finset.subset_univ _)) $$ H; iintro H
  iapply Hk $$ %(((sN).access (Rect.unit (s := S16) off S16.size inb)).read (Elt F) g)
  isplitr [H]
  · ipureintro
    intro j i hj
    have e : j = (Rect.unit (s := S16) off S16.size inb).emb i := ext1 (by
      rw [hj]; exact ((emb1 (N := 16) off S16.size inb i).trans (congrArg (· + (i 0).val) (congrFun ho 0))).symm)
    rw [e]; rfl
  iexact H

/-- A load whose value is not used. -/
theorem skipA {α : Type} {Q : α → sProp 𝕄} {off : Fin 1 → ℕ} {inb : ∀ a, off a + S16.size a ≤ S41088.size a}
    {hl : (sA).view.LoadsAt (Rect.unit (s := S41088) off S16.size inb).toLoadRect}
    {k : Prog (TpuEff nD τ sig (Elt F) Λ₀ (.scVector (cV L) (jV L))) α}
    (g : Buf (Elt F) ((thr d L).loc cc1_scratch3)) :
    (atA d L g : sProp 𝕄)
      ⊢ iprop((atA d L g -∗ wp frame (wpE (defs₀ (F := F)) 𝒱₀ (thr d L) none) Set.univ k Q)
        -∗ wp frame (wpE (defs₀ (F := F)) 𝒱₀ (thr d L) none) Set.univ (.op (.load sA (Rect.unit (s := S41088) off S16.size inb).toLoadRect hl) (fun _ => k)) Q) := by
  iintro H Hk
  iapply (wp_load_rect 𝒱₀ (thr d L) none Set.univ (m := sA) (r := Rect.unit (s := S41088) off S16.size inb) (S := Finset.univ) (q := fullShare) (f := g) (Finset.subset_univ _)) $$ H; iintro H
  iapply Hk
  iexact H

theorem storeA {α : Type} {Q : α → sProp 𝕄} {off : Fin 1 → ℕ} {inb : ∀ a, off a + S16.size a ≤ S41088.size a} {v : Vec F S16 .f32}
    {hl : ((sA).access (Rect.unit (s := S41088) off S16.size inb)).Stores Finset.univ}
    {hm : (Finset.univ : Finset (Rect.unit (s := S41088) off S16.size inb).shape.Idx) = Finset.univ ∨ ∀ a, (Rect.unit (s := S41088) off S16.size inb).stride a = 1}
    {k : PUnit → Prog (TpuEff nD τ sig (Elt F) Λ₀ (.scVector (cV L) (jV L))) α} (o : ℕ) (ho : off = ![o])
    (g : Buf (Elt F) ((thr d L).loc cc1_scratch3)) :
    (atA d L g : sProp 𝕄)
      ⊢ iprop((∀ g', iprop(⌜Wr (N := 41088) o v g g'⌝ ∗ atA d L g') -∗ wp frame (wpE (defs₀ (F := F)) 𝒱₀ (thr d L) none) Set.univ (k ⟨⟩) Q)
        -∗ wp frame (wpE (defs₀ (F := F)) 𝒱₀ (thr d L) none) Set.univ (.op (.store sA (Rect.unit (s := S41088) off S16.size inb) v Finset.univ hl hm) k) Q) := by
  iintro H Hk
  iapply (wp_store 𝒱₀ (thr d L) none Set.univ (m := sA) (r := Rect.unit (s := S41088) off S16.size inb) (S := Finset.univ) (f := g) (Finset.subset_univ _)) $$ H; iintro H
  iapply Hk $$ %(((sA).access (Rect.unit (s := S41088) off S16.size inb)).write (Elt F) g v Finset.univ)
  isplitr [H]
  · ipureintro
    refine ⟨fun j i hj => ?_, fun j hj => ?_⟩
    · have e : j = (Rect.unit (s := S41088) off S16.size inb).emb i := ext1 (by
        rw [hj]; exact ((emb1 (N := 41088) off S16.size inb i).trans (congrArg (· + (i 0).val) (congrFun ho 0))).symm)
      rw [e]
      exact wr_in (F := F) cc1_scratch3 (Rect.unit (s := S41088) off S16.size inb) g v i
    · refine wr_out (F := F) cc1_scratch3 (Rect.unit (s := S41088) off S16.size inb) g v j fun hm => ?_
      have := unit1 (N := 41088) _ _ _ j o 16 ho rfl hm
      omega
  iexact H

theorem ext2 {n : Fin 2 → ℕ} {x y : (⟨2, n⟩ : Shape).Idx} (h0 : (x 0).val = (y 0).val) (h1 : (x 1).val = (y 1).val) : x = y :=
  funext fun a => Fin.ext <| match a with | ⟨0, _⟩ => h0 | ⟨1, _⟩ => h1

/-- `u` is the sixteen lanes of row `e` of `R` from column `c` on. -/
def RdRow {β : Type} (e c : ℕ) (u : S1x16.Idx → β) (R : S128x128.Idx → β) : Prop :=
  ∀ (j : S128x128.Idx) (i : S1x16.Idx), (j 0).val = e → (j 1).val = c + (i 1).val → u i = R j

theorem loadR {α : Type} {Q : α → sProp 𝕄} {off : Fin 2 → ℕ} {inb : ∀ a, off a + S1x16.size a ≤ S128x128.size a}
    {hl : (sR).view.LoadsAt (Rect.unit (s := S128x128) off S1x16.size inb).toLoadRect}
    {k : Vec F S1x16 .f32 → Prog (TpuEff nD τ sig (Elt F) Λ₀ (.scVector (cV L) (jV L))) α} (e c : ℕ) (ho : off = ![e, c])
    (g : Buf (Elt F) ((thr d L).loc cc1_scratch2)) :
    (atR d L g : sProp 𝕄)
      ⊢ iprop((∀ v, iprop(⌜RdRow e c v g⌝ ∗ atR d L g) -∗ wp frame (wpE (defs₀ (F := F)) 𝒱₀ (thr d L) none) Set.univ (k v) Q)
        -∗ wp frame (wpE (defs₀ (F := F)) 𝒱₀ (thr d L) none) Set.univ (.op (.load sR (Rect.unit (s := S128x128) off S1x16.size inb).toLoadRect hl) k) Q) := by
  iintro H Hk
  iapply (wp_load_rect 𝒱₀ (thr d L) none Set.univ (m := sR) (r := Rect.unit (s := S128x128) off S1x16.size inb) (S := Finset.univ) (q := fullShare) (f := g) (Finset.subset_univ _)) $$ H; iintro H
  iapply Hk $$ %(((sR).access (Rect.unit (s := S128x128) off S1x16.size inb)).read (Elt F) g)
  isplitr [H]
  · ipureintro
    intro j i h0 h1
    have e : j = (Rect.unit (s := S128x128) off S1x16.size inb).emb i := by
      have hi : (i 0).val = 0 := Nat.lt_one_iff.mp (i 0).isLt
      apply ext2
      · rw [Rect.emb_apply]
        show (j 0).val = off 0 + 1 * (i 0).val
        rw [congrFun ho 0, h0, hi]; rfl
      · rw [Rect.emb_apply]
        show (j 1).val = off 1 + 1 * (i 1).val
        rw [congrFun ho 1, h1, Nat.one_mul]; rfl
    rw [e]; rfl
  iexact H

/-! ## One message row taken into one accumulator row -/

/-- The accumulator after its row `l` met the message row `row`. -/
def upd (g : S41088.Idx → F .f32) (l : ℕ) (row : ℕ → F .f32) : S41088.Idx → F .f32 :=
  fun j => if (j 0).val / 128 = l then FloatOps.maximumf (g j) (row ((j 0).val % 128)) else g j

/-- The same with the first `16 r` columns done. -/
def Part (l r : ℕ) (row : ℕ → F .f32) (g g' : S41088.Idx → F .f32) : Prop :=
  ∀ j, g' j = if 128 * l ≤ (j 0).val ∧ (j 0).val < 128 * l + 16 * r then FloatOps.maximumf (g j) (row ((j 0).val - 128 * l)) else g j

theorem part_zero (l : ℕ) (row : ℕ → F .f32) (g : S41088.Idx → F .f32) : Part l 0 row g g := fun j => by
  rw [if_neg (by omega)]

theorem part_step {l r e : ℕ} {row : ℕ → F .f32} {g gs gs' : S41088.Idx → F .f32} {R : S128x128.Idx → F .f32}
    {v : S16.Idx → F .f32} {u : S1x16.Idx → F .f32} (hr : r < 8) (he : e < 128) (hP : Part l r row g gs)
    (hv : Rd (N := 41088) (128 * l + 16 * r) v gs) (hu : RdRow e (16 * r) u R) (hR : ∀ j, (j 0).val = e → R j = row (j 1).val)
    (hw : Wr (N := 41088) (128 * l + 16 * r) (maximumf v (shapeCast S16 u shapeCasts_S1x16_S16)) gs gs') :
    Part l (r + 1) row g gs' := fun j => by
  by_cases h : 128 * l + 16 * r ≤ (j 0).val ∧ (j 0).val < 128 * l + 16 * r + 16
  · have hlt : (j 0).val - (128 * l + 16 * r) < 16 := by omega
    have hj : (j 0).val = 128 * l + 16 * r + (at1 (N := 16) ((j 0).val - (128 * l + 16 * r)) hlt 0).val := by
      show _ = 128 * l + 16 * r + ((j 0).val - (128 * l + 16 * r)); omega
    rw [hw.inn j _ hj, if_pos (by omega)]
    show FloatOps.maximumf (v _) (shapeCast S16 u shapeCasts_S1x16_S16 _) = _
    rw [hv j _ hj, hP j, if_neg (by omega)]
    congr 1
    rw [shapeCast_dropUnit_apply (n := 1) ![16] u]
    have h1 : 16 * r + ((j 0).val - (128 * l + 16 * r)) < 128 := by omega
    rw [hu (fun | 0 => ⟨e, he⟩ | 1 => ⟨16 * r + ((j 0).val - (128 * l + 16 * r)), h1⟩) _ rfl rfl, hR _ rfl]
    congr 1
    show 16 * r + ((j 0).val - (128 * l + 16 * r)) = _
    omega
  · rw [hw.out j (by omega), hP j]
    by_cases h' : 128 * l ≤ (j 0).val ∧ (j 0).val < 128 * l + 16 * r
    · rw [if_pos h', if_pos (by omega)]
    · rw [if_neg h', if_neg (by omega)]

theorem part_full {l : ℕ} {row : ℕ → F .f32} {g g' : S41088.Idx → F .f32} (hP : Part l 8 row g g') : g' = upd g l row := by
  funext j
  rw [hP j]
  unfold upd
  by_cases h : (j 0).val / 128 = l
  · rw [if_pos h, if_pos (by omega)]
    congr 2
    omega
  · rw [if_neg h, if_neg (by omega)]

/-- The accumulator after the first `p` entries of a list: entry `q` names row `loc q` and brings the message `row q`. -/
def accG (loc : ℕ → ℕ) (row : ℕ → ℕ → F .f32) : ℕ → S41088.Idx → F .f32
  | 0 => fun _ => Scalar.ofBits .f32 0x00000000#32
  | p + 1 => upd (accG loc row p) (loc p) (row p)

/-! ## Its offsets -/

theorem acc_off {v : BitVec 32} {l : ℕ} (hv : v = BitVec.ofNat 32 l) (hl : l ≤ 320) (r : ℕ) (hr : r < 8) :
    k1_off5 v (BitVec.ofNat 32 (16 * r)) = ![128 * l + 16 * r] := by
  subst hv
  unfold k1_off5
  dsimp only
  congr 1
  show (Scalar.indexCast (BitVec.ofNat 32 l * 128#32 + BitVec.ofNat 32 (16 * r))).toNat = _
  rw [show BitVec.ofNat 32 l * 128#32 = BitVec.ofNat 32 (l * 128) from (BitVec.ofNat_mul ..).symm, ← BitVec.ofNat_add]
  show (BitVec.ofNat 32 (l * 128 + 16 * r)).toNat = _
  rw [toNat_small (by omega)]
  omega

theorem acc_chk {v : BitVec 32} {l : ℕ} (hv : v = BitVec.ofNat 32 l) (hl : l ≤ 320) : k1_chk2 v := by
  intro r a
  have ha : a = 0 := Subsingleton.elim (α := Fin 1) _ _
  subst ha
  rw [acc_off hv hl r.val r.isLt]
  have := r.isLt
  show 128 * l + 16 * r.val + 16 ≤ 41088
  omega

theorem row_word (k : Fin k1_t3_loop.trips) (i : ℕ) (hi : i < 16) :
    (Scalar.indexCast (Scalar.addi (Scalar.muli 16#32 (Scalar.addi 0#32 (Scalar.muli (Scf.iv 0#32 1#32 k) 1#32))) (BitVec.ofNat 32 i))).toNat
      = 16 * k.val + i := by
  have hk : k.val < 8 := lt_of_lt_of_eq k.isLt (trips_zero_one (n := 8) (by decide))
  rw [iv_zero_one]
  show (16#32 * (0#32 + BitVec.ofNat 32 k.val * 1#32) + BitVec.ofNat 32 i).toNat = _
  rw [BitVec.zero_add, BitVec.mul_one, ← BitVec.ofNat_mul, ← BitVec.ofNat_add, toNat_small (by omega)]

theorem row_off (k : Fin k1_t3_loop.trips) (i : ℕ) (hi : i < 16) (c : ℕ) :
    ![(Scalar.indexCast (Scalar.addi (Scalar.muli 16#32 (Scalar.addi 0#32 (Scalar.muli (Scf.iv 0#32 1#32 k) 1#32))) (BitVec.ofNat 32 i))).toNat, c]
      = ![16 * k.val + i, c] := by
  rw [row_word k i hi]

theorem list_off (k : Fin k1_t3_loop.trips) : k1_off4 k = ![16 * k.val] := by
  have hk : k.val < 8 := lt_of_lt_of_eq k.isLt (trips_zero_one (n := 8) (by decide))
  unfold k1_off4
  dsimp only
  rw [iv_zero_one]
  congr 1
  show (16#32 * (0#32 + BitVec.ofNat 32 k.val * 1#32)).toNat = _
  rw [BitVec.zero_add, BitVec.mul_one, ← BitVec.ofNat_mul, toNat_small (by omega)]

/-- A lane of a vector taken out by a slice of one and an extraction. -/
theorem lane_word {v : S16.Idx → BitVec 32} {Y : S128.Idx → BitVec 32} {o : ℕ} (hv : Rd (N := 128) o v Y) {loc : ℕ → ℕ}
    (hY : ∀ j, Y j = BitVec.ofNat 32 (loc (j 0).val)) (ho : o + 16 ≤ 128) (i : ℕ) (hi : i < 16) (hs : S16.Slices ![i] S1)
    (hp : ∀ a, (![0] : Fin 1 → ℕ) a < S1.size a) :
    extractAt ![0] (extractStridedSlice S1 ![i] v hs) hp = BitVec.ofNat 32 (loc (o + i)) := by
  have hj : ((at1 (N := 128) (o + i) (by omega)) 0).val = o + (at1 (N := 16) i hi 0).val := rfl
  have := hv _ _ hj
  rw [hY] at this
  refine Eq.trans (congrArg v (ext1 (N := 16) ?_)) this
  show i + 0 = i
  rfl

end Cert.Proof.Bucket

end
-- ==== Proof.SegTrip.lean ====
/-
  Sixteen entries of a fetched list taken into the accumulator.
-/
module

public import proofs.«01_k».proof.Proof.Bucket
public import proofs.«01_k».proof.Proof.SegSteps

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

set_option maxHeartbeats 4000000 in
theorem seg_trip {Q : Unit → sProp 𝕄} (loc : ℕ → ℕ) (row : ℕ → ℕ → F .f32) (b : ℕ) (k : Fin k1_t3_loop.trips)
    (Y : Buf (Elt F) ((thr d L).loc cc1_scratch1)) (R : Buf (Elt F) ((thr d L).loc cc1_scratch2))
    (hY : ∀ j : S128.Idx, Y j = BitVec.ofNat 32 (loc (b + (j 0).val)))
    (hR : ∀ j : S128x128.Idx, R j = row (b + (j 0).val) (j 1).val)
    (hl : ∀ n, n < 128 → loc (b + n) ≤ 320) :
    (iprop(atY d L Y ∗ atR d L R ∗ atA d L (accG loc row (b + (16 * k.val + 0)))) : sProp 𝕄)
      ⊢ iprop((iprop(atY d L Y ∗ atR d L R ∗ atA d L (accG loc row (b + (16 * k.val + 16)))) -∗ Q ())
        -∗ wp frame (wpE (defs₀ (F := F)) 𝒱₀ (thr d L) none) Set.univ
          (k1_t3_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5 k ()) Q) := by
  have hk : k.val < 8 := lt_of_lt_of_eq k.isLt (trips_zero_one (n := 8) (by decide))
  have h112 : 16 * k.val + 16 ≤ 128 := by omega
  have h128 : ∀ i, i < 16 → 16 * k.val + i < 128 := fun i hi => by omega
  have hloc : ∀ i, i < 16 → loc (b + (16 * k.val + i)) ≤ 320 := fun i hi => hl _ (by omega)
  have hrow : ∀ i, i < 16 → ∀ j : S128x128.Idx, (j 0).val = 16 * k.val + i → R j = row (b + (16 * k.val + i)) (j 1).val :=
    fun i _ j hj => by rw [hR, hj]
  replace hY : ∀ j : S128.Idx, Y j = BitVec.ofNat 32 ((fun n => loc (b + n)) (j 0).val) := hY
  iintro ⟨HY, HR, HA⟩ Hk
  unfold k1_t3_body
  simp only [k1_part1_eq_skeleton]; unfold k1_part1_skel
  simp only [Prog.lift, Prog.bind_op, Prog.bind_ret, Prog.pure_eq_ret, Prog.bind_assoc]
  iapply (loadY d L (16 * k.val) (list_off k) Y) $$ HY; iintro %v ⟨%hv, HY⟩
  -- entry 0 of the sixteen
  have hw : extractAt ![0] (k1_pay1 v) inpos_S1_p0 = BitVec.ofNat 32 (loc (b + (16 * k.val + 0))) := lane_word (loc := fun n => loc (b + n)) hv hY h112 0 (by decide) slices_S16_o0_S1 inpos_S1_p0
  have hl := hloc 0 (by decide)
  have hr := hrow 0 (by decide)
  have he := h128 0 (by decide)
  rw [wp_assume_of _ _ _ _ (show k1_chk2 _ from acc_chk hw hl)]
  have P := part_zero (loc (b + (16 * k.val + 0))) (row (b + (16 * k.val + 0))) (accG loc row (b + (16 * k.val + 0)))
  iapply (loadA d L _ (acc_off hw hl 0 (by decide)) (accG loc row (b + (16 * k.val + 0)))) $$ HA; iintro %x ⟨%hx, HA⟩
  iapply (loadR d L _ _ (row_off k 0 (by decide) 0) R) $$ HR; iintro %u ⟨%hu, HR⟩
  iapply (skipA d L (accG loc row (b + (16 * k.val + 0)))) $$ HA; iintro HA
  iapply (storeA d L _ (acc_off hw hl 0 (by decide)) (accG loc row (b + (16 * k.val + 0)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 0 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 0 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  simp only [k1_part2_eq_skeleton]; unfold k1_part2_skel
  simp only [Prog.lift, Prog.bind_op, Prog.bind_ret, Prog.pure_eq_ret, Prog.bind_assoc]
  iapply (loadA d L _ (acc_off hw hl 3 (by decide)) f) $$ HA; iintro %x ⟨%hx, HA⟩
  iapply (loadR d L _ _ (row_off k 0 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 0 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 0 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 0 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  simp only [k1_part3_eq_skeleton]; unfold k1_part3_skel
  simp only [Prog.lift, Prog.bind_op, Prog.bind_ret, Prog.pure_eq_ret, Prog.bind_assoc]
  iapply (loadR d L _ _ (row_off k 0 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 1))) from part_full P))) $$ HA
  clear P hw hl hr he; clear f
  -- entry 1 of the sixteen
  have hw : extractAt ![0] (k1_pay10 v) inpos_S1_p0 = BitVec.ofNat 32 (loc (b + (16 * k.val + 1))) := lane_word (loc := fun n => loc (b + n)) hv hY h112 1 (by decide) slices_S16_o1_S1 inpos_S1_p0
  have hl := hloc 1 (by decide)
  have hr := hrow 1 (by decide)
  have he := h128 1 (by decide)
  rw [wp_assume_of _ _ _ _ (show k1_chk3 _ from acc_chk hw hl)]
  have P := part_zero (loc (b + (16 * k.val + 1))) (row (b + (16 * k.val + 1))) (accG loc row (b + (16 * k.val + 1)))
  iapply (loadA d L _ (acc_off hw hl 0 (by decide)) (accG loc row (b + (16 * k.val + 1)))) $$ HA; iintro %x ⟨%hx, HA⟩
  iapply (loadR d L _ _ (row_off k 1 (by decide) 0) R) $$ HR; iintro %u ⟨%hu, HR⟩
  iapply (skipA d L (accG loc row (b + (16 * k.val + 1)))) $$ HA; iintro HA
  iapply (storeA d L _ (acc_off hw hl 0 (by decide)) (accG loc row (b + (16 * k.val + 1)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 1 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 1 (by decide) 32) R) $$ HR; iintro %u ⟨%hu, HR⟩
  iapply (skipA d L f) $$ HA; iintro HA
  simp only [k1_part4_eq_skeleton]; unfold k1_part4_skel
  simp only [Prog.lift, Prog.bind_op, Prog.bind_ret, Prog.pure_eq_ret, Prog.bind_assoc]
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 1 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 1 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 1 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 1 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  simp only [k1_part5_eq_skeleton]; unfold k1_part5_skel
  simp only [Prog.lift, Prog.bind_op, Prog.bind_ret, Prog.pure_eq_ret, Prog.bind_assoc]
  iapply (loadA d L _ (acc_off hw hl 7 (by decide)) f) $$ HA; iintro %x ⟨%hx, HA⟩
  iapply (loadR d L _ _ (row_off k 1 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 2))) from part_full P))) $$ HA
  clear P hw hl hr he; clear f
  -- entry 2 of the sixteen
  have hw : extractAt ![0] (k1_pay19 v) inpos_S1_p0 = BitVec.ofNat 32 (loc (b + (16 * k.val + 2))) := lane_word (loc := fun n => loc (b + n)) hv hY h112 2 (by decide) slices_S16_o2_S1 inpos_S1_p0
  have hl := hloc 2 (by decide)
  have hr := hrow 2 (by decide)
  have he := h128 2 (by decide)
  rw [wp_assume_of _ _ _ _ (show k1_chk4 _ from acc_chk hw hl)]
  have P := part_zero (loc (b + (16 * k.val + 2))) (row (b + (16 * k.val + 2))) (accG loc row (b + (16 * k.val + 2)))
  iapply (loadA d L _ (acc_off hw hl 0 (by decide)) (accG loc row (b + (16 * k.val + 2)))) $$ HA; iintro %x ⟨%hx, HA⟩
  iapply (loadR d L _ _ (row_off k 2 (by decide) 0) R) $$ HR; iintro %u ⟨%hu, HR⟩
  iapply (skipA d L (accG loc row (b + (16 * k.val + 2)))) $$ HA; iintro HA
  iapply (storeA d L _ (acc_off hw hl 0 (by decide)) (accG loc row (b + (16 * k.val + 2)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 2 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 2 (by decide) 32) R) $$ HR; iintro %u ⟨%hu, HR⟩
  simp only [k1_part6_eq_skeleton]; unfold k1_part6_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 2 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 2 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 2 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 2 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  simp only [k1_part7_eq_skeleton]; unfold k1_part7_skel
  simp only [Prog.lift, Prog.bind_op, Prog.bind_ret, Prog.pure_eq_ret, Prog.bind_assoc]
  iapply (loadA d L _ (acc_off hw hl 7 (by decide)) f) $$ HA; iintro %x ⟨%hx, HA⟩
  iapply (loadR d L _ _ (row_off k 2 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 3))) from part_full P))) $$ HA
  clear P hw hl hr he; clear f
  -- entry 3 of the sixteen
  have hw : extractAt ![0] (k1_pay28 v) inpos_S1_p0 = BitVec.ofNat 32 (loc (b + (16 * k.val + 3))) := lane_word (loc := fun n => loc (b + n)) hv hY h112 3 (by decide) slices_S16_o3_S1 inpos_S1_p0
  have hl := hloc 3 (by decide)
  have hr := hrow 3 (by decide)
  have he := h128 3 (by decide)
  rw [wp_assume_of _ _ _ _ (show k1_chk5 _ from acc_chk hw hl)]
  have P := part_zero (loc (b + (16 * k.val + 3))) (row (b + (16 * k.val + 3))) (accG loc row (b + (16 * k.val + 3)))
  iapply (loadA d L _ (acc_off hw hl 0 (by decide)) (accG loc row (b + (16 * k.val + 3)))) $$ HA; iintro %x ⟨%hx, HA⟩
  iapply (loadR d L _ _ (row_off k 3 (by decide) 0) R) $$ HR; iintro %u ⟨%hu, HR⟩
  iapply (skipA d L (accG loc row (b + (16 * k.val + 3)))) $$ HA; iintro HA
  iapply (storeA d L _ (acc_off hw hl 0 (by decide)) (accG loc row (b + (16 * k.val + 3)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 3 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 3 (by decide) 32) R) $$ HR; iintro %u ⟨%hu, HR⟩
  simp only [k1_part8_eq_skeleton]; unfold k1_part8_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 3 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 3 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 3 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 3 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  simp only [k1_part9_eq_skeleton]; unfold k1_part9_skel
  simp only [Prog.lift, Prog.bind_op, Prog.bind_ret, Prog.pure_eq_ret, Prog.bind_assoc]
  iapply (loadA d L _ (acc_off hw hl 7 (by decide)) f) $$ HA; iintro %x ⟨%hx, HA⟩
  iapply (loadR d L _ _ (row_off k 3 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 4))) from part_full P))) $$ HA
  clear P hw hl hr he; clear f
  -- entry 4 of the sixteen
  have hw : extractAt ![0] (k1_pay37 v) inpos_S1_p0 = BitVec.ofNat 32 (loc (b + (16 * k.val + 4))) := lane_word (loc := fun n => loc (b + n)) hv hY h112 4 (by decide) slices_S16_o4_S1 inpos_S1_p0
  have hl := hloc 4 (by decide)
  have hr := hrow 4 (by decide)
  have he := h128 4 (by decide)
  rw [wp_assume_of _ _ _ _ (show k1_chk6 _ from acc_chk hw hl)]
  have P := part_zero (loc (b + (16 * k.val + 4))) (row (b + (16 * k.val + 4))) (accG loc row (b + (16 * k.val + 4)))
  iapply (loadA d L _ (acc_off hw hl 0 (by decide)) (accG loc row (b + (16 * k.val + 4)))) $$ HA; iintro %x ⟨%hx, HA⟩
  iapply (loadR d L _ _ (row_off k 4 (by decide) 0) R) $$ HR; iintro %u ⟨%hu, HR⟩
  iapply (skipA d L (accG loc row (b + (16 * k.val + 4)))) $$ HA; iintro HA
  iapply (storeA d L _ (acc_off hw hl 0 (by decide)) (accG loc row (b + (16 * k.val + 4)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 4 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 4 (by decide) 32) R) $$ HR; iintro %u ⟨%hu, HR⟩
  simp only [k1_part10_eq_skeleton]; unfold k1_part10_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 4 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 4 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 4 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 4 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  simp only [k1_part11_eq_skeleton]; unfold k1_part11_skel
  simp only [Prog.lift, Prog.bind_op, Prog.bind_ret, Prog.pure_eq_ret, Prog.bind_assoc]
  iapply (loadA d L _ (acc_off hw hl 7 (by decide)) f) $$ HA; iintro %x ⟨%hx, HA⟩
  iapply (loadR d L _ _ (row_off k 4 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 5))) from part_full P))) $$ HA
  clear P hw hl hr he; clear f
  -- entry 5 of the sixteen
  have hw : extractAt ![0] (k1_pay46 v) inpos_S1_p0 = BitVec.ofNat 32 (loc (b + (16 * k.val + 5))) := lane_word (loc := fun n => loc (b + n)) hv hY h112 5 (by decide) slices_S16_o5_S1 inpos_S1_p0
  have hl := hloc 5 (by decide)
  have hr := hrow 5 (by decide)
  have he := h128 5 (by decide)
  rw [wp_assume_of _ _ _ _ (show k1_chk7 _ from acc_chk hw hl)]
  have P := part_zero (loc (b + (16 * k.val + 5))) (row (b + (16 * k.val + 5))) (accG loc row (b + (16 * k.val + 5)))
  iapply (loadA d L _ (acc_off hw hl 0 (by decide)) (accG loc row (b + (16 * k.val + 5)))) $$ HA; iintro %x ⟨%hx, HA⟩
  iapply (loadR d L _ _ (row_off k 5 (by decide) 0) R) $$ HR; iintro %u ⟨%hu, HR⟩
  iapply (skipA d L (accG loc row (b + (16 * k.val + 5)))) $$ HA; iintro HA
  iapply (storeA d L _ (acc_off hw hl 0 (by decide)) (accG loc row (b + (16 * k.val + 5)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 5 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 5 (by decide) 32) R) $$ HR; iintro %u ⟨%hu, HR⟩
  simp only [k1_part12_eq_skeleton]; unfold k1_part12_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 5 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 5 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 5 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 5 (by decide) 96) R) $$ HR; iintro %u ⟨%hu, HR⟩
  iapply (skipA d L f) $$ HA; iintro HA
  simp only [k1_part13_eq_skeleton]; unfold k1_part13_skel
  simp only [Prog.lift, Prog.bind_op, Prog.bind_ret, Prog.pure_eq_ret, Prog.bind_assoc]
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 5 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 6))) from part_full P))) $$ HA
  clear P hw hl hr he; clear f
  -- entry 6 of the sixteen
  have hw : extractAt ![0] (k1_pay55 v) inpos_S1_p0 = BitVec.ofNat 32 (loc (b + (16 * k.val + 6))) := lane_word (loc := fun n => loc (b + n)) hv hY h112 6 (by decide) slices_S16_o6_S1 inpos_S1_p0
  have hl := hloc 6 (by decide)
  have hr := hrow 6 (by decide)
  have he := h128 6 (by decide)
  rw [wp_assume_of _ _ _ _ (show k1_chk8 _ from acc_chk hw hl)]
  have P := part_zero (loc (b + (16 * k.val + 6))) (row (b + (16 * k.val + 6))) (accG loc row (b + (16 * k.val + 6)))
  iapply (loadA d L _ (acc_off hw hl 0 (by decide)) (accG loc row (b + (16 * k.val + 6)))) $$ HA; iintro %x ⟨%hx, HA⟩
  iapply (loadR d L _ _ (row_off k 6 (by decide) 0) R) $$ HR; iintro %u ⟨%hu, HR⟩
  iapply (skipA d L (accG loc row (b + (16 * k.val + 6)))) $$ HA; iintro HA
  iapply (storeA d L _ (acc_off hw hl 0 (by decide)) (accG loc row (b + (16 * k.val + 6)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 6 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 6 (by decide) 32) R) $$ HR; iintro %u ⟨%hu, HR⟩
  simp only [k1_part14_eq_skeleton]; unfold k1_part14_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 6 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 6 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 6 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 6 (by decide) 96) R) $$ HR; iintro %u ⟨%hu, HR⟩
  simp only [k1_part15_eq_skeleton]; unfold k1_part15_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 6 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 7))) from part_full P))) $$ HA
  clear P hw hl hr he; clear f
  -- entry 7 of the sixteen
  have hw : extractAt ![0] (k1_pay65 v) inpos_S1_p0 = BitVec.ofNat 32 (loc (b + (16 * k.val + 7))) := lane_word (loc := fun n => loc (b + n)) hv hY h112 7 (by decide) slices_S16_o7_S1 inpos_S1_p0
  have hl := hloc 7 (by decide)
  have hr := hrow 7 (by decide)
  have he := h128 7 (by decide)
  rw [wp_assume_of _ _ _ _ (show k1_chk9 _ from acc_chk hw hl)]
  have P := part_zero (loc (b + (16 * k.val + 7))) (row (b + (16 * k.val + 7))) (accG loc row (b + (16 * k.val + 7)))
  iapply (loadA d L _ (acc_off hw hl 0 (by decide)) (accG loc row (b + (16 * k.val + 7)))) $$ HA; iintro %x ⟨%hx, HA⟩
  iapply (loadR d L _ _ (row_off k 7 (by decide) 0) R) $$ HR; iintro %u ⟨%hu, HR⟩
  iapply (skipA d L (accG loc row (b + (16 * k.val + 7)))) $$ HA; iintro HA
  iapply (storeA d L _ (acc_off hw hl 0 (by decide)) (accG loc row (b + (16 * k.val + 7)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 7 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 7 (by decide) 32) R) $$ HR; iintro %u ⟨%hu, HR⟩
  simp only [k1_part16_eq_skeleton]; unfold k1_part16_skel
  simp only [Prog.lift, Prog.bind_op, Prog.bind_ret, Prog.pure_eq_ret, Prog.bind_assoc]
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 7 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 7 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 7 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 7 (by decide) 96) R) $$ HR; iintro %u ⟨%hu, HR⟩
  simp only [k1_part17_eq_skeleton]; unfold k1_part17_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 7 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 8))) from part_full P))) $$ HA
  clear P hw hl hr he; clear f
  -- entry 8 of the sixteen
  have hw : extractAt ![0] (k1_pay74 v) inpos_S1_p0 = BitVec.ofNat 32 (loc (b + (16 * k.val + 8))) := lane_word (loc := fun n => loc (b + n)) hv hY h112 8 (by decide) slices_S16_o8_S1 inpos_S1_p0
  have hl := hloc 8 (by decide)
  have hr := hrow 8 (by decide)
  have he := h128 8 (by decide)
  rw [wp_assume_of _ _ _ _ (show k1_chk10 _ from acc_chk hw hl)]
  have P := part_zero (loc (b + (16 * k.val + 8))) (row (b + (16 * k.val + 8))) (accG loc row (b + (16 * k.val + 8)))
  iapply (loadA d L _ (acc_off hw hl 0 (by decide)) (accG loc row (b + (16 * k.val + 8)))) $$ HA; iintro %x ⟨%hx, HA⟩
  iapply (loadR d L _ _ (row_off k 8 (by decide) 0) R) $$ HR; iintro %u ⟨%hu, HR⟩
  iapply (skipA d L (accG loc row (b + (16 * k.val + 8)))) $$ HA; iintro HA
  iapply (storeA d L _ (acc_off hw hl 0 (by decide)) (accG loc row (b + (16 * k.val + 8)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 8 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  simp only [k1_part18_eq_skeleton]; unfold k1_part18_skel
  simp only [Prog.lift, Prog.bind_op, Prog.bind_ret, Prog.pure_eq_ret, Prog.bind_assoc]
  iapply (loadR d L _ _ (row_off k 8 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 8 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 8 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 8 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 8 (by decide) 96) R) $$ HR; iintro %u ⟨%hu, HR⟩
  simp only [k1_part19_eq_skeleton]; unfold k1_part19_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 8 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 9))) from part_full P))) $$ HA
  clear P hw hl hr he; clear f
  -- entry 9 of the sixteen
  have hw : extractAt ![0] (k1_pay83 v) inpos_S1_p0 = BitVec.ofNat 32 (loc (b + (16 * k.val + 9))) := lane_word (loc := fun n => loc (b + n)) hv hY h112 9 (by decide) slices_S16_o9_S1 inpos_S1_p0
  have hl := hloc 9 (by decide)
  have hr := hrow 9 (by decide)
  have he := h128 9 (by decide)
  rw [wp_assume_of _ _ _ _ (show k1_chk11 _ from acc_chk hw hl)]
  have P := part_zero (loc (b + (16 * k.val + 9))) (row (b + (16 * k.val + 9))) (accG loc row (b + (16 * k.val + 9)))
  iapply (loadA d L _ (acc_off hw hl 0 (by decide)) (accG loc row (b + (16 * k.val + 9)))) $$ HA; iintro %x ⟨%hx, HA⟩
  iapply (loadR d L _ _ (row_off k 9 (by decide) 0) R) $$ HR; iintro %u ⟨%hu, HR⟩
  iapply (skipA d L (accG loc row (b + (16 * k.val + 9)))) $$ HA; iintro HA
  iapply (storeA d L _ (acc_off hw hl 0 (by decide)) (accG loc row (b + (16 * k.val + 9)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 9 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  simp only [k1_part20_eq_skeleton]; unfold k1_part20_skel
  simp only [Prog.lift, Prog.bind_op, Prog.bind_ret, Prog.pure_eq_ret, Prog.bind_assoc]
  iapply (loadR d L _ _ (row_off k 9 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 9 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 9 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 9 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 9 (by decide) 96) R) $$ HR; iintro %u ⟨%hu, HR⟩
  simp only [k1_part21_eq_skeleton]; unfold k1_part21_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 9 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 10))) from part_full P))) $$ HA
  clear P hw hl hr he; clear f
  -- entry 10 of the sixteen
  have hw : extractAt ![0] (k1_pay92 v) inpos_S1_p0 = BitVec.ofNat 32 (loc (b + (16 * k.val + 10))) := lane_word (loc := fun n => loc (b + n)) hv hY h112 10 (by decide) slices_S16_o10_S1 inpos_S1_p0
  have hl := hloc 10 (by decide)
  have hr := hrow 10 (by decide)
  have he := h128 10 (by decide)
  rw [wp_assume_of _ _ _ _ (show k1_chk12 _ from acc_chk hw hl)]
  have P := part_zero (loc (b + (16 * k.val + 10))) (row (b + (16 * k.val + 10))) (accG loc row (b + (16 * k.val + 10)))
  iapply (loadA d L _ (acc_off hw hl 0 (by decide)) (accG loc row (b + (16 * k.val + 10)))) $$ HA; iintro %x ⟨%hx, HA⟩
  iapply (loadR d L _ _ (row_off k 10 (by decide) 0) R) $$ HR; iintro %u ⟨%hu, HR⟩
  iapply (skipA d L (accG loc row (b + (16 * k.val + 10)))) $$ HA; iintro HA
  iapply (storeA d L _ (acc_off hw hl 0 (by decide)) (accG loc row (b + (16 * k.val + 10)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 10 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  simp only [k1_part22_eq_skeleton]; unfold k1_part22_skel
  simp only [Prog.lift, Prog.bind_op, Prog.bind_ret, Prog.pure_eq_ret, Prog.bind_assoc]
  iapply (loadR d L _ _ (row_off k 10 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 10 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 10 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 10 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 10 (by decide) 96) R) $$ HR; iintro %u ⟨%hu, HR⟩
  simp only [k1_part23_eq_skeleton]; unfold k1_part23_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 10 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 11))) from part_full P))) $$ HA
  clear P hw hl hr he; clear f
  -- entry 11 of the sixteen
  have hw : extractAt ![0] (k1_pay102 v) inpos_S1_p0 = BitVec.ofNat 32 (loc (b + (16 * k.val + 11))) := lane_word (loc := fun n => loc (b + n)) hv hY h112 11 (by decide) slices_S16_o11_S1 inpos_S1_p0
  have hl := hloc 11 (by decide)
  have hr := hrow 11 (by decide)
  have he := h128 11 (by decide)
  rw [wp_assume_of _ _ _ _ (show k1_chk13 _ from acc_chk hw hl)]
  have P := part_zero (loc (b + (16 * k.val + 11))) (row (b + (16 * k.val + 11))) (accG loc row (b + (16 * k.val + 11)))
  iapply (loadA d L _ (acc_off hw hl 0 (by decide)) (accG loc row (b + (16 * k.val + 11)))) $$ HA; iintro %x ⟨%hx, HA⟩
  iapply (loadR d L _ _ (row_off k 11 (by decide) 0) R) $$ HR; iintro %u ⟨%hu, HR⟩
  iapply (skipA d L (accG loc row (b + (16 * k.val + 11)))) $$ HA; iintro HA
  iapply (storeA d L _ (acc_off hw hl 0 (by decide)) (accG loc row (b + (16 * k.val + 11)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 11 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  simp only [k1_part24_eq_skeleton]; unfold k1_part24_skel
  simp only [Prog.lift, Prog.bind_op, Prog.bind_ret, Prog.pure_eq_ret, Prog.bind_assoc]
  iapply (loadA d L _ (acc_off hw hl 2 (by decide)) f) $$ HA; iintro %x ⟨%hx, HA⟩
  iapply (loadR d L _ _ (row_off k 11 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 11 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 11 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 11 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 11 (by decide) 96) R) $$ HR; iintro %u ⟨%hu, HR⟩
  simp only [k1_part25_eq_skeleton]; unfold k1_part25_skel
  simp only [Prog.lift, Prog.bind_op, Prog.bind_ret, Prog.pure_eq_ret, Prog.bind_assoc]
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 11 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 12))) from part_full P))) $$ HA
  clear P hw hl hr he; clear f
  -- entry 12 of the sixteen
  have hw : extractAt ![0] (k1_pay111 v) inpos_S1_p0 = BitVec.ofNat 32 (loc (b + (16 * k.val + 12))) := lane_word (loc := fun n => loc (b + n)) hv hY h112 12 (by decide) slices_S16_o12_S1 inpos_S1_p0
  have hl := hloc 12 (by decide)
  have hr := hrow 12 (by decide)
  have he := h128 12 (by decide)
  rw [wp_assume_of _ _ _ _ (show k1_chk14 _ from acc_chk hw hl)]
  have P := part_zero (loc (b + (16 * k.val + 12))) (row (b + (16 * k.val + 12))) (accG loc row (b + (16 * k.val + 12)))
  iapply (loadA d L _ (acc_off hw hl 0 (by decide)) (accG loc row (b + (16 * k.val + 12)))) $$ HA; iintro %x ⟨%hx, HA⟩
  iapply (loadR d L _ _ (row_off k 12 (by decide) 0) R) $$ HR; iintro %u ⟨%hu, HR⟩
  iapply (skipA d L (accG loc row (b + (16 * k.val + 12)))) $$ HA; iintro HA
  iapply (storeA d L _ (acc_off hw hl 0 (by decide)) (accG loc row (b + (16 * k.val + 12)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 12 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  simp only [k1_part26_eq_skeleton]; unfold k1_part26_skel
  simp only [Prog.lift, Prog.bind_op, Prog.bind_ret, Prog.pure_eq_ret, Prog.bind_assoc]
  iapply (loadA d L _ (acc_off hw hl 2 (by decide)) f) $$ HA; iintro %x ⟨%hx, HA⟩
  iapply (loadR d L _ _ (row_off k 12 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 12 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 12 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 12 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  simp only [k1_part27_eq_skeleton]; unfold k1_part27_skel
  simp only [Prog.lift, Prog.bind_op, Prog.bind_ret, Prog.pure_eq_ret, Prog.bind_assoc]
  iapply (loadR d L _ _ (row_off k 12 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 12 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 13))) from part_full P))) $$ HA
  clear P hw hl hr he; clear f
  -- entry 13 of the sixteen
  have hw : extractAt ![0] (k1_pay120 v) inpos_S1_p0 = BitVec.ofNat 32 (loc (b + (16 * k.val + 13))) := lane_word (loc := fun n => loc (b + n)) hv hY h112 13 (by decide) slices_S16_o13_S1 inpos_S1_p0
  have hl := hloc 13 (by decide)
  have hr := hrow 13 (by decide)
  have he := h128 13 (by decide)
  rw [wp_assume_of _ _ _ _ (show k1_chk15 _ from acc_chk hw hl)]
  have P := part_zero (loc (b + (16 * k.val + 13))) (row (b + (16 * k.val + 13))) (accG loc row (b + (16 * k.val + 13)))
  iapply (loadA d L _ (acc_off hw hl 0 (by decide)) (accG loc row (b + (16 * k.val + 13)))) $$ HA; iintro %x ⟨%hx, HA⟩
  iapply (loadR d L _ _ (row_off k 13 (by decide) 0) R) $$ HR; iintro %u ⟨%hu, HR⟩
  iapply (skipA d L (accG loc row (b + (16 * k.val + 13)))) $$ HA; iintro HA
  iapply (storeA d L _ (acc_off hw hl 0 (by decide)) (accG loc row (b + (16 * k.val + 13)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 13 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  simp only [k1_part28_eq_skeleton]; unfold k1_part28_skel
  simp only [Prog.lift, Prog.bind_op, Prog.bind_ret, Prog.pure_eq_ret, Prog.bind_assoc]
  iapply (loadA d L _ (acc_off hw hl 2 (by decide)) f) $$ HA; iintro %x ⟨%hx, HA⟩
  iapply (loadR d L _ _ (row_off k 13 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 13 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 13 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 13 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  simp only [k1_part29_eq_skeleton]; unfold k1_part29_skel
  simp only [Prog.lift, Prog.bind_op, Prog.bind_ret, Prog.pure_eq_ret, Prog.bind_assoc]
  iapply (loadR d L _ _ (row_off k 13 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 13 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 14))) from part_full P))) $$ HA
  clear P hw hl hr he; clear f
  -- entry 14 of the sixteen
  have hw : extractAt ![0] (k1_pay129 v) inpos_S1_p0 = BitVec.ofNat 32 (loc (b + (16 * k.val + 14))) := lane_word (loc := fun n => loc (b + n)) hv hY h112 14 (by decide) slices_S16_o14_S1 inpos_S1_p0
  have hl := hloc 14 (by decide)
  have hr := hrow 14 (by decide)
  have he := h128 14 (by decide)
  rw [wp_assume_of _ _ _ _ (show k1_chk16 _ from acc_chk hw hl)]
  have P := part_zero (loc (b + (16 * k.val + 14))) (row (b + (16 * k.val + 14))) (accG loc row (b + (16 * k.val + 14)))
  iapply (loadA d L _ (acc_off hw hl 0 (by decide)) (accG loc row (b + (16 * k.val + 14)))) $$ HA; iintro %x ⟨%hx, HA⟩
  iapply (loadR d L _ _ (row_off k 14 (by decide) 0) R) $$ HR; iintro %u ⟨%hu, HR⟩
  iapply (skipA d L (accG loc row (b + (16 * k.val + 14)))) $$ HA; iintro HA
  iapply (storeA d L _ (acc_off hw hl 0 (by decide)) (accG loc row (b + (16 * k.val + 14)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 14 (by decide) 16) R) $$ HR; iintro %u ⟨%hu, HR⟩
  iapply (skipA d L f) $$ HA; iintro HA
  iapply (storeA d L _ (acc_off hw hl 1 (by decide)) f) $$ HA; iintro %f' ⟨%hf', HA⟩
  replace P := part_step (r := 1) (by decide) he P hx hu hr hf'
  clear hx hu hf'; clear f; rename' f' => f
  simp only [k1_part30_eq_skeleton]; unfold k1_part30_skel
  simp only [Prog.lift, Prog.bind_op, Prog.bind_ret, Prog.pure_eq_ret, Prog.bind_assoc]
  iapply (loadA d L _ (acc_off hw hl 2 (by decide)) f) $$ HA; iintro %x ⟨%hx, HA⟩
  iapply (loadR d L _ _ (row_off k 14 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 14 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 14 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 14 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  simp only [k1_part31_eq_skeleton]; unfold k1_part31_skel
  simp only [Prog.lift, Prog.bind_op, Prog.bind_ret, Prog.pure_eq_ret, Prog.bind_assoc]
  iapply (loadR d L _ _ (row_off k 14 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 14 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 15))) from part_full P))) $$ HA
  clear P hw hl hr he; clear f
  -- entry 15 of the sixteen
  have hw : extractAt ![0] (k1_pay138 v) inpos_S1_p0 = BitVec.ofNat 32 (loc (b + (16 * k.val + 15))) := lane_word (loc := fun n => loc (b + n)) hv hY h112 15 (by decide) slices_S16_o15_S1 inpos_S1_p0
  have hl := hloc 15 (by decide)
  have hr := hrow 15 (by decide)
  have he := h128 15 (by decide)
  rw [wp_assume_of _ _ _ _ (show k1_chk17 _ from acc_chk hw hl)]
  have P := part_zero (loc (b + (16 * k.val + 15))) (row (b + (16 * k.val + 15))) (accG loc row (b + (16 * k.val + 15)))
  iapply (loadA d L _ (acc_off hw hl 0 (by decide)) (accG loc row (b + (16 * k.val + 15)))) $$ HA; iintro %x ⟨%hx, HA⟩
  iapply (loadR d L _ _ (row_off k 15 (by decide) 0) R) $$ HR; iintro %u ⟨%hu, HR⟩
  iapply (skipA d L (accG loc row (b + (16 * k.val + 15)))) $$ HA; iintro HA
  iapply (storeA d L _ (acc_off hw hl 0 (by decide)) (accG loc row (b + (16 * k.val + 15)))) $$ HA; iintro %f' ⟨%hf', HA⟩
  replace P := part_step (r := 0) (by decide) he P hx hu hr hf'
  clear hx hu hf'; rename' f' => f
  iapply (loadA d L _ (acc_off hw hl 1 (by decide)) f) $$ HA; iintro %x ⟨%hx, HA⟩
  iapply (loadR d L _ _ (row_off k 15 (by decide) 16) R) $$ HR; iintro %u ⟨%hu, HR⟩
  iapply (skipA d L f) $$ HA; iintro HA
  simp only [k1_part32_eq_skeleton]; unfold k1_part32_skel
  simp only [Prog.lift, Prog.bind_op, Prog.bind_ret, Prog.pure_eq_ret, Prog.bind_assoc]
  iapply (storeA d L _ (acc_off hw hl 1 (by decide)) f) $$ HA; iintro %f' ⟨%hf', HA⟩
  replace P := part_step (r := 1) (by decide) he P hx hu hr hf'
  clear hx hu hf'; clear f; rename' f' => f
  iapply (loadA d L _ (acc_off hw hl 2 (by decide)) f) $$ HA; iintro %x ⟨%hx, HA⟩
  iapply (loadR d L _ _ (row_off k 15 (by decide) 32) R) $$ HR; iintro %u ⟨%hu, HR⟩
  iapply (skipA d L f) $$ HA; iintro HA
  iapply (storeA d L _ (acc_off hw hl 2 (by decide)) f) $$ HA; iintro %f' ⟨%hf', HA⟩
  replace P := part_step (r := 2) (by decide) he P hx hu hr hf'
  clear hx hu hf'; clear f; rename' f' => f
  iapply (loadA d L _ (acc_off hw hl 3 (by decide)) f) $$ HA; iintro %x ⟨%hx, HA⟩
  iapply (loadR d L _ _ (row_off k 15 (by decide) 48) R) $$ HR; iintro %u ⟨%hu, HR⟩
  iapply (skipA d L f) $$ HA; iintro HA
  iapply (storeA d L _ (acc_off hw hl 3 (by decide)) f) $$ HA; iintro %f' ⟨%hf', HA⟩
  replace P := part_step (r := 3) (by decide) he P hx hu hr hf'
  clear hx hu hf'; clear f; rename' f' => f
  iapply (loadA d L _ (acc_off hw hl 4 (by decide)) f) $$ HA; iintro %x ⟨%hx, HA⟩
  iapply (loadR d L _ _ (row_off k 15 (by decide) 64) R) $$ HR; iintro %u ⟨%hu, HR⟩
  iapply (skipA d L f) $$ HA; iintro HA
  iapply (storeA d L _ (acc_off hw hl 4 (by decide)) f) $$ HA; iintro %f' ⟨%hf', HA⟩
  replace P := part_step (r := 4) (by decide) he P hx hu hr hf'
  clear hx hu hf'; clear f; rename' f' => f
  iapply (loadA d L _ (acc_off hw hl 5 (by decide)) f) $$ HA; iintro %x ⟨%hx, HA⟩
  iapply (loadR d L _ _ (row_off k 15 (by decide) 80) R) $$ HR; iintro %u ⟨%hu, HR⟩
  iapply (skipA d L f) $$ HA; iintro HA
  iapply (storeA d L _ (acc_off hw hl 5 (by decide)) f) $$ HA; iintro %f' ⟨%hf', HA⟩
  replace P := part_step (r := 5) (by decide) he P hx hu hr hf'
  clear hx hu hf'; clear f; rename' f' => f
  iapply (loadA d L _ (acc_off hw hl 6 (by decide)) f) $$ HA; iintro %x ⟨%hx, HA⟩
  iapply (loadR d L _ _ (row_off k 15 (by decide) 96) R) $$ HR; iintro %u ⟨%hu, HR⟩
  iapply (skipA d L f) $$ HA; iintro HA
  iapply (storeA d L _ (acc_off hw hl 6 (by decide)) f) $$ HA; iintro %f' ⟨%hf', HA⟩
  replace P := part_step (r := 6) (by decide) he P hx hu hr hf'
  clear hx hu hf'; clear f; rename' f' => f
  iapply (loadA d L _ (acc_off hw hl 7 (by decide)) f) $$ HA; iintro %x ⟨%hx, HA⟩
  iapply (loadR d L _ _ (row_off k 15 (by decide) 112) R) $$ HR; iintro %u ⟨%hu, HR⟩
  iapply (skipA d L f) $$ HA; iintro HA
  iapply (storeA d L _ (acc_off hw hl 7 (by decide)) f) $$ HA; iintro %f' ⟨%hf', HA⟩
  replace P := part_step (r := 7) (by decide) he P hx hu hr hf'
  clear hx hu hf'; clear f; rename' f' => f
  ihave HA := (Entails.of_eq (congrArg (atA d L) (show f = (accG loc row (b + (16 * k.val + 16))) from part_full P))) $$ HA
  clear P hw hl hr he; clear f
  rw [wp_ret]; imodintro
  iapply Hk
  isplitl [HY]; · iexact HY
  isplitl [HR]; · iexact HR
  iexact HA

end Cert.Proof.Bucket

end
-- ==== Proof.BucketLoops.lean ====
/-
  The loops of the bucketing call on one tile: the blocks written out, the chunks, and the whole body.
-/
module

public import proofs.«01_k».proof.Proof.Bucket

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

/-- What the tile owes, with the waits it has recorded since `W`. -/
abbrev Owed (O : CellTallies nD τ sig (HIx 2)) (W : Waits sig (HIx 2)) : sProp 𝕄 :=
  iprop(∃ W' : Waits sig (HIx 2), ⌜∀ p ∈ W', p ∈ W ∨ p.2 = none⌝ ∗ owes (thr d L) O W')

/-- One trip of the loop that writes full blocks out: block `k` of both staging buffers goes to its place in the two lists. -/
theorem t3_body (t : Fin k0_t1_loop.trips) (a13 v1 v2 v3 gv v : BitVec 32) (v4 : IVec S16 32) (hchk : k0_chk2 L gv v) (k : Fin (k0_t3_loop v).trips) (hk : k.val < 10000)
    (gc : ℕ) (hgv : gv = BitVec.ofNat 32 gc) (hgc : gc ≤ 320000) (hin : gc + 128 * k.val + 128 ≤ 320128)
    (fM : Buf (Elt F) ((thr d L).loc cc0_scratch1)) (fL : Buf (Elt F) ((thr d L).loc cc0_scratch2))
    (fI : Buf (Elt F) (iLoc d L)) (fJ : Buf (Elt F) (lLoc d L)) (O : CellTallies nD τ sig (HIx 2)) (W : Waits sig (HIx 2)) :
    (iprop(atM d L fM ∗ atL d L fL ∗ atI d L (wid L) fI ∗ atJ d L (wid L) fJ ∗ semVal (thr d L, .dma cc0_scoped1.sem) 0 ∗ semVal (thr d L, .dma cc0_scoped2.sem) 0
        ∗ Owed d L O W ∗ Transfers.MayWaits (thr d L) (default : HIx 2) O) : sProp 𝕄)
      ⊢ wp frame (wpE (defs₀ (F := F)) 𝒱₀ (thr d L) none) Set.univ
          (k0_t3_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v2 v3 v4 0#32 1#32 t gv a13 v hchk k ())
          fun _ => iprop(atM d L fM ∗ atL d L fL ∗ (∃ uI uJ, atI d L (wid L) uI ∗ atJ d L (wid L) uJ
            ∗ ⌜Copied (128 * k.val) (wid L * 320128 + gc + 128 * k.val) fM fI uI ∧ Copied (128 * k.val) (wid L * 320128 + gc + 128 * k.val) fL fJ uJ⌝)
            ∗ semVal (thr d L, .dma cc0_scoped1.sem) 0 ∗ semVal (thr d L, .dma cc0_scoped2.sem) 0 ∗ Owed d L O W) := by
  subst hgv
  have hw := wid_lt L
  have e3 := off3_eq v k hk
  have e4 := off4_eq (i := L) (g := gc) v k hk (by omega)
  have hsub : ∀ j : S10244096.Idx, j ∈ (Rect.unit (s := S10244096) (k0_off4 L (BitVec.ofNat 32 gc) v k) S128.size (k0_off4_inb L (BitVec.ofNat 32 gc) v hchk k)).set → j ∈ reg (wid L) := fun j hj => by
    have h := unit1 (N := 10244096) _ _ _ j (wid L * 320128 + gc + 128 * k.val) 128 e4 rfl hj
    rw [mem_reg]
    exact ⟨by omega, by omega⟩
  unfold k0_t3_body
  simp only [Prog.lift, Prog.bind_op, Prog.bind_ret, Prog.pure_eq_ret, Prog.bind_assoc]
  iintro ⟨HM, HL, HI, HJ, H1, H2, ⟨%W1, %hW1, HO⟩, #Hmw⟩
  iapply (step_sync' (c := thr d L) (defs₀ (F := F)) (s := S128) (e := .i32) (O := O) (sem := cc0_scoped1.sem) (q := fullShare) (fs := fM) (Ss := Finset.univ) (Sd := reg (wid L)) (fd := fI)
    (src := (sM).slice (Rect.unit (s := S8336) (k0_off3 v k) S128.size (k0_off3_inb L (BitVec.ofNat 32 gc) v hchk k)) (fun _ => rfl))
    (dst := (gI).slice (Rect.unit (s := S10244096) (k0_off4 L (BitVec.ofNat 32 gc) v k) S128.size (k0_off4_inb L (BitVec.ofNat 32 gc) v hchk k)) (fun _ => rfl))
    _ rfl (View.amount_pos _ _ (show 0 < S128.numel by decide)) rfl (Finset.subset_univ _) (slice_sub _ _ _ _ hsub)) $$ [HM HI H1 HO]
  · isplitl [HM]; · iexact HM
    isplitl [HI]; · iexact HI
    isplitl [H1]; · iexact H1
    isplitl [HO]; · iexact HO
    iexact Hmw
  iintro ⟨HI, HM, H1, HO⟩
  iapply (step_sync' (c := thr d L) (defs₀ (F := F)) (s := S128) (e := .i32) (O := O) (sem := cc0_scoped2.sem) (q := fullShare) (fs := fL) (Ss := Finset.univ) (Sd := reg (wid L)) (fd := fJ)
    (src := (sL).slice (Rect.unit (s := S8336) (k0_off3 v k) S128.size (k0_off3_inb L (BitVec.ofNat 32 gc) v hchk k)) (fun _ => rfl))
    (dst := (gL).slice (Rect.unit (s := S10244096) (k0_off4 L (BitVec.ofNat 32 gc) v k) S128.size (k0_off4_inb L (BitVec.ofNat 32 gc) v hchk k)) (fun _ => rfl))
    _ rfl (View.amount_pos _ _ (show 0 < S128.numel by decide)) rfl (Finset.subset_univ _) (slice_sub _ _ _ _ hsub)) $$ [HL HJ H2 HO]
  · isplitl [HL]; · iexact HL
    isplitl [HJ]; · iexact HJ
    isplitl [H2]; · iexact H2
    isplitl [HO]; · iexact HO
    iexact Hmw
  iintro ⟨HJ, HL, H2, HO⟩
  rw [wp_ret]
  imodintro
  isplitl [HM]; · iexact HM
  isplitl [HL]; · iexact HL
  isplitl [HI HJ]
  · iexists _; iexists _
    isplitl [HI]; · iexact HI
    isplitl [HJ]; · iexact HJ
    ipureintro
    have hI := copiedI (F := F) d L (k0_off3 v k) (k0_off4 L (BitVec.ofNat 32 gc) v k) (k0_off3_inb L (BitVec.ofNat 32 gc) v hchk k) (k0_off4_inb L (BitVec.ofNat 32 gc) v hchk k) fM fI
    have hJ := copiedJ (F := F) d L (k0_off3 v k) (k0_off4 L (BitVec.ofNat 32 gc) v k) (k0_off3_inb L (BitVec.ofNat 32 gc) v hchk k) (k0_off4_inb L (BitVec.ofNat 32 gc) v hchk k) fL fJ
    have q3 : (k0_off3 v k) 0 = 128 * k.val := congrFun e3 0
    have q4 : (k0_off4 L (BitVec.ofNat 32 gc) v k) 0 = wid L * 320128 + gc + 128 * k.val := congrFun e4 0
    rw [q3, q4] at hI hJ
    exact ⟨hI, hJ⟩
  isplitl [H1]; · iexact H1
  isplitl [H2]; · iexact H2
  iexists _
  isplitr [HO]
  rotate_left
  · iexact HO
  ipureintro
  intro p hp
  rcases Finset.mem_insert.mp hp with rfl | hp
  · exact .inr rfl
  rcases Finset.mem_insert.mp hp with rfl | hp
  · exact .inr rfl
  exact hW1 p hp

/-- One trip of the loop that writes full blocks out: block `k` of both staging buffers goes to its place in the two lists. -/
theorem t5_body (v1 gv v : BitVec 32) (v4 : IVec S16 32) (v103 : Vec F S16 .i32) (hchk : k0_chk4 L v gv) (hchk3 : k0_chk3 v) (k : Fin (k0_t5_loop v).trips) (hk : k.val < 10000)
    (gc : ℕ) (hgv : gv = BitVec.ofNat 32 gc) (hgc : gc ≤ 320000) (hin : gc + 128 * k.val + 128 ≤ 320128)
    (fM : Buf (Elt F) ((thr d L).loc cc0_scratch1)) (fL : Buf (Elt F) ((thr d L).loc cc0_scratch2))
    (fI : Buf (Elt F) (iLoc d L)) (fJ : Buf (Elt F) (lLoc d L)) (O : CellTallies nD τ sig (HIx 2)) (W : Waits sig (HIx 2)) :
    (iprop(atM d L fM ∗ atL d L fL ∗ atI d L (wid L) fI ∗ atJ d L (wid L) fJ ∗ semVal (thr d L, .dma cc0_scoped5.sem) 0 ∗ semVal (thr d L, .dma cc0_scoped6.sem) 0
        ∗ Owed d L O W ∗ Transfers.MayWaits (thr d L) (default : HIx 2) O) : sProp 𝕄)
      ⊢ wp frame (wpE (defs₀ (F := F)) 𝒱₀ (thr d L) none) Set.univ
          (k0_t5_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v4 gv v hchk hchk3 v103 k ())
          fun _ => iprop(atM d L fM ∗ atL d L fL ∗ (∃ uI uJ, atI d L (wid L) uI ∗ atJ d L (wid L) uJ
            ∗ ⌜Copied (128 * k.val) (wid L * 320128 + gc + 128 * k.val) fM fI uI ∧ Copied (128 * k.val) (wid L * 320128 + gc + 128 * k.val) fL fJ uJ⌝)
            ∗ semVal (thr d L, .dma cc0_scoped5.sem) 0 ∗ semVal (thr d L, .dma cc0_scoped6.sem) 0 ∗ Owed d L O W) := by
  subst hgv
  have hw := wid_lt L
  have e3 := off8_eq v k hk
  have e4 := off9_eq (i := L) (g := gc) v k hk (by omega)
  have hsub : ∀ j : S10244096.Idx, j ∈ (Rect.unit (s := S10244096) (k0_off9 L v (BitVec.ofNat 32 gc) k) S128.size (k0_off9_inb L v (BitVec.ofNat 32 gc) hchk k)).set → j ∈ reg (wid L) := fun j hj => by
    have h := unit1 (N := 10244096) _ _ _ j (wid L * 320128 + gc + 128 * k.val) 128 e4 rfl hj
    rw [mem_reg]
    exact ⟨by omega, by omega⟩
  unfold k0_t5_body
  simp only [Prog.lift, Prog.bind_op, Prog.bind_ret, Prog.pure_eq_ret, Prog.bind_assoc]
  iintro ⟨HM, HL, HI, HJ, H1, H2, ⟨%W1, %hW1, HO⟩, #Hmw⟩
  iapply (step_sync' (c := thr d L) (defs₀ (F := F)) (s := S128) (e := .i32) (O := O) (sem := cc0_scoped5.sem) (q := fullShare) (fs := fM) (Ss := Finset.univ) (Sd := reg (wid L)) (fd := fI)
    (src := (sM).slice (Rect.unit (s := S8336) (k0_off8 v k) S128.size (k0_off8_inb v hchk3 k)) (fun _ => rfl))
    (dst := (gI).slice (Rect.unit (s := S10244096) (k0_off9 L v (BitVec.ofNat 32 gc) k) S128.size (k0_off9_inb L v (BitVec.ofNat 32 gc) hchk k)) (fun _ => rfl))
    _ rfl (View.amount_pos _ _ (show 0 < S128.numel by decide)) rfl (Finset.subset_univ _) (slice_sub _ _ _ _ hsub)) $$ [HM HI H1 HO]
  · isplitl [HM]; · iexact HM
    isplitl [HI]; · iexact HI
    isplitl [H1]; · iexact H1
    isplitl [HO]; · iexact HO
    iexact Hmw
  iintro ⟨HI, HM, H1, HO⟩
  iapply (step_sync' (c := thr d L) (defs₀ (F := F)) (s := S128) (e := .i32) (O := O) (sem := cc0_scoped6.sem) (q := fullShare) (fs := fL) (Ss := Finset.univ) (Sd := reg (wid L)) (fd := fJ)
    (src := (sL).slice (Rect.unit (s := S8336) (k0_off8 v k) S128.size (k0_off8_inb v hchk3 k)) (fun _ => rfl))
    (dst := (gL).slice (Rect.unit (s := S10244096) (k0_off9 L v (BitVec.ofNat 32 gc) k) S128.size (k0_off9_inb L v (BitVec.ofNat 32 gc) hchk k)) (fun _ => rfl))
    _ rfl (View.amount_pos _ _ (show 0 < S128.numel by decide)) rfl (Finset.subset_univ _) (slice_sub _ _ _ _ hsub)) $$ [HL HJ H2 HO]
  · isplitl [HL]; · iexact HL
    isplitl [HJ]; · iexact HJ
    isplitl [H2]; · iexact H2
    isplitl [HO]; · iexact HO
    iexact Hmw
  iintro ⟨HJ, HL, H2, HO⟩
  rw [wp_ret]
  imodintro
  isplitl [HM]; · iexact HM
  isplitl [HL]; · iexact HL
  isplitl [HI HJ]
  · iexists _; iexists _
    isplitl [HI]; · iexact HI
    isplitl [HJ]; · iexact HJ
    ipureintro
    have hI := copiedI (F := F) d L (k0_off8 v k) (k0_off9 L v (BitVec.ofNat 32 gc) k) (k0_off8_inb v hchk3 k) (k0_off9_inb L v (BitVec.ofNat 32 gc) hchk k) fM fI
    have hJ := copiedJ (F := F) d L (k0_off8 v k) (k0_off9 L v (BitVec.ofNat 32 gc) k) (k0_off8_inb v hchk3 k) (k0_off9_inb L v (BitVec.ofNat 32 gc) hchk k) fL fJ
    have q3 : (k0_off8 v k) 0 = 128 * k.val := congrFun e3 0
    have q4 : (k0_off9 L v (BitVec.ofNat 32 gc) k) 0 = wid L * 320128 + gc + 128 * k.val := congrFun e4 0
    rw [q3, q4] at hI hJ
    exact ⟨hI, hJ⟩
  isplitl [H1]; · iexact H1
  isplitl [H2]; · iexact H2
  iexists _
  isplitr [HO]
  rotate_left
  · iexact HO
  ipureintro
  intro p hp
  rcases Finset.mem_insert.mp hp with rfl | hp
  · exact .inr rfl
  rcases Finset.mem_insert.mp hp with rfl | hp
  · exact .inr rfl
  exact hW1 p hp

end Cert.Proof.Bucket

end
-- ==== Proof.BucketMoves.lean ====
/-
  The register moves of the bucketing call inside its two staging buffers.
-/
module

public import proofs.«01_k».proof.Proof.Bucket

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

theorem loadM {α : Type} {Q : α → sProp 𝕄} {off : Fin 1 → ℕ} {inb : ∀ a, off a + S16.size a ≤ S8336.size a}
    {hl : (sM).view.LoadsAt (Rect.unit (s := S8336) off S16.size inb).toLoadRect}
    {k : Vec F S16 .i32 → Prog (TpuEff nD τ sig (Elt F) Λ₀ (.scVector (cV L) (jV L))) α} (o : ℕ) (ho : off = ![o])
    (g : Buf (Elt F) ((thr d L).loc cc0_scratch1)) :
    (atM d L g : sProp 𝕄)
      ⊢ iprop((∀ v, iprop(⌜Rd (N := 8336) o v g⌝ ∗ atM d L g) -∗ wp frame (wpE (defs₀ (F := F)) 𝒱₀ (thr d L) none) Set.univ (k v) Q)
        -∗ wp frame (wpE (defs₀ (F := F)) 𝒱₀ (thr d L) none) Set.univ (.op (.load sM (Rect.unit (s := S8336) off S16.size inb).toLoadRect hl) k) Q) := by
  iintro H Hk
  iapply (wp_load_rect 𝒱₀ (thr d L) none Set.univ (m := sM) (r := Rect.unit (s := S8336) off S16.size inb) (S := Finset.univ) (q := fullShare) (f := g) (Finset.subset_univ _)) $$ H; iintro H
  iapply Hk $$ %(((sM).access (Rect.unit (s := S8336) off S16.size inb)).read (Elt F) g)
  isplitr [H]
  · ipureintro
    intro j i hj
    have e : j = (Rect.unit (s := S8336) off S16.size inb).emb i := ext1 (by
      rw [hj]; exact ((emb1 (N := 8336) off S16.size inb i).trans (congrArg (· + (i 0).val) (congrFun ho 0))).symm)
    rw [e]; rfl
  iexact H

theorem storeM {α : Type} {Q : α → sProp 𝕄} {off : Fin 1 → ℕ} {inb : ∀ a, off a + S16.size a ≤ S8336.size a} {v : Vec F S16 .i32}
    {hl : ((sM).access (Rect.unit (s := S8336) off S16.size inb)).Stores Finset.univ}
    {hm : (Finset.univ : Finset (Rect.unit (s := S8336) off S16.size inb).shape.Idx) = Finset.univ ∨ ∀ a, (Rect.unit (s := S8336) off S16.size inb).stride a = 1}
    {k : PUnit → Prog (TpuEff nD τ sig (Elt F) Λ₀ (.scVector (cV L) (jV L))) α} (o : ℕ) (ho : off = ![o])
    (g : Buf (Elt F) ((thr d L).loc cc0_scratch1)) :
    (atM d L g : sProp 𝕄)
      ⊢ iprop((∀ g', iprop(⌜Wr (N := 8336) o v g g'⌝ ∗ atM d L g') -∗ wp frame (wpE (defs₀ (F := F)) 𝒱₀ (thr d L) none) Set.univ (k ⟨⟩) Q)
        -∗ wp frame (wpE (defs₀ (F := F)) 𝒱₀ (thr d L) none) Set.univ (.op (.store sM (Rect.unit (s := S8336) off S16.size inb) v Finset.univ hl hm) k) Q) := by
  iintro H Hk
  iapply (wp_store 𝒱₀ (thr d L) none Set.univ (m := sM) (r := Rect.unit (s := S8336) off S16.size inb) (S := Finset.univ) (f := g) (Finset.subset_univ _)) $$ H; iintro H
  iapply Hk $$ %(((sM).access (Rect.unit (s := S8336) off S16.size inb)).write (Elt F) g v Finset.univ)
  isplitr [H]
  · ipureintro
    refine ⟨fun j i hj => ?_, fun j hj => ?_⟩
    · have e : j = (Rect.unit (s := S8336) off S16.size inb).emb i := ext1 (by
        rw [hj]; exact ((emb1 (N := 8336) off S16.size inb i).trans (congrArg (· + (i 0).val) (congrFun ho 0))).symm)
      rw [e]
      exact wr_in (F := F) cc0_scratch1 (Rect.unit (s := S8336) off S16.size inb) g v i
    · refine wr_out (F := F) cc0_scratch1 (Rect.unit (s := S8336) off S16.size inb) g v j fun hm => ?_
      have := unit1 (N := 8336) _ _ _ j o 16 ho rfl hm
      omega
  iexact H

theorem loadL {α : Type} {Q : α → sProp 𝕄} {off : Fin 1 → ℕ} {inb : ∀ a, off a + S16.size a ≤ S8336.size a}
    {hl : (sL).view.LoadsAt (Rect.unit (s := S8336) off S16.size inb).toLoadRect}
    {k : Vec F S16 .i32 → Prog (TpuEff nD τ sig (Elt F) Λ₀ (.scVector (cV L) (jV L))) α} (o : ℕ) (ho : off = ![o])
    (g : Buf (Elt F) ((thr d L).loc cc0_scratch2)) :
    (atL d L g : sProp 𝕄)
      ⊢ iprop((∀ v, iprop(⌜Rd (N := 8336) o v g⌝ ∗ atL d L g) -∗ wp frame (wpE (defs₀ (F := F)) 𝒱₀ (thr d L) none) Set.univ (k v) Q)
        -∗ wp frame (wpE (defs₀ (F := F)) 𝒱₀ (thr d L) none) Set.univ (.op (.load sL (Rect.unit (s := S8336) off S16.size inb).toLoadRect hl) k) Q) := by
  iintro H Hk
  iapply (wp_load_rect 𝒱₀ (thr d L) none Set.univ (m := sL) (r := Rect.unit (s := S8336) off S16.size inb) (S := Finset.univ) (q := fullShare) (f := g) (Finset.subset_univ _)) $$ H; iintro H
  iapply Hk $$ %(((sL).access (Rect.unit (s := S8336) off S16.size inb)).read (Elt F) g)
  isplitr [H]
  · ipureintro
    intro j i hj
    have e : j = (Rect.unit (s := S8336) off S16.size inb).emb i := ext1 (by
      rw [hj]; exact ((emb1 (N := 8336) off S16.size inb i).trans (congrArg (· + (i 0).val) (congrFun ho 0))).symm)
    rw [e]; rfl
  iexact H

theorem storeL {α : Type} {Q : α → sProp 𝕄} {off : Fin 1 → ℕ} {inb : ∀ a, off a + S16.size a ≤ S8336.size a} {v : Vec F S16 .i32}
    {hl : ((sL).access (Rect.unit (s := S8336) off S16.size inb)).Stores Finset.univ}
    {hm : (Finset.univ : Finset (Rect.unit (s := S8336) off S16.size inb).shape.Idx) = Finset.univ ∨ ∀ a, (Rect.unit (s := S8336) off S16.size inb).stride a = 1}
    {k : PUnit → Prog (TpuEff nD τ sig (Elt F) Λ₀ (.scVector (cV L) (jV L))) α} (o : ℕ) (ho : off = ![o])
    (g : Buf (Elt F) ((thr d L).loc cc0_scratch2)) :
    (atL d L g : sProp 𝕄)
      ⊢ iprop((∀ g', iprop(⌜Wr (N := 8336) o v g g'⌝ ∗ atL d L g') -∗ wp frame (wpE (defs₀ (F := F)) 𝒱₀ (thr d L) none) Set.univ (k ⟨⟩) Q)
        -∗ wp frame (wpE (defs₀ (F := F)) 𝒱₀ (thr d L) none) Set.univ (.op (.store sL (Rect.unit (s := S8336) off S16.size inb) v Finset.univ hl hm) k) Q) := by
  iintro H Hk
  iapply (wp_store 𝒱₀ (thr d L) none Set.univ (m := sL) (r := Rect.unit (s := S8336) off S16.size inb) (S := Finset.univ) (f := g) (Finset.subset_univ _)) $$ H; iintro H
  iapply Hk $$ %(((sL).access (Rect.unit (s := S8336) off S16.size inb)).write (Elt F) g v Finset.univ)
  isplitr [H]
  · ipureintro
    refine ⟨fun j i hj => ?_, fun j hj => ?_⟩
    · have e : j = (Rect.unit (s := S8336) off S16.size inb).emb i := ext1 (by
        rw [hj]; exact ((emb1 (N := 8336) off S16.size inb i).trans (congrArg (· + (i 0).val) (congrFun ho 0))).symm)
      rw [e]
      exact wr_in (F := F) cc0_scratch2 (Rect.unit (s := S8336) off S16.size inb) g v i
    · refine wr_out (F := F) cc0_scratch2 (Rect.unit (s := S8336) off S16.size inb) g v j fun hm => ?_
      have := unit1 (N := 8336) _ _ _ j o 16 ho rfl hm
      omega
  iexact H

/-! ## Moving the unfinished block to the front -/

/-- `g` is `f` with the `16 k` words from `fl` on put at the front. -/
def Moved (fl k : ℕ) (f g : S8336.Idx → BitVec 32) : Prop :=
  ∀ j i : S8336.Idx, ((j 0).val < 16 * k → (i 0).val = fl + (j 0).val → g j = f i) ∧ (16 * k ≤ (j 0).val → g j = f j)

theorem moved_zero (fl : ℕ) (f : S8336.Idx → BitVec 32) : Moved fl 0 f f := fun j i => ⟨fun h => absurd h (by omega), fun _ => rfl⟩

/-- The words read at `fl + 16 k` are still those of `f`. -/
theorem moved_read (fl k : ℕ) (hfl : 128 ∣ fl) (hk : k < 8) (hfl' : fl ≤ 8128) (f g : S8336.Idx → BitVec 32) (hm : Moved fl k f g) (v : S16.Idx → BitVec 32)
    (hv : Rd (N := 8336) (fl + 16 * k) v g) : Rd (N := 8336) (fl + 16 * k) v f := fun j i hj => by
  rw [hv j i hj]
  have := (i 0).isLt
  refine (hm j j).2 ?_
  rcases Nat.eq_zero_or_pos fl with h | h
  · omega
  · have := Nat.le_of_dvd h hfl; omega

theorem moved_write (fl k : ℕ) (f g g' : S8336.Idx → BitVec 32) (hm : Moved fl k f g) (v : S16.Idx → BitVec 32)
    (hv : Rd (N := 8336) (fl + 16 * k) v f) (hw : Wr (N := 8336) (16 * k) v g g') : Moved fl (k + 1) f g' := fun j i => by
  refine ⟨fun h hi => ?_, fun h => ?_⟩
  · by_cases h' : (j 0).val < 16 * k
    · rw [hw.out j (.inl h')]; exact (hm j i).1 h' hi
    · obtain ⟨r, hr⟩ : ∃ r, r = (j 0).val - 16 * k := ⟨_, rfl⟩
      have hl : r < 16 := by omega
      have e1 : (j 0).val = 16 * k + (at1 (N := 16) r hl 0).val := by show _ = 16 * k + r; omega
      have e2 : (i 0).val = fl + 16 * k + (at1 (N := 16) r hl 0).val := by show _ = fl + 16 * k + r; omega
      rw [hw.inn j (at1 r hl) e1]
      exact hv i (at1 r hl) e2
  · rw [hw.out j (.inr (by omega))]; exact (hm j j).2 (by omega)

section Quad
/-- The second half of a move of sixteen words in both buffers: the first buffer's words `v` have been read. -/
theorem quad' {α : Type} {Q : α → sProp 𝕄} {off off' : Fin 1 → ℕ} {inb : ∀ a, off a + S16.size a ≤ S8336.size a} {inb' : ∀ a, off' a + S16.size a ≤ S8336.size a}
  {h1 : (sL).view.LoadsAt (Rect.unit (s := S8336) off S16.size inb).toLoadRect}
  {h2 : (sM).view.LoadsAt (Rect.unit (s := S8336) off' S16.size inb').toLoadRect}
  {h3 : ((sM).access (Rect.unit (s := S8336) off' S16.size inb')).Stores Finset.univ}
  {h3' : (Finset.univ : Finset (Rect.unit (s := S8336) off' S16.size inb').shape.Idx) = Finset.univ ∨ ∀ a, (Rect.unit (s := S8336) off' S16.size inb').stride a = 1}
  {h4 : (sL).view.LoadsAt (Rect.unit (s := S8336) off' S16.size inb').toLoadRect}
  {h5 : ((sL).access (Rect.unit (s := S8336) off' S16.size inb')).Stores Finset.univ}
  {h5' : (Finset.univ : Finset (Rect.unit (s := S8336) off' S16.size inb').shape.Idx) = Finset.univ ∨ ∀ a, (Rect.unit (s := S8336) off' S16.size inb').stride a = 1}
  {kk : PUnit → Prog (TpuEff nD τ sig (Elt F) Λ₀ (.scVector (cV L) (jV L))) α}
    (fl k : ℕ) (hfl : 128 ∣ fl) (hfl' : fl ≤ 8128) (hk : k < 8) (ho : off = ![fl + 16 * k]) (ho' : off' = ![16 * k]) (v : Vec F S16 .i32)
    (fM gM' : Buf (Elt F) ((thr d L).loc cc0_scratch1)) (fL gL' : Buf (Elt F) ((thr d L).loc cc0_scratch2)) (hv : Rd (N := 8336) (fl + 16 * k) v fM)
    (hM : Moved fl k fM gM') (hL : Moved fl k fL gL') :
    (iprop(atM d L gM' ∗ atL d L gL') : sProp 𝕄)
      ⊢ iprop((∀ gM'' gL'', iprop(⌜Moved fl (k + 1) fM gM'' ∧ Moved fl (k + 1) fL gL''⌝ ∗ atM d L gM'' ∗ atL d L gL'')
          -∗ wp frame (wpE (defs₀ (F := F)) 𝒱₀ (thr d L) none) Set.univ (kk ⟨⟩) Q)
        -∗ wp frame (wpE (defs₀ (F := F)) 𝒱₀ (thr d L) none) Set.univ
          (.op (.load sL (Rect.unit (s := S8336) off S16.size inb).toLoadRect h1) fun w =>
            .op (.load sM (Rect.unit (s := S8336) off' S16.size inb').toLoadRect h2) fun _ =>
            .op (.store sM (Rect.unit (s := S8336) off' S16.size inb') v Finset.univ h3 h3') fun _ =>
            .op (.load sL (Rect.unit (s := S8336) off' S16.size inb').toLoadRect h4) fun _ =>
            .op (.store sL (Rect.unit (s := S8336) off' S16.size inb') w Finset.univ h5 h5') kk) Q) := by
  iintro ⟨HM, HL⟩ Hk
  iapply (loadL d L _ ho) $$ HL
  iintro %w ⟨%hw, HL⟩
  iapply (loadM d L _ ho') $$ HM
  iintro %u1 ⟨-, HM⟩
  iapply (storeM d L _ ho') $$ HM
  iintro %g1 ⟨%hq1, HM⟩
  iapply (loadL d L _ ho') $$ HL
  iintro %u2 ⟨-, HL⟩
  iapply (storeL d L _ ho') $$ HL
  iintro %g2 ⟨%hq2, HL⟩
  iapply Hk
  isplitr [HM HL]
  · ipureintro
    exact ⟨moved_write fl k _ _ _ hM v hv hq1, moved_write fl k _ _ _ hL w (moved_read fl k hfl hk hfl' _ _ hL w hw) hq2⟩
  isplitl [HM]; · iexact HM
  iexact HL

/-- A move of sixteen words in both buffers. -/
theorem quad {α : Type} {Q : α → sProp 𝕄} {off off' : Fin 1 → ℕ} {inb : ∀ a, off a + S16.size a ≤ S8336.size a} {inb' : ∀ a, off' a + S16.size a ≤ S8336.size a}
  {h1 : (sL).view.LoadsAt (Rect.unit (s := S8336) off S16.size inb).toLoadRect}
  {h2 : (sM).view.LoadsAt (Rect.unit (s := S8336) off' S16.size inb').toLoadRect}
  {h3 : ((sM).access (Rect.unit (s := S8336) off' S16.size inb')).Stores Finset.univ}
  {h3' : (Finset.univ : Finset (Rect.unit (s := S8336) off' S16.size inb').shape.Idx) = Finset.univ ∨ ∀ a, (Rect.unit (s := S8336) off' S16.size inb').stride a = 1}
  {h4 : (sL).view.LoadsAt (Rect.unit (s := S8336) off' S16.size inb').toLoadRect}
  {h5 : ((sL).access (Rect.unit (s := S8336) off' S16.size inb')).Stores Finset.univ}
  {h5' : (Finset.univ : Finset (Rect.unit (s := S8336) off' S16.size inb').shape.Idx) = Finset.univ ∨ ∀ a, (Rect.unit (s := S8336) off' S16.size inb').stride a = 1}
  {kk : PUnit → Prog (TpuEff nD τ sig (Elt F) Λ₀ (.scVector (cV L) (jV L))) α}
    {h0 : (sM).view.LoadsAt (Rect.unit (s := S8336) off S16.size inb).toLoadRect}
    (fl k : ℕ) (hfl : 128 ∣ fl) (hfl' : fl ≤ 8128) (hk : k < 8) (ho : off = ![fl + 16 * k]) (ho' : off' = ![16 * k])
    (fM gM' : Buf (Elt F) ((thr d L).loc cc0_scratch1)) (fL gL' : Buf (Elt F) ((thr d L).loc cc0_scratch2))
    (hM : Moved fl k fM gM') (hL : Moved fl k fL gL') :
    (iprop(atM d L gM' ∗ atL d L gL') : sProp 𝕄)
      ⊢ iprop((∀ gM'' gL'', iprop(⌜Moved fl (k + 1) fM gM'' ∧ Moved fl (k + 1) fL gL''⌝ ∗ atM d L gM'' ∗ atL d L gL'')
          -∗ wp frame (wpE (defs₀ (F := F)) 𝒱₀ (thr d L) none) Set.univ (kk ⟨⟩) Q)
        -∗ wp frame (wpE (defs₀ (F := F)) 𝒱₀ (thr d L) none) Set.univ
          (.op (.load sM (Rect.unit (s := S8336) off S16.size inb).toLoadRect h0) fun v =>
            .op (.load sL (Rect.unit (s := S8336) off S16.size inb).toLoadRect h1) fun w =>
            .op (.load sM (Rect.unit (s := S8336) off' S16.size inb').toLoadRect h2) fun _ =>
            .op (.store sM (Rect.unit (s := S8336) off' S16.size inb') v Finset.univ h3 h3') fun _ =>
            .op (.load sL (Rect.unit (s := S8336) off' S16.size inb').toLoadRect h4) fun _ =>
            .op (.store sL (Rect.unit (s := S8336) off' S16.size inb') w Finset.univ h5 h5') kk) Q) := by
  iintro ⟨HM, HL⟩ Hk
  iapply (loadM d L _ ho) $$ HM
  iintro %v ⟨%hv, HM⟩
  iapply (quad' d L fl k hfl hfl' hk ho ho' v fM gM' fL gL' (moved_read fl k hfl hk hfl' _ _ hM v hv) hM hL) $$ [HM HL]
  · isplitl [HM]; · iexact HM
    iexact HL
  iexact Hk

end Quad

end Cert.Proof.Bucket

end
-- ==== Proof.BucketChunk.lean ====
/-
  One chunk of the bucketing call on one tile.
-/
module

public import proofs.«01_k».proof.Proof.BucketLoops
public import proofs.«01_k».proof.Proof.BucketMoves

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords) (x : S320000.Idx → BitVec 32)

theorem shl_seven (n : ℕ) (h : n < 100000) : Scalar.shli (BitVec.ofNat 32 (n / 128)) 7#32 = BitVec.ofNat 32 (128 * (n / 128)) := by
  unfold Scalar.shli IntOp.shli
  rw [if_pos (by decide)]
  apply BitVec.eq_of_toNat_eq
  show ((BitVec.ofNat 32 (n / 128)) <<< 7).toNat = _
  rw [BitVec.toNat_shiftLeft, toNat_small (by omega), toNat_small (by omega), Nat.shiftLeft_eq, Nat.mod_eq_of_lt (by omega)]
  omega

theorem cnt_step (w n m : ℕ) : cnt x w n ≤ cnt x w (n + m) ∧ cnt x w (n + m) ≤ cnt x w n + m := by
  have h : cnt x w (n + m) = cnt x w n + Nat.count (fun k => hit x w (n + k)) m := Nat.count_add _ _ _
  have h' := Nat.count_le (p := fun k => hit x w (n + k)) (n := m)
  omega

/-- What the chunks' loop keeps besides the counts: the buffers, the lists, the semaphores at rest. -/
def Held (q : PosShare TreeShare) (fM : Buf (Elt F) ((thr d L).loc cc0_scratch1)) (fL : Buf (Elt F) ((thr d L).loc cc0_scratch2))
    (uI : Buf (Elt F) (iLoc d L)) (uJ : Buf (Elt F) (lLoc d L)) (O : CellTallies nD τ sig (HIx 2)) (W : Waits sig (HIx 2)) : sProp 𝕄 :=
  iprop(atM d L fM ∗ atL d L fL ∗ atI d L (wid L) uI ∗ atJ d L (wid L) uJ ∗ (dLoc d L ↦{q} x) ∗ (∃ fD, atD d L fD)
    ∗ semVal (thr d L, .dma cc0_scoped0.sem) 0 ∗ semVal (thr d L, .dma cc0_scoped1.sem) 0 ∗ semVal (thr d L, .dma cc0_scoped2.sem) 0 ∗ Owed d L O W)

/-- The full blocks of the staging buffers written out. -/
theorem t3_loop (t : Fin k0_t1_loop.trips) (a13 v1 v2 v3 : BitVec 32) (v4 : IVec S16 32) (gc n : ℕ) (hn : n ≤ 320000)
    (hdv : 128 ∣ gc) (hg : gc ≤ cnt x (wid L) n) (hl : cnt x (wid L) n - gc < 8128) (v gv : BitVec 32) (hv : v = BitVec.ofNat 32 (cnt x (wid L) n - gc))
    (hgv : gv = BitVec.ofNat 32 gc) (hchk : k0_chk2 L gv v)
    (fM : Buf (Elt F) ((thr d L).loc cc0_scratch1)) (fL : Buf (Elt F) ((thr d L).loc cc0_scratch2)) (hst : Staged x (wid L) gc n fM fL)
    (fI : Buf (Elt F) (iLoc d L)) (fJ : Buf (Elt F) (lLoc d L)) (hout : Out x (wid L) gc fI fJ)
    (O : CellTallies nD τ sig (HIx 2)) (W : Waits sig (HIx 2)) {β : Type} {Q : β → sProp 𝕄}
    {kk : PUnit → Prog (TpuEff nD τ sig (Elt F) Λ₀ (.scVector (cV L) (jV L))) β} :
    (iprop(atM d L fM ∗ atL d L fL ∗ atI d L (wid L) fI ∗ atJ d L (wid L) fJ ∗ semVal (thr d L, .dma cc0_scoped1.sem) 0 ∗ semVal (thr d L, .dma cc0_scoped2.sem) 0
        ∗ Owed d L O W ∗ Transfers.MayWaits (thr d L) (default : HIx 2) O) : sProp 𝕄)
      ⊢ iprop((∀ uI uJ, iprop(⌜Out x (wid L) (gc + 128 * ((cnt x (wid L) n - gc) / 128)) uI uJ⌝ ∗ atM d L fM ∗ atL d L fL ∗ atI d L (wid L) uI ∗ atJ d L (wid L) uJ
            ∗ semVal (thr d L, .dma cc0_scoped1.sem) 0 ∗ semVal (thr d L, .dma cc0_scoped2.sem) 0 ∗ Owed d L O W)
          -∗ wp frame (wpE (defs₀ (F := F)) 𝒱₀ (thr d L) none) Set.univ (kk ⟨⟩) Q)
        -∗ wp frame (wpE (defs₀ (F := F)) 𝒱₀ (thr d L) none) Set.univ
          (Scf.Loop.for (k0_t3_loop v) (k0_t3_ok L gv v hchk) ⟨⟩ (k0_t3_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v2 v3 v4 0#32 1#32 t gv a13 v hchk) >>= kk) Q) := by
  have hw := wid_lt L
  have hc := (cnt_le x (wid L) n)
  have htr : (k0_t3_loop v).trips = (cnt x (wid L) n - gc) / 128 := by rw [hv]; exact t3_trips (by omega)
  iintro ⟨HM, HL, HI, HJ, H1, H2, HO, #Hmw⟩ Hk
  iapply (Scf.wp_for_bind frame (wpE (defs₀ (F := F)) 𝒱₀ (thr d L) none) Set.univ _ _ _ _ _ _
    (fun k (_ : PUnit) => iprop(∃ uI uJ, ⌜Out x (wid L) (gc + 128 * k) uI uJ⌝ ∗ atM d L fM ∗ atL d L fL ∗ atI d L (wid L) uI ∗ atJ d L (wid L) uJ
            ∗ semVal (thr d L, .dma cc0_scoped1.sem) 0 ∗ semVal (thr d L, .dma cc0_scoped2.sem) 0 ∗ Owed d L O W
            ∗ Transfers.MayWaits (thr d L) (default : HIx 2) O)) ?_) $$ [HM HL HI HJ H1 H2 HO]
  · iintro %k %_ ⟨%uI, %uJ, %ho, HM, HL, HI, HJ, H1, H2, HO, #Hmw⟩
    have hk : k.val < (cnt x (wid L) n - gc) / 128 := lt_of_lt_of_eq k.isLt htr
    iapply (wp_wand frame _ Set.univ) $$ [HM HL HI HJ H1 H2 HO]
    · iapply (t3_body d L t a13 v1 v2 v3 gv v v4 hchk k (by omega) gc hgv (by omega) (by omega) fM fL uI uJ O W)
      isplitl [HM]; · iexact HM
      isplitl [HL]; · iexact HL
      isplitl [HI]; · iexact HI
      isplitl [HJ]; · iexact HJ
      isplitl [H1]; · iexact H1
      isplitl [H2]; · iexact H2
      isplitl [HO]; · iexact HO
      iexact Hmw
    iintro %_ ⟨HM, HL, ⟨%u1, %u2, HI, HJ, %hcp⟩, H1, H2, HO⟩
    iexists u1; iexists u2
    isplitr [HM HL HI HJ H1 H2 HO]
    · ipureintro
      exact out_step x (wid L) gc n k.val hn (by omega) hw fM fL hst (by omega) uI uJ u1 u2 ho hcp.1 hcp.2
    isplitl [HM]; · iexact HM
    isplitl [HL]; · iexact HL
    isplitl [HI]; · iexact HI
    isplitl [HJ]; · iexact HJ
    isplitl [H1]; · iexact H1
    isplitl [H2]; · iexact H2
    isplitl [HO]; · iexact HO
    iexact Hmw
  · iexists fI; iexists fJ
    isplitr [HM HL HI HJ H1 H2 HO]
    · ipureintro; exact hout
    isplitl [HM]; · iexact HM
    isplitl [HL]; · iexact HL
    isplitl [HI]; · iexact HI
    isplitl [HJ]; · iexact HJ
    isplitl [H1]; · iexact H1
    isplitl [H2]; · iexact H2
    isplitl [HO]; · iexact HO
    iexact Hmw
  · iintro %_ ⟨%uI, %uJ, %ho, HM, HL, HI, HJ, H1, H2, HO, -⟩
    iapply Hk
    isplitr [HM HL HI HJ H1 H2 HO]
    · ipureintro
      rw [← htr]; exact ho
    isplitl [HM]; · iexact HM
    isplitl [HL]; · iexact HL
    isplitl [HI]; · iexact HI
    isplitl [HJ]; · iexact HJ
    isplitl [H1]; · iexact H1
    isplitl [H2]; · iexact H2
    iexact HO

/-- The scan of one chunk. -/
theorem t2_loop (t : Fin k0_t1_loop.trips) (a12 a13 v1 v2 v3 : BitVec 32) (v4 : IVec S16 32) (hv4 : ∀ i, v4 i = BitVec.ofNat 32 (i 0).val)
    (hv2 : v2 = BitVec.ofNat 32 (320 * wid L)) (hv3 : v3 = BitVec.ofNat 32 (320 * wid L + 320)) (gc : ℕ)
    (hg : gc ≤ cnt x (wid L) (8000 * t.val)) (hl : cnt x (wid L) (8000 * t.val) - gc < 128) (ha : a13 = BitVec.ofNat 32 (cnt x (wid L) (8000 * t.val) - gc))
    (fD : Buf (Elt F) ((thr d L).loc cc0_scratch0)) (hD : ∀ j : S8000.Idx, fD j = dN x (8000 * t.val + (j 0).val))
    (fM : Buf (Elt F) ((thr d L).loc cc0_scratch1)) (fL : Buf (Elt F) ((thr d L).loc cc0_scratch2)) (hst : Staged x (wid L) gc (8000 * t.val) fM fL)
    {β : Type} {Q : β → sProp 𝕄} {kk : BitVec 32 → Prog (TpuEff nD τ sig (Elt F) Λ₀ (.scVector (cV L) (jV L))) β} :
    (iprop(atD d L fD ∗ atM d L fM ∗ atL d L fL) : sProp 𝕄)
      ⊢ iprop((∀ v gM' gL', iprop(⌜Staged x (wid L) gc (8000 * t.val + 8000) gM' gL' ∧ v = BitVec.ofNat 32 (cnt x (wid L) (8000 * t.val + 8000) - gc)⌝
            ∗ atD d L fD ∗ atM d L gM' ∗ atL d L gL') -∗ wp frame (wpE (defs₀ (F := F)) 𝒱₀ (thr d L) none) Set.univ (kk v) Q)
        -∗ wp frame (wpE (defs₀ (F := F)) 𝒱₀ (thr d L) none) Set.univ
          (Scf.Loop.for k0_t2_loop k0_t2_ok a13 (k0_t2_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v2 v3 v4 0#32 1#32 t a12 a13) >>= kk) Q) := by
  have hw := wid_lt L
  have htr : k0_t2_loop.trips = 500 := trips_zero_one (n := 500) (by decide)
  subst hv2 hv3
  iintro ⟨HD, HM, HL⟩ Hk
  iapply (Scf.wp_for_bind frame (wpE (defs₀ (F := F)) 𝒱₀ (thr d L) none) Set.univ _ _ _ _ _ _
    (fun k (v : BitVec 32) => iprop(∃ gM' gL', ⌜Staged x (wid L) gc (8000 * t.val + 16 * k) gM' gL' ∧ v = BitVec.ofNat 32 (cnt x (wid L) (8000 * t.val + 16 * k) - gc)⌝
            ∗ atD d L fD ∗ atM d L gM' ∗ atL d L gL')) ?_) $$ [HD HM HL]
  · iintro %k %v ⟨%uM, %uL, %hp, HD, HM, HL⟩
    have hk : k.val < 500 := lt_of_lt_of_eq k.isLt htr
    have hc := cnt_step x (wid L) (8000 * t.val) (16 * k.val)
    obtain ⟨hp1, rfl⟩ := hp
    iapply (wp_wand frame _ Set.univ) $$ [HD HM HL]
    · iapply (t2_body d L x (wid L) gc hw t k a12 a13 v1 v4 hv4 (8000 * t.val + 16 * k.val) rfl (by omega) (by omega) fD hD uM uL hp1)
      isplitl [HD]; · iexact HD
      isplitl [HM]; · iexact HM
      iexact HL
    iintro %r ⟨HD, %u1, %u2, HM, HL, %hq⟩
    iexists u1; iexists u2
    isplitr [HM HL HD]
    · ipureintro
      rw [show 8000 * t.val + 16 * (k.val + 1) = 8000 * t.val + 16 * k.val + 16 by omega]; exact hq
    isplitl [HD]; · iexact HD
    isplitl [HM]; · iexact HM
    iexact HL
  · iexists fM; iexists fL
    isplitr [HM HL HD]
    · ipureintro; exact ⟨hst, ha⟩
    isplitl [HD]; · iexact HD
    isplitl [HM]; · iexact HM
    iexact HL
  · iintro %v ⟨%uM, %uL, %hp, HD, HM, HL⟩
    iapply Hk
    isplitr [HM HL HD]
    · ipureintro
      rw [show Scf.trips k0_t2_loop.lb k0_t2_loop.ub k0_t2_loop.st = 500 from htr] at hp
      exact hp
    isplitl [HD]; · iexact HD
    isplitl [HM]; · iexact HM
    iexact HL

/-- The first half of a chunk: it is brought in, scanned, its full blocks are written out and the move to the front begins. -/
theorem part1_spec (t : Fin k0_t1_loop.trips) (a12 a13 v1 v2 v3 : BitVec 32) (v4 : IVec S16 32) (hv4 : ∀ i, v4 i = BitVec.ofNat 32 (i 0).val)
    (hv2 : v2 = BitVec.ofNat 32 (320 * wid L)) (hv3 : v3 = BitVec.ofNat 32 (320 * wid L + 320)) (gc : ℕ) (hdv : 128 ∣ gc)
    (hg : gc ≤ cnt x (wid L) (8000 * t.val)) (hl : cnt x (wid L) (8000 * t.val) - gc < 128) (ha : a13 = BitVec.ofNat 32 (cnt x (wid L) (8000 * t.val) - gc))
    (hgv : a12 = BitVec.ofNat 32 gc) (lc : ℕ) (hlc : lc = cnt x (wid L) (8000 * t.val + 8000) - gc) (q : PosShare TreeShare)
    (fD : Buf (Elt F) ((thr d L).loc cc0_scratch0))
    (fM : Buf (Elt F) ((thr d L).loc cc0_scratch1)) (fL : Buf (Elt F) ((thr d L).loc cc0_scratch2)) (hst : Staged x (wid L) gc (8000 * t.val) fM fL)
    (fI : Buf (Elt F) (iLoc d L)) (fJ : Buf (Elt F) (lLoc d L)) (hout : Out x (wid L) gc fI fJ)
    (O : CellTallies nD τ sig (HIx 2)) (W : Waits sig (HIx 2)) :
    (iprop((dLoc d L ↦{q} (x : Buf (Elt F) (dLoc d L))) ∗ atD d L fD ∗ atM d L fM ∗ atL d L fL ∗ atI d L (wid L) fI ∗ atJ d L (wid L) fJ ∗ semVal (thr d L, .dma cc0_scoped0.sem) 0
        ∗ semVal (thr d L, .dma cc0_scoped1.sem) 0 ∗ semVal (thr d L, .dma cc0_scoped2.sem) 0
        ∗ Owed d L O W ∗ Transfers.MayWaits (thr d L) (default : HIx 2) O) : sProp 𝕄)
      ⊢ wp frame (wpE (defs₀ (F := F)) 𝒱₀ (thr d L) none) Set.univ
          (k0_part1 L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v2 v3 v4 0#32 1#32 t a12 a13)
          fun r => iprop(∃ hM hL gM' gL' uI uJ,
            ⌜Staged x (wid L) gc (8000 * t.val + 8000) hM hL ∧ Moved (128 * (lc / 128)) 1 hM gM' ∧ Moved (128 * (lc / 128)) 1 hL gL'
              ∧ Out x (wid L) (gc + 128 * (lc / 128)) uI uJ ∧ r.1 = BitVec.ofNat 32 lc ∧ r.2.2.1 = BitVec.ofNat 32 (128 * (lc / 128))⌝
            ∗ (dLoc d L ↦{q} (x : Buf (Elt F) (dLoc d L))) ∗ (∃ fD, atD d L fD) ∗ atM d L gM' ∗ atL d L gL' ∗ atI d L (wid L) uI ∗ atJ d L (wid L) uJ
            ∗ semVal (thr d L, .dma cc0_scoped0.sem) 0
            ∗ semVal (thr d L, .dma cc0_scoped1.sem) 0 ∗ semVal (thr d L, .dma cc0_scoped2.sem) 0 ∗ Owed d L O W) := by
  have hw := wid_lt L
  have ht : t.val < 40 := lt_of_lt_of_eq t.isLt (trips_zero_one (n := 40) (by decide))
  have hc := cnt_step x (wid L) (8000 * t.val) 8000
  have hc2 := cnt_le x (wid L) (8000 * t.val + 8000)
  simp only [k0_part1_eq_skeleton]
  unfold k0_part1_skel
  simp only [Prog.lift, Prog.bind_op, Prog.bind_ret, Prog.pure_eq_ret, Prog.bind_assoc]
  iintro ⟨Hx, HD, HM, HL, HI, HJ, H0, H1, H2, ⟨%W1, %hW1, HO⟩, #Hmw⟩
  iapply (step_sync' (c := thr d L) (defs₀ (F := F)) (s := S8000) (e := .i32) (O := O) (sem := cc0_scoped0.sem) (q := q) (fs := (x : Buf (Elt F) (dLoc d L))) (Ss := Finset.univ) (Sd := Finset.univ) (fd := fD)
    (src := (gD).slice (Rect.unit (s := S320000) (k0_off1 t) S8000.size (k0_off1_inb t)) (fun _ => rfl))
    (dst := sD)
    _ rfl (View.amount_pos _ _ (show 0 < S8000.numel by decide)) rfl (Finset.subset_univ _) (Finset.subset_univ _)) $$ [Hx HD H0 HO]
  · isplitl [Hx]; · iexact Hx
    isplitl [HD]; · iexact HD
    isplitl [H0]; · iexact H0
    isplitl [HO]; · iexact HO
    iexact Hmw
  iintro ⟨HD, Hx, H0, HO⟩
  set fD' : Buf (Elt F) ((thr d L).loc cc0_scratch0) := (sD).view.write (Elt F) fD
    (((gD).slice (Rect.unit (s := S320000) (k0_off1 t) S8000.size (k0_off1_inb t)) (fun _ => rfl)).view.read (Elt F) (x : Buf (Elt F) (dLoc d L))) Finset.univ with hfD
  have hD : ∀ j : S8000.Idx, fD' j = dN x (8000 * t.val + (j 0).val) := fun j => by
    have e : fD' = ((gD).slice (Rect.unit (s := S320000) (k0_off1 t) S8000.size (k0_off1_inb t)) (fun _ => rfl)).view.read (Elt F) (x : Buf (Elt F) (dLoc d L)) := by
      rw [hfD]; exact View.write_whole_univ (Val := Elt F) cc0_scratch0 fD _
    rw [e]
    have he := emb1 (N := 320000) (k0_off1 t) S8000.size (k0_off1_inb t) j
    have ho : k0_off1 t 0 = 8000 * t.val := congrFun (k0_off1_eq t) 0
    rw [ho] at he
    have hj : 8000 * t.val + (j 0).val < 320000 := by have := (j 0).isLt; have e : S8000.size 0 = 8000 := rfl; omega
    have : (Rect.unit (s := S320000) (k0_off1 t) S8000.size (k0_off1_inb t)).emb j = at1 (8000 * t.val + (j 0).val) hj := ext1 he
    show x _ = _
    refine (congrArg x this).trans ?_
    unfold dN
    rw [dif_pos hj]
  iapply (t2_loop d L x t a12 a13 v1 v2 v3 v4 hv4 hv2 hv3 gc hg hl ha fD' hD fM fL hst) $$ [HD HM HL]
  · isplitl [HD]; · iexact HD
    isplitl [HM]; · iexact HM
    iexact HL
  iintro %v %hM %hL ⟨%hp, HD, HM, HL⟩
  obtain ⟨hst', hv⟩ := hp
  rw [← hlc] at hv
  rw [wp_assume_of _ _ _ _ (show k0_chk2 L a12 v by rw [hgv, hv]; exact chk2_ok (i := L) (g := gc) (l := lc) hdv (by omega) (by omega))]
  iapply (t3_loop d L x t a13 v1 v2 v3 v4 gc (8000 * t.val + 8000) (by omega) hdv (by omega) (by omega) v a12 (by rw [hv, hlc]) hgv _ hM hL hst' fI fJ hout O W) $$ [HM HL HI HJ H1 H2 HO]
  · isplitl [HM]; · iexact HM
    isplitl [HL]; · iexact HL
    isplitl [HI]; · iexact HI
    isplitl [HJ]; · iexact HJ
    isplitl [H1]; · iexact H1
    isplitl [H2]; · iexact H2
    isplitl [HO]
    · iexists _
      isplitr [HO]
      rotate_left
      · iexact HO
      ipureintro
      intro p hp
      rcases Finset.mem_insert.mp hp with rfl | hp
      · exact .inr rfl
      exact hW1 p hp
    iexact Hmw
  iintro %uI %uJ ⟨%ho, HM, HL, HI, HJ, H1, H2, HO⟩
  rw [← hlc] at ho
  iapply (Scf.wp_for0_bind frame (wpE (defs₀ (F := F)) 𝒱₀ (thr d L) none) Set.univ _ _ _ _ _ (t4_trips v) _ _ _ .rfl)
  have hfl : 128 * (lc / 128) ≤ 8128 := by omega
  have hofs : k0_off7 v 0#32 = ![128 * (lc / 128) + 16 * 0] := by rw [hv]; exact off7_eq (n := lc) (by omega) 0
  iapply (quad d L (128 * (lc / 128)) 0 ⟨_, rfl⟩ hfl (by decide) hofs rfl hM hM hL hL (moved_zero _ _) (moved_zero _ _)) $$ [HM HL]
  · isplitl [HM]; · iexact HM
    iexact HL
  iintro %g1 %g2 ⟨%hm, HM, HL⟩
  rw [wp_ret]
  imodintro
  iexists hM; iexists hL; iexists g1; iexists g2; iexists uI; iexists uJ
  isplitr [Hx HD HM HL HI HJ H0 H1 H2 HO]
  · ipureintro
    refine ⟨hst', hm.1, hm.2, ho, hv, ?_⟩
    show Scalar.shli (Scalar.shrsi v 7#32) 7#32 = _
    rw [hv, shrsi_seven (by omega), shl_seven lc (by omega)]
  isplitl [Hx]; · iexact Hx
  isplitl [HD]; · iexists fD'; iexact HD
  isplitl [HM]; · iexact HM
  isplitl [HL]; · iexact HL
  isplitl [HI]; · iexact HI
  isplitl [HJ]; · iexact HJ
  isplitl [H0]; · iexact H0
  isplitl [H1]; · iexact H1
  isplitl [H2]; · iexact H2
  iexact HO

/-- The middle of the move to the front. -/
theorem part2_spec (a12 v v151 c16 : BitVec 32) (hchk : k0_chk2 L a12 v) (lc : ℕ) (hlc : lc < 8128) (hv : v = BitVec.ofNat 32 lc)
    (hM gM' : Buf (Elt F) ((thr d L).loc cc0_scratch1)) (hL gL' : Buf (Elt F) ((thr d L).loc cc0_scratch2))
    (h1 : Moved (128 * (lc / 128)) 1 hM gM') (h2 : Moved (128 * (lc / 128)) 1 hL gL') :
    (iprop(atM d L gM' ∗ atL d L gL') : sProp 𝕄)
      ⊢ wp frame (wpE (defs₀ (F := F)) 𝒱₀ (thr d L) none) Set.univ
          (k0_part2 L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            a12 v hchk v151 c16)
          fun r => iprop(∃ uM uL, ⌜Moved (128 * (lc / 128)) 5 hM uM ∧ Moved (128 * (lc / 128)) 5 hL uL
              ∧ Rd (N := 8336) (128 * (lc / 128) + 16 * 5) r.1 hM⌝ ∗ atM d L uM ∗ atL d L uL) := by
  subst hv
  have hfl : 128 * (lc / 128) ≤ 8128 := by omega
  have hofs : ∀ r : Fin 8, k0_off7 (BitVec.ofNat 32 lc) (BitVec.ofNat 32 (16 * r.val)) = ![128 * (lc / 128) + 16 * r.val] := fun r => off7_eq (n := lc) (by omega) r
  simp only [k0_part2_eq_skeleton]
  unfold k0_part2_skel
  simp only [Prog.lift, Prog.bind_op, Prog.bind_ret, Prog.pure_eq_ret, Prog.bind_assoc]
  iintro ⟨HM, HL⟩
  iapply (quad d L (128 * (lc / 128)) 1 ⟨_, rfl⟩ hfl (by decide) (hofs 1) rfl hM gM' hL gL' h1 h2) $$ [HM HL]
  · isplitl [HM]; · iexact HM
    iexact HL
  iintro %a1 %b1 ⟨%m1, HM, HL⟩
  iapply (quad d L (128 * (lc / 128)) 2 ⟨_, rfl⟩ hfl (by decide) (hofs 2) rfl hM a1 hL b1 m1.1 m1.2) $$ [HM HL]
  · isplitl [HM]; · iexact HM
    iexact HL
  iintro %a2 %b2 ⟨%m2, HM, HL⟩
  iapply (quad d L (128 * (lc / 128)) 3 ⟨_, rfl⟩ hfl (by decide) (hofs 3) rfl hM a2 hL b2 m2.1 m2.2) $$ [HM HL]
  · isplitl [HM]; · iexact HM
    iexact HL
  iintro %a3 %b3 ⟨%m3, HM, HL⟩
  iapply (quad d L (128 * (lc / 128)) 4 ⟨_, rfl⟩ hfl (by decide) (hofs 4) rfl hM a3 hL b3 m3.1 m3.2) $$ [HM HL]
  · isplitl [HM]; · iexact HM
    iexact HL
  iintro %a4 %b4 ⟨%m4, HM, HL⟩
  iapply (loadM d L _ (hofs 5)) $$ HM
  iintro %r ⟨%hr, HM⟩
  rw [wp_ret]
  imodintro
  iexists a4; iexists b4
  isplitr [HM HL]
  · ipureintro
    exact ⟨m4.1, m4.2, moved_read _ 5 ⟨_, rfl⟩ (by decide) hfl _ _ m4.1 r hr⟩
  isplitl [HM]; · iexact HM
  iexact HL

/-- The whole move keeps the staged edges, counted from the new start. -/
theorem moved_staged (w gc n lc : ℕ) (hlc : lc = cnt x w n - gc) (hl : lc < 8128) (hM gM' hL gL' : S8336.Idx → BitVec 32) (hst : Staged x w gc n hM hL)
    (h1 : Moved (128 * (lc / 128)) 8 hM gM') (h2 : Moved (128 * (lc / 128)) 8 hL gL') : Staged x w (gc + 128 * (lc / 128)) n gM' gL' := by
  intro e hen he hc j hj
  have hlt : cnt x w e < cnt x w n := Nat.count_strict_mono he hen
  have hlt' : cnt x w e < gc + lc := by omega
  have hi : cnt x w e - gc < 8336 := by omega
  have hj1 : (j 0).val < 16 * 8 := by omega
  have hj2 : (at1 (N := 8336) (cnt x w e - gc) hi 0).val = 128 * (lc / 128) + (j 0).val := by
    show cnt x w e - gc = _; omega
  rw [(h1 j (at1 _ hi)).1 hj1 hj2, (h2 j (at1 _ hi)).1 hj1 hj2]
  exact hst e hen he (by omega) (at1 _ hi) rfl

end Cert.Proof.Bucket

end
-- ==== Proof.BucketBody.lean ====
/-
  The whole body of the bucketing call on one tile, with what it leaves in the three lists.
-/
module

public import proofs.«01_k».proof.Proof.BucketChunk

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

theorem loadC {α : Type} {Q : α → sProp 𝕄} {off : Fin 1 → ℕ} {inb : ∀ a, off a + S16.size a ≤ S16.size a}
    {hl : (sC).view.LoadsAt (Rect.unit (s := S16) off S16.size inb).toLoadRect}
    {k : Vec F S16 .i32 → Prog (TpuEff nD τ sig (Elt F) Λ₀ (.scVector (cV L) (jV L))) α} (o : ℕ) (ho : off = ![o])
    (g : Buf (Elt F) ((thr d L).loc cc0_scratch3)) :
    (atC d L g : sProp 𝕄)
      ⊢ iprop((∀ v, iprop(⌜Rd (N := 16) o v g⌝ ∗ atC d L g) -∗ wp frame (wpE (defs₀ (F := F)) 𝒱₀ (thr d L) none) Set.univ (k v) Q)
        -∗ wp frame (wpE (defs₀ (F := F)) 𝒱₀ (thr d L) none) Set.univ (.op (.load sC (Rect.unit (s := S16) off S16.size inb).toLoadRect hl) k) Q) := by
  iintro H Hk
  iapply (wp_load_rect 𝒱₀ (thr d L) none Set.univ (m := sC) (r := Rect.unit (s := S16) off S16.size inb) (S := Finset.univ) (q := fullShare) (f := g) (Finset.subset_univ _)) $$ H; iintro H
  iapply Hk $$ %(((sC).access (Rect.unit (s := S16) off S16.size inb)).read (Elt F) g)
  isplitr [H]
  · ipureintro
    intro j i hj
    have e : j = (Rect.unit (s := S16) off S16.size inb).emb i := ext1 (by
      rw [hj]; exact ((emb1 (N := 16) off S16.size inb i).trans (congrArg (· + (i 0).val) (congrFun ho 0))).symm)
    rw [e]; rfl
  iexact H

theorem storeC {α : Type} {Q : α → sProp 𝕄} {off : Fin 1 → ℕ} {inb : ∀ a, off a + S16.size a ≤ S16.size a} {v : Vec F S16 .i32}
    {hl : ((sC).access (Rect.unit (s := S16) off S16.size inb)).Stores Finset.univ}
    {hm : (Finset.univ : Finset (Rect.unit (s := S16) off S16.size inb).shape.Idx) = Finset.univ ∨ ∀ a, (Rect.unit (s := S16) off S16.size inb).stride a = 1}
    {k : PUnit → Prog (TpuEff nD τ sig (Elt F) Λ₀ (.scVector (cV L) (jV L))) α} (o : ℕ) (ho : off = ![o])
    (g : Buf (Elt F) ((thr d L).loc cc0_scratch3)) :
    (atC d L g : sProp 𝕄)
      ⊢ iprop((∀ g', iprop(⌜Wr (N := 16) o v g g'⌝ ∗ atC d L g') -∗ wp frame (wpE (defs₀ (F := F)) 𝒱₀ (thr d L) none) Set.univ (k ⟨⟩) Q)
        -∗ wp frame (wpE (defs₀ (F := F)) 𝒱₀ (thr d L) none) Set.univ (.op (.store sC (Rect.unit (s := S16) off S16.size inb) v Finset.univ hl hm) k) Q) := by
  iintro H Hk
  iapply (wp_store 𝒱₀ (thr d L) none Set.univ (m := sC) (r := Rect.unit (s := S16) off S16.size inb) (S := Finset.univ) (f := g) (Finset.subset_univ _)) $$ H; iintro H
  iapply Hk $$ %(((sC).access (Rect.unit (s := S16) off S16.size inb)).write (Elt F) g v Finset.univ)
  isplitr [H]
  · ipureintro
    refine ⟨fun j i hj => ?_, fun j hj => ?_⟩
    · have e : j = (Rect.unit (s := S16) off S16.size inb).emb i := ext1 (by
        rw [hj]; exact ((emb1 (N := 16) off S16.size inb i).trans (congrArg (· + (i 0).val) (congrFun ho 0))).symm)
      rw [e]
      exact wr_in (F := F) cc0_scratch3 (Rect.unit (s := S16) off S16.size inb) g v i
    · refine wr_out (F := F) cc0_scratch3 (Rect.unit (s := S16) off S16.size inb) g v j fun hm => ?_
      have := unit1 (N := 16) _ _ _ j o 16 ho rfl hm
      omega
  iexact H

variable (x : S320000.Idx → BitVec 32)

/-- One trip of the chunks' loop. -/
theorem t1_body (t : Fin k0_t1_loop.trips) (a12 a13 v1 v2 v3 : BitVec 32) (v4 : IVec S16 32) (hv4 : ∀ i, v4 i = BitVec.ofNat 32 (i 0).val)
    (hv2 : v2 = BitVec.ofNat 32 (320 * wid L)) (hv3 : v3 = BitVec.ofNat 32 (320 * wid L + 320)) (gc : ℕ) (hdv : 128 ∣ gc)
    (hg : gc ≤ cnt x (wid L) (8000 * t.val)) (hl : cnt x (wid L) (8000 * t.val) - gc < 128) (ha : a13 = BitVec.ofNat 32 (cnt x (wid L) (8000 * t.val) - gc))
    (hgv : a12 = BitVec.ofNat 32 gc) (lc : ℕ) (hlc : lc = cnt x (wid L) (8000 * t.val + 8000) - gc) (q : PosShare TreeShare)
    (fD : Buf (Elt F) ((thr d L).loc cc0_scratch0))
    (fM : Buf (Elt F) ((thr d L).loc cc0_scratch1)) (fL : Buf (Elt F) ((thr d L).loc cc0_scratch2)) (hst : Staged x (wid L) gc (8000 * t.val) fM fL)
    (fI : Buf (Elt F) (iLoc d L)) (fJ : Buf (Elt F) (lLoc d L)) (hout : Out x (wid L) gc fI fJ)
    (O : CellTallies nD τ sig (HIx 2)) (W : Waits sig (HIx 2)) :
    (iprop((dLoc d L ↦{q} (x : Buf (Elt F) (dLoc d L))) ∗ atD d L fD ∗ atM d L fM ∗ atL d L fL ∗ atI d L (wid L) fI ∗ atJ d L (wid L) fJ ∗ semVal (thr d L, .dma cc0_scoped0.sem) 0
        ∗ semVal (thr d L, .dma cc0_scoped1.sem) 0 ∗ semVal (thr d L, .dma cc0_scoped2.sem) 0
        ∗ Owed d L O W ∗ Transfers.MayWaits (thr d L) (default : HIx 2) O) : sProp 𝕄)
      ⊢ wp frame (wpE (defs₀ (F := F)) 𝒱₀ (thr d L) none) Set.univ
          (k0_t1_body L gD (Memref.isWhole_whole _) gI (Memref.isWhole_whole _) gL (Memref.isWhole_whole _) gC (Memref.isWhole_whole _)
            sD (Memref.isWhole_whole _) sM (Memref.isWhole_whole _) sL (Memref.isWhole_whole _) sC (Memref.isWhole_whole _)
            cc0_scratch4 cc0_scoped0 cc0_scoped1 cc0_scoped2 cc0_scoped3 cc0_scoped4 cc0_scoped5 cc0_scoped6 cc0_scoped7 cc0_scoped8 cc0_scoped9
            v1 v2 v3 v4 t (a12, a13))
          fun r => iprop(∃ gM' gL' uI uJ,
            ⌜Staged x (wid L) (gc + 128 * (lc / 128)) (8000 * t.val + 8000) gM' gL'
              ∧ Out x (wid L) (gc + 128 * (lc / 128)) uI uJ ∧ r.1 = BitVec.ofNat 32 (gc + 128 * (lc / 128)) ∧ r.2 = BitVec.ofNat 32 (lc - 128 * (lc / 128))⌝
            ∗ (dLoc d L ↦{q} (x : Buf (Elt F) (dLoc d L))) ∗ (∃ fD, atD d L fD) ∗ atM d L gM' ∗ atL d L gL' ∗ atI d L (wid L) uI ∗ atJ d L (wid L) uJ
            ∗ semVal (thr d L, .dma cc0_scoped0.sem) 0
            ∗ semVal (thr d L, .dma cc0_scoped1.sem) 0 ∗ semVal (thr d L, .dma cc0_scoped2.sem) 0 ∗ Owed d L O W) := by
  have hw := wid_lt L
  have ht : t.val < 40 := lt_of_lt_of_eq t.isLt (trips_zero_one (n := 40) (by decide))
  have hc := cnt_step x (wid L) (8000 * t.val) 8000
  have hc2 := cnt_le x (wid L) (8000 * t.val + 8000)
  have hlc' : lc < 8128 := by omega
  have hfl : 128 * (lc / 128) ≤ 8128 := by omega
  unfold k0_t1_body
  simp only [Prog.lift, Prog.bind_op, Prog.bind_ret, Prog.pure_eq_ret, Prog.bind_assoc]
  rw [wp_bind]
  iintro H
  iapply (wp_wand frame _ Set.univ) $$ [H]
  · iapply (part1_spec d L x t a12 a13 v1 v2 v3 v4 hv4 hv2 hv3 gc hdv hg hl ha hgv lc hlc q fD fM fL hst fI fJ hout O W) $$ H
  iintro %r ⟨%hM, %hL, %g1, %g2, %uI, %uJ, %hp, Hx, HD, HM, HL, HI, HJ, H0, H1, H2, HO⟩
  obtain ⟨v140, hchk, v151, c16⟩ := r
  obtain ⟨hs, hm1, hm2, ho, hv, hv'⟩ := hp
  dsimp only at hv hv'
  subst hv hv'
  have hofs : ∀ r : Fin 8, k0_off7 (BitVec.ofNat 32 lc) (BitVec.ofNat 32 (16 * r.val)) = ![128 * (lc / 128) + 16 * r.val] := fun r => off7_eq (n := lc) (by omega) r
  dsimp only
  rw [wp_bind]
  iapply (wp_wand frame _ Set.univ) $$ [HM HL]
  · iapply (part2_spec d L a12 (BitVec.ofNat 32 lc) _ c16 hchk lc hlc' rfl hM g1 hL g2 hm1 hm2)
    isplitl [HM]; · iexact HM
    iexact HL
  iintro %r2 ⟨%g3, %g4, %hp, HM, HL⟩
  obtain ⟨v194, c80⟩ := r2
  dsimp only at hp
  dsimp only
  iapply (quad' d L (128 * (lc / 128)) 5 ⟨_, rfl⟩ hfl (by decide) (hofs 5) rfl v194 hM g3 hL g4 hp.2.2 hp.1 hp.2.1) $$ [HM HL]
  · isplitl [HM]; · iexact HM
    iexact HL
  iintro %g5 %g6 ⟨%h6, HM, HL⟩
  iapply (quad d L (128 * (lc / 128)) 6 ⟨_, rfl⟩ hfl (by decide) (hofs 6) rfl hM g5 hL g6 h6.1 h6.2) $$ [HM HL]
  · isplitl [HM]; · iexact HM
    iexact HL
  iintro %g7 %g8 ⟨%h7, HM, HL⟩
  iapply (quad d L (128 * (lc / 128)) 7 ⟨_, rfl⟩ hfl (by decide) (hofs 7) rfl hM g7 hL g8 h7.1 h7.2) $$ [HM HL]
  · isplitl [HM]; · iexact HM
    iexact HL
  iintro %g9 %g10 ⟨%h8, HM, HL⟩
  rw [wp_ret]
  imodintro
  iexists g9; iexists g10; iexists uI; iexists uJ
  isplitr [Hx HD HM HL HI HJ H0 H1 H2 HO]
  · ipureintro
    refine ⟨moved_staged x (wid L) gc _ lc hlc hlc' hM g9 hL g10 hs h8.1 h8.2, ho, ?_, ?_⟩
    · rw [hgv, BitVec.ofNat_add]; rfl
    · show BitVec.ofNat 32 lc - BitVec.ofNat 32 (128 * (lc / 128)) = _
      apply BitVec.eq_of_toNat_eq
      rw [BitVec.toNat_sub, toNat_small (by omega), toNat_small (by omega), toNat_small (by omega)]
      omega
  isplitl [Hx]; · iexact Hx
  isplitl [HD]; · iexact HD
  isplitl [HM]; · iexact HM
  isplitl [HL]; · iexact HL
  isplitl [HI]; · iexact HI
  isplitl [HJ]; · iexact HJ
  isplitl [H0]; · iexact H0
  isplitl [H1]; · iexact H1
  isplitl [H2]; · iexact H2
  iexact HO

/-- `g` is `f` with the words from `lc` to `16 k` replaced by `p`. -/
def Padded (lc k : ℕ) (p : BitVec 32) (f g : S8336.Idx → BitVec 32) : Prop :=
  ∀ j : S8336.Idx, ((j 0).val < 16 * k → g j = if (j 0).val < lc then f j else p) ∧ (16 * k ≤ (j 0).val → g j = f j)

theorem padded_zero (lc : ℕ) (p : BitVec 32) (f : S8336.Idx → BitVec 32) : Padded lc 0 p f f := fun j => ⟨fun h => absurd h (by omega), fun _ => rfl⟩

theorem padded_step (lc k : ℕ) (p : BitVec 32) (f g g' : S8336.Idx → BitVec 32) (hp : Padded lc k p f g) (v u : S16.Idx → BitVec 32)
    (hv : Rd (N := 8336) (16 * k) v g) (hu : ∀ i, u i = if 16 * k + (i 0).val < lc then v i else p) (hw : Wr (N := 8336) (16 * k) u g g') :
    Padded lc (k + 1) p f g' := fun j => by
  refine ⟨fun h => ?_, fun h => ?_⟩
  · by_cases h' : (j 0).val < 16 * k
    · rw [hw.out j (.inl h')]; exact (hp j).1 h'
    · obtain ⟨r, hr⟩ : ∃ r, r = (j 0).val - 16 * k := ⟨_, rfl⟩
      have hl : r < 16 := by omega
      have e1 : (j 0).val = 16 * k + (at1 (N := 16) r hl 0).val := by show _ = 16 * k + r; omega
      rw [hw.inn j (at1 r hl) e1, hu, ← e1, hv j (at1 r hl) e1, (hp j).2 (by omega)]
  · rw [hw.out j (.inr (by omega))]; exact (hp j).2 (by omega)

theorem pad_pay (o lc : ℕ) (ho : o < 200) (hlc : lc < 20000) (c : BitVec 32) (idx : IVec S16 32) (hidx : ∀ i, idx i = BitVec.ofNat 32 (o + (i 0).val)) (v : Vec F S16 .i32) (i : S16.Idx) :
    select (cmpi .slt idx (broadcast S16 (BitVec.ofNat 32 lc))) v (broadcast S16 c) i = if o + (i 0).val < lc then v i else c := by
  have hi : (i 0).val < 16 := (i 0).isLt
  show Scalar.select (IntOp.cmpi .slt (idx i) (BitVec.ofNat 32 lc)) (v i) c = _
  have e : IntOp.cmpi .slt (idx i) (BitVec.ofNat 32 lc) = BitVec.ofBool ((idx i).slt (BitVec.ofNat 32 lc)) := rfl
  rw [e, slt_ofNat _ _ hlc, hidx, toInt_small (by omega)]
  by_cases h : o + (i 0).val < lc
  · rw [decide_eq_true (by omega), if_pos h]; rfl
  · rw [decide_eq_false (by omega), if_neg h]; rfl

end Cert.Proof.Bucket

end
-- ==== Proof.BucketTile.lean ====
/-
  The whole body of the bucketing call on one tile, with what it leaves in the three lists.
-/
module

public import proofs.«01_k».proof.Proof.BucketBody

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

abbrev atK (w : ℕ) (f : Buf (Elt F) (cLoc d L)) : sProp 𝕄 := cLoc d L ↦[regC w]{fullShare} f

/-- What tile `w` leaves in its part of the three lists: the edges whose destination lies in its rows, in order; after
    them, up to a whole number of blocks of 128, the padding; and the number of these blocks, sixteen times. -/
structure BktSpec (x : S320000.Idx → BitVec 32) (w : ℕ) (fI fJ : S10244096.Idx → BitVec 32) (fC : S512.Idx → BitVec 32) : Prop where
  kept : ∀ e, hit x w e → e < 320000 → ∀ j : S10244096.Idx, (j 0).val = w * 320128 + cnt x w e →
    fI j = BitVec.ofNat 32 e ∧ fJ j = dN x e - BitVec.ofNat 32 (320 * w)
  pad : ∀ p, cnt x w 320000 ≤ p → p < 128 * ((cnt x w 320000 + 127) / 128) → ∀ j : S10244096.Idx, (j 0).val = w * 320128 + p → fI j = 0#32 ∧ fJ j = 320#32
  count : ∀ j ∈ regC w, fC j = BitVec.ofNat 32 ((cnt x w 320000 + 127) / 128)

/-- The lists after `k` of the last blocks (there is at most one). -/
def Last (x : S320000.Idx → BitVec 32) (w gc k : ℕ) (hM hL : S8336.Idx → BitVec 32) (uI uJ : S10244096.Idx → BitVec 32) : Prop :=
  Out x w gc uI uJ ∧ (0 < k → ∀ (j : S10244096.Idx) (i : S8336.Idx) (r : ℕ), r < 128 → (j 0).val = w * 320128 + gc + r → (i 0).val = r → uI j = hM i ∧ uJ j = hL i)

theorem last_step (x : S320000.Idx → BitVec 32) (w gc k : ℕ) (hk : k < 1) (hw : w < 32) (hM hL : S8336.Idx → BitVec 32) (uI uJ tI tJ : S10244096.Idx → BitVec 32)
    (h : Last x w gc k hM hL uI uJ) (hI : Copied (128 * k) (w * 320128 + gc + 128 * k) hM uI tI) (hJ : Copied (128 * k) (w * 320128 + gc + 128 * k) hL uJ tJ) :
    Last x w gc (k + 1) hM hL tI tJ := by
  obtain rfl : k = 0 := by omega
  refine ⟨fun e he hc j hj => ?_, fun _ j i r hr hj hi => ?_⟩
  · have hlt : (j 0).val < w * 320128 + gc + 128 * 0 := by rw [hj, Nat.mul_zero, Nat.add_zero]; exact Nat.add_lt_add_left hc _
    rw [hI.2 j (.inl hlt), hJ.2 j (.inl hlt)]
    exact h.1 e he hc j hj
  · have hi' : (i 0).val = 128 * 0 + r := by rw [hi, Nat.mul_zero, Nat.zero_add]
    have hj' : (j 0).val = w * 320128 + gc + 128 * 0 + r := by rw [hj, Nat.mul_zero, Nat.add_zero]
    exact ⟨hI.1 j i r hr hj' hi', hJ.1 j i r hr hj' hi'⟩

theorem spec_of (x : S320000.Idx → BitVec 32) (w gc lc : ℕ) (hw : w < 32) (hdv : 128 ∣ gc) (hg : gc ≤ cnt x w 320000) (hlc : lc = cnt x w 320000 - gc) (hl : lc < 128)
    (fM fL hM hL : S8336.Idx → BitVec 32) (hst : Staged x w gc 320000 fM fL) (pM : Padded lc 8 0#32 fM hM) (pL : Padded lc 8 320#32 fL hL)
    (uI uJ : S10244096.Idx → BitVec 32) (h : Last x w gc ((lc + 127) / 128) hM hL uI uJ) (fC : S512.Idx → BitVec 32)
    (hC : ∀ j ∈ regC w, fC j = BitVec.ofNat 32 (gc / 128 + (lc + 127) / 128)) : BktSpec x w uI uJ fC := by
  obtain ⟨b, rfl⟩ := hdv
  have hmono : ∀ e, hit x w e → e < 320000 → cnt x w e < cnt x w 320000 := fun e he hn => Nat.count_strict_mono (p := hit x w) he hn
  obtain ⟨N, hN⟩ : ∃ N, N = cnt x w 320000 := ⟨_, rfl⟩
  have ek : ∀ r : ℕ, r < 128 → ∀ h : r < 8336, (r < lc → hM (at1 r h) = fM (at1 r h) ∧ hL (at1 r h) = fL (at1 r h))
      ∧ (¬ r < lc → hM (at1 r h) = 0#32 ∧ hL (at1 r h) = 320#32) := fun r hr h => by
    have hr' : (at1 (N := 8336) r h 0).val < 16 * 8 := hr
    rw [(pM _).1 hr', (pL _).1 hr']
    refine ⟨fun q => ?_, fun q => ?_⟩
    · have q' : (at1 (N := 8336) r h 0).val < lc := q
      rw [if_pos q', if_pos q']; exact ⟨rfl, rfl⟩
    · have q' : ¬ (at1 (N := 8336) r h 0).val < lc := q
      rw [if_neg q', if_neg q']; exact ⟨rfl, rfl⟩
  rw [← hN] at hg hlc hmono
  refine ⟨fun e he hn j hj => ?_, fun p h1 h2 j hj => ?_, fun j hj => ?_⟩
  · by_cases hc : cnt x w e < 128 * b
    · exact h.1 e he hc j hj
    · have hlt := hmono e he hn
      have hs := hst e hn he (Nat.le_of_not_lt hc)
      obtain ⟨c, hce⟩ : ∃ c, c = cnt x w e := ⟨_, rfl⟩
      rw [← hce] at hlt hc hs hj
      obtain ⟨r, rfl⟩ := Nat.exists_eq_add_of_le (Nat.le_of_not_lt hc)
      have hr' : r < 128 := by omega
      have h8 : r < 8336 := by omega
      have hq := h.2 (by omega) j (at1 r h8) r hr' (hj.trans (Nat.add_assoc _ _ _).symm) rfl
      have hk := (ek r hr' h8).1 (by omega)
      rw [hq.1, hq.2, hk.1, hk.2]
      exact hs (at1 r h8) (Nat.add_sub_cancel_left _ _).symm
  · rw [← hN] at h1 h2
    obtain ⟨r, rfl⟩ := Nat.exists_eq_add_of_le (show 128 * b ≤ p by omega)
    have hr' : r < 128 := by omega
    have h8 : r < 8336 := by omega
    have hq := h.2 (by omega) j (at1 r h8) r hr' (hj.trans (Nat.add_assoc _ _ _).symm) rfl
    have hk := (ek r hr' h8).2 (by omega)
    rw [hq.1, hq.2]
    exact hk
  · rw [hC j hj, ← hN]
    congr 1
    omega

theorem pay33_eq (gc lc : ℕ) (hdv : 128 ∣ gc) (hg : gc ≤ 320000) (hl : lc < 128) (i : S16.Idx) :
    k0_pay33 (BitVec.ofNat 32 gc) (BitVec.ofNat 32 lc) i = (BitVec.ofNat 32 (gc / 128 + (lc + 127) / 128) : BitVec 32) := by
  unfold k0_pay33
  show Scalar.addi (Scalar.shrsi (BitVec.ofNat 32 gc) 7#32) (Scalar.shrsi (Scalar.addi (BitVec.ofNat 32 lc) 127#32) 7#32) = _
  rw [addi_127, shrsi_seven (by omega), shrsi_seven (by omega)]
  exact (BitVec.ofNat_add _ _).symm

theorem off12_eq : k0_off12 L = ![wid L * 16] := by
  unfold k0_off12
  funext a
  have hw := wid_lt L
  fin_cases a
  show (Scalar.muli (Scalar.addi (Scalar.muli (BitVec.ofNat 32 (L 1).val) 2#32) (BitVec.ofNat 32 (L 0).val)) 16#32).toNat = _
  rw [base_eq]
  have e : Scalar.muli (BitVec.ofNat 32 (wid L)) 16#32 = BitVec.ofNat 32 (wid L * 16) := (BitVec.ofNat_mul _ _).symm
  rw [e, toNat_small (by omega)]
  rfl

theorem regC_slice (h : ∀ a, k0_off12 L a + S16.size a ≤ S512.size a) :
    (Rect.unit (s := S512) (k0_off12 L) S16.size h).set = regC (wid L) := by
  ext j
  have e : k0_off12 L 0 = wid L * 16 := congrFun (off12_eq L) 0
  rw [mem_regC, Rect.mem_set_unit]
  refine ⟨fun hj => ?_, fun hj a => ?_⟩
  · have := hj 0
    rw [e] at this
    exact this
  · fin_cases a
    show k0_off12 L 0 ≤ (j 0).val ∧ (j 0).val < k0_off12 L 0 + 16
    rw [e]; exact hj

theorem chunk_arith (n n' gc : ℕ) (h : gc ≤ n') (hc : n' ≤ n) :
    gc + 128 * ((n - gc) / 128) ≤ n ∧ n - (gc + 128 * ((n - gc) / 128)) < 128
      ∧ n - gc - 128 * ((n - gc) / 128) = n - (gc + 128 * ((n - gc) / 128)) := by
  omega

/-- All the chunks. -/
theorem t1_loop (x : S320000.Idx → BitVec 32) (q : PosShare TreeShare) (v1 v2 v3 : BitVec 32) (v4 : IVec S16 32) (hv4 : ∀ i, v4 i = BitVec.ofNat 32 (i 0).val)
    (hv2 : v2 = BitVec.ofNat 32 (320 * wid L)) (hv3 : v3 = BitVec.ofNat 32 (320 * wid L + 320))
    (fD : Buf (Elt F) ((thr d L).loc cc0_scratch0))
    (fM₀ : Buf (Elt F) ((thr d L).loc cc0_scratch1)) (fL₀ : Buf (Elt F) ((thr d L).loc cc0_scratch2))
    (fI₀ : Buf (Elt F) (iLoc d L)) (fJ₀ : Buf (Elt F) (lLoc d L))
    (O : CellTallies nD τ sig (HIx 2)) (W : Waits sig (HIx 2))
    {β : Type} {Q : β → sProp 𝕄} {kk : BitVec 32 × BitVec 32 → Prog (TpuEff nD τ sig (Elt F) Λ₀ (.scVector (cV L) (jV L))) β} :
    (iprop((dLoc d L ↦{q} (x : Buf (Elt F) (dLoc d L))) ∗ atI d L (wid L) fI₀ ∗ atJ d L (wid L) fJ₀
        ∗ atD d L fD ∗ atM d L fM₀ ∗ atL d L fL₀ ∗ semVal (thr d L, .dma cc0_scoped0.sem) 0
        ∗ semVal (thr d L, .dma cc0_scoped1.sem) 0 ∗ semVal (thr d L, .dma cc0_scoped2.sem) 0
        ∗ Owed d L O W ∗ Transfers.MayWaits (thr d L) (default : HIx 2) O) : sProp 𝕄)
      ⊢ iprop((∀ a : BitVec 32 × BitVec 32, iprop(∃ gc fM fL uI uJ, ⌜128 ∣ gc ∧ gc ≤ cnt x (wid L) 320000 ∧ cnt x (wid L) 320000 - gc < 128
          ∧ a.1 = BitVec.ofNat 32 gc ∧ a.2 = BitVec.ofNat 32 (cnt x (wid L) 320000 - gc) ∧ Staged x (wid L) gc 320000 fM fL ∧ Out x (wid L) gc uI uJ⌝
        ∗ (dLoc d L ↦{q} (x : Buf (Elt F) (dLoc d L))) ∗ (∃ fD, atD d L fD) ∗ atM d L fM ∗ atL d L fL ∗ atI d L (wid L) uI ∗ atJ d L (wid L) uJ
        ∗ semVal (thr d L, .dma cc0_scoped0.sem) 0
        ∗ semVal (thr d L, .dma cc0_scoped1.sem) 0 ∗ semVal (thr d L, .dma cc0_scoped2.sem) 0 ∗ Owed d L O W) -∗ wp frame (wpE (defs₀ (F := F)) 𝒱₀ (thr d L) none) Set.univ (kk a) Q)
        -∗ wp frame (wpE (defs₀ (F := F)) 𝒱₀ (thr d L) none) Set.univ
          (Scf.Loop.for k0_t1_loop k0_t1_ok (0#32, 0#32) (k0_t1_body L gD (Memref.isWhole_whole _) gI (Memref.isWhole_whole _) gL (Memref.isWhole_whole _) gC (Memref.isWhole_whole _) sD (Memref.isWhole_whole _) sM (Memref.isWhole_whole _) sL (Memref.isWhole_whole _) sC (Memref.isWhole_whole _) cc0_scratch4 cc0_scoped0 cc0_scoped1 cc0_scoped2 cc0_scoped3 cc0_scoped4 cc0_scoped5 cc0_scoped6 cc0_scoped7 cc0_scoped8 cc0_scoped9
            v1 v2 v3 v4) >>= kk) Q) := by
  have hw := wid_lt L
  have htr : k0_t1_loop.trips = 40 := trips_zero_one (n := 40) (by decide)
  iintro ⟨Hx, HI, HJ, HD, HM, HL, H0, H1, H2, HO, #Hmw⟩ Hk
  iapply (Scf.wp_for_bind frame (wpE (defs₀ (F := F)) 𝒱₀ (thr d L) none) Set.univ _ _ _ _ _ _
    (fun k (a : BitVec 32 × BitVec 32) => iprop(∃ gc fM fL uI uJ, ⌜128 ∣ gc ∧ gc ≤ cnt x (wid L) (8000 * k) ∧ cnt x (wid L) (8000 * k) - gc < 128
          ∧ a.1 = BitVec.ofNat 32 gc ∧ a.2 = BitVec.ofNat 32 (cnt x (wid L) (8000 * k) - gc) ∧ Staged x (wid L) gc (8000 * k) fM fL ∧ Out x (wid L) gc uI uJ⌝
        ∗ (dLoc d L ↦{q} (x : Buf (Elt F) (dLoc d L))) ∗ (∃ fD, atD d L fD) ∗ atM d L fM ∗ atL d L fL ∗ atI d L (wid L) uI ∗ atJ d L (wid L) uJ
        ∗ semVal (thr d L, .dma cc0_scoped0.sem) 0
        ∗ semVal (thr d L, .dma cc0_scoped1.sem) 0 ∗ semVal (thr d L, .dma cc0_scoped2.sem) 0 ∗ Owed d L O W ∗ Transfers.MayWaits (thr d L) (default : HIx 2) O)) ?_) $$ [Hx HI HJ HD HM HL H0 H1 H2 HO]
  · iintro %k %a ⟨%gc, %fM, %fL, %uI, %uJ, %hp, Hx, ⟨%fD', HD⟩, HM, HL, HI, HJ, H0, H1, H2, HO, #Hmw⟩
    obtain ⟨a12, a13⟩ := a
    obtain ⟨p1, p2, p3, p4, p5, p6, p7⟩ := hp
    have hc := cnt_step x (wid L) (8000 * k.val) 8000
    iapply (wp_wand frame _ Set.univ) $$ [Hx HI HJ HD HM HL H0 H1 H2 HO]
    · iapply (t1_body d L x k a12 a13 v1 v2 v3 v4 hv4 hv2 hv3
        gc p1 p2 p3 p5 p4 _ rfl q fD' fM fL p6 uI uJ p7 O W)
      isplitl [Hx]; · iexact Hx
      isplitl [HD]; · iexact HD
      isplitl [HM]; · iexact HM
      isplitl [HL]; · iexact HL
      isplitl [HI]; · iexact HI
      isplitl [HJ]; · iexact HJ
      isplitl [H0]; · iexact H0
      isplitl [H1]; · iexact H1
      isplitl [H2]; · iexact H2
      isplitl [HO]; · iexact HO
      iexact Hmw

    iintro %r ⟨%g1, %g2, %w1, %w2, %hq, Hx, HD, HM, HL, HI, HJ, H0, H1, H2, HO⟩
    iexists _; iexists g1; iexists g2; iexists w1; iexists w2
    isplitr [Hx HD HM HL HI HJ H0 H1 H2 HO]
    · ipureintro
      obtain ⟨q1, q2, q3, q4⟩ := hq
      have ha := chunk_arith (cnt x (wid L) (8000 * k.val + 8000)) (cnt x (wid L) (8000 * k.val)) gc p2 hc.1
      rw [show 8000 * (k.val + 1) = 8000 * k.val + 8000 by omega]
      exact ⟨Dvd.dvd.add p1 ⟨_, rfl⟩, ha.1, ha.2.1, q3, q4.trans (congrArg (BitVec.ofNat 32) ha.2.2), q1, q2⟩
    isplitl [Hx]; · iexact Hx
    isplitl [HD]; · iexact HD
    isplitl [HM]; · iexact HM
    isplitl [HL]; · iexact HL
    isplitl [HI]; · iexact HI
    isplitl [HJ]; · iexact HJ
    isplitl [H0]; · iexact H0
    isplitl [H1]; · iexact H1
    isplitl [H2]; · iexact H2
    isplitl [HO]; · iexact HO
    iexact Hmw

  · iexists 0; iexists fM₀; iexists fL₀; iexists fI₀; iexists fJ₀
    isplitr [Hx HD HM HL HI HJ H0 H1 H2 HO]
    · ipureintro
      have h0 : cnt x (wid L) 0 = 0 := Nat.count_zero _
      rw [Nat.mul_zero, h0]
      exact ⟨⟨0, rfl⟩, le_rfl, by omega, rfl, rfl, fun e he => absurd he (by omega), fun e _ he => absurd he (by omega)⟩
    isplitl [Hx]; · iexact Hx
    isplitl [HD]; · iexists fD; iexact HD
    isplitl [HM]; · iexact HM
    isplitl [HL]; · iexact HL
    isplitl [HI]; · iexact HI
    isplitl [HJ]; · iexact HJ
    isplitl [H0]; · iexact H0
    isplitl [H1]; · iexact H1
    isplitl [H2]; · iexact H2
    isplitl [HO]; · iexact HO
    iexact Hmw

  iintro %a ⟨%gc, %fM, %fL, %uI, %uJ, %hp, Hx, HD, HM, HL, HI, HJ, H0, H1, H2, HO, -⟩
  rw [show Scf.trips k0_t1_loop.lb k0_t1_loop.ub k0_t1_loop.st = 40 from htr] at hp
  iapply Hk
  iexists gc; iexists fM; iexists fL; iexists uI; iexists uJ
  isplitr [Hx HD HM HL HI HJ H0 H1 H2 HO]
  · ipureintro
    exact hp
  isplitl [Hx]; · iexact Hx
  isplitl [HD]; · iexact HD
  isplitl [HM]; · iexact HM
  isplitl [HL]; · iexact HL
  isplitl [HI]; · iexact HI
  isplitl [HJ]; · iexact HJ
  isplitl [H0]; · iexact H0
  isplitl [H1]; · iexact H1
  isplitl [H2]; · iexact H2
  iexact HO

end Cert.Proof.Bucket

end
-- ==== Proof.SegEntries.lean ====
/-
  What the bucketing call leaves, entry by entry, and the words of the maximum call.
-/
module

public import proofs.«01_k».proof.Proof.Bucket
public import proofs.«01_k».proof.Proof.SegSteps
public import proofs.«01_k».proof.Proof.BucketTile

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

/-! ## The entries of a list -/

theorem exists_nth (x : S320000.Idx → BitVec 32) (w p : ℕ) : ∀ n, p < cnt x w n → ∃ e, e < n ∧ hit x w e ∧ cnt x w e = p
  | 0, h => absurd h (by rw [show cnt x w 0 = 0 from Nat.count_zero _]; exact Nat.not_lt_zero _)
  | n + 1, h => by
    rw [show cnt x w (n + 1) = cnt x w n + if hit x w n then 1 else 0 from Nat.count_succ _ _] at h
    by_cases hp : p < cnt x w n
    · obtain ⟨e, h1, h2⟩ := exists_nth x w p n hp
      exact ⟨e, Nat.lt_succ_of_lt h1, h2⟩
    · by_cases hh : hit x w n
      · rw [if_pos hh] at h
        exact ⟨n, Nat.lt_succ_self n, hh, by omega⟩
      · rw [if_neg hh] at h
        exact absurd h hp

open Classical in
/-- The edge of the bucket that has `p` others of it before it. -/
def nth (x : S320000.Idx → BitVec 32) (w p : ℕ) : ℕ :=
  if h : ∃ e, e < 320000 ∧ hit x w e ∧ cnt x w e = p then h.choose else 0

/-- The edge that entry `p` of tile `w`'s list names; past the bucket's edges, edge 0. -/
def entE (x : S320000.Idx → BitVec 32) (w p : ℕ) : ℕ := if p < cnt x w 320000 then nth x w p else 0

/-- The row of its accumulator that entry `p` names; past the bucket's edges, the spare row 320. -/
def entL (x : S320000.Idx → BitVec 32) (w p : ℕ) : ℕ := if p < cnt x w 320000 then (dN x (entE x w p) - BitVec.ofNat 32 (320 * w)).toNat else 320

/-- The number of blocks of 128 in tile `w`'s list. -/
def nblk (x : S320000.Idx → BitVec 32) (w : ℕ) : ℕ := (cnt x w 320000 + 127) / 128

theorem nblk_le (x : S320000.Idx → BitVec 32) (w : ℕ) : nblk x w ≤ 2500 := by
  have := cnt_le x w 320000
  unfold nblk
  exact Nat.le_of_lt_succ ((Nat.div_lt_iff_lt_mul (by decide)).mpr (by obtain ⟨N, hN⟩ : ∃ N, N = cnt x w 320000 := ⟨_, rfl⟩; rw [← hN] at this ⊢; omega))

theorem nth_spec (x : S320000.Idx → BitVec 32) (w p : ℕ) (h : p < cnt x w 320000) :
    nth x w p < 320000 ∧ hit x w (nth x w p) ∧ cnt x w (nth x w p) = p := by
  have he := exists_nth x w p _ h
  unfold nth
  rw [dif_pos he]
  exact he.choose_spec
theorem nth_lt (x : S320000.Idx → BitVec 32) (w p : ℕ) (h : p < cnt x w 320000) : nth x w p < 320000 := (nth_spec x w p h).1
theorem nth_hit (x : S320000.Idx → BitVec 32) (w p : ℕ) (h : p < cnt x w 320000) : hit x w (nth x w p) := (nth_spec x w p h).2.1
theorem nth_cnt (x : S320000.Idx → BitVec 32) (w p : ℕ) (h : p < cnt x w 320000) : cnt x w (nth x w p) = p := (nth_spec x w p h).2.2

theorem entE_lt (x : S320000.Idx → BitVec 32) (w p : ℕ) : entE x w p < 320000 := by
  unfold entE
  split
  · next h => exact nth_lt x w p h
  · decide

/-- The word a kept edge's row is stored as. -/
theorem row_toNat (x : S320000.Idx → BitVec 32) (w e : ℕ) (hw : w < 32) (h : hit x w e) :
    ((dN x e - BitVec.ofNat 32 (320 * w)).toNat : ℤ) = (dN x e).toInt - 320 * w := by
  obtain ⟨h1, h2⟩ := h
  obtain ⟨v, hv⟩ : ∃ v, v = dN x e := ⟨_, rfl⟩
  rw [← hv] at h1 h2 ⊢
  have hn : (v.toNat : ℤ) = v.toInt := by
    have := BitVec.toInt_eq_toNat_cond v
    have := v.isLt
    split at * <;> omega
  rw [← hn] at h1 h2 ⊢
  rw [BitVec.toNat_sub, toNat_small (by omega)]
  have h3 : 320 * w ≤ v.toNat := by exact_mod_cast h1
  have e : 2 ^ 32 - 320 * w + v.toNat = 2 ^ 32 + (v.toNat - 320 * w) := by omega
  rw [e, Nat.add_mod_left, Nat.mod_eq_of_lt (by omega)]
  omega

theorem entL_le (x : S320000.Idx → BitVec 32) (w p : ℕ) (hw : w < 32) : entL x w p ≤ 320 := by
  unfold entL
  split
  · next h =>
    have hh := nth_hit x w p h
    have hr := row_toNat x w _ hw hh
    have : entE x w p = nth x w p := if_pos h
    rw [this]
    obtain ⟨h1, h2⟩ := hh
    obtain ⟨t, ht⟩ : ∃ t, t = (dN x (nth x w p) - BitVec.ofNat 32 (320 * w)).toNat := ⟨_, rfl⟩
    obtain ⟨s, hs⟩ : ∃ s, s = (dN x (nth x w p)).toInt := ⟨_, rfl⟩
    rw [← ht] at hr ⊢
    rw [← hs] at hr h1 h2
    omega
  · exact le_rfl

theorem spec_entries (x : S320000.Idx → BitVec 32) (w : ℕ) (fI fJ : S10244096.Idx → BitVec 32) (fC : S512.Idx → BitVec 32)
    (h : BktSpec x w fI fJ fC) (p : ℕ) (hp : p < 128 * nblk x w) (j : S10244096.Idx) (hj : (j 0).val = w * 320128 + p) :
    fI j = BitVec.ofNat 32 (entE x w p) ∧ fJ j = BitVec.ofNat 32 (entL x w p) := by
  unfold entL
  by_cases hc : p < cnt x w 320000
  · have he : entE x w p = nth x w p := if_pos hc
    rw [if_pos hc, he]
    have := h.kept _ (nth_hit x w p hc) (nth_lt x w p hc) j (by rw [nth_cnt x w p hc]; exact hj)
    exact ⟨this.1, this.2.trans (BitVec.ofNat_toNat _ _ |>.trans (by rw [BitVec.setWidth_eq])).symm⟩
  · have he : entE x w p = 0 := if_neg hc
    rw [if_neg hc, he]
    exact h.pad p (Nat.le_of_not_lt hc) hp j hj

/-- Element `(e, c)` of the messages. -/
def mrow (m : S320000x128.Idx → F .f32) (e c : ℕ) : F .f32 :=
  m (fun | 0 => ⟨e % 320000, Nat.mod_lt _ (by decide)⟩ | 1 => ⟨c % 128, Nat.mod_lt _ (by decide)⟩)

/-- Tile `w`'s accumulator after the first `p` entries of its list. -/
def accT (m : S320000x128.Idx → F .f32) (x : S320000.Idx → BitVec 32) (w p : ℕ) : S41088.Idx → F .f32 :=
  accG (entL x w) (fun q => mrow m (entE x w q)) p

/-- The result of the maximum call: each tile's accumulator without its spare row, tile after tile. -/
def outG (m : S320000x128.Idx → F .f32) (x : S320000.Idx → BitVec 32) : S1310720.Idx → F .f32 := fun j =>
  accT m x ((j 0).val / 40960) (128 * nblk x ((j 0).val / 40960)) (at1 ((j 0).val % 40960) (lt_trans (Nat.mod_lt _ (by decide)) (by decide)))

/-! ## The words of the maximum call -/

theorem s_t2_eq (v : BitVec 32) : k1_t2_loop v = ⟨0#32, v, 1#32⟩ := by
  unfold k1_t2_loop
  simp only [divsi_one]
  simp [Scalar.addi, Scalar.subi, Scalar.muli, IntOp.addi, IntOp.subi, IntOp.muli]

theorem s_t4_eq (v : BitVec 32) : k1_t4_loop v = ⟨v, v, 1#32⟩ := by
  unfold k1_t4_loop
  simp only [divsi_one]
  simp [Scalar.addi, Scalar.subi, Scalar.muli, IntOp.addi, IntOp.subi, IntOp.muli]

theorem s_t2_trips {n : ℕ} (h : n < 100000) : (k1_t2_loop (BitVec.ofNat 32 n)).trips = n := by
  rw [s_t2_eq]; exact trips_zero_one (by omega)
theorem s_t4_trips (v : BitVec 32) : (k1_t4_loop v).trips = 0 := by
  rw [s_t4_eq]; exact trips_same _

theorem s_place (w k : ℕ) :
    Scalar.addi (Scalar.muli (BitVec.ofNat 32 w) 320128#32) (BitVec.ofNat 32 (128 * k)) = BitVec.ofNat 32 (w * 320128 + 128 * k) := by
  simp only [Scalar.muli, Scalar.addi, IntOp.addi, IntOp.muli]
  rw [BitVec.ofNat_add, BitVec.ofNat_mul w 320128]

theorem s_off3 (v : BitVec 32) (k : Fin (k1_t2_loop v).trips) (hk : k.val < 2501) : k1_off3 L v k = ![wid L * 320128 + 128 * k.val] := by
  have hw := wid_lt L
  unfold k1_off3
  dsimp only
  rw [iv_zero_one, mul128, base_eq, s_place, toNat_small (by omega)]

theorem s_mult2 (v : BitVec 32) (k : Fin (k1_t2_loop v).trips) : k1_mult2 L v k = BitVec.ofNat 32 (wid L * 320128 + 128 * k.val) := by
  unfold k1_mult2
  dsimp only
  rw [iv_zero_one, mul128, base_eq, s_place]

theorem s_chk1 {n : ℕ} (hn : n ≤ 2500) : k1_chk1 L (BitVec.ofNat 32 n) := by
  have hw := wid_lt L
  have ht := s_t2_trips (n := n) (by omega)
  have e4 : ∀ k : Fin (k1_t4_loop (BitVec.ofNat 32 n)).trips, False := fun k => absurd (lt_of_lt_of_eq k.isLt (s_t4_trips _)) (Nat.not_lt_zero _)
  refine ⟨?_, fun k => ?_, fun k a => ?_, ?_, fun k => (e4 k).elim, fun k => (e4 k).elim⟩
  · rw [s_t2_eq]; exact ok_zero_one (by omega)
  · have hk : k.val < n := lt_of_lt_of_eq k.isLt ht
    rw [s_mult2, toNat_small (by omega)]
    omega
  · have hk : k.val < n := lt_of_lt_of_eq k.isLt ht
    rw [s_off3 _ _ _ (by omega), Fin.eq_zero a]
    show wid L * 320128 + 128 * k.val + 128 ≤ 10244096
    omega
  · rw [s_t4_eq]; exact ok_same (by omega)

theorem s_off1 : k1_off1 L = ![wid L * 16] := by
  have hw := wid_lt L
  unfold k1_off1
  dsimp only
  rw [base_eq]
  congr 1
  show (BitVec.ofNat 32 (wid L) * 16#32).toNat = _
  rw [show BitVec.ofNat 32 (wid L) * 16#32 = BitVec.ofNat 32 (wid L * 16) from (BitVec.ofNat_mul ..).symm, toNat_small (by omega)]

theorem s_off2 (k : Fin k1_t1_loop.trips) : k1_off2 k = ![16 * k.val] := by
  have hk : k.val < 2568 := lt_of_lt_of_eq k.isLt (trips_zero_one (n := 2568) (by decide))
  unfold k1_off2
  dsimp only
  rw [iv_zero_one]
  congr 1
  show (16#32 * (0#32 + BitVec.ofNat 32 k.val * 1#32)).toNat = _
  rw [BitVec.zero_add, BitVec.mul_one, ← BitVec.ofNat_mul, toNat_small (by omega)]

theorem s_off295 : k1_off295 L = ![wid L * 40960] := by
  have hw := wid_lt L
  unfold k1_off295
  dsimp only
  rw [base_eq]
  congr 1
  show (BitVec.ofNat 32 (wid L) * 320#32 * 128#32).toNat = _
  rw [show BitVec.ofNat 32 (wid L) * 320#32 = BitVec.ofNat 32 (wid L * 320) from (BitVec.ofNat_mul ..).symm,
    show BitVec.ofNat 32 (wid L * 320) * 128#32 = BitVec.ofNat 32 (wid L * 320 * 128) from (BitVec.ofNat_mul ..).symm, toNat_small (by omega)]
  omega

end Cert.Proof.Bucket

end
-- ==== Proof.SegLoops.lean ====
/-
  The loops of the maximum call: eight groups of sixteen entries, a fetched block, all the blocks.
-/
module

public import proofs.«01_k».proof.Proof.Bucket
public import proofs.«01_k».proof.Proof.SegTrip
public import proofs.«01_k».proof.Proof.SegEntries
public import proofs.«01_k».proof.Proof.BucketLoops

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

/-- A block of 128 fetched entries taken into the accumulator. -/
theorem s_t3_loop (loc : ℕ → ℕ) (row : ℕ → ℕ → F .f32) (b : ℕ)
    (Y : Buf (Elt F) ((thr d L).loc cc1_scratch1)) (R : Buf (Elt F) ((thr d L).loc cc1_scratch2))
    (hY : ∀ j : S128.Idx, Y j = BitVec.ofNat 32 (loc (b + (j 0).val)))
    (hR : ∀ j : S128x128.Idx, R j = row (b + (j 0).val) (j 1).val)
    (hl : ∀ n, n < 128 → loc (b + n) ≤ 320) {β : Type} {Q : β → sProp 𝕄} {kk : PUnit → Prog (TpuEff nD τ sig (Elt F) Λ₀ (.scVector (cV L) (jV L))) β} :
    (iprop(atY d L Y ∗ atR d L R ∗ atA d L (accG loc row b)) : sProp 𝕄)
      ⊢ iprop((iprop(atY d L Y ∗ atR d L R ∗ atA d L (accG loc row (b + 128))) -∗ wp frame (wpE (defs₀ (F := F)) 𝒱₀ (thr d L) none) Set.univ (kk ⟨⟩) Q)
        -∗ wp frame (wpE (defs₀ (F := F)) 𝒱₀ (thr d L) none) Set.univ
          (Scf.Loop.for k1_t3_loop k1_t3_ok ⟨⟩ (k1_t3_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5) >>= kk) Q) := by
  have htr : k1_t3_loop.trips = 8 := trips_zero_one (n := 8) (by decide)
  iintro ⟨HY, HR, HA⟩ Hk
  iapply (Scf.wp_for_bind frame (wpE (defs₀ (F := F)) 𝒱₀ (thr d L) none) Set.univ _ _ _ _ _ _
    (fun k (_ : PUnit) => iprop(atY d L Y ∗ atR d L R ∗ atA d L (accG loc row (b + 16 * k)))) ?_) $$ [HY HR HA]
  · iintro %k %_ ⟨HY, HR, HA⟩
    iapply (seg_trip d L loc row b k Y R hY hR hl) $$ [HY HR HA]
    · isplitl [HY]; · iexact HY
      isplitl [HR]; · iexact HR
      iexact HA
    iintro ⟨HY, HR, HA⟩
    isplitl [HY]; · iexact HY
    isplitl [HR]; · iexact HR
    iexact HA
  · isplitl [HY]; · iexact HY
    isplitl [HR]; · iexact HR
    iexact HA
  iintro %_ ⟨HY, HR, HA⟩
  ihave HA := (Entails.of_eq (congrArg (fun n => atA d L (accG loc row (b + 16 * n))) (show Scf.trips k1_t3_loop.lb k1_t3_loop.ub k1_t3_loop.st = 8 from htr))) $$ HA
  iapply Hk
  isplitl [HY]; · iexact HY
  isplitl [HR]; · iexact HR
  iexact HA

/-- The accumulator with its first `16 k` words at zero. -/
def Zeroed (k : ℕ) (g : S41088.Idx → F .f32) : Prop := ∀ j, (j 0).val < 16 * k → g j = Scalar.ofBits .f32 0x00000000#32

theorem zeroed_step {k : ℕ} {g g' : S41088.Idx → F .f32} (h : Zeroed k g) (hw : Wr (N := 41088) (16 * k) (k1_pay290 (F := F)) g g') : Zeroed (k + 1) g' := fun j hj => by
  by_cases hk : (j 0).val < 16 * k
  · rw [hw.out j (.inl hk)]; exact h j hk
  · have hlt : (j 0).val - 16 * k < 16 := by omega
    rw [hw.inn j (at1 ((j 0).val - 16 * k) hlt) (show (j 0).val = 16 * k + ((j 0).val - 16 * k) by omega)]
    rfl

/-- The accumulator set to zero. -/
theorem s_t1_loop (g₀ : Buf (Elt F) ((thr d L).loc cc1_scratch3)) {β : Type} {Q : β → sProp 𝕄} {kk : PUnit → Prog (TpuEff nD τ sig (Elt F) Λ₀ (.scVector (cV L) (jV L))) β} :
    (atA d L g₀ : sProp 𝕄)
      ⊢ iprop((atA d L (fun _ => Scalar.ofBits .f32 0x00000000#32) -∗ wp frame (wpE (defs₀ (F := F)) 𝒱₀ (thr d L) none) Set.univ (kk ⟨⟩) Q)
        -∗ wp frame (wpE (defs₀ (F := F)) 𝒱₀ (thr d L) none) Set.univ
          (Scf.Loop.for k1_t1_loop k1_t1_ok ⟨⟩ (k1_t1_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5) >>= kk) Q) := by
  have htr : k1_t1_loop.trips = 2568 := trips_zero_one (n := 2568) (by decide)
  iintro HA Hk
  iapply (Scf.wp_for_bind frame (wpE (defs₀ (F := F)) 𝒱₀ (thr d L) none) Set.univ _ _ _ _ _ _
    (fun k (_ : PUnit) => iprop(∃ g, ⌜Zeroed k g⌝ ∗ atA d L g)) ?_) $$ [HA]
  · iintro %k %_ ⟨%g, %hg, HA⟩
    unfold k1_t1_body
    simp only [Prog.lift, Prog.bind_op, Prog.bind_ret, Prog.pure_eq_ret, Prog.bind_assoc]
    iapply (skipA d L g) $$ HA; iintro HA
    iapply (storeA d L (16 * k.val) (s_off2 k) g) $$ HA; iintro %g' ⟨%hg', HA⟩
    rw [wp_ret]; imodintro
    iexists g'
    isplitr [HA]
    · ipureintro; exact zeroed_step hg hg'
    iexact HA
  · iexists g₀
    isplitr [HA]
    · ipureintro; exact fun j hj => absurd hj (Nat.not_lt_zero _)
    iexact HA
  iintro %_ ⟨%g, %hg, HA⟩
  have hz : g = fun _ => Scalar.ofBits .f32 0x00000000#32 := funext fun j => hg j (by
    rw [show Scf.trips k1_t1_loop.lb k1_t1_loop.ub k1_t1_loop.st = 2568 from htr]; exact (j 0).isLt)
  ihave HA := (Entails.of_eq (congrArg (atA d L) hz)) $$ HA
  iapply Hk
  iexact HA

/-! ## A block of a list, and the messages it names -/

/-- What a block of 128 words copied to the tile holds. -/
theorem copiedX (o : Fin 1 → ℕ) (h : ∀ a, o a + S128.size a ≤ S10244096.size a) (p : ℕ) (ho : o = ![p])
    (f : Buf (Elt F) (iLoc d L)) (g : Buf (Elt F) ((thr d L).loc cc1_scratch0)) (w : ℕ → BitVec 32)
    (hf : ∀ (n : ℕ) (hn : n < 128) (j : S10244096.Idx), (j 0).val = p + n → f j = w n) (j : S128.Idx) :
    (show S128.Idx → BitVec 32 from (sX).view.write (Elt F) g ((((gI).slice (Rect.unit (s := S10244096) o S128.size h) (fun _ => rfl)).view).read (Elt F) f) Finset.univ) j = w (j 0).val := by
  refine (congrFun (View.write_whole_univ (Val := Elt F) cc1_scratch0 g _) j).trans ?_
  exact hf (j 0).val (j 0).isLt _ ((emb1 (N := 10244096) o S128.size h j).trans (congrArg (· + (j 0).val) (congrFun ho 0)))

theorem copiedY (o : Fin 1 → ℕ) (h : ∀ a, o a + S128.size a ≤ S10244096.size a) (p : ℕ) (ho : o = ![p])
    (f : Buf (Elt F) (lLoc d L)) (g : Buf (Elt F) ((thr d L).loc cc1_scratch1)) (w : ℕ → BitVec 32)
    (hf : ∀ (n : ℕ) (hn : n < 128) (j : S10244096.Idx), (j 0).val = p + n → f j = w n) (j : S128.Idx) :
    (show S128.Idx → BitVec 32 from (sY).view.write (Elt F) g ((((gL).slice (Rect.unit (s := S10244096) o S128.size h) (fun _ => rfl)).view).read (Elt F) f) Finset.univ) j = w (j 0).val := by
  refine (congrFun (View.write_whole_univ (Val := Elt F) cc1_scratch1 g _) j).trans ?_
  exact hf (j 0).val (j 0).isLt _ ((emb1 (N := 10244096) o S128.size h j).trans (congrArg (· + (j 0).val) (congrFun ho 0)))

abbrev mLoc (d : Dev nD) (L : grid0.Coords) := (thr d L).loc main_arg0_scv

/-- What the gather leaves: row `r` is the message that entry `r` of the block names. -/
theorem gathered (m : Buf (Elt F) (mLoc d L)) (X : Buf (Elt F) ((thr d L).loc cc1_scratch0)) (fR : Buf (Elt F) ((thr d L).loc cc1_scratch2))
    (ent : ℕ → ℕ) (hX : ∀ j : S128.Idx, X j = BitVec.ofNat 32 (ent (j 0).val)) (he : ∀ n, ent n < 320000)
    (hin : ∀ x, ((sX).view.read (Elt F) X x).toNat < S320000x128.size gathers_S320000x128_S128x128.axis) (hn : S128.numel = S128x128.size gathers_S320000x128_S128x128.axis') (j : S128x128.Idx) :
    (show S128x128.Idx → F .f32 from (sR).view.write (Elt F) fR (SparseCore.gatherPayload gathers_S320000x128_S128x128 (((gM).slice (Rect.unit (s := S320000x128) ![0, 0] S320000x128.size inb_S320000x128_S320000x128_0_0) (fun _ => rfl)).view.read (Elt F) m)
      (SparseCore.rows ((sX).view.read (Elt F) X) hn hin)) Finset.univ) j = mrow m (ent (j 0).val) (j 1).val := by
  refine (congrFun (View.write_whole_univ (Val := Elt F) cc1_scratch2 fR _) j).trans ?_
  unfold SparseCore.gatherPayload mrow
  refine congrArg m (ext2 ?_ ?_)
  · have h1 := congrArg Fin.val (gathers_S320000x128_S128x128.idx_axis (SparseCore.rows ((sX).view.read (Elt F) X) hn hin) j)
    have h2 : ((SparseCore.rows ((sX).view.read (Elt F) X) hn hin) (j gathers_S320000x128_S128x128.axis')).val = ent (j 0).val := by
      show (X _).toNat = _
      rw [hX, toNat_small (lt_trans (he _) (by decide))]
      congr 1
      have := Shape.rowMajor_val_one (d := ![128]) (S128.rowMajor.symm ((j gathers_S320000x128_S128x128.axis').cast hn.symm))
      refine this.symm.trans ?_
      show (S128.rowMajor (S128.rowMajor.symm _)).val = _
      rw [Equiv.apply_symm_apply]
      rfl
    show (0 + 1 * (gathers_S320000x128_S128x128.idx (SparseCore.rows ((sX).view.read (Elt F) X) hn hin) j gathers_S320000x128_S128x128.axis).val) = ent (j 0).val % 320000
    rw [h1, h2, Nat.mod_eq_of_lt (he _)]
    omega
  · have h1 := gathers_S320000x128_S128x128.idx_of_ne (SparseCore.rows ((sX).view.read (Elt F) X) hn hin) j 1 (by decide)
    show (0 + 1 * (gathers_S320000x128_S128x128.idx (SparseCore.rows ((sX).view.read (Elt F) X) hn hin) j 1).val) = (j 1).val % 128
    rw [h1, Nat.mod_eq_of_lt (show (j 1).val < 128 from (j 1).isLt)]
    show 0 + 1 * (j 1).val = (j 1).val
    omega

/-- A block lies in the tile's region of the lists. -/
theorem block_sub (o : Fin 1 → ℕ) (h : ∀ a, o a + S128.size a ≤ S10244096.size a) (w k : ℕ) (hk : k < 2501) (ho : o = ![w * 320128 + 128 * k])
    (j : S10244096.Idx) (hj : j ∈ (Rect.unit (s := S10244096) o S128.size h).set) : j ∈ reg w := by
  rw [Rect.mem_set_unit] at hj
  have h0 := hj 0
  rw [congrFun ho 0] at h0
  rw [mem_reg]
  have h1 : w * 320128 + 128 * k ≤ (j 0).val := h0.1
  have h2 : (j 0).val < w * 320128 + 128 * k + 128 := h0.2
  omega

/-- What a block's step holds: the messages, the lists, the scratch buffers, the accumulator after `p` entries. -/
abbrev SegSt (m : Buf (Elt F) (mLoc d L)) (x : S320000.Idx → BitVec 32) (q : PosShare TreeShare)
    (fI : Buf (Elt F) (iLoc d L)) (fJ : Buf (Elt F) (lLoc d L)) (O : CellTallies nD τ sig (HIx 2)) (W : Waits sig (HIx 2)) (p : ℕ) : sProp 𝕄 :=
  iprop((mLoc d L ↦{q} m) ∗ atI d L (wid L) fI ∗ atJ d L (wid L) fJ ∗ (∃ f, atX d L f) ∗ (∃ f, atY d L f) ∗ (∃ f, atR d L f)
        ∗ atA d L (accT m x (wid L) (p)) ∗ semVal (thr d L, .dma cc1_scoped1.sem) 0 ∗ semVal (thr d L, .dma cc1_scoped2.sem) 0
        ∗ semVal (thr d L, .dma cc1_scratch5.sem) 0 ∗ Owed d L O W)

/-- One block: its list fetched, the messages it names gathered, its 128 entries taken. -/
theorem s_t2_body {Q : Unit → sProp 𝕄} (m : Buf (Elt F) (mLoc d L)) (x : S320000.Idx → BitVec 32) (q : PosShare TreeShare)
    (fI : Buf (Elt F) (iLoc d L)) (fJ : Buf (Elt F) (lLoc d L)) (O : CellTallies nD τ sig (HIx 2)) (W : Waits sig (HIx 2))
    (v : BitVec 32) (hv : k1_chk1 L v) (k : Fin (k1_t2_loop v).trips) (hk : k.val < 2501)
    (hIJ : ∀ (n : ℕ) (hn : n < 128) (j : S10244096.Idx), (j 0).val = wid L * 320128 + (128 * k.val + n) →
      fI j = BitVec.ofNat 32 (entE x (wid L) (128 * k.val + n)) ∧ fJ j = BitVec.ofNat 32 (entL x (wid L) (128 * k.val + n))) :
    (iprop(SegSt d L m x q fI fJ O W (128 * k.val) ∗ Transfers.MayWaits (thr d L) (default : HIx 2) O) : sProp 𝕄)
      ⊢ iprop((SegSt d L m x q fI fJ O W (128 * k.val + 128) -∗ Q ())
        -∗ wp frame (wpE (defs₀ (F := F)) 𝒱₀ (thr d L) none) Set.univ
          (k1_t2_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5 v hv k ()) Q) := by
  have ho := s_off3 L v k hk
  have hw := wid_lt L
  unfold k1_t2_body
  simp only [Prog.lift, Prog.bind_op, Prog.bind_ret, Prog.pure_eq_ret, Prog.bind_assoc]
  iintro ⟨⟨Hm, HI, HJ, ⟨%gX, HX⟩, ⟨%gY, HY⟩, ⟨%gR, HR⟩, HA, H1, H2, H5, HO⟩, #Hmw⟩ Hk
  icases HO with ⟨%W1, %hW1, HO⟩
  iapply (step_sync' (c := thr d L) (defs₀ (F := F)) (s := S128) (e := .i32) (O := O) (sem := cc1_scoped1.sem) (q := fullShare) (fs := fI) (Ss := reg (wid L)) (Sd := Finset.univ) (fd := gX)
    (src := (gI).slice (Rect.unit (s := S10244096) (k1_off3 L v k) S128.size (k1_off3_inb L v hv k)) (fun _ => rfl)) (dst := sX)
    _ rfl (View.amount_pos _ _ (show 0 < S128.numel by decide)) rfl
    (slice_sub _ _ _ _ (block_sub _ _ _ _ hk ho)) (Finset.subset_univ _)) $$ [HX HI H1 HO]
  · isplitl [HI]; · iexact HI
    isplitl [HX]; · iexact HX
    isplitl [H1]; · iexact H1
    isplitl [HO]; · iexact HO
    iexact Hmw
  iintro ⟨HX, HI, H1, HO⟩
  iapply (step_sync' (c := thr d L) (defs₀ (F := F)) (s := S128) (e := .i32) (O := O) (sem := cc1_scoped2.sem) (q := fullShare) (fs := fJ) (Ss := reg (wid L)) (Sd := Finset.univ) (fd := gY)
    (src := (gL).slice (Rect.unit (s := S10244096) (k1_off3 L v k) S128.size (k1_off3_inb L v hv k)) (fun _ => rfl)) (dst := sY)
    _ rfl (View.amount_pos _ _ (show 0 < S128.numel by decide)) rfl
    (slice_sub _ _ _ _ (block_sub _ _ _ _ hk ho)) (Finset.subset_univ _)) $$ [HY HJ H2 HO]
  · isplitl [HJ]; · iexact HJ
    isplitl [HY]; · iexact HY
    isplitl [H2]; · iexact H2
    isplitl [HO]; · iexact HO
    iexact Hmw
  iintro ⟨HY, HJ, H2, HO⟩
  have hX := copiedX d L _ (k1_off3_inb L v hv k) _ ho fI gX (fun n => BitVec.ofNat 32 (entE x (wid L) (128 * k.val + n)))
    (fun n hn j hj => (hIJ n hn j (hj.trans (Nat.add_assoc _ _ _))).1)
  have hY := copiedY d L _ (k1_off3_inb L v hv k) _ ho fJ gY (fun n => BitVec.ofNat 32 (entL x (wid L) (128 * k.val + n)))
    (fun n hn j hj => (hIJ n hn j (hj.trans (Nat.add_assoc _ _ _))).2)
  generalize (sX).view.write (Elt F) gX _ Finset.univ = X at hX ⊢
  generalize (sY).view.write (Elt F) gY _ Finset.univ = Y at hY ⊢
  have hin : ∀ y, ((sX).view.read (Elt F) X y).toNat < S320000x128.size gathers_S320000x128_S128x128.axis := fun y => by
    show (X _).toNat < 320000
    rw [hX, toNat_small (lt_trans (entE_lt _ _ _) (by decide))]
    exact entE_lt _ _ _
  have hrs : (sR).view.set = Finset.univ := View.set_whole _
  have hxs : (sX).view.set = Finset.univ := View.set_whole _
  ihave Hms := (pointsTo_split_subset (q := q) (f := m) (S := Finset.univ)
    (Finset.subset_univ (((gM).slice (Rect.unit (s := S320000x128) ![0, 0] S320000x128.size inb_S320000x128_S320000x128_0_0) (fun _ => rfl)).view).set)).1 $$ Hm
  icases Hms with ⟨Hm, Hmr⟩
  ihave HR := (Entails.of_eq (show ((sR).view.loc (thr d L) ↦[Finset.univ]{fullShare} gR : sProp 𝕄) = ((sR).view.loc (thr d L) ↦[(sR).view.set]{fullShare} gR) by rw [hrs])) $$ HR
  ihave HX := (Entails.of_eq (show ((sX).view.loc (thr d L) ↦[Finset.univ]{fullShare} X : sProp 𝕄) = ((sX).view.loc (thr d L) ↦[(sX).view.set]{fullShare} X) by rw [hxs])) $$ HX
  have hN : ∀ h : S320000x128.Gathers 0 S128x128, ∑ j, ((sR).slice (S128x128.rowRect h.axis' j) (S128x128.stride_rowRect h.axis' j)).view.dmaCredit = (sR).view.dmaCredit := by decide
  iapply (SparseCore.wp_indirectGatherLocal countersEmb 𝒱₀ (thr d L) none (hg := gathers_S320000x128_S128x128) (default : HIx 2) (sR).view.dmaCredit (hN _) (by decide) hin) $$ [Hm HR HX H5]
  · isplitl [Hm]; · iexact Hm
    isplitl [HR]; · iexact HR
    isplitl [HX]; · iexact HX
    iexact H5
  iintro Hfl
  simp only [SparseCore.waitIndirectGather, Prog.bind_op, Prog.bind_ret]
  iapply (Transfers.wp_waitLocalO countersEmb 𝒱₀ (thr d L) none (default : HIx 2) (rfl : (sR).view.dmaCredit = _)) $$ [Hfl HO]
  · isplitl [Hfl]; · iexact Hfl
    isplitl [HO]; · iexact HO
    iapply (Transfers.MayWaits.elim (SemLoc.dma cc1_scratch5.sem)) $$ Hmw
  iintro ⟨⟨HR, Hm, HX⟩, H5, HO⟩
  have hR := gathered d L m X gR (fun n => entE x (wid L) (128 * k.val + n)) hX (fun n => entE_lt _ _ _) hin rfl
  ihave Hm := (pointsTo_split_subset (q := q) (f := m) (S := Finset.univ)
    (Finset.subset_univ (((gM).slice (Rect.unit (s := S320000x128) ![0, 0] S320000x128.size inb_S320000x128_S320000x128_0_0) (fun _ => rfl)).view).set)).2 $$ [Hm Hmr]
  · isplitl [Hm]; · iexact Hm
    iexact Hmr
  ihave HX := (Entails.of_eq (show ((sX).view.loc (thr d L) ↦[(sX).view.set]{fullShare} X : sProp 𝕄) = ((sX).view.loc (thr d L) ↦[Finset.univ]{fullShare} X) by rw [hxs])) $$ HX
  generalize (sR).view.write (Elt F) gR _ Finset.univ = R at hR ⊢
  ihave HR := (Entails.of_eq (show ((sR).view.loc (thr d L) ↦[(sR).view.set]{fullShare} R : sProp 𝕄) = ((sR).view.loc (thr d L) ↦[Finset.univ]{fullShare} R) by rw [hrs])) $$ HR
  iapply (s_t3_loop d L (entL x (wid L)) (fun q => mrow m (entE x (wid L) q)) (128 * k.val) Y R hY hR (fun n _ => entL_le _ _ _ hw)) $$ [HY HR HA]
  · isplitl [HY]; · iexact HY
    isplitl [HR]; · iexact HR
    iexact HA
  iintro ⟨HY, HR, HA⟩
  rw [wp_ret]; imodintro
  iapply Hk
  isplitl [Hm]; · iexact Hm
  isplitl [HI]; · iexact HI
  isplitl [HJ]; · iexact HJ
  isplitl [HX]; · iexists X; iexact HX
  isplitl [HY]; · iexists Y; iexact HY
  isplitl [HR]; · iexists R; iexact HR
  isplitl [HA]; · iexact HA
  isplitl [H1]; · iexact H1
  isplitl [H2]; · iexact H2
  isplitl [H5]; · iexact H5
  iexists _
  isplitr [HO]
  rotate_left
  · iexact HO
  ipureintro
  intro p hp
  rcases Finset.mem_insert.mp hp with rfl | hp
  · exact .inr rfl
  rcases Finset.mem_insert.mp hp with rfl | hp
  · exact .inr rfl
  rcases Finset.mem_insert.mp hp with rfl | hp
  · exact .inr rfl
  exact hW1 p hp

end Cert.Proof.Bucket

end
-- ==== Proof.SegMain.lean ====
/-
  The whole body of the maximum call.
-/
module

public import proofs.«01_k».proof.Proof.Bucket
public import proofs.«01_k».proof.Proof.SegLoops

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

/-- All the blocks of a tile's list. -/
theorem s_t2_loop {β : Type} {Q : β → sProp 𝕄} {kk : PUnit → Prog (TpuEff nD τ sig (Elt F) Λ₀ (.scVector (cV L) (jV L))) β}
    (m : Buf (Elt F) (mLoc d L)) (x : S320000.Idx → BitVec 32) (q : PosShare TreeShare)
    (fI : Buf (Elt F) (iLoc d L)) (fJ : Buf (Elt F) (lLoc d L)) (fC : S512.Idx → BitVec 32) (O : CellTallies nD τ sig (HIx 2)) (W : Waits sig (HIx 2))
    (hs : BktSpec x (wid L) fI fJ fC)
    (v : BitVec 32) (hv : k1_chk1 L v) (hn : v = BitVec.ofNat 32 (nblk x (wid L))) :
    (iprop(SegSt d L m x q fI fJ O W 0 ∗ Transfers.MayWaits (thr d L) (default : HIx 2) O) : sProp 𝕄)
      ⊢ iprop((SegSt d L m x q fI fJ O W (128 * nblk x (wid L)) -∗ wp frame (wpE (defs₀ (F := F)) 𝒱₀ (thr d L) none) Set.univ (kk ⟨⟩) Q)
        -∗ wp frame (wpE (defs₀ (F := F)) 𝒱₀ (thr d L) none) Set.univ
          (Scf.Loop.for (k1_t2_loop v) (k1_t2_ok L v hv) ⟨⟩ (k1_t2_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5 v hv) >>= kk) Q) := by
  have hb := nblk_le x (wid L)
  have htr : (k1_t2_loop v).trips = nblk x (wid L) := by rw [hn]; exact s_t2_trips (by omega)
  iintro ⟨HS, #Hmw⟩ Hk
  iapply (Scf.wp_for_bind frame (wpE (defs₀ (F := F)) 𝒱₀ (thr d L) none) Set.univ _ _ _ _ _ _
    (fun k (_ : PUnit) => iprop(SegSt d L m x q fI fJ O W (128 * k) ∗ Transfers.MayWaits (thr d L) (default : HIx 2) O)) ?_) $$ [HS]
  · iintro %k %_ ⟨HS, #Hmw⟩
    have hk : k.val < nblk x (wid L) := lt_of_lt_of_eq k.isLt htr
    iapply (s_t2_body d L m x q fI fJ O W v hv k (by omega)
      (fun n hn j hj => spec_entries x (wid L) fI fJ fC hs (128 * k.val + n) (by omega) j hj)) $$ [HS]
    · isplitl [HS]; · iexact HS
      iexact Hmw
    iintro HS
    isplitl [HS]; · iexact HS
    iexact Hmw
  · isplitl [HS]; · iexact HS
    iexact Hmw
  iintro %_ ⟨HS, -⟩
  ihave HS := (Entails.of_eq (congrArg (fun n => SegSt d L m x q fI fJ O W (128 * n)) (show Scf.trips (k1_t2_loop v).lb (k1_t2_loop v).ub (k1_t2_loop v).st = nblk x (wid L) from htr))) $$ HS
  iapply Hk
  iexact HS

/-- The part of the result that tile `w` writes. -/
@[irreducible] def regH (w : ℕ) : Finset S1310720.Idx := Finset.univ.filter fun j => w * 40960 ≤ (j 0).val ∧ (j 0).val < w * 40960 + 40960
theorem mem_regH (w : ℕ) (j : S1310720.Idx) : j ∈ regH w ↔ w * 40960 ≤ (j 0).val ∧ (j 0).val < w * 40960 + 40960 := by
  unfold regH; rw [Finset.mem_filter]; exact and_iff_right (Finset.mem_univ _)

abbrev hLoc (d : Dev nD) (L : grid0.Coords) := (thr d L).loc main_v1_scv
abbrev atH (w : ℕ) (f : Buf (Elt F) (hLoc d L)) : sProp 𝕄 := hLoc d L ↦[regH w]{fullShare} f

theorem cnt_read (h : ∀ a, k1_off1 L a + S16.size a ≤ S512.size a) (f : Buf (Elt F) (cLoc d L)) (g : Buf (Elt F) ((thr d L).loc cc1_scratch4)) (v : BitVec 32)
    (hf : ∀ j ∈ regC (wid L), f j = v) (i : S16.Idx) :
    (show S16.Idx → BitVec 32 from (sN).view.write (Elt F) g ((((gC).slice (Rect.unit (s := S512) (k1_off1 L) S16.size h) (fun _ => rfl)).view).read (Elt F) f) Finset.univ) i = v := by
  refine (congrFun (View.write_whole_univ (Val := Elt F) cc1_scratch4 g _) i).trans ?_
  refine hf _ ((mem_regC _ _).mpr ?_)
  have e : ((Rect.unit (s := S512) (k1_off1 L) S16.size h).emb i 0).val = wid L * 16 + (i 0).val :=
    (emb1 (N := 512) (k1_off1 L) S16.size h i).trans (congrArg (· + (i 0).val) (congrFun (s_off1 L) 0))
  have hi : (i 0).val < 16 := (i 0).isLt
  have e' : ((((gC).slice (Rect.unit (s := S512) (k1_off1 L) S16.size h) (fun _ => rfl)).view).emb i 0).val = wid L * 16 + (i 0).val := e
  constructor <;> omega

/-- What the last copy leaves in the tile's part of the result. -/
theorem out_copied (h : ∀ a, k1_off295 L a + S40960.size a ≤ S1310720.size a) (m : Buf (Elt F) (mLoc d L)) (x : S320000.Idx → BitVec 32) (f : Buf (Elt F) (hLoc d L))
    (j : S1310720.Idx) (hj : j ∈ regH (wid L)) :
    (((gH).slice (Rect.unit (s := S1310720) (k1_off295 L) S40960.size h) (fun _ => rfl)).view).write (Elt F) f
      ((((sA).slice (Rect.unit (s := S41088) ![0] S40960.size inb_S41088_S40960_0) (fun _ => rfl)).view).read (Elt F) (accT m x (wid L) (128 * nblk x (wid L)))) Finset.univ j = outG m x j := by
  have hw := wid_lt L
  rw [mem_regH] at hj
  have hl : (j 0).val - wid L * 40960 < 40960 := by omega
  have hi : j = (Rect.unit (s := S1310720) (k1_off295 L) S40960.size h).emb (at1 ((j 0).val - wid L * 40960) hl) := ext1 (by
    refine Eq.trans ?_ (emb1 (N := 1310720) (k1_off295 L) S40960.size h (at1 _ hl)).symm
    rw [congrFun (s_off295 L) 0]
    show (j 0).val = wid L * 40960 + ((j 0).val - wid L * 40960)
    omega)
  have hd : (j 0).val / 40960 = wid L := by omega
  have hm : (j 0).val % 40960 = (j 0).val - wid L * 40960 := by omega
  refine (congrArg _ hi).trans ((wr_in (F := F) main_v1_scv (Rect.unit (s := S1310720) (k1_off295 L) S40960.size h) f _ _).trans ?_)
  unfold outG
  rw [hd]
  refine congrArg (accT m x (wid L) (128 * nblk x (wid L))) (ext1 ?_)
  refine (emb1 (N := 41088) ![0] S40960.size inb_S41088_S40960_0 (at1 ((j 0).val - wid L * 40960) hl)).trans ?_
  show 0 + ((j 0).val - wid L * 40960) = (j 0).val % 40960
  rw [hm]; omega

/-- The body of the maximum call on one tile: from the tile's lists and the messages, its part of the result. -/
theorem segmax_body (m : Buf (Elt F) (mLoc d L)) (x : S320000.Idx → BitVec 32) (q : PosShare TreeShare)
    (fI : Buf (Elt F) (iLoc d L)) (fJ : Buf (Elt F) (lLoc d L)) (fK : Buf (Elt F) (cLoc d L)) (fH : Buf (Elt F) (hLoc d L))
    (gX : Buf (Elt F) ((thr d L).loc cc1_scratch0)) (gY : Buf (Elt F) ((thr d L).loc cc1_scratch1)) (gR : Buf (Elt F) ((thr d L).loc cc1_scratch2))
    (gA : Buf (Elt F) ((thr d L).loc cc1_scratch3)) (gN : Buf (Elt F) ((thr d L).loc cc1_scratch4))
    (O : CellTallies nD τ sig (HIx 2)) (W : Waits sig (HIx 2)) (hs : BktSpec x (wid L) fI fJ fK) :
    (iprop((mLoc d L ↦{q} m) ∗ atI d L (wid L) fI ∗ atJ d L (wid L) fJ ∗ atK d L (wid L) fK ∗ atH d L (wid L) fH
        ∗ atX d L gX ∗ atY d L gY ∗ atR d L gR ∗ atA d L gA ∗ atN d L gN
        ∗ semVal (thr d L, .dma cc1_scoped0.sem) 0 ∗ semVal (thr d L, .dma cc1_scoped1.sem) 0 ∗ semVal (thr d L, .dma cc1_scoped2.sem) 0
        ∗ semVal (thr d L, .dma cc1_scoped5.sem) 0 ∗ semVal (thr d L, .dma cc1_scratch5.sem) 0
        ∗ Owed d L O W ∗ Transfers.MayWaits (thr d L) (default : HIx 2) O) : sProp 𝕄)
      ⊢ wp frame (wpE (defs₀ (F := F)) 𝒱₀ (thr d L) none) Set.univ
          (cc1__sc_segmax_body L gM (Memref.isWhole_whole _) gI (Memref.isWhole_whole _) gL (Memref.isWhole_whole _) gC (Memref.isWhole_whole _) gH (Memref.isWhole_whole _)
            sX (Memref.isWhole_whole _) sY (Memref.isWhole_whole _) sR (Memref.isWhole_whole _) sA (Memref.isWhole_whole _) sN (Memref.isWhole_whole _)
            cc1_scratch5 cc1_scoped0 cc1_scoped1 cc1_scoped2 cc1_scoped3 cc1_scoped4 cc1_scoped5) (fun _ =>
            iprop((mLoc d L ↦{q} m) ∗ atI d L (wid L) fI ∗ atJ d L (wid L) fJ ∗ atK d L (wid L) fK ∗ atH d L (wid L) (outG m x)
              ∗ (∃ f, atX d L f) ∗ (∃ f, atY d L f) ∗ (∃ f, atR d L f) ∗ (∃ f, atA d L f) ∗ (∃ f, atN d L f)
              ∗ semVal (thr d L, .dma cc1_scoped0.sem) 0 ∗ semVal (thr d L, .dma cc1_scoped1.sem) 0 ∗ semVal (thr d L, .dma cc1_scoped2.sem) 0
              ∗ semVal (thr d L, .dma cc1_scoped5.sem) 0 ∗ semVal (thr d L, .dma cc1_scratch5.sem) 0
              ∗ Owed d L O W)) := by
  have hw := wid_lt L
  have hb := nblk_le x (wid L)
  have hcnt : ∀ j ∈ regC (wid L), fK j = BitVec.ofNat 32 (nblk x (wid L)) := hs.count
  rw [cc1__sc_segmax_body_eq_skeleton]; unfold cc1__sc_segmax_body_skel
  rw [k1_part65_eq_skeleton]; unfold k1_part65_skel
  simp only [Prog.lift, Prog.bind_op, Prog.bind_ret, Prog.pure_eq_ret, Prog.bind_assoc]
  iintro ⟨Hm, HI, HJ, HK, HH, HX, HY, HR, HA, HN, H0, H1, H2, H5, Hg, HO, #Hmw⟩
  icases HO with ⟨%W1, %hW1, HO⟩
  iapply (step_sync' (c := thr d L) (defs₀ (F := F)) (s := S16) (e := .i32) (O := O) (sem := cc1_scoped0.sem) (q := fullShare) (fs := fK) (Ss := regC (wid L)) (Sd := Finset.univ) (fd := gN)
    (src := (gC).slice (Rect.unit (s := S512) (k1_off1 L) S16.size (k1_off1_inb L)) (fun _ => rfl)) (dst := sN)
    _ rfl (View.amount_pos _ _ (show 0 < S16.numel by decide)) rfl
    (slice_sub _ _ _ _ (fun j hj => (mem_regC _ j).mpr (unit1 (N := 512) _ _ (k1_off1_inb L) j _ 16 (s_off1 L) rfl hj))) (Finset.subset_univ _)) $$ [HK HN H0 HO]
  · isplitl [HK]; · iexact HK
    isplitl [HN]; · iexact HN
    isplitl [H0]; · iexact H0
    isplitl [HO]; · iexact HO
    iexact Hmw
  iintro ⟨HN, HK, H0, HO⟩
  have hN := cnt_read d L (k1_off1_inb L) fK gN _ hcnt
  generalize (sN).view.write (Elt F) gN _ Finset.univ = N at hN ⊢
  iapply (loadN d L 0 rfl N) $$ HN
  iintro %v4 ⟨%hv4, HN⟩
  have hv : extractAt ![0] (k1_pay289 (F := F) v4) inpos_S1_p0 = BitVec.ofNat 32 (nblk x (wid L)) :=
    (hv4 _ _ (Nat.zero_add _).symm).trans (hN _)
  rw [wp_assume_of _ _ _ _ (show k1_chk1 L (extractAt ![0] (k1_pay289 (F := F) v4) inpos_S1_p0) by rw [hv]; exact s_chk1 L hb)]
  iapply (s_t1_loop d L gA) $$ HA
  iintro HA
  iapply (s_t2_loop d L m x q fI fJ fK O W hs _ _ hv) $$ [Hm HI HJ HX HY HR HA H1 H2 Hg HO]
  · isplitr []
    · isplitl [Hm]; · iexact Hm
      isplitl [HI]; · iexact HI
      isplitl [HJ]; · iexact HJ
      isplitl [HX]; · iexists gX; iexact HX
      isplitl [HY]; · iexists gY; iexact HY
      isplitl [HR]; · iexists gR; iexact HR
      isplitl [HA]; · iexact HA
      isplitl [H1]; · iexact H1
      isplitl [H2]; · iexact H2
      isplitl [Hg]; · iexact Hg
      iexists _
      isplitr [HO]
      rotate_left
      · iexact HO
      ipureintro
      intro p hp
      rcases Finset.mem_insert.mp hp with rfl | hp
      · exact .inr rfl
      exact hW1 p hp
    iexact Hmw
  iintro ⟨Hm, HI, HJ, HX, HY, HR, HA, H1, H2, Hg, HO⟩
  iapply (Scf.wp_for0_bind frame (wpE (defs₀ (F := F)) 𝒱₀ (thr d L) none) Set.univ _ _ _ _ _ (s_t4_trips _) _ _ _ .rfl)
  icases HO with ⟨%W2, %hW2, HO⟩
  iapply (step_sync' (c := thr d L) (defs₀ (F := F)) (s := S40960) (e := .f32) (O := O) (sem := cc1_scoped5.sem) (q := fullShare) (fs := accT m x (wid L) (128 * nblk x (wid L))) (Ss := Finset.univ) (Sd := regH (wid L)) (fd := fH)
    (src := (sA).slice (Rect.unit (s := S41088) ![0] S40960.size inb_S41088_S40960_0) (fun _ => rfl))
    (dst := (gH).slice (Rect.unit (s := S1310720) (k1_off295 L) S40960.size (k1_off295_inb L)) (fun _ => rfl))
    _ rfl (View.amount_pos _ _ (show 0 < S40960.numel by decide)) rfl (Finset.subset_univ _)
    (slice_sub _ _ _ _ (fun j hj => (mem_regH _ j).mpr (unit1 (N := 1310720) _ _ (k1_off295_inb L) j _ 40960 (s_off295 L) rfl hj)))) $$ [HA HH H5 HO]
  · isplitl [HA]; · iexact HA
    isplitl [HH]; · iexact HH
    isplitl [H5]; · iexact H5
    isplitl [HO]; · iexact HO
    iexact Hmw
  iintro ⟨HH, HA, H5, HO⟩
  ihave HH := (Entails.of_eq (pointsTo_congr (out_copied d L (k1_off295_inb L) m x fH))) $$ HH
  rw [wp_ret]
  imodintro
  isplitl [Hm]; · iexact Hm
  isplitl [HI]; · iexact HI
  isplitl [HJ]; · iexact HJ
  isplitl [HK]; · iexact HK
  isplitl [HH]; · iexact HH
  isplitl [HX]; · iexact HX
  isplitl [HY]; · iexact HY
  isplitl [HR]; · iexact HR
  isplitl [HA]; · iexists _; iexact HA
  isplitl [HN]; · iexists N; iexact HN
  isplitl [H0]; · iexact H0
  isplitl [H1]; · iexact H1
  isplitl [H2]; · iexact H2
  isplitl [H5]; · iexact H5
  isplitl [Hg]; · iexact Hg
  iexists _
  isplitr [HO]
  rotate_left
  · iexact HO
  ipureintro
  intro p hp
  rcases Finset.mem_insert.mp hp with rfl | hp
  · exact .inr rfl
  exact hW2 p hp

end Cert.Proof.Bucket

end
-- ==== Proof.BucketMain.lean ====
/-
  The whole body of the bucketing call on one tile, with what it leaves in the three lists.
-/
module

public import proofs.«01_k».proof.Proof.BucketTile

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the destinations, the three outputs, the four scratch buffers
local notation "gD" => (Memref.whole Cert.KernelIdeal.main_arg1_scv : Memref Cert.KernelIdeal.sig Kind.scVector Space.hbm Cert.KernelIdeal.S320000 EltTy.i32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)

variable [FloatOps F]
variable (d : Dev nD) (L : grid0.Coords)

/-- Sixteen equal words copied into the tile's place among the counts. -/
theorem cnt_copied (h : ∀ a, k0_off12 L a + S16.size a ≤ S512.size a) (s : Buf (Elt F) ((thr d L).loc cc0_scratch3)) (f : Buf (Elt F) (cLoc d L)) (v : BitVec 32)
    (hs : ∀ i : S16.Idx, s i = v) (j : S512.Idx) (hj : j ∈ regC (wid L)) :
    (((gC).slice (Rect.unit (s := S512) (k0_off12 L) S16.size h) (fun _ => rfl)).view).write (Elt F) f ((sC).view.read (Elt F) s) Finset.univ j = v := by
  have hw := wid_lt L
  rw [mem_regC] at hj
  have hl : (j 0).val - wid L * 16 < 16 := by omega
  have hi : j = (Rect.unit (s := S512) (k0_off12 L) S16.size h).emb (at1 ((j 0).val - wid L * 16) hl) := ext1 (by
    refine Eq.trans ?_ (emb1 (N := 512) (k0_off12 L) S16.size h (at1 _ hl)).symm
    rw [congrFun (off12_eq L) 0]
    show (j 0).val = wid L * 16 + ((j 0).val - wid L * 16)
    omega)
  rw [hi]
  exact (wr_in (F := F) main_v0_2_scv (Rect.unit (s := S512) (k0_off12 L) S16.size h) f _ _).trans (hs _)

theorem iota_val (i : S16.Idx) : iota .scVector S16 32 [0] iota_S16_d0_w32_scVector i = BitVec.ofNat 32 (i 0).val := by
  show BitVec.ofNat 32 (0 * 16 + (i 0).val) = _
  rw [Nat.zero_mul, Nat.zero_add]

set_option maxHeartbeats 1000000 in
/-- The whole body on one tile. -/
theorem bucket_body (x : S320000.Idx → BitVec 32) (q : PosShare TreeShare)
    (fD : Buf (Elt F) ((thr d L).loc cc0_scratch0))
    (fM₀ : Buf (Elt F) ((thr d L).loc cc0_scratch1)) (fL₀ : Buf (Elt F) ((thr d L).loc cc0_scratch2)) (fC₀ : Buf (Elt F) ((thr d L).loc cc0_scratch3))
    (fI₀ : Buf (Elt F) (iLoc d L)) (fJ₀ : Buf (Elt F) (lLoc d L)) (fK₀ : Buf (Elt F) (cLoc d L))
    (O : CellTallies nD τ sig (HIx 2)) (W : Waits sig (HIx 2)) :
    (iprop((dLoc d L ↦{q} (x : Buf (Elt F) (dLoc d L))) ∗ atI d L (wid L) fI₀ ∗ atJ d L (wid L) fJ₀ ∗ atK d L (wid L) fK₀
        ∗ atD d L fD ∗ atM d L fM₀ ∗ atL d L fL₀ ∗ atC d L fC₀ ∗ semVal (thr d L, .dma cc0_scoped0.sem) 0
        ∗ semVal (thr d L, .dma cc0_scoped1.sem) 0 ∗ semVal (thr d L, .dma cc0_scoped2.sem) 0
        ∗ semVal (thr d L, .dma cc0_scoped5.sem) 0 ∗ semVal (thr d L, .dma cc0_scoped6.sem) 0 ∗ semVal (thr d L, .dma cc0_scoped9.sem) 0
        ∗ Owed d L O W ∗ Transfers.MayWaits (thr d L) (default : HIx 2) O) : sProp 𝕄)
      ⊢ wp frame (wpE (defs₀ (F := F)) 𝒱₀ (thr d L) none) Set.univ
          (cc0__sc_bucket_body L gD (Memref.isWhole_whole _) gI (Memref.isWhole_whole _) gL (Memref.isWhole_whole _) gC (Memref.isWhole_whole _) sD (Memref.isWhole_whole _) sM (Memref.isWhole_whole _) sL (Memref.isWhole_whole _) sC (Memref.isWhole_whole _) cc0_scratch4 cc0_scoped0 cc0_scoped1 cc0_scoped2 cc0_scoped3 cc0_scoped4 cc0_scoped5 cc0_scoped6 cc0_scoped7 cc0_scoped8 cc0_scoped9)
          fun _ => iprop((dLoc d L ↦{q} (x : Buf (Elt F) (dLoc d L))) ∗ (∃ uI uJ uK, atI d L (wid L) uI ∗ atJ d L (wid L) uJ ∗ atK d L (wid L) uK ∗ ⌜BktSpec x (wid L) uI uJ uK⌝)
            ∗ (∃ f, atD d L f) ∗ (∃ f, atM d L f) ∗ (∃ f, atL d L f) ∗ (∃ f, atC d L f) ∗ semVal (thr d L, .dma cc0_scoped0.sem) 0
            ∗ semVal (thr d L, .dma cc0_scoped1.sem) 0 ∗ semVal (thr d L, .dma cc0_scoped2.sem) 0
            ∗ semVal (thr d L, .dma cc0_scoped5.sem) 0 ∗ semVal (thr d L, .dma cc0_scoped6.sem) 0 ∗ semVal (thr d L, .dma cc0_scoped9.sem) 0 ∗ Owed d L O W) := by
  have hw := wid_lt L
  have htr : k0_t1_loop.trips = 40 := trips_zero_one (n := 40) (by decide)
  rw [cc0__sc_bucket_body_eq_skeleton]
  unfold cc0__sc_bucket_body_skel
  simp only [k0_part3_eq_skeleton, k0_part4_eq_skeleton, k0_part5_eq_skeleton, k0_part6_eq_skeleton]
  unfold k0_part3_skel k0_part4_skel k0_part5_skel k0_part6_skel
  simp only [Prog.lift, Prog.bind_op, Prog.bind_ret, Prog.pure_eq_ret, Prog.bind_assoc]
  rw [base_eq L]
  obtain ⟨v4, hv4⟩ : ∃ v4, v4 = iota .scVector S16 32 [0] iota_S16_d0_w32_scVector := ⟨_, rfl⟩
  have hv4' : ∀ i : S16.Idx, v4 i = BitVec.ofNat 32 (i 0).val := fun i => by rw [hv4]; exact iota_val i
  have hidx : ∀ (o : ℕ) (i : S16.Idx), addi (broadcast S16 (BitVec.ofNat 32 o)) v4 i = BitVec.ofNat 32 (o + (i 0).val) := fun o i => by
    show IntOp.addi (BitVec.ofNat 32 o) (v4 i) = _
    rw [hv4']; exact (BitVec.ofNat_add _ _).symm
  have hidx0 : ∀ (o : ℕ) (i : S16.Idx), addi (broadcast S16 (BitVec.ofNat 32 o)) (iota .scVector S16 32 [0] iota_S16_d0_w32_scVector) i = BitVec.ofNat 32 (o + (i 0).val) := fun o i => by
    rw [← hv4]; exact hidx o i
  rw [← hv4]
  obtain ⟨v2, hv2⟩ : ∃ v2, v2 = Scalar.muli (BitVec.ofNat 32 (wid L)) 320#32 := ⟨_, rfl⟩
  rw [← hv2]
  obtain ⟨v3, hv3⟩ : ∃ v3, v3 = Scalar.addi v2 320#32 := ⟨_, rfl⟩
  rw [← hv3]
  have h2 : v2 = BitVec.ofNat 32 (320 * wid L) := by rw [hv2, Nat.mul_comm, BitVec.ofNat_mul]; rfl
  have h3 : v3 = BitVec.ofNat 32 (320 * wid L + 320) := by rw [hv3, h2, BitVec.ofNat_add]; rfl
  iintro ⟨Hx, HI, HJ, HK, HD, HM, HL, HC, H0, H1, H2, H5, H6, H9, HO, #Hmw⟩
  iapply (t1_loop d L x q (BitVec.ofNat 32 (wid L)) v2 v3 v4 hv4' h2 h3 fD fM₀ fL₀ fI₀ fJ₀ O W) $$ [Hx HI HJ HD HM HL H0 H1 H2 HO]
  · isplitl [Hx]; · iexact Hx
    isplitl [HI]; · iexact HI
    isplitl [HJ]; · iexact HJ
    isplitl [HD]; · iexact HD
    isplitl [HM]; · iexact HM
    isplitl [HL]; · iexact HL
    isplitl [H0]; · iexact H0
    isplitl [H1]; · iexact H1
    isplitl [H2]; · iexact H2
    isplitl [HO]; · iexact HO
    iexact Hmw
  iintro %a ⟨%gc, %fM, %fL, %uI, %uJ, %hp, Hx, HD, HM, HL, HI, HJ, H0, H1, H2, HO⟩
  obtain ⟨a12, a13⟩ := a
  obtain ⟨p1, p2, p3, p4, p5, p6, p7⟩ := hp
  obtain ⟨lc, hlc⟩ : ∃ lc, lc = cnt x (wid L) 320000 - gc := ⟨_, rfl⟩
  rw [← hlc] at p3 p5
  have hc2 := cnt_le x (wid L) 320000
  dsimp only at p4 p5
  subst p4 p5
  dsimp only
  rw [wp_assume_of _ _ _ _ (chk4_ok (i := L) (g := gc) (l := lc) p1 p3 (by omega))]
  rw [wp_assume_of _ _ _ _ (chk3_ok (l := lc) p3)]
  iapply (loadM d L 0 rfl fM) $$ HM
  iintro %v0 ⟨%hv0, HM⟩
  iapply (loadL d L 0 rfl fL) $$ HL
  iintro %w0 ⟨%hw0, HL⟩
  iapply (loadM d L 0 rfl fM) $$ HM
  iintro %x0 ⟨-, HM⟩
  iapply (storeM d L 0 rfl fM) $$ HM
  iintro %gM0 ⟨%hq0, HM⟩
  iapply (loadL d L 0 rfl fL) $$ HL
  iintro %y0 ⟨-, HL⟩
  iapply (storeL d L 0 rfl fL) $$ HL
  iintro %gL0 ⟨%hr0, HL⟩
  have hpM0 := padded_step lc 0 0#32 fM fM gM0 (padded_zero lc 0#32 fM) v0 _ hv0 (fun i => pad_pay 0 lc (by decide) (by omega) 0#32 _ (hidx0 0) v0 i) hq0
  have hpL0 := padded_step lc 0 320#32 fL fL gL0 (padded_zero lc 320#32 fL) w0 _ hw0 (fun i => pad_pay 0 lc (by decide) (by omega) 320#32 _ (hidx0 0) w0 i) hr0
  iapply (loadM d L 16 rfl gM0) $$ HM
  iintro %v1 ⟨%hv1, HM⟩
  iapply (loadL d L 16 rfl gL0) $$ HL
  iintro %w1 ⟨%hw1, HL⟩
  iapply (loadM d L 16 rfl gM0) $$ HM
  iintro %x1 ⟨-, HM⟩
  iapply (storeM d L 16 rfl gM0) $$ HM
  iintro %gM1 ⟨%hq1, HM⟩
  iapply (loadL d L 16 rfl gL0) $$ HL
  iintro %y1 ⟨-, HL⟩
  iapply (storeL d L 16 rfl gL0) $$ HL
  iintro %gL1 ⟨%hr1, HL⟩
  have hpM1 := padded_step lc 1 0#32 fM gM0 gM1 hpM0 v1 _ hv1 (fun i => pad_pay 16 lc (by decide) (by omega) 0#32 _ (hidx0 16) v1 i) hq1
  have hpL1 := padded_step lc 1 320#32 fL gL0 gL1 hpL0 w1 _ hw1 (fun i => pad_pay 16 lc (by decide) (by omega) 320#32 _ (hidx0 16) w1 i) hr1
  iapply (loadM d L 32 rfl gM1) $$ HM
  iintro %v2 ⟨%hv2, HM⟩
  iapply (loadL d L 32 rfl gL1) $$ HL
  iintro %w2 ⟨%hw2, HL⟩
  iapply (loadM d L 32 rfl gM1) $$ HM
  iintro %x2 ⟨-, HM⟩
  iapply (storeM d L 32 rfl gM1) $$ HM
  iintro %gM2 ⟨%hq2, HM⟩
  iapply (loadL d L 32 rfl gL1) $$ HL
  iintro %y2 ⟨-, HL⟩
  iapply (storeL d L 32 rfl gL1) $$ HL
  iintro %gL2 ⟨%hr2, HL⟩
  have hpM2 := padded_step lc 2 0#32 fM gM1 gM2 hpM1 v2 _ hv2 (fun i => pad_pay 32 lc (by decide) (by omega) 0#32 _ (hidx 32) v2 i) hq2
  have hpL2 := padded_step lc 2 320#32 fL gL1 gL2 hpL1 w2 _ hw2 (fun i => pad_pay 32 lc (by decide) (by omega) 320#32 _ (hidx 32) w2 i) hr2
  iapply (loadM d L 48 rfl gM2) $$ HM
  iintro %v3 ⟨%hv3, HM⟩
  iapply (loadL d L 48 rfl gL2) $$ HL
  iintro %w3 ⟨%hw3, HL⟩
  iapply (loadM d L 48 rfl gM2) $$ HM
  iintro %x3 ⟨-, HM⟩
  iapply (storeM d L 48 rfl gM2) $$ HM
  iintro %gM3 ⟨%hq3, HM⟩
  iapply (loadL d L 48 rfl gL2) $$ HL
  iintro %y3 ⟨-, HL⟩
  iapply (storeL d L 48 rfl gL2) $$ HL
  iintro %gL3 ⟨%hr3, HL⟩
  have hpM3 := padded_step lc 3 0#32 fM gM2 gM3 hpM2 v3 _ hv3 (fun i => pad_pay 48 lc (by decide) (by omega) 0#32 _ (hidx 48) v3 i) hq3
  have hpL3 := padded_step lc 3 320#32 fL gL2 gL3 hpL2 w3 _ hw3 (fun i => pad_pay 48 lc (by decide) (by omega) 320#32 _ (hidx 48) w3 i) hr3
  iapply (loadM d L 64 rfl gM3) $$ HM
  iintro %v4 ⟨%hv4, HM⟩
  iapply (loadL d L 64 rfl gL3) $$ HL
  iintro %w4 ⟨%hw4, HL⟩
  iapply (loadM d L 64 rfl gM3) $$ HM
  iintro %x4 ⟨-, HM⟩
  iapply (storeM d L 64 rfl gM3) $$ HM
  iintro %gM4 ⟨%hq4, HM⟩
  iapply (loadL d L 64 rfl gL3) $$ HL
  iintro %y4 ⟨-, HL⟩
  iapply (storeL d L 64 rfl gL3) $$ HL
  iintro %gL4 ⟨%hr4, HL⟩
  have hpM4 := padded_step lc 4 0#32 fM gM3 gM4 hpM3 v4 _ hv4 (fun i => pad_pay 64 lc (by decide) (by omega) 0#32 _ (hidx 64) v4 i) hq4
  have hpL4 := padded_step lc 4 320#32 fL gL3 gL4 hpL3 w4 _ hw4 (fun i => pad_pay 64 lc (by decide) (by omega) 320#32 _ (hidx 64) w4 i) hr4
  iapply (loadM d L 80 rfl gM4) $$ HM
  iintro %v5 ⟨%hv5, HM⟩
  iapply (loadL d L 80 rfl gL4) $$ HL
  iintro %w5 ⟨%hw5, HL⟩
  iapply (loadM d L 80 rfl gM4) $$ HM
  iintro %x5 ⟨-, HM⟩
  iapply (storeM d L 80 rfl gM4) $$ HM
  iintro %gM5 ⟨%hq5, HM⟩
  iapply (loadL d L 80 rfl gL4) $$ HL
  iintro %y5 ⟨-, HL⟩
  iapply (storeL d L 80 rfl gL4) $$ HL
  iintro %gL5 ⟨%hr5, HL⟩
  have hpM5 := padded_step lc 5 0#32 fM gM4 gM5 hpM4 v5 _ hv5 (fun i => pad_pay 80 lc (by decide) (by omega) 0#32 _ (hidx 80) v5 i) hq5
  have hpL5 := padded_step lc 5 320#32 fL gL4 gL5 hpL4 w5 _ hw5 (fun i => pad_pay 80 lc (by decide) (by omega) 320#32 _ (hidx 80) w5 i) hr5
  iapply (loadM d L 96 rfl gM5) $$ HM
  iintro %v6 ⟨%hv6, HM⟩
  iapply (loadL d L 96 rfl gL5) $$ HL
  iintro %w6 ⟨%hw6, HL⟩
  iapply (loadM d L 96 rfl gM5) $$ HM
  iintro %x6 ⟨-, HM⟩
  iapply (storeM d L 96 rfl gM5) $$ HM
  iintro %gM6 ⟨%hq6, HM⟩
  iapply (loadL d L 96 rfl gL5) $$ HL
  iintro %y6 ⟨-, HL⟩
  iapply (storeL d L 96 rfl gL5) $$ HL
  iintro %gL6 ⟨%hr6, HL⟩
  have hpM6 := padded_step lc 6 0#32 fM gM5 gM6 hpM5 v6 _ hv6 (fun i => pad_pay 96 lc (by decide) (by omega) 0#32 _ (hidx 96) v6 i) hq6
  have hpL6 := padded_step lc 6 320#32 fL gL5 gL6 hpL5 w6 _ hw6 (fun i => pad_pay 96 lc (by decide) (by omega) 320#32 _ (hidx 96) w6 i) hr6
  iapply (loadM d L 112 rfl gM6) $$ HM
  iintro %v7 ⟨%hv7, HM⟩
  iapply (loadL d L 112 rfl gL6) $$ HL
  iintro %w7 ⟨%hw7, HL⟩
  iapply (loadM d L 112 rfl gM6) $$ HM
  iintro %x7 ⟨-, HM⟩
  iapply (storeM d L 112 rfl gM6) $$ HM
  iintro %gM7 ⟨%hq7, HM⟩
  iapply (loadL d L 112 rfl gL6) $$ HL
  iintro %y7 ⟨-, HL⟩
  iapply (storeL d L 112 rfl gL6) $$ HL
  iintro %gL7 ⟨%hr7, HL⟩
  have hpM7 := padded_step lc 7 0#32 fM gM6 gM7 hpM6 v7 _ hv7 (fun i => pad_pay 112 lc (by decide) (by omega) 0#32 _ (hidx 112) v7 i) hq7
  have hpL7 := padded_step lc 7 320#32 fL gL6 gL7 hpL6 w7 _ hw7 (fun i => pad_pay 112 lc (by decide) (by omega) 320#32 _ (hidx 112) w7 i) hr7
  have htr5 : (k0_t5_loop (BitVec.ofNat 32 lc)).trips = (lc + 127) / 128 := t5_trips (n := lc) (by omega)
  iapply (Scf.wp_for_bind frame (wpE (defs₀ (F := F)) 𝒱₀ (thr d L) none) Set.univ _ _ _ _ _ _
    (fun k (_ : Unit) => iprop(∃ uI uJ, ⌜Last x (wid L) gc k gM7 gL7 uI uJ⌝ ∗ atM d L gM7 ∗ atL d L gL7 ∗ atI d L (wid L) uI ∗ atJ d L (wid L) uJ
        ∗ semVal (thr d L, .dma cc0_scoped5.sem) 0 ∗ semVal (thr d L, .dma cc0_scoped6.sem) 0 ∗ Owed d L O W
        ∗ Transfers.MayWaits (thr d L) (default : HIx 2) O)) ?_) $$ [HI HJ HM HL H5 H6 HO]
  · iintro %k %a ⟨%uI, %uJ, %hq, HM, HL, HI, HJ, H5, H6, HO, #Hmw⟩
    have hk : k.val < (lc + 127) / 128 := lt_of_lt_of_eq k.isLt htr5
    iapply (wp_wand frame _ Set.univ) $$ [HI HJ HM HL H5 H6 HO]
    · iapply (t5_body d L _ _ _ _ _ _ _ k (by omega) gc rfl (by omega) (by omega) gM7 gL7 uI uJ O W)
      isplitl [HM]; · iexact HM
      isplitl [HL]; · iexact HL
      isplitl [HI]; · iexact HI
      isplitl [HJ]; · iexact HJ
      isplitl [H5]; · iexact H5
      isplitl [H6]; · iexact H6
      isplitl [HO]; · iexact HO
      iexact Hmw

    iintro %r ⟨HM, HL, ⟨%w1, %w2, HI, HJ, %hr⟩, H5, H6, HO⟩
    iexists w1; iexists w2
    isplitr [HI HJ HM HL H5 H6 HO]
    · ipureintro
      exact last_step x (wid L) gc k.val (by omega) hw gM7 gL7 uI uJ w1 w2 hq hr.1 hr.2
    isplitl [HM]; · iexact HM
    isplitl [HL]; · iexact HL
    isplitl [HI]; · iexact HI
    isplitl [HJ]; · iexact HJ
    isplitl [H5]; · iexact H5
    isplitl [H6]; · iexact H6
    isplitl [HO]; · iexact HO
    iexact Hmw

  · iexists uI; iexists uJ
    isplitr [HI HJ HM HL H5 H6 HO]
    · ipureintro
      exact ⟨p7, fun h => absurd h (Nat.lt_irrefl 0)⟩
    isplitl [HM]; · iexact HM
    isplitl [HL]; · iexact HL
    isplitl [HI]; · iexact HI
    isplitl [HJ]; · iexact HJ
    isplitl [H5]; · iexact H5
    isplitl [H6]; · iexact H6
    isplitl [HO]; · iexact HO
    iexact Hmw

  iintro %a5 ⟨%tI, %tJ, %hq, HM, HL, HI, HJ, H5, H6, HO, -⟩
  rw [show Scf.trips (k0_t5_loop (BitVec.ofNat 32 lc)).lb (k0_t5_loop (BitVec.ofNat 32 lc)).ub (k0_t5_loop (BitVec.ofNat 32 lc)).st = (lc + 127) / 128 from htr5] at hq
  iapply (Scf.wp_for0_bind frame (wpE (defs₀ (F := F)) 𝒱₀ (thr d L) none) Set.univ _ _ _ _ _ (t6_trips _) _ _ _ .rfl)
  iapply (loadC d L 0 rfl fC₀) $$ HC
  iintro %u1 ⟨-, HC⟩
  iapply (storeC d L 0 rfl fC₀) $$ HC
  iintro %uC ⟨%hC, HC⟩
  icases HO with ⟨%W1, %hW1, HO⟩
  iapply (step_sync' (c := thr d L) (defs₀ (F := F)) (s := S16) (e := .i32) (O := O) (sem := cc0_scoped9.sem) (q := fullShare) (fs := uC) (Ss := Finset.univ) (Sd := regC (wid L)) (fd := fK₀)
    (src := sC) (dst := (gC).slice (Rect.unit (s := S512) (k0_off12 L) S16.size (k0_off12_inb L)) (fun _ => rfl))
    _ rfl (View.amount_pos _ _ (show 0 < S16.numel by decide)) rfl (Finset.subset_univ _)
    (slice_sub _ _ _ _ (fun j hj => (regC_slice L (k0_off12_inb L)) ▸ hj))) $$ [HC HK H9 HO]
  · isplitl [HC]; · iexact HC
    isplitl [HK]; · iexact HK
    isplitl [H9]; · iexact H9
    isplitl [HO]; · iexact HO
    iexact Hmw
  iintro ⟨HK, HC, H9, HO⟩
  rw [wp_ret]
  imodintro
  isplitl [Hx]; · iexact Hx
  isplitl [HI HJ HK]
  · iexists tI; iexists tJ; iexists _
    isplitl [HI]; · iexact HI
    isplitl [HJ]; · iexact HJ
    isplitl [HK]; · iexact HK
    ipureintro
    refine spec_of x (wid L) gc lc hw p1 p2 hlc p3 fM fL gM7 gL7 p6 hpM7 hpL7 tI tJ hq _ fun j hj => ?_
    refine cnt_copied d L (k0_off12_inb L) uC fK₀ _ (fun i => ?_) j hj
    rw [hC.inn i (at1 (i 0).val (i 0).isLt) (Nat.zero_add _).symm]
    exact pay33_eq gc lc p1 (by omega) p3 _
  isplitl [HD]; · iexact HD
  isplitl [HM]; · iexists gM7; iexact HM
  isplitl [HL]; · iexists gL7; iexact HL
  isplitl [HC]; · iexists uC; iexact HC
  isplitl [H0]; · iexact H0
  isplitl [H1]; · iexact H1
  isplitl [H2]; · iexact H2
  isplitl [H5]; · iexact H5
  isplitl [H6]; · iexact H6
  isplitl [H9]; · iexact H9

  iexists _
  isplitr [HO]
  rotate_left
  · iexact HO
  ipureintro
  intro p hp
  rcases Finset.mem_insert.mp hp with rfl | hp
  · exact .inr rfl
  exact hW1 p hp

end Cert.Proof.Bucket

end
-- ==== Proof.Tile.lean ====
/-
  Both bodies from what a tile owns at a call's start to what it owns at its end.
-/
module

public import proofs.«01_k».proof.Proof.Bucket
public import proofs.«01_k».proof.Proof.SegMain
public import proofs.«01_k».proof.Proof.BucketMain

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

-- the memrefs as the program passes them: the messages, the two lists, the counts, the result, the five scratch buffers
local notation "gD" => (Memref.whole Cert.KernelIdeal.main_arg1_scv : Memref Cert.KernelIdeal.sig Kind.scVector Space.hbm Cert.KernelIdeal.S320000 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (d : Dev nD) (L : grid0.Coords)

/-! ## A family with some of its members named -/

/-- What is left of a set after a list's members are taken out. -/
def rest {ι : Type} [DecidableEq ι] : Finset ι → List ι → Finset ι
  | s, [] => s
  | s, x :: l => rest (s.erase x) l

/-- A list's members, and the rest of the set. -/
def peel {ι : Type} [DecidableEq ι] (Φ : ι → sProp 𝕄) : Finset ι → List ι → sProp 𝕄
  | s, [] => bigSep s Φ
  | s, x :: l => iprop(Φ x ∗ peel Φ (s.erase x) l)

theorem peel_eq {ι : Type} [DecidableEq ι] (Φ : ι → sProp 𝕄) : ∀ (l : List ι) (s : Finset ι), l.Nodup → (∀ x ∈ l, x ∈ s) → bigSep s Φ = peel (F := F) Φ s l
  | [], _, _, _ => rfl
  | x :: l, s, hn, hm => by
    rw [SparseCore.bigSep_erase' (hm x List.mem_cons_self), peel_eq Φ l (s.erase x) (List.nodup_cons.mp hn).2 fun y hy =>
      Finset.mem_erase.mpr ⟨fun h => (List.nodup_cons.mp hn).1 (h ▸ hy), hm y (List.mem_cons_of_mem _ hy)⟩]
    rfl

/-- The semaphores that the bucketing call names. -/
abbrev semsB : List (SemLoc sig) := [.dma cc0_scoped0.sem, .dma cc0_scoped1.sem, .dma cc0_scoped2.sem, .dma cc0_scoped5.sem, .dma cc0_scoped6.sem, .dma cc0_scoped9.sem]
/-- The buffers that the bucketing call names. -/
abbrev refsB : List (Ref sig .scVector) := [cc0_scratch0, cc0_scratch1, cc0_scratch2, cc0_scratch3]

theorem nodupB : (refsB).Nodup := by decide

theorem ownSemsB :
    (ownSems0 (thr d L) : sProp 𝕄)
      = iprop(semVal (thr d L, .dma cc0_scoped0.sem) 0 ∗ semVal (thr d L, .dma cc0_scoped1.sem) 0 ∗ semVal (thr d L, .dma cc0_scoped2.sem) 0 ∗ semVal (thr d L, .dma cc0_scoped5.sem) 0 ∗ semVal (thr d L, .dma cc0_scoped6.sem) 0 ∗ semVal (thr d L, .dma cc0_scoped9.sem) 0
          ∗ bigSep (rest (ownCells (thr d L)) (semsB.map (Prod.mk (thr d L)))) fun g => semVal g 0) := by
  unfold SparseCore.Cfg.ownSems0
  refine peel_eq (fun g : GSem nD τ sig => (semVal g 0 : sProp 𝕄)) (semsB.map (Prod.mk (thr d L))) _
    (List.Nodup.map (fun a b h => congrArg Prod.snd h) (by decide)) fun g hg => ?_
  obtain ⟨s, hs, rfl⟩ := List.mem_map.mp hg
  exact mem_ownCells.mpr ⟨rfl, (show ∀ s ∈ semsB, s.isScoped .scVector = true by decide) s hs⟩

theorem ownBufsB :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (rest (ownRefs (τ := τ) (.scVector (cV L) (jV L))) (refsB.map (Proc.scVector (cV L) (jV L)).devRef))
              fun b => iprop(∃ f, ((d, b) : Loc nD τ sig) ↦{fullShare} f)) := by
  unfold SparseCore.Cfg.ownBufs
  refine peel_eq (fun b : DevRef τ sig => (iprop(∃ f, ((d, b) : Loc nD τ sig) ↦{fullShare} f) : sProp 𝕄)) (refsB.map (Proc.scVector (cV L) (jV L)).devRef) _
    (List.Nodup.map (Proc.devRef_injective _) nodupB) fun b hb => ?_
  obtain ⟨r, hr, rfl⟩ := List.mem_map.mp hb
  simp only [List.mem_cons, List.not_mem_nil, _root_.or_false] at hr
  rcases hr with rfl | rfl | rfl | rfl <;> exact SparseCore.Cfg.mem_ownRefs_of_owner rfl

/-- The semaphores that the maximum call names. -/
abbrev semsS : List (SemLoc sig) := [.dma cc1_scoped0.sem, .dma cc1_scoped1.sem, .dma cc1_scoped2.sem, .dma cc1_scoped5.sem, .dma cc1_scratch5.sem]
/-- The buffers that the maximum call names. -/
abbrev refsS : List (Ref sig .scVector) := [cc1_scratch0, cc1_scratch1, cc1_scratch2, cc1_scratch3, cc1_scratch4]

theorem nodupS : (refsS).Nodup := by decide

theorem ownSemsS :
    (ownSems0 (thr d L) : sProp 𝕄)
      = iprop(semVal (thr d L, .dma cc1_scoped0.sem) 0 ∗ semVal (thr d L, .dma cc1_scoped1.sem) 0 ∗ semVal (thr d L, .dma cc1_scoped2.sem) 0 ∗ semVal (thr d L, .dma cc1_scoped5.sem) 0 ∗ semVal (thr d L, .dma cc1_scratch5.sem) 0
          ∗ bigSep (rest (ownCells (thr d L)) (semsS.map (Prod.mk (thr d L)))) fun g => semVal g 0) := by
  unfold SparseCore.Cfg.ownSems0
  refine peel_eq (fun g : GSem nD τ sig => (semVal g 0 : sProp 𝕄)) (semsS.map (Prod.mk (thr d L))) _
    (List.Nodup.map (fun a b h => congrArg Prod.snd h) (by decide)) fun g hg => ?_
  obtain ⟨s, hs, rfl⟩ := List.mem_map.mp hg
  exact mem_ownCells.mpr ⟨rfl, (show ∀ s ∈ semsS, s.isScoped .scVector = true by decide) s hs⟩

theorem ownBufsS :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f) ∗ (∃ f, (thr d L).loc cc1_scratch3 ↦{fullShare} f) ∗ (∃ f, (thr d L).loc cc1_scratch4 ↦{fullShare} f)
          ∗ bigSep (rest (ownRefs (τ := τ) (.scVector (cV L) (jV L))) (refsS.map (Proc.scVector (cV L) (jV L)).devRef))
              fun b => iprop(∃ f, ((d, b) : Loc nD τ sig) ↦{fullShare} f)) := by
  unfold SparseCore.Cfg.ownBufs
  refine peel_eq (fun b : DevRef τ sig => (iprop(∃ f, ((d, b) : Loc nD τ sig) ↦{fullShare} f) : sProp 𝕄)) (refsS.map (Proc.scVector (cV L) (jV L)).devRef) _
    (List.Nodup.map (Proc.devRef_injective _) nodupS) fun b hb => ?_
  obtain ⟨r, hr, rfl⟩ := List.mem_map.mp hb
  simp only [List.mem_cons, List.not_mem_nil, _root_.or_false] at hr
  rcases hr with rfl | rfl | rfl | rfl | rfl <;> exact SparseCore.Cfg.mem_ownRefs_of_owner rfl

/-! ## The two tasks -/

/-- What the bucketing call brings back to a tile's parts of the lists. -/
abbrev Lists (x : S320000.Idx → BitVec 32) (d : Dev nD) (L : grid0.Coords) : sProp 𝕄 :=
  iprop(∃ uI uJ uK, atI d L (wid L) uI ∗ atJ d L (wid L) uJ ∗ atK d L (wid L) uK ∗ ⌜BktSpec x (wid L) uI uJ uK⌝)

theorem tile_bucket (hF : (K (F := F)).Facts) (x : S320000.Idx → BitVec 32) (q : PosShare TreeShare)
    (fI : Buf (Elt F) (iLoc d L)) (fJ : Buf (Elt F) (lLoc d L)) (fK : Buf (Elt F) (cLoc d L))
    (O : CellTallies nD τ sig (HIx 2)) (W : Waits sig (HIx 2)) (hO : ∀ g, O g none = 0) :
    (iprop(levAts (K (F := F)).L (K (F := F)).lev ∗ emp
        ∗ ((dLoc d L ↦{q} (x : Buf (Elt F) (dLoc d L))) ∗ atI d L (wid L) fI ∗ atJ d L (wid L) fJ ∗ atK d L (wid L) fK)
        ∗ scopedBufs (thr d L) ∗ scopedSems0 (thr d L) ∗ owes (thr d L) O W) : sProp 𝕄)
      ⊢ wp frame (wpE (defs₀ (F := F)) 𝒱₀ (thr d L) none) Set.univ (cc0__sc_bucket_body L gD (Memref.isWhole_whole _) gI (Memref.isWhole_whole _) gL (Memref.isWhole_whole _) gC (Memref.isWhole_whole _) sD (Memref.isWhole_whole _) sM (Memref.isWhole_whole _) sL (Memref.isWhole_whole _) sC (Memref.isWhole_whole _) cc0_scratch4 cc0_scoped0 cc0_scoped1 cc0_scoped2 cc0_scoped3 cc0_scoped4 cc0_scoped5 cc0_scoped6 cc0_scoped7 cc0_scoped8 cc0_scoped9)
          fun _ => iprop(((dLoc d L ↦{q} (x : Buf (Elt F) (dLoc d L))) ∗ Lists x d L)
            ∗ scopedBufs (thr d L) ∗ scopedSems0 (thr d L)
            ∗ ∃ W', ⌜∀ p ∈ W', p ∈ W ∨ p.2 = none ∨ p.2 = some (0 : Fin 2)⌝ ∗ owes (thr d L) O W') := by
  rw [(K (F := F)).scopedBufs_V hF d (cV L) (jV L), SparseCore.Cfg.scopedSems0_V (Val := Elt F) d (cV L) (jV L), ownSemsB, ownBufsB]
  iintro ⟨#Hlv, -, ⟨Hx, HI, HJ, HK⟩, ⟨⟨%f0, HD⟩, ⟨%f1, HM⟩, ⟨%f2, HL⟩, ⟨%f3, HC⟩, Hbufs⟩, ⟨H0, H1, H2, H5, H6, H9, Hsems⟩, HO⟩
  ihave Hmw := (show levAts (K (F := F)).L (K (F := F)).lev ⊢ Transfers.MayWaits (thr d L) (default : HIx 2) O from
    (K (F := F)).mayWaits_none (thr := thr d L) hO) $$ Hlv
  iapply (wp_wand frame _ Set.univ) $$ [Hx HI HJ HK HD HM HL HC H0 H1 H2 H5 H6 H9 HO Hmw]
  · iapply (bucket_body d L x q f0 f1 f2 f3 fI fJ fK O W)
    isplitl [Hx]; · iexact Hx
    isplitl [HI]; · iexact HI
    isplitl [HJ]; · iexact HJ
    isplitl [HK]; · iexact HK
    isplitl [HD]; · iexact HD
    isplitl [HM]; · iexact HM
    isplitl [HL]; · iexact HL
    isplitl [HC]; · iexact HC
    isplitl [H0]; · iexact H0
    isplitl [H1]; · iexact H1
    isplitl [H2]; · iexact H2
    isplitl [H5]; · iexact H5
    isplitl [H6]; · iexact H6
    isplitl [H9]; · iexact H9
    isplitl [HO]
    · iexists W
      isplitr [HO]
      · ipureintro; exact fun p hp => .inl hp
      iexact HO
    iexact Hmw
  iintro %r ⟨Hx, Hl, HD, HM, HL, HC, H0, H1, H2, H5, H6, H9, %W', %hW', HO⟩
  isplitl [Hx Hl]
  · isplitl [Hx]; · iexact Hx
    iexact Hl
  isplitl [HD HM HL HC Hbufs]
  · isplitl [HD]; · iexact HD
    isplitl [HM]; · iexact HM
    isplitl [HL]; · iexact HL
    isplitl [HC]; · iexact HC
    iexact Hbufs
  isplitl [H0 H1 H2 H5 H6 H9 Hsems]
  · isplitl [H0]; · iexact H0
    isplitl [H1]; · iexact H1
    isplitl [H2]; · iexact H2
    isplitl [H5]; · iexact H5
    isplitl [H6]; · iexact H6
    isplitl [H9]; · iexact H9
    iexact Hsems
  iexists W'
  isplitr [HO]
  · ipureintro; exact fun p hp => (hW' p hp).imp_right .inl
  iexact HO

theorem tile_segmax (hF : (K (F := F)).Facts) (m : Buf (Elt F) (mLoc d L)) (x : S320000.Idx → BitVec 32) (q : PosShare TreeShare)
    (fH : Buf (Elt F) (hLoc d L))
    (O : CellTallies nD τ sig (HIx 2)) (W : Waits sig (HIx 2)) (hO : ∀ g, O g none = 0) :
    (iprop(levAts (K (F := F)).L (K (F := F)).lev ∗ emp
        ∗ ((mLoc d L ↦{q} m) ∗ Lists x d L ∗ atH d L (wid L) fH)
        ∗ scopedBufs (thr d L) ∗ scopedSems0 (thr d L) ∗ owes (thr d L) O W) : sProp 𝕄)
      ⊢ wp frame (wpE (defs₀ (F := F)) 𝒱₀ (thr d L) none) Set.univ (cc1__sc_segmax_body L gM (Memref.isWhole_whole _) gI (Memref.isWhole_whole _) gL (Memref.isWhole_whole _) gC (Memref.isWhole_whole _) gH (Memref.isWhole_whole _) sX (Memref.isWhole_whole _) sY (Memref.isWhole_whole _) sR (Memref.isWhole_whole _) sA (Memref.isWhole_whole _) sN (Memref.isWhole_whole _) cc1_scratch5 cc1_scoped0 cc1_scoped1 cc1_scoped2 cc1_scoped3 cc1_scoped4 cc1_scoped5)
          fun _ => iprop(((mLoc d L ↦{q} m) ∗ Lists x d L ∗ atH d L (wid L) (outG m x))
            ∗ scopedBufs (thr d L) ∗ scopedSems0 (thr d L)
            ∗ ∃ W', ⌜∀ p ∈ W', p ∈ W ∨ p.2 = none ∨ p.2 = some (1 : Fin 2)⌝ ∗ owes (thr d L) O W') := by
  rw [(K (F := F)).scopedBufs_V hF d (cV L) (jV L), SparseCore.Cfg.scopedSems0_V (Val := Elt F) d (cV L) (jV L), ownSemsS, ownBufsS]
  iintro ⟨#Hlv, -, ⟨Hm, ⟨%uI, %uJ, %uK, HI, HJ, HK, %hs⟩, HH⟩, ⟨⟨%f0, HX⟩, ⟨%f1, HY⟩, ⟨%f2, HR⟩, ⟨%f3, HA⟩, ⟨%f4, HN⟩, Hbufs⟩, ⟨H0, H1, H2, H5, Hg, Hsems⟩, HO⟩
  ihave Hmw := (show levAts (K (F := F)).L (K (F := F)).lev ⊢ Transfers.MayWaits (thr d L) (default : HIx 2) O from
    (K (F := F)).mayWaits_none (thr := thr d L) hO) $$ Hlv
  iapply (wp_wand frame _ Set.univ) $$ [Hm HI HJ HK HH HX HY HR HA HN H0 H1 H2 H5 Hg HO Hmw]
  · iapply (segmax_body d L m x q uI uJ uK fH f0 f1 f2 f3 f4 O W hs)
    isplitl [Hm]; · iexact Hm
    isplitl [HI]; · iexact HI
    isplitl [HJ]; · iexact HJ
    isplitl [HK]; · iexact HK
    isplitl [HH]; · iexact HH
    isplitl [HX]; · iexact HX
    isplitl [HY]; · iexact HY
    isplitl [HR]; · iexact HR
    isplitl [HA]; · iexact HA
    isplitl [HN]; · iexact HN
    isplitl [H0]; · iexact H0
    isplitl [H1]; · iexact H1
    isplitl [H2]; · iexact H2
    isplitl [H5]; · iexact H5
    isplitl [Hg]; · iexact Hg
    isplitl [HO]
    · iexists W
      isplitr [HO]
      · ipureintro; exact fun p hp => .inl hp
      iexact HO
    iexact Hmw
  iintro %r ⟨Hm, HI, HJ, HK, HH, HX, HY, HR, HA, HN, H0, H1, H2, H5, Hg, %W', %hW', HO⟩
  isplitl [Hm HI HJ HK HH]
  · isplitl [Hm]; · iexact Hm
    isplitl [HI HJ HK]
    · iexists uI; iexists uJ; iexists uK
      isplitl [HI]; · iexact HI
      isplitl [HJ]; · iexact HJ
      isplitl [HK]; · iexact HK
      ipureintro; exact hs
    iexact HH
  isplitl [HX HY HR HA HN Hbufs]
  · isplitl [HX]; · iexact HX
    isplitl [HY]; · iexact HY
    isplitl [HR]; · iexact HR
    isplitl [HA]; · iexact HA
    isplitl [HN]; · iexact HN
    iexact Hbufs
  isplitl [H0 H1 H2 H5 Hg Hsems]
  · isplitl [H0]; · iexact H0
    isplitl [H1]; · iexact H1
    isplitl [H2]; · iexact H2
    isplitl [H5]; · iexact H5
    isplitl [Hg]; · iexact Hg
    iexact Hsems
  iexists W'
  isplitr [HO]
  · ipureintro; exact fun p hp => (hW' p hp).imp_right .inl
  iexact HO

end Cert.Proof.Bucket

end
-- ==== Proof.Launch.lean ====
/-
  The launch: how the arrays are dealt to the tiles and come back, and @main's run.
-/
module

public import proofs.«01_k».proof.Proof.Tile

@[expose] public section

noncomputable section

namespace Cert.Proof.Bucket

open Cert.KernelIdeal Cert.KernelIdeal.Gen
open Cert.Proof.Steps Cert.Proof.Words Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 2) (Elt F) ℕ UU ℕ

-- the memrefs as the program passes them: the messages, the two lists, the counts, the result, the five scratch buffers
local notation "gD" => (Memref.whole Cert.KernelIdeal.main_arg1_scv : Memref Cert.KernelIdeal.sig Kind.scVector Space.hbm Cert.KernelIdeal.S320000 EltTy.i32)
local notation "sD" => (Memref.whole Cert.KernelIdeal.cc0_scratch0 : Memref Cert.KernelIdeal.sig Kind.scVector Space.vmem Cert.KernelIdeal.S8000 EltTy.i32)
local notation "sM" => (Memref.whole Cert.KernelIdeal.cc0_scratch1 : Memref Cert.KernelIdeal.sig Kind.scVector Space.vmem Cert.KernelIdeal.S8336 EltTy.i32)
local notation "sL" => (Memref.whole Cert.KernelIdeal.cc0_scratch2 : Memref Cert.KernelIdeal.sig Kind.scVector Space.vmem Cert.KernelIdeal.S8336 EltTy.i32)
local notation "sC" => (Memref.whole Cert.KernelIdeal.cc0_scratch3 : Memref Cert.KernelIdeal.sig Kind.scVector Space.vmem Cert.KernelIdeal.S16 EltTy.i32)
local notation "gM" => (Memref.whole Cert.KernelIdeal.main_arg0_scv : Memref Cert.KernelIdeal.sig Kind.scVector Space.hbm Cert.KernelIdeal.S320000x128 EltTy.f32)
local notation "gI" => (Memref.whole Cert.KernelIdeal.main_v0_0_scv : Memref Cert.KernelIdeal.sig Kind.scVector Space.hbm Cert.KernelIdeal.S10244096 EltTy.i32)
local notation "gL" => (Memref.whole Cert.KernelIdeal.main_v0_1_scv : Memref Cert.KernelIdeal.sig Kind.scVector Space.hbm Cert.KernelIdeal.S10244096 EltTy.i32)
local notation "gC" => (Memref.whole Cert.KernelIdeal.main_v0_2_scv : Memref Cert.KernelIdeal.sig Kind.scVector Space.hbm Cert.KernelIdeal.S512 EltTy.i32)
local notation "gH" => (Memref.whole Cert.KernelIdeal.main_v1_scv : Memref Cert.KernelIdeal.sig Kind.scVector Space.hbm Cert.KernelIdeal.S1310720 EltTy.f32)
local notation "sX" => (Memref.whole Cert.KernelIdeal.cc1_scratch0 : Memref Cert.KernelIdeal.sig Kind.scVector Space.vmem Cert.KernelIdeal.S128 EltTy.i32)
local notation "sY" => (Memref.whole Cert.KernelIdeal.cc1_scratch1 : Memref Cert.KernelIdeal.sig Kind.scVector Space.vmem Cert.KernelIdeal.S128 EltTy.i32)
local notation "sR" => (Memref.whole Cert.KernelIdeal.cc1_scratch2 : Memref Cert.KernelIdeal.sig Kind.scVector Space.vmem Cert.KernelIdeal.S128x128 EltTy.f32)
local notation "sA" => (Memref.whole Cert.KernelIdeal.cc1_scratch3 : Memref Cert.KernelIdeal.sig Kind.scVector Space.vmem Cert.KernelIdeal.S41088 EltTy.f32)
local notation "sN" => (Memref.whole Cert.KernelIdeal.cc1_scratch4 : Memref Cert.KernelIdeal.sig Kind.scVector Space.vmem Cert.KernelIdeal.S16 EltTy.i32)

variable [FloatOps F]
variable (m : (ℓ : Loc nD τ sig) → Buf (Elt F) ℓ) (ρ : Dev nD → PrngReg)

/-! ## What the calls are handed and hand back -/

/-- A tile's coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))
abbrev tileL (c : Fin 2) (i : Fin 16) : grid0.Coords := coordsV c i

/-- The arrays as locations of device `d`. -/
abbrev mL (d : Dev nD) : Loc nD τ sig := (SparseCore.T d).loc main_arg0
abbrev dL (d : Dev nD) : Loc nD τ sig := (SparseCore.T d).loc main_arg1
abbrev iL (d : Dev nD) : Loc nD τ sig := (SparseCore.T d).loc main_v0_0
abbrev lL (d : Dev nD) : Loc nD τ sig := (SparseCore.T d).loc main_v0_1
abbrev kL (d : Dev nD) : Loc nD τ sig := (SparseCore.T d).loc main_v0_2
abbrev hL (d : Dev nD) : Loc nD τ sig := (SparseCore.T d).loc main_v1
abbrev tL (d : Dev nD) : Loc nD τ sig := (SparseCore.T d).loc main_v2
abbrev rL (d : Dev nD) : Loc nD τ sig := (SparseCore.T d).loc main_v3

/-- The destinations at the launch. -/
abbrev xv (d : Dev nD) : S320000.Idx → BitVec 32 := m (dL d)
/-- The messages at the launch. -/
abbrev mv (d : Dev nD) : S320000x128.Idx → F .f32 := m (mL d)

/-- The share of an array that all tiles read. -/
abbrev qsh (c : Fin 2) (i : Fin 16) : PosShare TreeShare := Transfers.dealOf (Transfers.dealOf fullShare Finset.univ c) Finset.univ i

abbrev goB (d : Dev nD) (c : Fin 2) (i : Fin 16) : sProp 𝕄 :=
  iprop((dL d ↦{qsh c i} m (dL d)) ∗ (iL d ↦[reg (wid (tileL c i))]{fullShare} m (iL d)) ∗ (lL d ↦[reg (wid (tileL c i))]{fullShare} m (lL d))
    ∗ (kL d ↦[regC (wid (tileL c i))]{fullShare} m (kL d)))
abbrev tdB (d : Dev nD) (c : Fin 2) (i : Fin 16) : sProp 𝕄 :=
  iprop((dL d ↦{qsh c i} m (dL d)) ∗ Lists (xv m d) d (tileL c i))
abbrev goS (d : Dev nD) (c : Fin 2) (i : Fin 16) : sProp 𝕄 :=
  iprop((mL d ↦{qsh c i} m (mL d)) ∗ Lists (xv m d) d (tileL c i) ∗ (hL d ↦[regH (wid (tileL c i))]{fullShare} m (hL d)))
abbrev tdS (d : Dev nD) (c : Fin 2) (i : Fin 16) : sProp 𝕄 :=
  iprop((mL d ↦{qsh c i} m (mL d)) ∗ Lists (xv m d) d (tileL c i)
    ∗ (hL d ↦[regH (wid (tileL c i))]{fullShare} (outG (mv m d) (xv m d) : Buf (Elt F) (hL d))))

/-- Both calls: each tile its read share and its own parts, a core what its sixteen tiles take. -/
def P : (K (F := F)).Pay (nD := nD) (Val := Elt F) (Name := ℕ) (U := UU) where
  st := fun q d c => match q with
    | 0 => bigSep Finset.univ fun i : Fin 16 => goB m d (Fin.cast (nCore_eq 0) c) i
    | 1 => bigSep Finset.univ fun i : Fin 16 => goS m d (Fin.cast (nCore_eq 1) c) i
  dn := fun q d c => match q with
    | 0 => bigSep Finset.univ fun i : Fin 16 => tdB m d (Fin.cast (nCore_eq 0) c) i
    | 1 => bigSep Finset.univ fun i : Fin 16 => tdS m d (Fin.cast (nCore_eq 1) c) i
  go := fun q d c i => match q with
    | 0 => goB m d (Fin.cast (nCore_eq 0) c) (Fin.cast (nSub_eq 0) i)
    | 1 => goS m d (Fin.cast (nCore_eq 1) c) (Fin.cast (nSub_eq 1) i)
  td := fun q d c i => match q with
    | 0 => tdB m d (Fin.cast (nCore_eq 0) c) (Fin.cast (nSub_eq 0) i)
    | 1 => tdS m d (Fin.cast (nCore_eq 1) c) (Fin.cast (nSub_eq 1) i)
  x := fun _ _ => iprop(emp)

instance P_storable : (P (F := F) m).IsStorable where
  st q d c := match q with
    | 0 => (inferInstance : BI.Storable (upEmb : UEmb _ 𝕄) (bigSep Finset.univ fun i : Fin 16 => goB m d (Fin.cast (nCore_eq 0) c) i))
    | 1 => (inferInstance : BI.Storable (upEmb : UEmb _ 𝕄) (bigSep Finset.univ fun i : Fin 16 => goS m d (Fin.cast (nCore_eq 1) c) i))
  dn q d c := match q with
    | 0 => (inferInstance : BI.Storable (upEmb : UEmb _ 𝕄) (bigSep Finset.univ fun i : Fin 16 => tdB m d (Fin.cast (nCore_eq 0) c) i))
    | 1 => (inferInstance : BI.Storable (upEmb : UEmb _ 𝕄) (bigSep Finset.univ fun i : Fin 16 => tdS m d (Fin.cast (nCore_eq 1) c) i))
  go q d c i := match q with
    | 0 => (inferInstance : BI.Storable (upEmb : UEmb _ 𝕄) (goB m d (Fin.cast (nCore_eq 0) c) (Fin.cast (nSub_eq 0) i)))
    | 1 => (inferInstance : BI.Storable (upEmb : UEmb _ 𝕄) (goS m d (Fin.cast (nCore_eq 1) c) (Fin.cast (nSub_eq 1) i)))
  td q d c i := match q with
    | 0 => (inferInstance : BI.Storable (upEmb : UEmb _ 𝕄) (tdB m d (Fin.cast (nCore_eq 0) c) (Fin.cast (nSub_eq 0) i)))
    | 1 => (inferInstance : BI.Storable (upEmb : UEmb _ 𝕄) (tdS m d (Fin.cast (nCore_eq 1) c) (Fin.cast (nSub_eq 1) i)))

/-! ## The obligations -/

theorem defs₀_bucket (c : Fin τ.nSC) (s : Fin τ.nSub) :
    defs₀ (F := F) (.scVector c s) 0 ()
      = SparseCore.onTile hcore0 hsub0 (fun c s => cc0__sc_bucket_body (coordsV c s) gD (Memref.isWhole_whole _) gI (Memref.isWhole_whole _) gL (Memref.isWhole_whole _) gC (Memref.isWhole_whole _) sD (Memref.isWhole_whole _) sM (Memref.isWhole_whole _) sL (Memref.isWhole_whole _) sC (Memref.isWhole_whole _) cc0_scratch4 cc0_scoped0 cc0_scoped1 cc0_scoped2 cc0_scoped3 cc0_scoped4 cc0_scoped5 cc0_scoped6 cc0_scoped7 cc0_scoped8 cc0_scoped9) ⟨⟩ c s := rfl
theorem defs₀_segmax (c : Fin τ.nSC) (s : Fin τ.nSub) :
    defs₀ (F := F) (.scVector c s) 1 ()
      = SparseCore.onTile hcore1 hsub1 (fun c s => cc1__sc_segmax_body (coordsV c s) gM (Memref.isWhole_whole _) gI (Memref.isWhole_whole _) gL (Memref.isWhole_whole _) gC (Memref.isWhole_whole _) gH (Memref.isWhole_whole _) sX (Memref.isWhole_whole _) sY (Memref.isWhole_whole _) sR (Memref.isWhole_whole _) sA (Memref.isWhole_whole _) sN (Memref.isWhole_whole _) cc1_scratch5 cc1_scoped0 cc1_scoped1 cc1_scoped2 cc1_scoped3 cc1_scoped4 cc1_scoped5) ⟨⟩ c s := rfl

theorem tileObl_bucket (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_bucket]; simp only [SparseCore.onTile, hci, and_self, ↓reduceDIte]
  exact tile_bucket d (coordsV ⟨_, hci.1⟩ ⟨_, hci.2⟩) hF (xv m d) _ _ _ _ O W hO

theorem tileObl_segmax (hF : (K (F := F)).Facts) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_segmax]; simp only [SparseCore.onTile, hci, and_self, ↓reduceDIte]
  exact tile_segmax d (coordsV ⟨_, hci.1⟩ ⟨_, hci.2⟩) hF (mv m d) (xv m d) _ _ O W hO

theorem vecSplit_bucket : (K (F := F)).VecSplit' (P m) 0 := by
  intro d c
  show (bigSep Finset.univ fun i : Fin 16 => goB m d (Fin.cast (nCore_eq 0) c) i) ⊢ |={Set.univ}=> iprop(
      (bigSep Finset.univ fun i : Fin 16 => goB m d (Fin.cast (nCore_eq 0) c) i)
      ∗ ((bigSep Finset.univ fun i : Fin 16 => tdB m d (Fin.cast (nCore_eq 0) c) i)
          -∗ (bigSep Finset.univ fun i : Fin 16 => tdB m d (Fin.cast (nCore_eq 0) c) i)))
  iintro H; imodintro
  isplitl [H]; · iexact H
  iintro H; iexact H

theorem vecSplit_segmax : (K (F := F)).VecSplit' (P m) 1 := by
  intro d c
  show (bigSep Finset.univ fun i : Fin 16 => goS m d (Fin.cast (nCore_eq 1) c) i) ⊢ |={Set.univ}=> iprop(
      (bigSep Finset.univ fun i : Fin 16 => goS m d (Fin.cast (nCore_eq 1) c) i)
      ∗ ((bigSep Finset.univ fun i : Fin 16 => tdS m d (Fin.cast (nCore_eq 1) c) i)
          -∗ (bigSep Finset.univ fun i : Fin 16 => tdS m d (Fin.cast (nCore_eq 1) c) i)))
  iintro H; imodintro
  isplitl [H]; · iexact H
  iintro H; iexact H

/-! ## Arrays dealt to the thirty-two tiles -/

/-- An array cut into thirty-two parts, by core and subcore. -/
theorem split32 {ℓ : Loc nD τ sig} (R : ℕ → Finset (Idx ℓ)) (hd : ∀ w w', w ≠ w' → Disjoint (R w) (R w')) (hc : ∀ j, ∃ w < 32, j ∈ R w) (f : Buf (Elt F) ℓ) :
    (ℓ ↦{fullShare} f : sProp 𝕄) = bigSep Finset.univ fun c : Fin 2 => bigSep Finset.univ fun i : Fin 16 => ℓ ↦[R (wid (tileL c i))]{fullShare} f := by
  have hw : ∀ (c : Fin 2) (i : Fin 16), wid (tileL c i) = 2 * i.val + c.val := fun _ _ => rfl
  have hi : ∀ c : Fin 2, (bigSep Finset.univ fun i : Fin 16 => (ℓ ↦[R (wid (tileL c i))]{fullShare} f : sProp 𝕄))
      = (ℓ ↦[Finset.univ.biUnion fun i : Fin 16 => R (wid (tileL c i))]{fullShare} f) := fun c =>
    (pointsTo_biUnion Finset.univ (fun i : Fin 16 => R (wid (tileL c i))) fun i _ i' _ h => hd _ _ (by
      rw [hw, hw]; intro e; exact h (Fin.ext (by omega)))).symm
  rw [bigSep_congr fun c _ => hi c, ← pointsTo_biUnion Finset.univ (fun c : Fin 2 => Finset.univ.biUnion fun i : Fin 16 => R (wid (tileL c i)))]
  · congr 1
    symm
    refine Finset.eq_univ_of_forall fun j => ?_
    obtain ⟨w, hl, hj⟩ := hc j
    refine Finset.mem_biUnion.mpr ⟨⟨w % 2, Nat.mod_lt _ (by decide)⟩, Finset.mem_univ _, Finset.mem_biUnion.mpr ⟨⟨w / 2, by omega⟩, Finset.mem_univ _, ?_⟩⟩
    rw [hw]
    rwa [show 2 * (w / 2) + w % 2 = w by omega]
  · intro c _ c' _ h
    refine (Finset.disjoint_biUnion_left _ _ _).mpr fun i _ => (Finset.disjoint_biUnion_right _ _ _).mpr fun i' _ => hd _ _ ?_
    rw [hw, hw]; intro e; exact h (Fin.ext (by omega))

/-- An array's read shares, by core and subcore. -/
theorem deal32 {ℓ : Loc nD τ sig} (f : Buf (Elt F) ℓ) :
    (ℓ ↦{fullShare} f : sProp 𝕄) = bigSep Finset.univ fun c : Fin 2 => bigSep Finset.univ fun i : Fin 16 => ℓ ↦{qsh c i} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

theorem reg_disj (w w' : ℕ) (h : w ≠ w') : Disjoint (reg w) (reg w') := by
  rw [Finset.disjoint_left]; intro j h1 h2
  rw [mem_reg] at h1 h2; omega
theorem regC_disj (w w' : ℕ) (h : w ≠ w') : Disjoint (regC w) (regC w') := by
  rw [Finset.disjoint_left]; intro j h1 h2
  rw [mem_regC] at h1 h2; omega
theorem regH_disj (w w' : ℕ) (h : w ≠ w') : Disjoint (regH w) (regH w') := by
  rw [Finset.disjoint_left]; intro j h1 h2
  rw [mem_regH] at h1 h2; omega
theorem reg_cover (j : S10244096.Idx) : ∃ w < 32, j ∈ reg w := by
  have hj : (j 0).val < 10244096 := (j 0).isLt
  exact ⟨(j 0).val / 320128, by omega, (mem_reg _ _).mpr (by omega)⟩
theorem regC_cover (j : S512.Idx) : ∃ w < 32, j ∈ regC w := by
  have hj : (j 0).val < 512 := (j 0).isLt
  exact ⟨(j 0).val / 16, by omega, (mem_regC _ _).mpr (by omega)⟩
theorem regH_cover (j : S1310720.Idx) : ∃ w < 32, j ∈ regH w := by
  have hj : (j 0).val < 1310720 := (j 0).isLt
  exact ⟨(j 0).val / 40960, by omega, (mem_regH _ _).mpr (by omega)⟩

/-- The lists of all tiles. -/
abbrev AllLists (d : Dev nD) : sProp 𝕄 := bigSep Finset.univ fun c : Fin 2 => bigSep Finset.univ fun i : Fin 16 => Lists (xv m d) d (tileL c i)

theorem st0_eq (d : Dev nD) : (bigSep Finset.univ fun c : Fin ((K (F := F)).nCore 0) => (P m).st 0 d c)
    = iprop((dL d ↦{fullShare} m (dL d)) ∗ (iL d ↦{fullShare} m (iL d)) ∗ (lL d ↦{fullShare} m (lL d)) ∗ (kL d ↦{fullShare} m (kL d))) := by
  show (bigSep (Finset.univ : Finset (Fin 2)) fun c => bigSep (Finset.univ : Finset (Fin 16)) fun i => goB m d c i) = _
  simp only [goB, bigSep_sep']
  rw [← deal32, ← split32 (ℓ := iL d) reg reg_disj reg_cover, ← split32 (ℓ := lL d) reg reg_disj reg_cover, ← split32 (ℓ := kL d) regC regC_disj regC_cover]
theorem dn0_eq (d : Dev nD) : (bigSep Finset.univ fun c : Fin ((K (F := F)).nCore 0) => (P m).dn 0 d c)
    = iprop((dL d ↦{fullShare} m (dL d)) ∗ AllLists m d) := by
  show (bigSep (Finset.univ : Finset (Fin 2)) fun c => bigSep (Finset.univ : Finset (Fin 16)) fun i => tdB m d c i) = _
  simp only [tdB, bigSep_sep']
  rw [← deal32]
theorem st1_eq (d : Dev nD) : (bigSep Finset.univ fun c : Fin ((K (F := F)).nCore 1) => (P m).st 1 d c)
    = iprop((mL d ↦{fullShare} m (mL d)) ∗ AllLists m d ∗ (hL d ↦{fullShare} m (hL d))) := by
  show (bigSep (Finset.univ : Finset (Fin 2)) fun c => bigSep (Finset.univ : Finset (Fin 16)) fun i => goS m d c i) = _
  simp only [goS, bigSep_sep']
  rw [← deal32, ← split32 (ℓ := hL d) regH regH_disj regH_cover]
theorem dn1_eq (d : Dev nD) : (bigSep Finset.univ fun c : Fin ((K (F := F)).nCore 1) => (P m).dn 1 d c)
    = iprop((mL d ↦{fullShare} m (mL d)) ∗ AllLists m d ∗ (hL d ↦{fullShare} (outG (mv m d) (xv m d) : Buf (Elt F) (hL d)))) := by
  show (bigSep (Finset.univ : Finset (Fin 2)) fun c => bigSep (Finset.univ : Finset (Fin 16)) fun i => tdS m d c i) = _
  simp only [tdS, bigSep_sep']
  rw [← deal32, ← split32 (ℓ := hL d) regH regH_disj regH_cover]

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 2 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 2 => (P (F := F) m).x q thr) = bigSep Finset.univ fun _ => iprop(emp) from
    bigSep_congr fun _ _ => bigSep_emp' _, bigSep_emp']
  iempintro

/-! ## @main on the TensorCore -/

abbrev h' : DevRef τ sig := Proc.devRef .tc (main_v1 : Ref sig .tc)
abbrev t' : DevRef τ sig := Proc.devRef .tc (main_v2 : Ref sig .tc)
abbrev r' : DevRef τ sig := Proc.devRef .tc (main_v3 : Ref sig .tc)
abbrev opReshape : HloOp τ sig (Elt F) := StableHlo.reshape main_v1 main_v2 (rfl : (.f32 : EltTy) = .f32) shapeCasts_S1310720_S10240x128
abbrev opSlice : HloOp τ sig (Elt F) := StableHlo.unary main_v2 main_v3 ((extractStridedSlice S10000x128 ![0, 0] · slices_S10240x128_S10000x128_0_0) : (⟨S10240x128, .f32⟩ : BufTy).Contents (Elt F) → (⟨S10000x128, .f32⟩ : BufTy).Contents (Elt F))

abbrev S3 : Finset (DevRef τ sig) := {h', t', r'}

theorem held_S3 (d : Dev nD) (W : Valuation τ sig (Elt F)) :
    (held (T d) S3 W : sProp 𝕄) = iprop((hL d ↦{fullShare} W h') ∗ (tL d ↦{fullShare} W t') ∗ rL d ↦{fullShare} W r') := by
  unfold held S3
  rw [SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((mL d ↦{fullShare} W main_arg0) ∗ (dL d ↦{fullShare} W main_arg1) ∗ (iL d ↦{fullShare} W main_v0_0) ∗ (lL d ↦{fullShare} W main_v0_1)
        ∗ (kL d ↦{fullShare} W main_v0_2) ∗ (hL d ↦{fullShare} W main_v1) ∗ (tL d ↦{fullShare} W main_v2) ∗ rL d ↦{fullShare} W main_v3) := by
  unfold unscopedBufs
  rw [show (Finset.univ.filter fun b : Ref sig .tc => ¬ b.isScoped) = {main_arg0, main_arg1, main_v0_0, main_v0_1, main_v0_2, main_v1, main_v2, main_v3} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The arrays as they stand after both calls. -/
def V1 (d : Dev nD) : Valuation τ sig (Elt F) := Function.update (fun b => m (d, b)) h' (outG (mv m d) (xv m d))
theorem V1_h (d : Dev nD) : V1 m d h' = outG (mv m d) (xv m d) := Function.update_self _ _ _
theorem V1_t (d : Dev nD) : V1 m d t' = m (tL d) := Function.update_of_ne (show t' ≠ h' by decide) _ _
theorem V1_r (d : Dev nD) : V1 m d r' = m (rL d) := Function.update_of_ne (show r' ≠ h' by decide) _ _

theorem hReshape : (opReshape (F := F)).bufs ⊆ S3 := show ({h', t'} : Finset (DevRef τ sig)) ⊆ S3 by decide
theorem hSlice : (opSlice (F := F)).bufs ⊆ S3 := show ({t', r'} : Finset (DevRef τ sig)) ⊆ S3 by decide

/-- What @main leaves in its result: the maximum call's result, its rows laid out and the last 240 dropped. -/
def resG (d : Dev nD) : Buf (Elt F) (rL d) := (opSlice (F := F)).result ((opReshape (F := F)).result (V1 m d)) r'

abbrev FIN (d : Dev nD) : sProp 𝕄 := iprop((mL d ↦{fullShare} m (mL d)) ∗ (dL d ↦{fullShare} m (dL d)) ∗ rL d ↦{fullShare} resG m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hm, Hd, Hi, Hl, Hk, Hh, Ht, Hr⟩, Hts, -⟩, -⟩
  iapply ((K (F := F)).wp_run (D (F := F)) 𝒱 (EH := EH) (P := P m) κ d 0) $$ [Hst Hm Hd Hi Hl Hk Hh Ht Hr Hb Hts]
  isplitr; · iexact Hctx
  isplitl [Hst]; · iexact Hst
  isplitl [Hd Hi Hl Hk]
  · rw [st0_eq]
    isplitl [Hd]; · iexact Hd
    isplitl [Hi]; · iexact Hi
    isplitl [Hl]; · iexact Hl
    iexact Hk
  iintro ⟨Hst, Hdn⟩
  ihave Hdn' := (Entails.of_eq (dn0_eq m d)) $$ Hdn
  icases Hdn' with ⟨Hd, HA⟩
  iapply ((K (F := F)).wp_run (D (F := F)) 𝒱 (EH := EH) (P := P m) κ d 1) $$ [Hst Hm HA Hd Hh Ht Hr Hb Hts]
  isplitr; · iexact Hctx
  isplitl [Hst]; · iexact Hst
  isplitl [Hm HA Hh]
  · rw [st1_eq]
    isplitl [Hm]; · iexact Hm
    isplitl [HA]; · iexact HA
    iexact Hh
  iintro ⟨Hst, Hdn⟩
  ihave Hdn' := (Entails.of_eq (dn1_eq m d)) $$ Hdn
  icases Hdn' with ⟨Hm, -, Hh⟩
  iapply (wp_hlo_within 𝒱 (SparseCore.T d) none Set.univ (op := opReshape) (S := S3) hReshape (V := V1 m d)) $$ [Hb Hh Ht Hr]
  · isplitl [Hb]; · iexact Hb
    rw [held_S3, V1_h, V1_t, V1_r]
    isplitl [Hh]; · iexact Hh
    isplitl [Ht]; · iexact Ht
    iexact Hr
  iintro ⟨Hb, Hheld⟩
  rw [wp_ret]; imodintro
  iapply (wp_hlo_within 𝒱 (SparseCore.T d) none Set.univ (op := opSlice) (S := S3) hSlice (V := (opReshape (F := F)).result (V1 m d))) $$ [Hb Hheld]
  · isplitl [Hb]; · iexact Hb
    iexact Hheld
  iintro ⟨Hb, Hheld⟩
  ihave Hh := (Entails.of_eq (held_S3 (F := F) d _)) $$ Hheld
  icases Hh with ⟨-, -, Hr⟩
  rw [wp_ret]; imodintro; imodintro
  isplitl [Hst]; · iexact Hst
  isplitr [Hb Hts]
  · isplitl [Hm]; · iexact Hm
    isplitl [Hd]; · iexact Hd
    iexact Hr
  isplitl [Hb] <;> iassumption

def fq (d : Dev nD) (s' : Phys nD τ sig (Elt F)) : Prop :=
  s'.mem.mem (mL d) = m (mL d) ∧ s'.mem.mem (dL d) = m (dL d) ∧ s'.mem.mem (rL d) = resG m d

theorem hfin (d : Dev nD) (s' : Phys nD τ sig (Elt F)) : iprop(FIN m d ∗ SI s') ⊢ (⌜fq m d s'⌝ : sProp 𝕄) := by
  iintro ⟨⟨Hm, Hd, Hr⟩, HSI⟩
  ihave H := (persistent_entails_right (SI_pointsTo_agree (st := s') (ℓ := mL d) (I := Finset.univ) (q := fullShare) (f := m (mL d)))) $$ [HSI Hm]
  · isplitl [HSI] <;> iassumption
  icases H with ⟨%h1, HSI, -⟩
  ihave H := (persistent_entails_right (SI_pointsTo_agree (st := s') (ℓ := dL d) (I := Finset.univ) (q := fullShare) (f := m (dL d)))) $$ [HSI Hd]
  · isplitl [HSI] <;> iassumption
  icases H with ⟨%h2, HSI, -⟩
  ihave H := (SI_pointsTo_agree (st := s') (ℓ := rL d) (I := Finset.univ) (q := fullShare) (f := resG m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

/-- What the run ends in: both arguments unchanged, the result computed, every semaphore at zero. -/
def QC : PUnit × MemSt nD τ sig (Elt F) → Prop := fun r =>
  (∀ c : Dev nD, r.2.mem (mL c) = m (mL c) ∧ r.2.mem (dL c) = m (dL c) ∧ r.2.mem (rL c) = resG m c) ∧ r.2.sem = fun _ => 0

theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq)
    (fun q _ => match q with | 0 => tileObl_bucket m facts | 1 => tileObl_segmax m facts)
    (fun q _ => match q with | 0 => SparseCore.Cfg.VecSplit.of_plain (vecSplit_bucket m) | 1 => SparseCore.Cfg.VecSplit.of_plain (vecSplit_segmax m))
    m ρ main (fun _ => iprop(emp)) (FIN m) (u₀ (F := F)) (sep_elim_left.trans (hu₀ m)) (hmain m ρ) (fq m) (hfin m) (QC m) (fun _ h hz => ⟨h, hz⟩)

end Cert.Proof.Bucket

end
-- ==== Proof.RefValue.lean ====
/-
  The reference's result, element by element: the maximum over a node's edges, and zero.
-/
module

public import proofs.«01_k».proof.Proof.Gen.ReferenceIdeal.Run
public import Idealize.ShloMosaic.Lib.Pointwise
public import Idealize.ShloMosaic.PureOps.Ideal

@[expose] public section

noncomputable section

namespace Cert.Proof.RefValue

open Cert.ReferenceIdeal Cert.ReferenceIdeal.Gen Idealize.ShloMosaic

/-- The reference's masked messages. -/
abbrev masked (m : S320000x128.Idx → Ideal .f32) (x : S320000.Idx → BitVec 32) : FVec Ideal S10000x320000x128 .f32 :=
  select (broadcastInDim S10000x320000x128 ![0, 1, 2] bcast_S10000x320000x1_S10000x320000x128_0_1_2 (broadcastInDim S10000x320000x1 ![0, 1] bcast_S10000x320000_S10000x320000x1_0_1 (cmpi .eq (broadcastInDim S10000x320000 ![0, 1] bcast_S1x320000_S10000x320000_0_1 (broadcastInDim S1x320000 ![1] bcast_S320000_S1x320000_1 x)) (broadcastInDim S10000x320000 ![0, 1] bcast_S10000x1_S10000x320000_0_1 (broadcastInDim S10000x1 ![0] bcast_S10000_S10000x1_0 (iotaInDim S10000 32 0)))))) (broadcastInDim S10000x320000x128 ![0, 1, 2] bcast_S1x320000x128_S10000x320000x128_0_1_2 (broadcastInDim S1x320000x128 ![1, 2] bcast_S320000x128_S1x320000x128_1_2 m)) (broadcastInDim S10000x320000x128 ![] bcast_S_S10000x320000x128 (id (constant (F := Ideal) S_ .f32 0xFF800000#32)))

/-- Its maximum over the edges. -/
abbrev top (m : S320000x128.Idx → Ideal .f32) (x : S320000.Idx → BitVec 32) : FVec Ideal S10000x128 .f32 :=
  Host.reduce FloatOps.maximumf (masked m x) (constant S_ .f32 0xFF800000#32) reducesTo_S10000x320000x128_S10000x128_d1 h_S_

/-- Its result. -/
abbrev refV (m : S320000x128.Idx → Ideal .f32) (x : S320000.Idx → BitVec 32) : FVec Ideal S10000x128 .f32 :=
  maximumf (select (cmpf .oeq (top m x) (broadcastInDim S10000x128 ![] bcast_S_S10000x128 (constant S_ .f32 0xFF800000#32))) (broadcastInDim S10000x128 ![] bcast_S_S10000x128 (id (constant S_ .f32 0x00000000#32))) (top m x)) (broadcastInDim S10000x128 ![] bcast_S_S10000x128 (constant S_ .f32 0x00000000#32))

theorem neg_inf : Ideal.ofBits .f32 0xFF800000#32 = (⊥ : EReal) := by simp [Ideal.ofBits, Ideal.ieee]
theorem zero_bits : Ideal.ofBits .f32 0x00000000#32 = (0 : EReal) := by simp [Ideal.ofBits, Ideal.ieee]

theorem pick (a b : BitVec 32) (u v : EReal) : Scalar.select (IntOp.cmpi CmpIPredicate.eq a b) u v = if a = b then u else v := by
  unfold Scalar.select IntOp.cmpi
  by_cases h : a = b
  · rw [if_pos h, h]; simp
  · rw [if_neg h, if_neg]; rw [beq_eq_false_iff_ne.mpr h]; show ¬ (BitVec.ofBool false = 1); decide

theorem const_at (b : BitVec 32) (i : S_.Idx) : id (constant (F := Ideal) S_ .f32 b) i = Ideal.ofBits .f32 b := rfl

theorem masked_at (m : S320000x128.Idx → Ideal .f32) (x : S320000.Idx → BitVec 32) (n : Fin 10000) (e : Fin 320000) (c : Fin 128) :
    masked m x (ix3 n e c) = if x (ix1 e) = BitVec.ofNat 32 n.val then m (ix2 e c) else (⊥ : EReal) := by
  unfold masked
  rw [← neg_inf]
  pointwise
  rw [const_at, pick]

theorem top_at (m : S320000x128.Idx → Ideal .f32) (x : S320000.Idx → BitVec 32) (n : Fin 10000) (c : Fin 128) :
    top m x (ix2 n c) = Finset.univ.fold max (⊥ : EReal) fun e : Fin 320000 => masked m x (ix3 n e c) := by
  unfold top
  generalize masked m x = y
  rw [← neg_inf]
  pointwise

theorem tail_at (y : FVec Ideal S10000x128 .f32) (b z : BitVec 32) (n : Fin 10000) (c : Fin 128) :
    maximumf (select (cmpf .oeq y (broadcastInDim S10000x128 ![] bcast_S_S10000x128 (constant S_ .f32 b))) (broadcastInDim S10000x128 ![] bcast_S_S10000x128 (id (constant S_ .f32 z))) y)
        (broadcastInDim S10000x128 ![] bcast_S_S10000x128 (constant S_ .f32 z)) (ix2 n c)
      = max (if (y (ix2 n c) : EReal) = Ideal.ofBits .f32 b then Ideal.ofBits .f32 z else y (ix2 n c)) (Ideal.ofBits .f32 z) := by
  pointwise
  rw [const_at]

theorem refV_at (m : S320000x128.Idx → Ideal .f32) (x : S320000.Idx → BitVec 32) (n : Fin 10000) (c : Fin 128) :
    refV m x (ix2 n c) = max (top m x (ix2 n c)) (0 : EReal) := by
  refine (tail_at (top m x) _ _ n c).trans ?_
  rw [neg_inf, zero_bits]
  generalize (top m x (ix2 n c) : EReal) = y
  split
  · next h => rw [h]; simp
  · rfl

end Cert.Proof.RefValue

end
-- ==== Proof.Value.lean ====
/-
  The kernel's result equals the reference's, element by element.
-/
module

public import proofs.«01_k».proof.Proof.Launch
public import proofs.«01_k».proof.Proof.RefValue

@[expose] public section

noncomputable section

namespace Cert.Proof.Bucket

open Cert.KernelIdeal Cert.KernelIdeal.Gen
open Cert.Proof.Steps Cert.Proof.Words Cert.Proof.Counting
open Idealize.ShloMosaic

/-! ## The accumulator -/

/-- What bounds an accumulator's element: zero and every message taken into its row. -/
theorem accG_le (loc : ℕ → ℕ) (row : ℕ → ℕ → Ideal .f32) (j : S41088.Idx) (b : EReal) : ∀ p,
    (accG (F := Ideal) loc row p j : EReal) ≤ b ↔ 0 ≤ b ∧ ∀ q < p, (j 0).val / 128 = loc q → (row q ((j 0).val % 128) : EReal) ≤ b
  | 0 => by
    show Ideal.ofBits .f32 0x00000000#32 ≤ b ↔ _
    rw [RefValue.zero_bits]
    exact ⟨fun h => ⟨h, fun q hq => absurd hq (Nat.not_lt_zero q)⟩, fun h => h.1⟩
  | p + 1 => by
    have ih := accG_le loc row j b p
    show (upd (accG (F := Ideal) loc row p) (loc p) (row p) j : EReal) ≤ b ↔ _
    unfold upd
    by_cases h : (j 0).val / 128 = loc p
    · rw [if_pos h, Ideal.maximumf_def, max_le_iff, ih]
      constructor
      · rintro ⟨⟨h0, h1⟩, h2⟩
        refine ⟨h0, fun q hq hl => ?_⟩
        rcases Nat.lt_succ_iff_lt_or_eq.mp hq with h3 | h3
        · exact h1 q h3 hl
        · rw [h3]; exact h2
      · rintro ⟨h0, h1⟩
        exact ⟨⟨h0, fun q hq => h1 q (Nat.lt_succ_of_lt hq)⟩, h1 p (Nat.lt_succ_self p) h⟩
    · rw [if_neg h, ih]
      refine and_congr_right fun _ => ⟨fun h1 q hq hl => ?_, fun h1 q hq => h1 q (Nat.lt_succ_of_lt hq)⟩
      rcases Nat.lt_succ_iff_lt_or_eq.mp hq with h3 | h3
      · exact h1 q h3 hl
      · rw [h3] at hl; exact absurd hl h

/-! ## Entries and edges -/

/-- Two edges of a bucket with as many before them are one. -/
theorem hit_inj (x : S320000.Idx → BitVec 32) (w : ℕ) {a b : ℕ} (ha : hit x w a) (hb : hit x w b) (h : cnt x w a = cnt x w b) : a = b :=
  Nat.count_injective ha hb h

theorem toInt_of_lt {n : ℕ} (h : n < 10000) : (BitVec.ofNat 32 n).toInt = (n : ℤ) := by
  rw [BitVec.toInt_eq_toNat_cond, toNat_small (by omega), if_pos (by omega)]

/-- An entry of node `320 w + r`'s row is an edge into that node. -/
theorem entry_edge (x : S320000.Idx → BitVec 32) (w r p : ℕ) (hw : w < 32) (hr : r < 320) (h : r = entL x w p) :
    dN x (entE x w p) = BitVec.ofNat 32 (320 * w + r) := by
  unfold entL at h
  split at h
  · next hp =>
    have hh : hit x w (entE x w p) := by rw [show entE x w p = nth x w p from if_pos hp]; exact nth_hit x w p hp
    have hz := row_toNat x w _ hw hh
    rw [← h] at hz
    refine BitVec.eq_of_toInt_eq ?_
    rw [BitVec.toInt_eq_toNat_cond (BitVec.ofNat 32 (320 * w + r)), toNat_small (by omega), if_pos (by omega)]
    push_cast
    omega
  · omega

/-- An edge into node `320 w + r` is an entry of that node's row. -/
theorem edge_entry (x : S320000.Idx → BitVec 32) (w r e : ℕ) (hw : w < 32) (hr : r < 320) (he : e < 320000)
    (h : dN x e = BitVec.ofNat 32 (320 * w + r)) : ∃ p < 128 * nblk x w, r = entL x w p ∧ entE x w p = e := by
  have hz : (dN x e).toInt = ((320 * w + r : ℕ) : ℤ) := by
    rw [h, BitVec.toInt_eq_toNat_cond, toNat_small (by omega), if_pos (by omega)]
  have hh : hit x w e := ⟨by rw [hz]; push_cast; omega, by rw [hz]; push_cast; omega⟩
  have hp : cnt x w e < cnt x w 320000 := Nat.count_strict_mono hh he
  have hE : entE x w (cnt x w e) = e := by
    rw [show entE x w (cnt x w e) = nth x w (cnt x w e) from if_pos hp]
    exact hit_inj x w (nth_hit x w _ hp) hh (nth_cnt x w _ hp)
  refine ⟨cnt x w e, ?_, ?_, hE⟩
  · unfold nblk
    obtain ⟨N, hN⟩ : ∃ N, N = cnt x w 320000 := ⟨_, rfl⟩
    rw [← hN] at hp ⊢
    omega
  · unfold entL
    rw [if_pos hp, hE]
    have := row_toNat x w e hw hh
    rw [hz] at this
    push_cast at this
    omega

/-! ## The two results -/

theorem at1_ix1 (e : ℕ) (h : e < 320000) : (at1 e h : S320000.Idx) = ix1 ⟨e, h⟩ := by
  funext a
  match a with
  | ⟨0, _⟩ => rfl

theorem mrow_ix2 {F : FTy → Type} (m : S320000x128.Idx → F .f32) (e k : ℕ) (h : e < 320000) (c : Fin 128) (hk : k = c.val) : mrow m e k = m (ix2 ⟨e, h⟩ c) := by
  subst hk
  unfold mrow
  congr 1
  funext a
  match a with
  | ⟨0, _⟩ => exact Fin.ext (Nat.mod_eq_of_lt h)
  | ⟨1, _⟩ => exact Fin.ext (Nat.mod_eq_of_lt c.isLt)

theorem outG_eq (m : S320000x128.Idx → Ideal .f32) (x : S320000.Idx → BitVec 32) (n : Fin 10000) (c : Fin 128) (j : S1310720.Idx)
    (hj : (j 0).val = n.val * 128 + c.val) : outG (F := Ideal) m x j = RefValue.refV m x (ix2 n c) := by
  rw [RefValue.refV_at, RefValue.top_at]
  have hn := n.isLt
  have hc := c.isLt
  have hq : (j 0).val / 40960 = n.val / 320 := by rw [hj]; omega
  have hr : (j 0).val % 40960 / 128 = n.val % 320 := by rw [hj]; omega
  have hl : (j 0).val % 40960 % 128 = c.val := by rw [hj]; omega
  have hw : n.val / 320 < 32 := by omega
  have hN : 320 * (n.val / 320) + n.val % 320 = n.val := by omega
  have key : ∀ b : EReal, (outG (F := Ideal) m x j : EReal) ≤ b
      ↔ max (Finset.univ.fold max (⊥ : EReal) fun e : Fin 320000 => RefValue.masked m x (ix3 n e c)) 0 ≤ b := fun b => by
    unfold outG accT
    rw [accG_le, max_le_iff, Finset.fold_max_le, and_comm]
    show _ ∧ 0 ≤ b ↔ _
    refine and_congr_left fun _ => ?_
    show (∀ q < 128 * nblk x ((j 0).val / 40960), (j 0).val % 40960 / 128 = entL x ((j 0).val / 40960) q
      → (mrow m (entE x ((j 0).val / 40960) q) ((j 0).val % 40960 % 128) : EReal) ≤ b) ↔ _
    rw [hq, hr, hl]
    constructor
    · intro h
      refine ⟨bot_le, fun e _ => ?_⟩
      rw [RefValue.masked_at]
      split
      · next hx =>
        obtain ⟨p, hp, h1, h2⟩ := edge_entry x (n.val / 320) (n.val % 320) e.val hw (Nat.mod_lt _ (by decide)) e.isLt (by
          rw [hN, dN_lt x e.isLt, ← hx, at1_ix1])
        have h3 := h p hp h1
        rw [h2] at h3
        rw [mrow_ix2 m e.val c.val e.isLt c rfl] at h3
        exact h3
      · exact bot_le
    · rintro ⟨-, h⟩ p hp hr'
      have hE := entE_lt x (n.val / 320) p
      have h1 := h ⟨_, hE⟩ (Finset.mem_univ _)
      rw [RefValue.masked_at, if_pos] at h1
      · rw [mrow_ix2 m _ c.val hE c rfl]
        exact h1
      · have h2 := entry_edge x (n.val / 320) (n.val % 320) p hw (Nat.mod_lt _ (by decide)) hr'
        rw [hN, dN_lt x hE, at1_ix1] at h2
        exact h2
  exact le_antisymm ((key _).mpr le_rfl) ((key _).mp le_rfl)

/-- A row-major array of rows of 128, its first rows kept, read at row `n` and column `c`. -/
theorem rows_at {α : Type} (f : S1310720.Idx → α) (n : Fin 10000) (c : Fin 128) (k : Fin 1310720) (hk : k.val = n.val * 128 + c.val) :
    extractStridedSlice S10000x128 ![0, 0] (shapeCast S10240x128 f shapeCasts_S1310720_S10240x128) slices_S10240x128_S10000x128_0_0 (ix2 n c) = f (ix1 k) := by
  have hn := n.isLt
  refine (extractStridedSlice_apply _ _ _ (ix2 n c) (ix2 (⟨n.val, by omega⟩ : Fin 10240) c) fun a => ?_).trans ?_
  · match a with
    | ⟨0, _⟩ => exact (Nat.zero_add _).symm
    | ⟨1, _⟩ => exact (Nat.zero_add _).symm
  · refine shapeCast_apply _ _ _ _ ?_
    rw [Shape.rowMajor_val_one, Shape.rowMajor_val_two]
    exact hk

/-- @main's result is the reference's. -/
theorem resG_eq (m : (ℓ : Loc nD τ sig) → Buf (Elt Ideal) ℓ) (d : Dev nD) :
    (resG m d : S10000x128.Idx → Ideal .f32) = RefValue.refV (mv m d) (xv m d) := by
  funext i
  obtain ⟨n, c, rfl⟩ : ∃ (n : Fin 10000) (c : Fin 128), i = ix2 n c := ⟨i 0, i 1, by funext a; match a with | 0 => rfl | 1 => rfl⟩
  rw [← outG_eq (mv m d) (xv m d) n c (ix1 ⟨n.val * 128 + c.val, by have := n.isLt; have := c.isLt; omega⟩) rfl]
  show (opSlice (F := Ideal)).result ((opReshape (F := Ideal)).result (V1 m d)) r' (ix2 n c) = _
  rw [StableHlo.unary_result', StableHlo.reshape_result', V1_h]
  exact rows_at (outG (F := Ideal) (mv m d) (xv m d)) n c _ rfl

end Cert.Proof.Bucket

end
-- ==== Proof.GatherSteps.lean ====
/-
  What the proof of the gathering call rests on: its program as the launch theorem sees it, the resource algebra, a copy
  that is issued and at once waited for, and what a copy leaves in a buffer.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.GatherIdeal
public import proofs.«01_k».proof.Proof.Gen.GatherIdeal.Skeleton

@[expose] public section

noncomputable section

namespace Cert.Proof.GSteps

open Cert.GatherIdeal Cert.GatherIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_eq (q : Fin 1) : (K (F := F)).nSub q = 16 := match q with | 0 => rfl
theorem nCore_eq (q : Fin 1) : (K (F := F)).nCore q = 2 := match q with | 0 => rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## What a copy leaves in a buffer -/

theorem emb1 {N : ℕ} (off sz : Fin 1 → ℕ) (inb : ∀ a, off a + sz a ≤ (⟨1, ![N]⟩ : Shape).size a) (i : (Rect.unit (s := ⟨1, ![N]⟩) off sz inb).shape.Idx) :
    ((Rect.unit (s := ⟨1, ![N]⟩) off sz inb).emb i 0).val = off 0 + (i 0).val := by
  rw [Rect.emb_apply]
  show off 0 + 1 * (i 0).val = _
  rw [Nat.one_mul]

theorem unit1 {N : ℕ} (off sz : Fin 1 → ℕ) (inb : ∀ a, off a + sz a ≤ (⟨1, ![N]⟩ : Shape).size a) (j : (⟨1, ![N]⟩ : Shape).Idx) (o z : ℕ)
    (ho : off = ![o]) (hz : sz = ![z]) (hj : j ∈ (Rect.unit (s := ⟨1, ![N]⟩) off sz inb).set) : o ≤ (j 0).val ∧ (j 0).val < o + z := by
  subst ho hz
  exact (Rect.mem_set_unit.mp hj) 0

section Whole
variable (b : Ref sig .scVector) (r : Rect b.ty.shape)

theorem wr_in (f : b.ty.Contents (Elt F)) (w : r.shape.Idx → Elt F b.ty.elt) (x : r.shape.Idx) :
    ((Memref.whole b).access r).write (Elt F) f w Finset.univ (r.emb x) = w x :=
  (View.write_emb_of_mem (v := (Memref.whole b).access r) f w (Finset.mem_univ x))

theorem wr_out (f : b.ty.Contents (Elt F)) (w : r.shape.Idx → Elt F b.ty.elt) (j : b.ty.shape.Idx) (hj : j ∉ r.set) :
    ((Memref.whole b).access r).write (Elt F) f w Finset.univ j = f j :=
  View.write_of_not_mem (v := (Memref.whole b).access r) f w Finset.univ (by
    rw [View.setOn_univ]; show j ∉ ((View.whole b).slice r).set
    rw [View.set_slice_whole]; exact hj)

/-- A slice of a whole buffer lies in a set that holds its box. -/
theorem slice_sub (r : Rect b.ty.shape) (h : ∀ a, r.stride a = 1) (S' : Finset b.ty.Idx) (hs : ∀ j ∈ r.set, j ∈ S') :
    (show Finset b.ty.Idx from ((Memref.whole b).slice r h).view.set) ⊆ S' := by
  intro j hj
  have e : ((Memref.whole b).slice r h).view.set = r.set := View.set_slice_whole b r
  rw [e] at hj
  exact hs j hj

end Whole

/-! ## A copy issued and at once waited for -/

section Sync
variable {Λ : Labels} (defs : Defs nD τ sig (Elt F) Λ) {c : Thread nD τ} {α : Type}

/-- `pltpu.sync_copy` into a destination held on a set `Sd`: the source's share comes back, the destination holds what the
    source read, the semaphore is at zero again and the wait is recorded. -/
theorem step_sync {sp sp' : Space} {s : Shape} {e : EltTy} {sem : DmaSem sig} {s₁ s₂ : Shape} {e₁ e₂ : EltTy} {sp₁ sp₂ : Space}
    {src : Memref sig c.2.kind sp s e} {dst : Memref sig c.2.kind sp' s e}
    {hsrc : src.view.WordExact} {hdst : dst.view.WordExact} {hsem : DmaTarget.Typed (nD := nD) sp (.dma sem) (.here dst)}
    {srcw : Memref sig c.2.kind sp₁ s₁ e₁} {dstw : Memref sig c.2.kind sp₂ s₂ e₂} {hsrcw : srcw.view.WordExact} {hdstw : dstw.view.WordExact}
    {k : PUnit → Prog (TpuEff nD τ sig (Elt F) Λ c.2) α} {q : PosShare TreeShare} {fs : Buf (Elt F) (src.view.loc c)}
    {Sd : Finset (Idx (dst.view.loc c))} {fd : Buf (Elt F) (dst.view.loc c)} {O : CellTallies nD τ sig (HIx 1)} {W : Waits sig (HIx 1)}
    {Q : α → sProp 𝕄} (N : ℕ) (hN : dst.view.amount (.dma sem) = N) (hN0 : 0 < N) (hNw : dstw.view.dmaCredit = N) (hSd : dst.view.set ⊆ Sd) :
    (iprop((src.view.loc c ↦[src.view.set]{q} fs) ∗ (dst.view.loc c ↦[Sd]{fullShare} fd) ∗ semVal (c, .dma sem) 0 ∗ owes c O W
        ∗ Transfers.MayWaits c (default : HIx 1) O) : sProp 𝕄)
      ⊢ iprop((iprop((dst.view.loc c ↦[Sd]{fullShare} (dst.view.write (Elt F) fd (src.view.read (Elt F) fs) Finset.univ))
            ∗ (src.view.loc c ↦[src.view.set]{q} fs) ∗ semVal (c, .dma sem) 0
            ∗ owes c O (insert (SemLoc.dma sem, default) W)) -∗ wp frame (wpE defs 𝒱₀ c none) Set.univ (k ⟨⟩) Q)
        -∗ wp frame (wpE defs 𝒱₀ c none) Set.univ
            (.op (.enqueueDma src (.here dst) (.dma sem) hsrc hdst hsem) fun _ => .op (.waitDma2 sem srcw dstw hsrcw hdstw) k) Q) := by
  iintro ⟨Hs, Hd, Hsem, HO, Hmw⟩ Hk
  iapply (Transfers.wp_dmaLocal countersEmb 𝒱₀ c none (via := ReadAs.same) (default : HIx 1) N hN hN0 hSd) $$ [Hs Hd Hsem]
  · isplitl [Hs]; · iexact Hs
    isplitl [Hd]; · iexact Hd
    iexact Hsem
  iintro Hfl
  iapply (Transfers.wp_waitLocalO countersEmb 𝒱₀ c none (default : HIx 1) hNw) $$ [Hfl HO Hmw]
  · isplitl [Hfl]; · iexact Hfl
    isplitl [HO]; · iexact HO
    iapply (Transfers.MayWaits.elim (ι := (default : HIx 1)) (c := c) (O := O) (SemLoc.dma sem)) $$ Hmw
  iintro ⟨⟨Hd, Hs⟩, Hsem, HO⟩
  iapply Hk
  isplitl [Hd]; · iexact Hd
  isplitl [Hs]; · iexact Hs
  isplitl [Hsem]; · iexact Hsem
  iexact HO

/-- The same with the source held on a larger set. -/
theorem step_sync' {sp sp' : Space} {s : Shape} {e : EltTy} {sem : DmaSem sig} {s₁ s₂ : Shape} {e₁ e₂ : EltTy} {sp₁ sp₂ : Space}
    {src : Memref sig c.2.kind sp s e} {dst : Memref sig c.2.kind sp' s e}
    {hsrc : src.view.WordExact} {hdst : dst.view.WordExact} {hsem : DmaTarget.Typed (nD := nD) sp (.dma sem) (.here dst)}
    {srcw : Memref sig c.2.kind sp₁ s₁ e₁} {dstw : Memref sig c.2.kind sp₂ s₂ e₂} {hsrcw : srcw.view.WordExact} {hdstw : dstw.view.WordExact}
    {k : PUnit → Prog (TpuEff nD τ sig (Elt F) Λ c.2) α} {q : PosShare TreeShare} {Ss : Finset (Idx (src.view.loc c))} {fs : Buf (Elt F) (src.view.loc c)}
    {Sd : Finset (Idx (dst.view.loc c))} {fd : Buf (Elt F) (dst.view.loc c)} {O : CellTallies nD τ sig (HIx 1)} {W : Waits sig (HIx 1)}
    {Q : α → sProp 𝕄} (N : ℕ) (hN : dst.view.amount (.dma sem) = N) (hN0 : 0 < N) (hNw : dstw.view.dmaCredit = N)
    (hSs : src.view.set ⊆ Ss) (hSd : dst.view.set ⊆ Sd) :
    (iprop((src.view.loc c ↦[Ss]{q} fs) ∗ (dst.view.loc c ↦[Sd]{fullShare} fd) ∗ semVal (c, .dma sem) 0 ∗ owes c O W
        ∗ Transfers.MayWaits c (default : HIx 1) O) : sProp 𝕄)
      ⊢ iprop((iprop((dst.view.loc c ↦[Sd]{fullShare} (dst.view.write (Elt F) fd (src.view.read (Elt F) fs) Finset.univ))
            ∗ (src.view.loc c ↦[Ss]{q} fs) ∗ semVal (c, .dma sem) 0
            ∗ owes c O (insert (SemLoc.dma sem, default) W)) -∗ wp frame (wpE defs 𝒱₀ c none) Set.univ (k ⟨⟩) Q)
        -∗ wp frame (wpE defs 𝒱₀ c none) Set.univ
            (.op (.enqueueDma src (.here dst) (.dma sem) hsrc hdst hsem) fun _ => .op (.waitDma2 sem srcw dstw hsrcw hdstw) k) Q) := by
  iintro ⟨Hs, Hd, Hsem, HO, Hmw⟩ Hk
  ihave Hss := (pointsTo_split_subset (q := q) (f := fs) (S := Ss) hSs).1 $$ Hs
  icases Hss with ⟨Hs, Hr⟩
  iapply (step_sync defs N hN hN0 hNw hSd) $$ [Hs Hd Hsem HO Hmw]
  · isplitl [Hs]; · iexact Hs
    isplitl [Hd]; · iexact Hd
    isplitl [Hsem]; · iexact Hsem
    isplitl [HO]; · iexact HO
    iexact Hmw
  iintro ⟨Hd, Hs, Hsem, HO⟩
  iapply Hk
  isplitl [Hd]; · iexact Hd
  isplitl [Hs Hr]
  · iapply (pointsTo_split_subset (q := q) (f := fs) (S := Ss) hSs).2
    isplitl [Hs]; · iexact Hs
    iexact Hr
  isplitl [Hsem]; · iexact Hsem
  iexact HO

end Sync

end Cert.Proof.GSteps

end
-- ==== Proof.GatherBody.lean ====
/-
  The body of the gathering call on one tile: a chunk of 128 edges, all of a tile's chunks.
-/
module

public import proofs.«01_k».proof.Proof.GatherSteps
public import proofs.«01_k».proof.Proof.Counting
public import proofs.«01_k».proof.Proof.Gen.GatherIdeal.Skeleton

@[expose] public section

noncomputable section

namespace Cert.Proof.Gathering

open Cert.GatherIdeal Cert.GatherIdeal.Gen
open Cert.Proof.GSteps Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs as the program passes them: the two tables, the two index arrays, the two results, the four scratch buffers
local notation "gA" => (Memref.whole Cert.GatherIdeal.main_arg0_scv : Memref Cert.GatherIdeal.sig Kind.scVector Space.hbm Cert.GatherIdeal.S10000x128 EltTy.f32)
local notation "gQ" => (Memref.whole Cert.GatherIdeal.main_arg1_scv : Memref Cert.GatherIdeal.sig Kind.scVector Space.hbm Cert.GatherIdeal.S10000x128 EltTy.f32)
local notation "gS" => (Memref.whole Cert.GatherIdeal.main_arg2_scv : Memref Cert.GatherIdeal.sig Kind.scVector Space.hbm Cert.GatherIdeal.S320000 EltTy.i32)
local notation "gD" => (Memref.whole Cert.GatherIdeal.main_arg3_scv : Memref Cert.GatherIdeal.sig Kind.scVector Space.hbm Cert.GatherIdeal.S320000 EltTy.i32)
local notation "gU" => (Memref.whole Cert.GatherIdeal.main_v0_0_scv : Memref Cert.GatherIdeal.sig Kind.scVector Space.hbm Cert.GatherIdeal.S320000x128 EltTy.f32)
local notation "gW" => (Memref.whole Cert.GatherIdeal.main_v0_1_scv : Memref Cert.GatherIdeal.sig Kind.scVector Space.hbm Cert.GatherIdeal.S320000x128 EltTy.f32)
local notation "sI" => (Memref.whole Cert.GatherIdeal.cc0_scratch0 : Memref Cert.GatherIdeal.sig Kind.scVector Space.vmem Cert.GatherIdeal.S128 EltTy.i32)
local notation "sJ" => (Memref.whole Cert.GatherIdeal.cc0_scratch1 : Memref Cert.GatherIdeal.sig Kind.scVector Space.vmem Cert.GatherIdeal.S128 EltTy.i32)
local notation "sR" => (Memref.whole Cert.GatherIdeal.cc0_scratch2 : Memref Cert.GatherIdeal.sig Kind.scVector Space.vmem Cert.GatherIdeal.S128x128 EltTy.f32)
local notation "sQ" => (Memref.whole Cert.GatherIdeal.cc0_scratch3 : Memref Cert.GatherIdeal.sig Kind.scVector Space.vmem Cert.GatherIdeal.S128x128 EltTy.f32)

variable [FloatOps F]
variable (d : Dev nD) (L : grid0.Coords)

abbrev cV (L : grid0.Coords) : Fin τ.nSC := (L 0).castLE hcore0
abbrev jV (L : grid0.Coords) : Fin τ.nSub := (L 1).castLE hsub0
/-- The thread of the tile at `L`. -/
abbrev thr (d : Dev nD) (L : grid0.Coords) : Thread nD τ := V d (cV L) (jV L)
/-- The number of a tile among the thirty-two. -/
abbrev wid (i : grid0.Coords) : ℕ := 2 * (i 1).val + (i 0).val

theorem wid_lt (i : grid0.Coords) : wid i < 32 := by
  have h0 : (i 0).val < 2 := (i 0).isLt
  have h1 : (i 1).val < 16 := (i 1).isLt
  unfold wid; omega

/-- The trips of a tile's loop: 78 chunks, and one more on the first four tiles. -/
theorem t1_trips : ∀ i : grid0.Coords, (k0_t1_loop i).trips = 78 + (if wid i < 4 then 1 else 0) := by decide +kernel
theorem t2_trips (i : grid0.Coords) : (k0_t2_loop i).trips = 0 := Nat.le_zero.mp (k0_t2_abs i).2.1

/-! ## What the call computes -/

/-- The index of edge `n` (0 past the last edge). -/
def xN (x : S320000.Idx → BitVec 32) (n : ℕ) : BitVec 32 := if h : n < 320000 then x (at1 n h) else 0
theorem xN_lt (x : S320000.Idx → BitVec 32) (hx : ∀ j, (x j).toNat < 10000) (n : ℕ) : (xN x n).toNat < 10000 := by
  unfold xN
  split
  · exact hx _
  · decide

/-- Column `c` of row `r` of a table. -/
def rowAt (a : S10000x128.Idx → F .f32) (r c : ℕ) : F .f32 :=
  a (fun | 0 => ⟨r % 10000, Nat.mod_lt _ (by decide)⟩ | 1 => ⟨c % 128, Nat.mod_lt _ (by decide)⟩)

/-- The rows of a table that the indices name. -/
def gatG (a : S10000x128.Idx → F .f32) (x : S320000.Idx → BitVec 32) : S320000x128.Idx → F .f32 :=
  fun j => rowAt a (xN x (j 0).val).toNat (j 1).val

theorem extTwo {n : Fin 2 → ℕ} {x y : (⟨2, n⟩ : Shape).Idx} (h0 : (x 0).val = (y 0).val) (h1 : (x 1).val = (y 1).val) : x = y :=
  funext fun a => Fin.ext <| match a with | ⟨0, _⟩ => h0 | ⟨1, _⟩ => h1

/-- The part of a result that tile `w` writes: the rows of the chunks `w`, `w + 32`, … -/
@[irreducible] def regZ (w : ℕ) : Finset S320000x128.Idx := Finset.univ.filter fun j => (j 0).val / 128 % 32 = w
theorem mem_regZ (w : ℕ) (j : S320000x128.Idx) : j ∈ regZ w ↔ (j 0).val / 128 % 32 = w := by
  unfold regZ; rw [Finset.mem_filter]; exact and_iff_right (Finset.mem_univ _)

abbrev aLoc := (thr d L).loc main_arg0_scv
abbrev qLoc := (thr d L).loc main_arg1_scv
abbrev sLoc := (thr d L).loc main_arg2_scv
abbrev dLoc := (thr d L).loc main_arg3_scv
abbrev uLoc := (thr d L).loc main_v0_0_scv
abbrev wLoc := (thr d L).loc main_v0_1_scv
abbrev atU (w : ℕ) (f : Buf (Elt F) (uLoc d L)) : sProp 𝕄 := uLoc d L ↦[regZ w]{fullShare} f
abbrev atW (w : ℕ) (f : Buf (Elt F) (wLoc d L)) : sProp 𝕄 := wLoc d L ↦[regZ w]{fullShare} f
abbrev atI (f : Buf (Elt F) ((thr d L).loc cc0_scratch0)) : sProp 𝕄 := (thr d L).loc cc0_scratch0 ↦{fullShare} f
abbrev atJ (f : Buf (Elt F) ((thr d L).loc cc0_scratch1)) : sProp 𝕄 := (thr d L).loc cc0_scratch1 ↦{fullShare} f
abbrev atR (f : Buf (Elt F) ((thr d L).loc cc0_scratch2)) : sProp 𝕄 := (thr d L).loc cc0_scratch2 ↦{fullShare} f
abbrev atQ (f : Buf (Elt F) ((thr d L).loc cc0_scratch3)) : sProp 𝕄 := (thr d L).loc cc0_scratch3 ↦{fullShare} f

/-- What a tile owes, its waits those of `W` and its own. -/
abbrev Owed (O : CellTallies nD τ sig (HIx 1)) (W : Waits sig (HIx 1)) : sProp 𝕄 :=
  iprop(∃ W', ⌜∀ p ∈ W', p ∈ W ∨ p.2 = none⌝ ∗ owes (thr d L) O W')

/-! ## A chunk's copies -/

/-- The first `k` chunks of tile `w` written. -/
def Done (a : S10000x128.Idx → F .f32) (x : S320000.Idx → BitVec 32) (w k : ℕ) (f : S320000x128.Idx → F .f32) : Prop :=
  ∀ j, (j 0).val / 128 % 32 = w → (j 0).val / 4096 < k → f j = gatG a x j

/-- What a block of 128 indices copied to the tile holds. -/
theorem copiedI (o : Fin 1 → ℕ) (h : ∀ a, o a + S128.size a ≤ S320000.size a) (p : ℕ) (ho : o = ![p])
    (f : Buf (Elt F) (sLoc d L)) (g : Buf (Elt F) ((thr d L).loc cc0_scratch0)) (j : S128.Idx) :
    (show S128.Idx → BitVec 32 from (sI).view.write (Elt F) g ((((gS).slice (Rect.unit (s := S320000) o S128.size h) (fun _ => rfl)).view).read (Elt F) f) Finset.univ) j = xN f (p + (j 0).val) := by
  refine (congrFun (View.write_whole_univ (Val := Elt F) cc0_scratch0 g _) j).trans ?_
  have e : ((Rect.unit (s := S320000) o S128.size h).emb j 0).val = p + (j 0).val := (emb1 (N := 320000) o S128.size h j).trans (congrArg (· + (j 0).val) (congrFun ho 0))
  have hl : p + (j 0).val < 320000 := e ▸ ((Rect.unit (s := S320000) o S128.size h).emb j 0).isLt
  unfold xN
  rw [dif_pos hl]
  exact congrArg f (ext1 e)

/-- What a block of 128 indices copied to the tile holds. -/
theorem copiedJ (o : Fin 1 → ℕ) (h : ∀ a, o a + S128.size a ≤ S320000.size a) (p : ℕ) (ho : o = ![p])
    (f : Buf (Elt F) (dLoc d L)) (g : Buf (Elt F) ((thr d L).loc cc0_scratch1)) (j : S128.Idx) :
    (show S128.Idx → BitVec 32 from (sJ).view.write (Elt F) g ((((gD).slice (Rect.unit (s := S320000) o S128.size h) (fun _ => rfl)).view).read (Elt F) f) Finset.univ) j = xN f (p + (j 0).val) := by
  refine (congrFun (View.write_whole_univ (Val := Elt F) cc0_scratch1 g _) j).trans ?_
  have e : ((Rect.unit (s := S320000) o S128.size h).emb j 0).val = p + (j 0).val := (emb1 (N := 320000) o S128.size h j).trans (congrArg (· + (j 0).val) (congrFun ho 0))
  have hl : p + (j 0).val < 320000 := e ▸ ((Rect.unit (s := S320000) o S128.size h).emb j 0).isLt
  unfold xN
  rw [dif_pos hl]
  exact congrArg f (ext1 e)

/-- What the gather leaves: row `r` is the table's row that index `r` of the block names. -/
theorem gatheredR (a : Buf (Elt F) (aLoc d L)) (X : Buf (Elt F) ((thr d L).loc cc0_scratch0)) (fR : Buf (Elt F) ((thr d L).loc cc0_scratch2))
    (x : S320000.Idx → BitVec 32) (p : ℕ) (hX : ∀ j : S128.Idx, X j = xN x (p + (j 0).val)) (hx : ∀ n, (xN x n).toNat < 10000)
    (hin : ∀ y, ((sI).view.read (Elt F) X y).toNat < S10000x128.size gathers_S10000x128_S128x128.axis) (hn : S128.numel = S128x128.size gathers_S10000x128_S128x128.axis') (j : S128x128.Idx) :
    (show S128x128.Idx → F .f32 from (sR).view.write (Elt F) fR (SparseCore.gatherPayload gathers_S10000x128_S128x128 (((gA).slice (Rect.unit (s := S10000x128) ![0, 0] S10000x128.size inb_S10000x128_S10000x128_0_0) (fun _ => rfl)).view.read (Elt F) a)
      (SparseCore.rows ((sI).view.read (Elt F) X) hn hin)) Finset.univ) j = rowAt a (xN x (p + (j 0).val)).toNat (j 1).val := by
  refine (congrFun (View.write_whole_univ (Val := Elt F) cc0_scratch2 fR _) j).trans ?_
  unfold SparseCore.gatherPayload rowAt
  refine congrArg a (extTwo ?_ ?_)
  · have h1 := congrArg Fin.val (gathers_S10000x128_S128x128.idx_axis (SparseCore.rows ((sI).view.read (Elt F) X) hn hin) j)
    have h2 : ((SparseCore.rows ((sI).view.read (Elt F) X) hn hin) (j gathers_S10000x128_S128x128.axis')).val = (xN x (p + (j 0).val)).toNat := by
      show (X _).toNat = _
      rw [hX]
      congr 3
      have := Shape.rowMajor_val_one (d := ![128]) (S128.rowMajor.symm ((j gathers_S10000x128_S128x128.axis').cast hn.symm))
      refine this.symm.trans ?_
      show (S128.rowMajor (S128.rowMajor.symm _)).val = _
      rw [Equiv.apply_symm_apply]
      rfl
    show (0 + 1 * (gathers_S10000x128_S128x128.idx (SparseCore.rows ((sI).view.read (Elt F) X) hn hin) j gathers_S10000x128_S128x128.axis).val) = (xN x (p + (j 0).val)).toNat % 10000
    rw [h1, h2, Nat.mod_eq_of_lt (hx _)]
    omega
  · have h1 := gathers_S10000x128_S128x128.idx_of_ne (SparseCore.rows ((sI).view.read (Elt F) X) hn hin) j 1 (by decide)
    show (0 + 1 * (gathers_S10000x128_S128x128.idx (SparseCore.rows ((sI).view.read (Elt F) X) hn hin) j 1).val) = (j 1).val % 128
    rw [h1, Nat.mod_eq_of_lt (show (j 1).val < 128 from (j 1).isLt)]
    show 0 + 1 * (j 1).val = (j 1).val
    omega

/-- What the gather leaves: row `r` is the table's row that index `r` of the block names. -/
theorem gatheredQ (a : Buf (Elt F) (qLoc d L)) (X : Buf (Elt F) ((thr d L).loc cc0_scratch1)) (fR : Buf (Elt F) ((thr d L).loc cc0_scratch3))
    (x : S320000.Idx → BitVec 32) (p : ℕ) (hX : ∀ j : S128.Idx, X j = xN x (p + (j 0).val)) (hx : ∀ n, (xN x n).toNat < 10000)
    (hin : ∀ y, ((sJ).view.read (Elt F) X y).toNat < S10000x128.size gathers_S10000x128_S128x128.axis) (hn : S128.numel = S128x128.size gathers_S10000x128_S128x128.axis') (j : S128x128.Idx) :
    (show S128x128.Idx → F .f32 from (sQ).view.write (Elt F) fR (SparseCore.gatherPayload gathers_S10000x128_S128x128 (((gQ).slice (Rect.unit (s := S10000x128) ![0, 0] S10000x128.size inb_S10000x128_S10000x128_0_0) (fun _ => rfl)).view.read (Elt F) a)
      (SparseCore.rows ((sJ).view.read (Elt F) X) hn hin)) Finset.univ) j = rowAt a (xN x (p + (j 0).val)).toNat (j 1).val := by
  refine (congrFun (View.write_whole_univ (Val := Elt F) cc0_scratch3 fR _) j).trans ?_
  unfold SparseCore.gatherPayload rowAt
  refine congrArg a (extTwo ?_ ?_)
  · have h1 := congrArg Fin.val (gathers_S10000x128_S128x128.idx_axis (SparseCore.rows ((sJ).view.read (Elt F) X) hn hin) j)
    have h2 : ((SparseCore.rows ((sJ).view.read (Elt F) X) hn hin) (j gathers_S10000x128_S128x128.axis')).val = (xN x (p + (j 0).val)).toNat := by
      show (X _).toNat = _
      rw [hX]
      congr 3
      have := Shape.rowMajor_val_one (d := ![128]) (S128.rowMajor.symm ((j gathers_S10000x128_S128x128.axis').cast hn.symm))
      refine this.symm.trans ?_
      show (S128.rowMajor (S128.rowMajor.symm _)).val = _
      rw [Equiv.apply_symm_apply]
      rfl
    show (0 + 1 * (gathers_S10000x128_S128x128.idx (SparseCore.rows ((sJ).view.read (Elt F) X) hn hin) j gathers_S10000x128_S128x128.axis).val) = (xN x (p + (j 0).val)).toNat % 10000
    rw [h1, h2, Nat.mod_eq_of_lt (hx _)]
    omega
  · have h1 := gathers_S10000x128_S128x128.idx_of_ne (SparseCore.rows ((sJ).view.read (Elt F) X) hn hin) j 1 (by decide)
    show (0 + 1 * (gathers_S10000x128_S128x128.idx (SparseCore.rows ((sJ).view.read (Elt F) X) hn hin) j 1).val) = (j 1).val % 128
    rw [h1, Nat.mod_eq_of_lt (show (j 1).val < 128 from (j 1).isLt)]
    show 0 + 1 * (j 1).val = (j 1).val
    omega

/-- A chunk's rows lie in the tile's part of a result. -/
theorem chunk_sub (o : Fin 2 → ℕ) (h : ∀ a, o a + S128x128.size a ≤ S320000x128.size a) (w k : ℕ) (hw : w < 32) (ho : o = ![128 * w + 4096 * k, 0])
    (j : S320000x128.Idx) (hj : j ∈ (Rect.unit (s := S320000x128) o S128x128.size h).set) : j ∈ regZ w := by
  rw [Rect.mem_set_unit] at hj
  have h0 := hj 0
  rw [congrFun ho 0] at h0
  rw [mem_regZ]
  have h1 : 128 * w + 4096 * k ≤ (j 0).val := h0.1
  have h2 : (j 0).val < 128 * w + 4096 * k + 128 := h0.2
  omega

/-- What a chunk's copy leaves in a result. -/
theorem outU (o : Fin 2 → ℕ) (h : ∀ a, o a + S128x128.size a ≤ S320000x128.size a) (a : S10000x128.Idx → F .f32) (x : S320000.Idx → BitVec 32) (w k : ℕ) (hw : w < 32) (ho : o = ![128 * w + 4096 * k, 0])
    (f : Buf (Elt F) (uLoc d L)) (R : Buf (Elt F) ((thr d L).loc cc0_scratch2)) (hf : Done a x w k f)
    (hR : ∀ j : S128x128.Idx, R j = rowAt a (xN x (128 * w + 4096 * k + (j 0).val)).toNat (j 1).val) :
    Done a x w (k + 1) (((gU).slice (Rect.unit (s := S320000x128) o S128x128.size h) (fun _ => rfl)).view.write (Elt F) f ((sR).view.read (Elt F) R) Finset.univ) := by
  intro j hj hk
  by_cases hlt : (j 0).val / 4096 < k
  · refine (wr_out (F := F) main_v0_0_scv (Rect.unit (s := S320000x128) o S128x128.size h) f _ j fun hm => ?_).trans (hf j hj hlt)
    rw [Rect.mem_set_unit] at hm
    have h0 := hm 0
    rw [congrFun ho 0] at h0
    have h1 : 128 * w + 4096 * k ≤ (j 0).val := h0.1
    omega
  · have e0 : (j 0).val = 128 * w + 4096 * k + (j 0).val % 128 := by omega
    obtain ⟨i, hi0, hi1⟩ : ∃ i : S128x128.Idx, (i 0).val = (j 0).val % 128 ∧ (i 1).val = (j 1).val :=
      ⟨fun | 0 => ⟨(j 0).val % 128, Nat.mod_lt _ (by decide)⟩ | 1 => ⟨(j 1).val, (j 1).isLt⟩, rfl, rfl⟩
    have hi : j = (Rect.unit (s := S320000x128) o S128x128.size h).emb i := extTwo (by
        rw [Rect.emb_apply]
        show _ = o 0 + 1 * (i 0).val
        rw [congrFun ho 0, hi0]
        show _ = 128 * w + 4096 * k + 1 * ((j 0).val % 128)
        omega) (by
        rw [Rect.emb_apply]
        show _ = o 1 + 1 * (i 1).val
        rw [congrFun ho 1, hi1]
        show _ = 0 + 1 * (j 1).val
        omega)
    refine (congrArg _ hi).trans ((wr_in (F := F) main_v0_0_scv (Rect.unit (s := S320000x128) o S128x128.size h) f _ i).trans ?_)
    refine (hR i).trans ?_
    unfold gatG
    rw [hi0, hi1, ← e0]

/-- What a chunk's copy leaves in a result. -/
theorem outW (o : Fin 2 → ℕ) (h : ∀ a, o a + S128x128.size a ≤ S320000x128.size a) (a : S10000x128.Idx → F .f32) (x : S320000.Idx → BitVec 32) (w k : ℕ) (hw : w < 32) (ho : o = ![128 * w + 4096 * k, 0])
    (f : Buf (Elt F) (wLoc d L)) (R : Buf (Elt F) ((thr d L).loc cc0_scratch3)) (hf : Done a x w k f)
    (hR : ∀ j : S128x128.Idx, R j = rowAt a (xN x (128 * w + 4096 * k + (j 0).val)).toNat (j 1).val) :
    Done a x w (k + 1) (((gW).slice (Rect.unit (s := S320000x128) o S128x128.size h) (fun _ => rfl)).view.write (Elt F) f ((sQ).view.read (Elt F) R) Finset.univ) := by
  intro j hj hk
  by_cases hlt : (j 0).val / 4096 < k
  · refine (wr_out (F := F) main_v0_1_scv (Rect.unit (s := S320000x128) o S128x128.size h) f _ j fun hm => ?_).trans (hf j hj hlt)
    rw [Rect.mem_set_unit] at hm
    have h0 := hm 0
    rw [congrFun ho 0] at h0
    have h1 : 128 * w + 4096 * k ≤ (j 0).val := h0.1
    omega
  · have e0 : (j 0).val = 128 * w + 4096 * k + (j 0).val % 128 := by omega
    obtain ⟨i, hi0, hi1⟩ : ∃ i : S128x128.Idx, (i 0).val = (j 0).val % 128 ∧ (i 1).val = (j 1).val :=
      ⟨fun | 0 => ⟨(j 0).val % 128, Nat.mod_lt _ (by decide)⟩ | 1 => ⟨(j 1).val, (j 1).isLt⟩, rfl, rfl⟩
    have hi : j = (Rect.unit (s := S320000x128) o S128x128.size h).emb i := extTwo (by
        rw [Rect.emb_apply]
        show _ = o 0 + 1 * (i 0).val
        rw [congrFun ho 0, hi0]
        show _ = 128 * w + 4096 * k + 1 * ((j 0).val % 128)
        omega) (by
        rw [Rect.emb_apply]
        show _ = o 1 + 1 * (i 1).val
        rw [congrFun ho 1, hi1]
        show _ = 0 + 1 * (j 1).val
        omega)
    refine (congrArg _ hi).trans ((wr_in (F := F) main_v0_1_scv (Rect.unit (s := S320000x128) o S128x128.size h) f _ i).trans ?_)
    refine (hR i).trans ?_
    unfold gatG
    rw [hi0, hi1, ← e0]

theorem g_off1 (k : Fin (k0_t1_loop L).trips) : k0_off1 L k = ![128 * wid L + 4096 * k.val] := by
  rw [k0_off1_eq]; congr 1; unfold wid; omega
theorem g_off2 (k : Fin (k0_t1_loop L).trips) : k0_off2 L k = ![128 * wid L + 4096 * k.val, 0] := by
  rw [k0_off2_eq]; congr 1; unfold wid; omega

/-- What a chunk's step holds: the tables and the indices, the results' parts with `k` chunks written, the scratch buffers. -/
abbrev GSt (a : Buf (Elt F) (aLoc d L)) (b : Buf (Elt F) (qLoc d L)) (x : Buf (Elt F) (sLoc d L)) (y : Buf (Elt F) (dLoc d L)) (q : PosShare TreeShare)
    (O : CellTallies nD τ sig (HIx 1)) (W : Waits sig (HIx 1)) (k : ℕ) : sProp 𝕄 :=
  iprop((aLoc d L ↦{q} a) ∗ (qLoc d L ↦{q} b) ∗ (sLoc d L ↦{q} x) ∗ (dLoc d L ↦{q} y)
        ∗ (∃ f, ⌜Done a x (wid L) k f⌝ ∗ atU d L (wid L) f) ∗ (∃ f, ⌜Done b y (wid L) k f⌝ ∗ atW d L (wid L) f)
        ∗ (∃ f, atI d L f) ∗ (∃ f, atJ d L f) ∗ (∃ f, atR d L f) ∗ (∃ f, atQ d L f)
        ∗ semVal (thr d L, .dma cc0_scoped0.sem) 0 ∗ semVal (thr d L, .dma cc0_scoped1.sem) 0 ∗ semVal (thr d L, .dma cc0_scoped2.sem) 0 ∗ semVal (thr d L, .dma cc0_scoped3.sem) 0
        ∗ semVal (thr d L, .dma cc0_scratch4.sem) 0 ∗ semVal (thr d L, .dma cc0_scratch5.sem) 0 ∗ Owed d L O W)

set_option maxHeartbeats 1000000 in
/-- One chunk: its indices fetched, the rows they name gathered from both tables, the rows copied out. -/
theorem g_body {Q : Unit → sProp 𝕄} (a : Buf (Elt F) (aLoc d L)) (b : Buf (Elt F) (qLoc d L)) (x : Buf (Elt F) (sLoc d L)) (y : Buf (Elt F) (dLoc d L)) (q : PosShare TreeShare)
    (O : CellTallies nD τ sig (HIx 1)) (W : Waits sig (HIx 1)) (hx : ∀ n, (xN x n).toNat < 10000) (hy : ∀ n, (xN y n).toNat < 10000) (k : Fin (k0_t1_loop L).trips) :
    (iprop(GSt d L a b x y q O W k.val ∗ Transfers.MayWaits (thr d L) (default : HIx 1) O) : sProp 𝕄)
      ⊢ iprop((GSt d L a b x y q O W (k.val + 1) -∗ Q ())
        -∗ wp frame (wpE (defs₀ (F := F)) 𝒱₀ (thr d L) none) Set.univ
          (k0_t1_body L gA (Memref.isWhole_whole _) gQ (Memref.isWhole_whole _) gS (Memref.isWhole_whole _) gD (Memref.isWhole_whole _) gU (Memref.isWhole_whole _) gW (Memref.isWhole_whole _) sI (Memref.isWhole_whole _) sJ (Memref.isWhole_whole _) sR (Memref.isWhole_whole _) sQ (Memref.isWhole_whole _) cc0_scratch4 cc0_scratch5 cc0_scoped0 cc0_scoped1 cc0_scoped2 cc0_scoped3 cc0_scoped4 cc0_scoped5 cc0_scoped6 cc0_scoped7 k ()) Q) := by
  have ho := g_off1 L k
  have ho2 := g_off2 L k
  have hw := wid_lt L
  unfold k0_t1_body
  simp only [Prog.lift, Prog.bind_op, Prog.bind_ret, Prog.pure_eq_ret, Prog.bind_assoc]
  iintro ⟨⟨Ha, Hb, Hx, Hy, ⟨%fU, %hU, HU⟩, ⟨%fW, %hW, HW⟩, ⟨%gI, HI⟩, ⟨%gJ, HJ⟩, ⟨%gR, HR⟩, ⟨%hQ, HQ⟩, H0, H1, H2, H3, H4, H5, HO⟩, #Hmw⟩ Hk
  icases HO with ⟨%W1, %hW1, HO⟩
  iapply (step_sync' (c := thr d L) (defs₀ (F := F)) (s := S128) (e := .i32) (O := O) (sem := cc0_scoped0.sem) (q := q) (fs := x) (Ss := Finset.univ) (Sd := Finset.univ) (fd := gI)
    (src := (gS).slice (Rect.unit (s := S320000) (k0_off1 L k) S128.size (k0_off1_inb L k)) (fun _ => rfl)) (dst := sI)
    _ rfl (View.amount_pos _ _ (show 0 < S128.numel by decide)) rfl
    (Finset.subset_univ _) (Finset.subset_univ _)) $$ [Hx HI H0 HO]
  · isplitl [Hx]; · iexact Hx
    isplitl [HI]; · iexact HI
    isplitl [H0]; · iexact H0
    isplitl [HO]; · iexact HO
    iexact Hmw
  iintro ⟨HI, Hx, H0, HO⟩
  iapply (step_sync' (c := thr d L) (defs₀ (F := F)) (s := S128) (e := .i32) (O := O) (sem := cc0_scoped1.sem) (q := q) (fs := y) (Ss := Finset.univ) (Sd := Finset.univ) (fd := gJ)
    (src := (gD).slice (Rect.unit (s := S320000) (k0_off1 L k) S128.size (k0_off1_inb L k)) (fun _ => rfl)) (dst := sJ)
    _ rfl (View.amount_pos _ _ (show 0 < S128.numel by decide)) rfl
    (Finset.subset_univ _) (Finset.subset_univ _)) $$ [Hy HJ H1 HO]
  · isplitl [Hy]; · iexact Hy
    isplitl [HJ]; · iexact HJ
    isplitl [H1]; · iexact H1
    isplitl [HO]; · iexact HO
    iexact Hmw
  iintro ⟨HJ, Hy, H1, HO⟩
  have hI := copiedI d L _ (k0_off1_inb L k) _ ho x gI
  have hJ := copiedJ d L _ (k0_off1_inb L k) _ ho y gJ
  generalize (sI).view.write (Elt F) gI _ Finset.univ = I at hI ⊢
  generalize (sJ).view.write (Elt F) gJ _ Finset.univ = J at hJ ⊢
  have hinI : ∀ z, ((sI).view.read (Elt F) I z).toNat < S10000x128.size gathers_S10000x128_S128x128.axis := fun z => by
    show (I _).toNat < 10000
    rw [hI]; exact hx _
  have hinJ : ∀ z, ((sJ).view.read (Elt F) J z).toNat < S10000x128.size gathers_S10000x128_S128x128.axis := fun z => by
    show (J _).toNat < 10000
    rw [hJ]; exact hy _
  ihave Has := (pointsTo_split_subset (q := q) (f := a) (S := Finset.univ)
    (Finset.subset_univ (((gA).slice (Rect.unit (s := S10000x128) ![0, 0] S10000x128.size inb_S10000x128_S10000x128_0_0) (fun _ => rfl)).view).set)).1 $$ Ha
  icases Has with ⟨Ha, Har⟩
  ihave Hbs := (pointsTo_split_subset (q := q) (f := b) (S := Finset.univ)
    (Finset.subset_univ (((gQ).slice (Rect.unit (s := S10000x128) ![0, 0] S10000x128.size inb_S10000x128_S10000x128_0_0) (fun _ => rfl)).view).set)).1 $$ Hb
  icases Hbs with ⟨Hb, Hbr⟩
  ihave HR := (Entails.of_eq (show ((sR).view.loc (thr d L) ↦[Finset.univ]{fullShare} gR : sProp 𝕄) = ((sR).view.loc (thr d L) ↦[(sR).view.set]{fullShare} gR) by rw [View.set_whole])) $$ HR
  ihave HQ := (Entails.of_eq (show ((sQ).view.loc (thr d L) ↦[Finset.univ]{fullShare} hQ : sProp 𝕄) = ((sQ).view.loc (thr d L) ↦[(sQ).view.set]{fullShare} hQ) by rw [View.set_whole])) $$ HQ
  ihave HI := (Entails.of_eq (show ((sI).view.loc (thr d L) ↦[Finset.univ]{fullShare} I : sProp 𝕄) = ((sI).view.loc (thr d L) ↦[(sI).view.set]{fullShare} I) by rw [View.set_whole])) $$ HI
  ihave HJ := (Entails.of_eq (show ((sJ).view.loc (thr d L) ↦[Finset.univ]{fullShare} J : sProp 𝕄) = ((sJ).view.loc (thr d L) ↦[(sJ).view.set]{fullShare} J) by rw [View.set_whole])) $$ HJ
  have hNHR : ∀ h : S10000x128.Gathers 0 S128x128, ∑ j, ((sR).slice (S128x128.rowRect h.axis' j) (S128x128.stride_rowRect h.axis' j)).view.dmaCredit = (sR).view.dmaCredit := by decide
  iapply (SparseCore.wp_indirectGatherLocal countersEmb 𝒱₀ (thr d L) none (hg := gathers_S10000x128_S128x128) (default : HIx 1) (sR).view.dmaCredit (hNHR _) (by decide) hinI) $$ [Ha HR HI H4]
  · isplitl [Ha]; · iexact Ha
    isplitl [HR]; · iexact HR
    isplitl [HI]; · iexact HI
    iexact H4
  iintro Hf
  have hNHQ : ∀ h : S10000x128.Gathers 0 S128x128, ∑ j, ((sQ).slice (S128x128.rowRect h.axis' j) (S128x128.stride_rowRect h.axis' j)).view.dmaCredit = (sQ).view.dmaCredit := by decide
  iapply (SparseCore.wp_indirectGatherLocal countersEmb 𝒱₀ (thr d L) none (hg := gathers_S10000x128_S128x128) (default : HIx 1) (sQ).view.dmaCredit (hNHQ _) (by decide) hinJ) $$ [Hb HQ HJ H5]
  · isplitl [Hb]; · iexact Hb
    isplitl [HQ]; · iexact HQ
    isplitl [HJ]; · iexact HJ
    iexact H5
  iintro Hg
  simp only [SparseCore.waitIndirectGather, Prog.bind_op, Prog.bind_ret]
  iapply (Transfers.wp_waitLocalO countersEmb 𝒱₀ (thr d L) none (default : HIx 1) (rfl : (sR).view.dmaCredit = _)) $$ [Hf HO]
  · isplitl [Hf]; · iexact Hf
    isplitl [HO]; · iexact HO
    iapply (Transfers.MayWaits.elim (SemLoc.dma cc0_scratch4.sem)) $$ Hmw
  iintro ⟨⟨HR, Ha, HI⟩, H4, HO⟩
  iapply (Transfers.wp_waitLocalO countersEmb 𝒱₀ (thr d L) none (default : HIx 1) (rfl : (sQ).view.dmaCredit = _)) $$ [Hg HO]
  · isplitl [Hg]; · iexact Hg
    isplitl [HO]; · iexact HO
    iapply (Transfers.MayWaits.elim (SemLoc.dma cc0_scratch5.sem)) $$ Hmw
  iintro ⟨⟨HQ, Hb, HJ⟩, H5, HO⟩
  have hR := gatheredR d L a I gR x _ hI hx hinI rfl
  have hQ' := gatheredQ d L b J hQ y _ hJ hy hinJ rfl
  ihave Ha := (pointsTo_split_subset (q := q) (f := a) (S := Finset.univ)
    (Finset.subset_univ (((gA).slice (Rect.unit (s := S10000x128) ![0, 0] S10000x128.size inb_S10000x128_S10000x128_0_0) (fun _ => rfl)).view).set)).2 $$ [Ha Har]
  · isplitl [Ha]; · iexact Ha
    iexact Har
  ihave Hb := (pointsTo_split_subset (q := q) (f := b) (S := Finset.univ)
    (Finset.subset_univ (((gQ).slice (Rect.unit (s := S10000x128) ![0, 0] S10000x128.size inb_S10000x128_S10000x128_0_0) (fun _ => rfl)).view).set)).2 $$ [Hb Hbr]
  · isplitl [Hb]; · iexact Hb
    iexact Hbr
  generalize (sR).view.write (Elt F) gR _ Finset.univ = R at hR ⊢
  generalize (sQ).view.write (Elt F) hQ _ Finset.univ = Q' at hQ' ⊢
  ihave HR := (Entails.of_eq (show ((sR).view.loc (thr d L) ↦[(sR).view.set]{fullShare} R : sProp 𝕄) = ((sR).view.loc (thr d L) ↦[Finset.univ]{fullShare} R) by rw [View.set_whole])) $$ HR
  ihave HQ := (Entails.of_eq (show ((sQ).view.loc (thr d L) ↦[(sQ).view.set]{fullShare} Q' : sProp 𝕄) = ((sQ).view.loc (thr d L) ↦[Finset.univ]{fullShare} Q') by rw [View.set_whole])) $$ HQ
  ihave HI := (Entails.of_eq (show ((sI).view.loc (thr d L) ↦[(sI).view.set]{fullShare} I : sProp 𝕄) = ((sI).view.loc (thr d L) ↦[Finset.univ]{fullShare} I) by rw [View.set_whole])) $$ HI
  ihave HJ := (Entails.of_eq (show ((sJ).view.loc (thr d L) ↦[(sJ).view.set]{fullShare} J : sProp 𝕄) = ((sJ).view.loc (thr d L) ↦[Finset.univ]{fullShare} J) by rw [View.set_whole])) $$ HJ
  iapply (step_sync' (c := thr d L) (defs₀ (F := F)) (s := S128x128) (e := .f32) (O := O) (sem := cc0_scoped2.sem) (q := fullShare) (fs := R) (Ss := Finset.univ) (Sd := regZ (wid L)) (fd := fU)
    (src := sR) (dst := (gU).slice (Rect.unit (s := S320000x128) (k0_off2 L k) S128x128.size (k0_off2_inb L k)) (fun _ => rfl))
    _ rfl (View.amount_pos _ _ (show 0 < S128x128.numel by decide)) rfl
    (Finset.subset_univ _) (slice_sub _ _ _ _ (chunk_sub _ _ _ _ hw ho2))) $$ [HR HU H2 HO]
  · isplitl [HR]; · iexact HR
    isplitl [HU]; · iexact HU
    isplitl [H2]; · iexact H2
    isplitl [HO]; · iexact HO
    iexact Hmw
  iintro ⟨HU, HR, H2, HO⟩
  iapply (step_sync' (c := thr d L) (defs₀ (F := F)) (s := S128x128) (e := .f32) (O := O) (sem := cc0_scoped3.sem) (q := fullShare) (fs := Q') (Ss := Finset.univ) (Sd := regZ (wid L)) (fd := fW)
    (src := sQ) (dst := (gW).slice (Rect.unit (s := S320000x128) (k0_off2 L k) S128x128.size (k0_off2_inb L k)) (fun _ => rfl))
    _ rfl (View.amount_pos _ _ (show 0 < S128x128.numel by decide)) rfl
    (Finset.subset_univ _) (slice_sub _ _ _ _ (chunk_sub _ _ _ _ hw ho2))) $$ [HQ HW H3 HO]
  · isplitl [HQ]; · iexact HQ
    isplitl [HW]; · iexact HW
    isplitl [H3]; · iexact H3
    isplitl [HO]; · iexact HO
    iexact Hmw
  iintro ⟨HW, HQ, H3, HO⟩
  have hU' := outU d L _ (k0_off2_inb L k) a x _ _ hw ho2 fU R hU hR
  have hW' := outW d L _ (k0_off2_inb L k) b y _ _ hw ho2 fW Q' hW hQ'
  rw [wp_ret]; imodintro
  iapply Hk
  isplitl [Ha]; · iexact Ha
  isplitl [Hb]; · iexact Hb
  isplitl [Hx]; · iexact Hx
  isplitl [Hy]; · iexact Hy
  isplitl [HU]
  · iexists _
    isplitr [HU]
    rotate_left
    · iexact HU
    ipureintro; exact hU'
  isplitl [HW]
  · iexists _
    isplitr [HW]
    rotate_left
    · iexact HW
    ipureintro; exact hW'
  isplitl [HI]; · iexists I; iexact HI
  isplitl [HJ]; · iexists J; iexact HJ
  isplitl [HR]; · iexists R; iexact HR
  isplitl [HQ]; · iexists Q'; iexact HQ
  isplitl [H0]; · iexact H0
  isplitl [H1]; · iexact H1
  isplitl [H2]; · iexact H2
  isplitl [H3]; · iexact H3
  isplitl [H4]; · iexact H4
  isplitl [H5]; · iexact H5
  iexists _
  isplitr [HO]
  rotate_left
  · iexact HO
  ipureintro
  intro p hp
  iterate 6
    rcases Finset.mem_insert.mp hp with rfl | hp
    · exact .inr rfl
  exact hW1 p hp

/-- The whole body on one tile. -/
theorem gather_body (a : Buf (Elt F) (aLoc d L)) (b : Buf (Elt F) (qLoc d L)) (x : Buf (Elt F) (sLoc d L)) (y : Buf (Elt F) (dLoc d L)) (q : PosShare TreeShare)
    (O : CellTallies nD τ sig (HIx 1)) (W : Waits sig (HIx 1)) (hx : ∀ n, (xN x n).toNat < 10000) (hy : ∀ n, (xN y n).toNat < 10000) :
    (iprop(GSt d L a b x y q O W 0 ∗ Transfers.MayWaits (thr d L) (default : HIx 1) O) : sProp 𝕄)
      ⊢ wp frame (wpE (defs₀ (F := F)) 𝒱₀ (thr d L) none) Set.univ (cc0__sc_gather_body L gA (Memref.isWhole_whole _) gQ (Memref.isWhole_whole _) gS (Memref.isWhole_whole _) gD (Memref.isWhole_whole _) gU (Memref.isWhole_whole _) gW (Memref.isWhole_whole _) sI (Memref.isWhole_whole _) sJ (Memref.isWhole_whole _) sR (Memref.isWhole_whole _) sQ (Memref.isWhole_whole _) cc0_scratch4 cc0_scratch5 cc0_scoped0 cc0_scoped1 cc0_scoped2 cc0_scoped3 cc0_scoped4 cc0_scoped5 cc0_scoped6 cc0_scoped7)
          fun _ => GSt d L a b x y q O W (78 + (if wid L < 4 then 1 else 0)) := by
  rw [cc0__sc_gather_body_eq_skeleton]; unfold cc0__sc_gather_body_skel
  iintro ⟨HS, #Hmw⟩
  iapply (Scf.wp_for_bind frame (wpE (defs₀ (F := F)) 𝒱₀ (thr d L) none) Set.univ _ _ _ _ _ _
    (fun k (_ : PUnit) => iprop(GSt d L a b x y q O W k ∗ Transfers.MayWaits (thr d L) (default : HIx 1) O)) ?_) $$ [HS]
  · iintro %k %_ ⟨HS, #Hmw⟩
    iapply (g_body d L a b x y q O W hx hy k) $$ [HS]
    · isplitl [HS]; · iexact HS
      iexact Hmw
    iintro HS
    isplitl [HS]; · iexact HS
    iexact Hmw
  · isplitl [HS]; · iexact HS
    iexact Hmw
  iintro %_ ⟨HS, -⟩
  iapply (Scf.wp_for0_bind frame (wpE (defs₀ (F := F)) 𝒱₀ (thr d L) none) Set.univ _ _ _ _ _ (t2_trips L) _ _ _ .rfl)
  ihave HS := (Entails.of_eq (congrArg (fun n => GSt d L a b x y q O W n) (show Scf.trips (k0_t1_loop L).lb (k0_t1_loop L).ub (k0_t1_loop L).st = 78 + (if wid L < 4 then 1 else 0) from t1_trips L))) $$ HS
  rw [Prog.pure_eq_ret, wp_ret]; imodintro
  iexact HS

/-- A tile's part of a result, all its chunks written. -/
theorem done_all (a : S10000x128.Idx → F .f32) (x : S320000.Idx → BitVec 32) (f : S320000x128.Idx → F .f32) (h : Done a x (wid L) (78 + (if wid L < 4 then 1 else 0)) f)
    (j : S320000x128.Idx) (hj : j ∈ regZ (wid L)) : f j = gatG a x j := by
  rw [mem_regZ] at hj
  have h0 : (j 0).val < 320000 := (j 0).isLt
  refine h j hj ?_
  split <;> omega

end Cert.Proof.Gathering

end
-- ==== Proof.GatherLaunch.lean ====
/-
  The launch of the gathering call: what a tile owns, how the arrays are dealt to the tiles and come back, and @main's run.
-/
module

public import proofs.«01_k».proof.Proof.GatherBody

@[expose] public section

noncomputable section

namespace Cert.Proof.Gathering

open Cert.GatherIdeal Cert.GatherIdeal.Gen
open Cert.Proof.GSteps Cert.Proof.Counting

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the memrefs as the program passes them: the two tables, the two index arrays, the two results, the four scratch buffers
local notation "gA" => (Memref.whole Cert.GatherIdeal.main_arg0_scv : Memref Cert.GatherIdeal.sig Kind.scVector Space.hbm Cert.GatherIdeal.S10000x128 EltTy.f32)
local notation "gQ" => (Memref.whole Cert.GatherIdeal.main_arg1_scv : Memref Cert.GatherIdeal.sig Kind.scVector Space.hbm Cert.GatherIdeal.S10000x128 EltTy.f32)
local notation "gS" => (Memref.whole Cert.GatherIdeal.main_arg2_scv : Memref Cert.GatherIdeal.sig Kind.scVector Space.hbm Cert.GatherIdeal.S320000 EltTy.i32)
local notation "gD" => (Memref.whole Cert.GatherIdeal.main_arg3_scv : Memref Cert.GatherIdeal.sig Kind.scVector Space.hbm Cert.GatherIdeal.S320000 EltTy.i32)
local notation "gU" => (Memref.whole Cert.GatherIdeal.main_v0_0_scv : Memref Cert.GatherIdeal.sig Kind.scVector Space.hbm Cert.GatherIdeal.S320000x128 EltTy.f32)
local notation "gW" => (Memref.whole Cert.GatherIdeal.main_v0_1_scv : Memref Cert.GatherIdeal.sig Kind.scVector Space.hbm Cert.GatherIdeal.S320000x128 EltTy.f32)
local notation "sI" => (Memref.whole Cert.GatherIdeal.cc0_scratch0 : Memref Cert.GatherIdeal.sig Kind.scVector Space.vmem Cert.GatherIdeal.S128 EltTy.i32)
local notation "sJ" => (Memref.whole Cert.GatherIdeal.cc0_scratch1 : Memref Cert.GatherIdeal.sig Kind.scVector Space.vmem Cert.GatherIdeal.S128 EltTy.i32)
local notation "sR" => (Memref.whole Cert.GatherIdeal.cc0_scratch2 : Memref Cert.GatherIdeal.sig Kind.scVector Space.vmem Cert.GatherIdeal.S128x128 EltTy.f32)
local notation "sQ" => (Memref.whole Cert.GatherIdeal.cc0_scratch3 : Memref Cert.GatherIdeal.sig Kind.scVector Space.vmem Cert.GatherIdeal.S128x128 EltTy.f32)

variable [FloatOps F]

/-! ## A family with some of its members named -/

/-- What is left of a set after a list's members are taken out. -/
def rest {ι : Type} [DecidableEq ι] : Finset ι → List ι → Finset ι
  | s, [] => s
  | s, x :: l => rest (s.erase x) l

/-- A list's members, and the rest of the set. -/
def peel {ι : Type} [DecidableEq ι] (Φ : ι → sProp 𝕄) : Finset ι → List ι → sProp 𝕄
  | s, [] => bigSep s Φ
  | s, x :: l => iprop(Φ x ∗ peel Φ (s.erase x) l)

theorem peel_eq {ι : Type} [DecidableEq ι] (Φ : ι → sProp 𝕄) : ∀ (l : List ι) (s : Finset ι), l.Nodup → (∀ x ∈ l, x ∈ s) → bigSep s Φ = peel (F := F) Φ s l
  | [], _, _, _ => rfl
  | x :: l, s, hn, hm => by
    rw [SparseCore.bigSep_erase' (hm x List.mem_cons_self), peel_eq Φ l (s.erase x) (List.nodup_cons.mp hn).2 fun y hy =>
      Finset.mem_erase.mpr ⟨fun h => (List.nodup_cons.mp hn).1 (h ▸ hy), hm y (List.mem_cons_of_mem _ hy)⟩]
    rfl

/-- The semaphores that the call names. -/
abbrev semsG : List (SemLoc sig) := [.dma cc0_scoped0.sem, .dma cc0_scoped1.sem, .dma cc0_scoped2.sem, .dma cc0_scoped3.sem, .dma cc0_scratch4.sem, .dma cc0_scratch5.sem]
/-- The buffers that the call names. -/
abbrev refsG : List (Ref sig .scVector) := [cc0_scratch0, cc0_scratch1, cc0_scratch2, cc0_scratch3]

theorem nodupG : (refsG).Nodup := by decide

section Tile
variable (d : Dev nD) (L : grid0.Coords)

theorem ownSemsG :
    (ownSems0 (thr d L) : sProp 𝕄)
      = iprop(semVal (thr d L, .dma cc0_scoped0.sem) 0 ∗ semVal (thr d L, .dma cc0_scoped1.sem) 0 ∗ semVal (thr d L, .dma cc0_scoped2.sem) 0 ∗ semVal (thr d L, .dma cc0_scoped3.sem) 0 ∗ semVal (thr d L, .dma cc0_scratch4.sem) 0 ∗ semVal (thr d L, .dma cc0_scratch5.sem) 0
          ∗ bigSep (rest (ownCells (thr d L)) (semsG.map (Prod.mk (thr d L)))) fun g => semVal g 0) := by
  unfold SparseCore.Cfg.ownSems0
  refine peel_eq (fun g : GSem nD τ sig => (semVal g 0 : sProp 𝕄)) (semsG.map (Prod.mk (thr d L))) _
    (List.Nodup.map (fun a b h => congrArg Prod.snd h) (by decide)) fun g hg => ?_
  obtain ⟨s, hs, rfl⟩ := List.mem_map.mp hg
  exact mem_ownCells.mpr ⟨rfl, (show ∀ s ∈ semsG, s.isScoped .scVector = true by decide) s hs⟩

theorem ownBufsG :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f) ∗ (∃ f, (thr d L).loc cc0_scratch3 ↦{fullShare} f)
          ∗ bigSep (rest (ownRefs (τ := τ) (.scVector (cV L) (jV L))) (refsG.map (Proc.scVector (cV L) (jV L)).devRef))
              fun b => iprop(∃ f, ((d, b) : Loc nD τ sig) ↦{fullShare} f)) := by
  unfold SparseCore.Cfg.ownBufs
  refine peel_eq (fun b : DevRef τ sig => (iprop(∃ f, ((d, b) : Loc nD τ sig) ↦{fullShare} f) : sProp 𝕄)) (refsG.map (Proc.scVector (cV L) (jV L)).devRef) _
    (List.Nodup.map (Proc.devRef_injective _) nodupG) fun b hb => ?_
  obtain ⟨r, hr, rfl⟩ := List.mem_map.mp hb
  simp only [List.mem_cons, List.not_mem_nil, _root_.or_false] at hr
  rcases hr with rfl | rfl | rfl | rfl <;> exact SparseCore.Cfg.mem_ownRefs_of_owner rfl

/-- The body from what a tile owns at the call's start to what it owns at its end. -/
theorem tile_gather (hF : (K (F := F)).Facts) (a : Buf (Elt F) (aLoc d L)) (b : Buf (Elt F) (qLoc d L)) (x : Buf (Elt F) (sLoc d L)) (y : Buf (Elt F) (dLoc d L)) (q : PosShare TreeShare)
    (fU : Buf (Elt F) (uLoc d L)) (fW : Buf (Elt F) (wLoc d L)) (hx : ∀ n, (xN x n).toNat < 10000) (hy : ∀ n, (xN y n).toNat < 10000)
    (O : CellTallies nD τ sig (HIx 1)) (W : Waits sig (HIx 1)) (hO : ∀ g, O g none = 0) :
    (iprop(levAts (K (F := F)).L (K (F := F)).lev ∗ emp
        ∗ ((aLoc d L ↦{q} a) ∗ (qLoc d L ↦{q} b) ∗ (sLoc d L ↦{q} x) ∗ (dLoc d L ↦{q} y) ∗ atU d L (wid L) fU ∗ atW d L (wid L) fW)
        ∗ scopedBufs (thr d L) ∗ scopedSems0 (thr d L) ∗ owes (thr d L) O W) : sProp 𝕄)
      ⊢ wp frame (wpE (defs₀ (F := F)) 𝒱₀ (thr d L) none) Set.univ (cc0__sc_gather_body L gA (Memref.isWhole_whole _) gQ (Memref.isWhole_whole _) gS (Memref.isWhole_whole _) gD (Memref.isWhole_whole _) gU (Memref.isWhole_whole _) gW (Memref.isWhole_whole _) sI (Memref.isWhole_whole _) sJ (Memref.isWhole_whole _) sR (Memref.isWhole_whole _) sQ (Memref.isWhole_whole _) cc0_scratch4 cc0_scratch5 cc0_scoped0 cc0_scoped1 cc0_scoped2 cc0_scoped3 cc0_scoped4 cc0_scoped5 cc0_scoped6 cc0_scoped7)
          fun _ => iprop(((aLoc d L ↦{q} a) ∗ (qLoc d L ↦{q} b) ∗ (sLoc d L ↦{q} x) ∗ (dLoc d L ↦{q} y) ∗ atU d L (wid L) (gatG a x) ∗ atW d L (wid L) (gatG b y))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSemsG, ownBufsG]
  iintro ⟨#Hlv, -, ⟨Ha, Hb, Hx, Hy, HU, HW⟩, ⟨HI, HJ, HR, HQ, Hbufs⟩, ⟨H0, H1, H2, H3, H4, H5, Hsems⟩, HO⟩
  ihave Hmw := (show levAts (K (F := F)).L (K (F := F)).lev ⊢ Transfers.MayWaits (thr d L) (default : HIx 1) O from
    (K (F := F)).mayWaits_none (thr := thr d L) hO) $$ Hlv
  iapply (wp_wand frame _ Set.univ) $$ [Ha Hb Hx Hy HU HW HI HJ HR HQ H0 H1 H2 H3 H4 H5 HO Hmw]
  · iapply (gather_body d L a b x y q O W hx hy)
    isplitr [Hmw]
    · isplitl [Ha]; · iexact Ha
      isplitl [Hb]; · iexact Hb
      isplitl [Hx]; · iexact Hx
      isplitl [Hy]; · iexact Hy
      isplitl [HU]
      · iexists fU
        isplitr [HU]
        · ipureintro; exact fun j _ hk => absurd hk (Nat.not_lt_zero _)
        iexact HU
      isplitl [HW]
      · iexists fW
        isplitr [HW]
        · ipureintro; exact fun j _ hk => absurd hk (Nat.not_lt_zero _)
        iexact HW
      isplitl [HI]; · iexact HI
      isplitl [HJ]; · iexact HJ
      isplitl [HR]; · iexact HR
      isplitl [HQ]; · iexact HQ
      isplitl [H0]; · iexact H0
      isplitl [H1]; · iexact H1
      isplitl [H2]; · iexact H2
      isplitl [H3]; · iexact H3
      isplitl [H4]; · iexact H4
      isplitl [H5]; · iexact H5
      iexists W
      isplitr [HO]
      · ipureintro; exact fun p hp => .inl hp
      iexact HO
    iexact Hmw
  iintro %r ⟨Ha, Hb, Hx, Hy, ⟨%gU', %hU, HU⟩, ⟨%gW', %hW, HW⟩, HI, HJ, HR, HQ, H0, H1, H2, H3, H4, H5, %W', %hW', HO⟩
  ihave HU := (Entails.of_eq (pointsTo_congr (done_all L a x gU' hU))) $$ HU
  ihave HW := (Entails.of_eq (pointsTo_congr (done_all L b y gW' hW))) $$ HW
  isplitl [Ha Hb Hx Hy HU HW]
  · isplitl [Ha]; · iexact Ha
    isplitl [Hb]; · iexact Hb
    isplitl [Hx]; · iexact Hx
    isplitl [Hy]; · iexact Hy
    isplitl [HU]; · iexact HU
    iexact HW
  isplitl [HI HJ HR HQ Hbufs]
  · isplitl [HI]; · iexact HI
    isplitl [HJ]; · iexact HJ
    isplitl [HR]; · iexact HR
    isplitl [HQ]; · iexact HQ
    iexact Hbufs
  isplitl [H0 H1 H2 H3 H4 H5 Hsems]
  · isplitl [H0]; · iexact H0
    isplitl [H1]; · iexact H1
    isplitl [H2]; · iexact H2
    isplitl [H3]; · iexact H3
    isplitl [H4]; · iexact H4
    isplitl [H5]; · iexact H5
    iexact Hsems
  iexists W'
  isplitr [HO]
  · ipureintro; exact fun p hp => (hW' p hp).imp_right .inl
  iexact HO

end Tile

variable (m : (ℓ : Loc nD τ sig) → Buf (Elt F) ℓ) (ρ : Dev nD → PrngReg)

/-! ## What the call is handed and hands back -/

/-- A tile's coordinates from its core and its subcore. -/
def coordsV (c : Fin (grid0.bound 0)) (s : Fin (grid0.bound 1)) : grid0.Coords :=
  fun | 0 => c | 1 => s | ⟨_ + 2, h⟩ => absurd h (Nat.not_lt.2 (Nat.le_add_left _ _))
abbrev tileL (c : Fin 2) (i : Fin 16) : grid0.Coords := coordsV c i

/-- The arrays as locations of device `d`. -/
abbrev aL (d : Dev nD) : Loc nD τ sig := (SparseCore.T d).loc main_arg0
abbrev qL (d : Dev nD) : Loc nD τ sig := (SparseCore.T d).loc main_arg1
abbrev sL (d : Dev nD) : Loc nD τ sig := (SparseCore.T d).loc main_arg2
abbrev dL (d : Dev nD) : Loc nD τ sig := (SparseCore.T d).loc main_arg3
abbrev uL (d : Dev nD) : Loc nD τ sig := (SparseCore.T d).loc main_v0_0
abbrev wL (d : Dev nD) : Loc nD τ sig := (SparseCore.T d).loc main_v0_1

/-- The tables and the indices at the launch. -/
abbrev av (d : Dev nD) : S10000x128.Idx → F .f32 := m (aL d)
abbrev qv (d : Dev nD) : S10000x128.Idx → F .f32 := m (qL d)
abbrev sv (d : Dev nD) : S320000.Idx → BitVec 32 := m (sL d)
abbrev dv (d : Dev nD) : S320000.Idx → BitVec 32 := m (dL d)

/-- The share of an array that all tiles read. -/
abbrev qsh (c : Fin 2) (i : Fin 16) : PosShare TreeShare := Transfers.dealOf (Transfers.dealOf fullShare Finset.univ c) Finset.univ i

abbrev goG (d : Dev nD) (c : Fin 2) (i : Fin 16) : sProp 𝕄 :=
  iprop((aL d ↦{qsh c i} m (aL d)) ∗ (qL d ↦{qsh c i} m (qL d)) ∗ (sL d ↦{qsh c i} m (sL d)) ∗ (dL d ↦{qsh c i} m (dL d))
    ∗ (uL d ↦[regZ (wid (tileL c i))]{fullShare} m (uL d)) ∗ (wL d ↦[regZ (wid (tileL c i))]{fullShare} m (wL d)))
abbrev tdG (d : Dev nD) (c : Fin 2) (i : Fin 16) : sProp 𝕄 :=
  iprop((aL d ↦{qsh c i} m (aL d)) ∗ (qL d ↦{qsh c i} m (qL d)) ∗ (sL d ↦{qsh c i} m (sL d)) ∗ (dL d ↦{qsh c i} m (dL d))
    ∗ (uL d ↦[regZ (wid (tileL c i))]{fullShare} (gatG (av m d) (sv m d) : Buf (Elt F) (uL d))) ∗ (wL d ↦[regZ (wid (tileL c i))]{fullShare} (gatG (qv m d) (dv m d) : Buf (Elt F) (wL d))))

/-- The call: each tile its read shares and its own parts, a core what its sixteen tiles take. -/
def P : (K (F := F)).Pay (nD := nD) (Val := Elt F) (Name := ℕ) (U := UU) where
  st := fun q d c => match q with
    | 0 => bigSep Finset.univ fun i : Fin 16 => goG m d (Fin.cast (nCore_eq 0) c) i
  dn := fun q d c => match q with
    | 0 => bigSep Finset.univ fun i : Fin 16 => tdG m d (Fin.cast (nCore_eq 0) c) i
  go := fun q d c i => match q with
    | 0 => goG m d (Fin.cast (nCore_eq 0) c) (Fin.cast (nSub_eq 0) i)
  td := fun q d c i => match q with
    | 0 => tdG m d (Fin.cast (nCore_eq 0) c) (Fin.cast (nSub_eq 0) i)
  x := fun _ _ => iprop(emp)

instance P_storable : (P (F := F) m).IsStorable where
  st q d c := match q with
    | 0 => (inferInstance : BI.Storable (upEmb : UEmb _ 𝕄) (bigSep Finset.univ fun i : Fin 16 => goG m d (Fin.cast (nCore_eq 0) c) i))
  dn q d c := match q with
    | 0 => (inferInstance : BI.Storable (upEmb : UEmb _ 𝕄) (bigSep Finset.univ fun i : Fin 16 => tdG m d (Fin.cast (nCore_eq 0) c) i))
  go q d c i := match q with
    | 0 => (inferInstance : BI.Storable (upEmb : UEmb _ 𝕄) (goG m d (Fin.cast (nCore_eq 0) c) (Fin.cast (nSub_eq 0) i)))
  td q d c i := match q with
    | 0 => (inferInstance : BI.Storable (upEmb : UEmb _ 𝕄) (tdG m d (Fin.cast (nCore_eq 0) c) (Fin.cast (nSub_eq 0) i)))

/-! ## The obligations -/

/-- The index arrays name rows of the tables. -/
def InRange : Prop := ∀ d : Dev nD, (∀ j, (sv m d j).toNat < 10000) ∧ ∀ j, (dv m d j).toNat < 10000

theorem defs₀_gather (c : Fin τ.nSC) (s : Fin τ.nSub) :
    defs₀ (F := F) (.scVector c s) 0 ()
      = SparseCore.onTile hcore0 hsub0 (fun c s => cc0__sc_gather_body (coordsV c s) gA (Memref.isWhole_whole _) gQ (Memref.isWhole_whole _) gS (Memref.isWhole_whole _) gD (Memref.isWhole_whole _) gU (Memref.isWhole_whole _) gW (Memref.isWhole_whole _) sI (Memref.isWhole_whole _) sJ (Memref.isWhole_whole _) sR (Memref.isWhole_whole _) sQ (Memref.isWhole_whole _) cc0_scratch4 cc0_scratch5 cc0_scoped0 cc0_scoped1 cc0_scoped2 cc0_scoped3 cc0_scoped4 cc0_scoped5 cc0_scoped6 cc0_scoped7) ⟨⟩ c s := rfl

theorem tileObl_gather (hF : (K (F := F)).Facts) (hm : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact tile_gather d (coordsV ⟨_, hci.1⟩ ⟨_, hci.2⟩) hF (av m d) (qv m d) (sv m d) (dv m d) _ _ _ (xN_lt _ (hm d).1) (xN_lt _ (hm d).2) O W hO

theorem vecSplit_gather : (K (F := F)).VecSplit' (P m) 0 := by
  intro d c
  show (bigSep Finset.univ fun i : Fin 16 => goG m d (Fin.cast (nCore_eq 0) c) i) ⊢ |={Set.univ}=> iprop(
      (bigSep Finset.univ fun i : Fin 16 => goG m d (Fin.cast (nCore_eq 0) c) i)
      ∗ ((bigSep Finset.univ fun i : Fin 16 => tdG m d (Fin.cast (nCore_eq 0) c) i)
          -∗ (bigSep Finset.univ fun i : Fin 16 => tdG m d (Fin.cast (nCore_eq 0) c) i)))
  iintro H; imodintro
  isplitl [H]; · iexact H
  iintro H; iexact H

/-! ## Arrays dealt to the thirty-two tiles -/

/-- An array cut into thirty-two parts, by core and subcore. -/
theorem split32 {ℓ : Loc nD τ sig} (R : ℕ → Finset (Idx ℓ)) (hd : ∀ w w', w ≠ w' → Disjoint (R w) (R w')) (hc : ∀ j, ∃ w < 32, j ∈ R w) (f : Buf (Elt F) ℓ) :
    (ℓ ↦{fullShare} f : sProp 𝕄) = bigSep Finset.univ fun c : Fin 2 => bigSep Finset.univ fun i : Fin 16 => ℓ ↦[R (wid (tileL c i))]{fullShare} f := by
  have hw : ∀ (c : Fin 2) (i : Fin 16), wid (tileL c i) = 2 * i.val + c.val := fun _ _ => rfl
  have hi : ∀ c : Fin 2, (bigSep Finset.univ fun i : Fin 16 => (ℓ ↦[R (wid (tileL c i))]{fullShare} f : sProp 𝕄))
      = (ℓ ↦[Finset.univ.biUnion fun i : Fin 16 => R (wid (tileL c i))]{fullShare} f) := fun c =>
    (pointsTo_biUnion Finset.univ (fun i : Fin 16 => R (wid (tileL c i))) fun i _ i' _ h => hd _ _ (by
      rw [hw, hw]; intro e; exact h (Fin.ext (by omega)))).symm
  rw [bigSep_congr fun c _ => hi c, ← pointsTo_biUnion Finset.univ (fun c : Fin 2 => Finset.univ.biUnion fun i : Fin 16 => R (wid (tileL c i)))]
  · congr 1
    symm
    refine Finset.eq_univ_of_forall fun j => ?_
    obtain ⟨w, hl, hj⟩ := hc j
    refine Finset.mem_biUnion.mpr ⟨⟨w % 2, Nat.mod_lt _ (by decide)⟩, Finset.mem_univ _, Finset.mem_biUnion.mpr ⟨⟨w / 2, by omega⟩, Finset.mem_univ _, ?_⟩⟩
    rw [hw]
    rwa [show 2 * (w / 2) + w % 2 = w by omega]
  · intro c _ c' _ h
    refine (Finset.disjoint_biUnion_left _ _ _).mpr fun i _ => (Finset.disjoint_biUnion_right _ _ _).mpr fun i' _ => hd _ _ ?_
    rw [hw, hw]; intro e; exact h (Fin.ext (by omega))

/-- An array's read shares, by core and subcore. -/
theorem deal32 {ℓ : Loc nD τ sig} (f : Buf (Elt F) ℓ) :
    (ℓ ↦{fullShare} f : sProp 𝕄) = bigSep Finset.univ fun c : Fin 2 => bigSep Finset.univ fun i : Fin 16 => ℓ ↦{qsh c i} f := by
  rw [Transfers.pointsTo_deal (Finset.univ : Finset (Fin 2)) ⟨0, Finset.mem_univ _⟩ fullShare]
  exact bigSep_congr fun c _ => Transfers.pointsTo_deal (Finset.univ : Finset (Fin 16)) ⟨0, Finset.mem_univ _⟩ _

theorem regZ_disj (w w' : ℕ) (h : w ≠ w') : Disjoint (regZ w) (regZ w') := by
  rw [Finset.disjoint_left]; intro j h1 h2
  rw [mem_regZ] at h1 h2; omega
theorem regZ_cover (j : S320000x128.Idx) : ∃ w < 32, j ∈ regZ w :=
  ⟨(j 0).val / 128 % 32, Nat.mod_lt _ (by decide), (mem_regZ _ _).mpr rfl⟩

theorem st0_eq (d : Dev nD) : (bigSep Finset.univ fun c : Fin ((K (F := F)).nCore 0) => (P m).st 0 d c)
    = iprop((aL d ↦{fullShare} m (aL d)) ∗ (qL d ↦{fullShare} m (qL d)) ∗ (sL d ↦{fullShare} m (sL d)) ∗ (dL d ↦{fullShare} m (dL d))
      ∗ (uL d ↦{fullShare} m (uL d)) ∗ (wL d ↦{fullShare} m (wL d))) := by
  show (bigSep (Finset.univ : Finset (Fin 2)) fun c => bigSep (Finset.univ : Finset (Fin 16)) fun i => goG m d c i) = _
  simp only [goG, bigSep_sep']
  rw [← deal32, ← deal32, ← deal32, ← deal32, ← split32 (ℓ := uL d) regZ regZ_disj regZ_cover, ← split32 (ℓ := wL d) regZ regZ_disj regZ_cover]
theorem dn0_eq (d : Dev nD) : (bigSep Finset.univ fun c : Fin ((K (F := F)).nCore 0) => (P m).dn 0 d c)
    = iprop((aL d ↦{fullShare} m (aL d)) ∗ (qL d ↦{fullShare} m (qL d)) ∗ (sL d ↦{fullShare} m (sL d)) ∗ (dL d ↦{fullShare} m (dL d))
      ∗ (uL d ↦{fullShare} (gatG (av m d) (sv m d) : Buf (Elt F) (uL d))) ∗ (wL d ↦{fullShare} (gatG (qv m d) (dv m d) : Buf (Elt F) (wL d)))) := by
  show (bigSep (Finset.univ : Finset (Fin 2)) fun c => bigSep (Finset.univ : Finset (Fin 16)) fun i => tdG m d c i) = _
  simp only [tdG, bigSep_sep']
  rw [← deal32, ← deal32, ← deal32, ← deal32, ← split32 (ℓ := uL d) regZ regZ_disj regZ_cover, ← split32 (ℓ := wL d) regZ regZ_disj regZ_cover]

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_emp' _, bigSep_emp']
  iempintro

/-! ## @main on the TensorCore -/

theorem unscopedBufs_eq (d : Dev nD) (W : (b : Ref sig .tc) → Buf (Elt F) ((d.tc : Thread nD τ).loc b)) :
    (unscopedBufs d W : sProp 𝕄)
      = iprop((aL d ↦{fullShare} W main_arg0) ∗ (qL d ↦{fullShare} W main_arg1) ∗ (sL d ↦{fullShare} W main_arg2) ∗ (dL d ↦{fullShare} W main_arg3)
        ∗ (uL d ↦{fullShare} W main_v0_0) ∗ wL d ↦{fullShare} W main_v0_1) := by
  unfold unscopedBufs
  rw [show (Finset.univ.filter fun b : Ref sig .tc => ¬ b.isScoped) = {main_arg0, main_arg1, main_arg2, main_arg3, main_v0_0, main_v0_1} by decide,
    SparseCore.bigSep_insert' (by decide), SparseCore.bigSep_insert' (by decide), SparseCore.bigSep_insert' (by decide), SparseCore.bigSep_insert' (by decide),
    SparseCore.bigSep_insert' (by decide), bigSep_singleton]

abbrev FIN (d : Dev nD) : sProp 𝕄 := iprop((aL d ↦{fullShare} m (aL d)) ∗ (qL d ↦{fullShare} m (qL d)) ∗ (sL d ↦{fullShare} m (sL d)) ∗ (dL d ↦{fullShare} m (dL d))
      ∗ (uL d ↦{fullShare} (gatG (av m d) (sv m d) : Buf (Elt F) (uL d))) ∗ (wL d ↦{fullShare} (gatG (qv m d) (dv m d) : Buf (Elt F) (wL d))))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ha, Hq, Hs, Hd, Hu, Hw⟩, Hts, -⟩, -⟩
  iapply ((K (F := F)).wp_run (D (F := F)) 𝒱 (EH := EH) (P := P m) κ d 0) $$ [Hst Ha Hq Hs Hd Hu Hw Hb Hts]
  isplitr; · iexact Hctx
  isplitl [Hst]; · iexact Hst
  isplitl [Ha Hq Hs Hd Hu Hw]
  · rw [st0_eq]
    isplitl [Ha]; · iexact Ha
    isplitl [Hq]; · iexact Hq
    isplitl [Hs]; · iexact Hs
    isplitl [Hd]; · iexact Hd
    isplitl [Hu]; · iexact Hu
    iexact Hw
  iintro ⟨Hst, Hdn⟩
  ihave Hdn' := (Entails.of_eq (dn0_eq m d)) $$ Hdn
  imodintro
  isplitl [Hst]; · iexact Hst
  isplitl [Hdn']; · iexact Hdn'
  isplitl [Hb] <;> iassumption

/-- What the run ends in on a device: the arguments unchanged, both results gathered. -/
def fq (d : Dev nD) (s' : Phys nD τ sig (Elt F)) : Prop :=
  s'.mem.mem (aL d) = m (aL d) ∧ s'.mem.mem (qL d) = m (qL d) ∧ s'.mem.mem (sL d) = m (sL d) ∧ s'.mem.mem (dL d) = m (dL d)
    ∧ s'.mem.mem (uL d) = (gatG (av m d) (sv m d) : Buf (Elt F) (uL d)) ∧ s'.mem.mem (wL d) = (gatG (qv m d) (dv m d) : Buf (Elt F) (wL d))

theorem hfin (d : Dev nD) (s' : Phys nD τ sig (Elt F)) : iprop(FIN m d ∗ SI s') ⊢ (⌜fq m d s'⌝ : sProp 𝕄) := by
  iintro ⟨⟨Ha, Hq, Hs, Hd, Hu, Hw⟩, HSI⟩
  ihave H := (persistent_entails_right (SI_pointsTo_agree (st := s') (ℓ := aL d) (I := Finset.univ) (q := fullShare) (f := m (aL d)))) $$ [HSI Ha]
  · isplitl [HSI] <;> iassumption
  icases H with ⟨%h1, HSI, -⟩
  ihave H := (persistent_entails_right (SI_pointsTo_agree (st := s') (ℓ := qL d) (I := Finset.univ) (q := fullShare) (f := m (qL d)))) $$ [HSI Hq]
  · isplitl [HSI] <;> iassumption
  icases H with ⟨%h2, HSI, -⟩
  ihave H := (persistent_entails_right (SI_pointsTo_agree (st := s') (ℓ := sL d) (I := Finset.univ) (q := fullShare) (f := m (sL d)))) $$ [HSI Hs]
  · isplitl [HSI] <;> iassumption
  icases H with ⟨%h3, HSI, -⟩
  ihave H := (persistent_entails_right (SI_pointsTo_agree (st := s') (ℓ := dL d) (I := Finset.univ) (q := fullShare) (f := m (dL d)))) $$ [HSI Hd]
  · isplitl [HSI] <;> iassumption
  icases H with ⟨%h4, HSI, -⟩
  ihave H := (persistent_entails_right (SI_pointsTo_agree (st := s') (ℓ := uL d) (I := Finset.univ) (q := fullShare) (f := (gatG (av m d) (sv m d) : Buf (Elt F) (uL d))))) $$ [HSI Hu]
  · isplitl [HSI] <;> iassumption
  icases H with ⟨%h5, HSI, -⟩
  ihave H := (SI_pointsTo_agree (st := s') (ℓ := wL d) (I := Finset.univ) (q := fullShare) (f := (gatG (qv m d) (dv m d) : Buf (Elt F) (wL d)))) $$ [HSI Hw]
  · isplitl [HSI] <;> iassumption
  icases H with %h6
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i), funext fun i => h6 i (Finset.mem_univ i)⟩

/-- What the run ends in: the arguments unchanged, both results gathered, every semaphore at zero. -/
def QC : PUnit × MemSt nD τ sig (Elt F) → Prop := fun r =>
  (∀ c : Dev nD, r.2.mem (aL c) = m (aL c) ∧ r.2.mem (qL c) = m (qL c) ∧ r.2.mem (sL c) = m (sL c) ∧ r.2.mem (dL c) = m (dL c)
    ∧ r.2.mem (uL c) = (gatG (av m c) (sv m c) : Buf (Elt F) (uL c)) ∧ r.2.mem (wL c) = (gatG (qv m c) (dv m c) : Buf (Elt F) (wL c))) ∧ r.2.sem = fun _ => 0

theorem run_main [∀ e, Nonempty (Elt F e)] (hm : InRange m) : θ_run (Cert.GatherIdeal.defs (F := F)) (Cert.GatherIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl_gather m facts hm)
    (fun q _ => match q with | 0 => SparseCore.Cfg.VecSplit.of_plain (vecSplit_gather m))
    m ρ main (fun _ => iprop(emp)) (FIN m) (u₀ (F := F)) (sep_elim_left.trans (hu₀ m)) (hmain m ρ) (fq m) (hfin m) (QC m) (fun _ h hz => ⟨h, hz⟩)

end Cert.Proof.Gathering

end
-- ==== Proof.GatherValue.lean ====
/-
  The rows that the gathering call returns are the reference's, and what the precondition says of the indices.
-/
module

public import proofs.«01_k».proof.Proof.GatherLaunch
public import proofs.«01_k».proof.Proof.Gen.GatherReferenceIdeal
public import proofs.«01_k».proof.Pre_nodes
public import Idealize.ShloMosaic.Lib.Routing.Ops
public import Idealize.ShloMosaic.Lib.ReduceAll
public import Idealize.ShloMosaic.Lib.Affine

@[expose] public section

noncomputable section

namespace Cert.Proof.Gathering

open Idealize.ShloMosaic Idealize.ShloMosaic.ValueIdx
open Cert.Proof.Counting

/-! ## The precondition -/

/-- The shape relations of the precondition. -/
theorem preFacts : Cert.Pre_nodes.Facts := ⟨by decide, by decide, by decide⟩

/-- A word that is at least 0 and below 10000, read signed, is below 10000. -/
theorem toNat_of_range (v : BitVec 32) (h0 : (0#32).toInt ≤ v.toInt) (h1 : v.toInt < (10000#32).toInt) : v.toNat < 10000 := by
  rw [show (0#32 : BitVec 32).toInt = 0 by decide] at h0
  rw [show (10000#32 : BitVec 32).toInt = 10000 by decide] at h1
  have := v.toInt_eq_toNat_cond
  split at this <;> have := v.isLt <;> omega

/-- Where the precondition holds, the indices name rows. -/
theorem inRange_of_pre {F : FTy → Type} [FloatOps F] [Cert.Pre_nodes.Facts] (a q : FVec F Cert.Pre_nodes.S10000x128 .f32) (x y : IVec Cert.Pre_nodes.S320000 32)
    (h : Cert.Pre_nodes.fn (F := F) a q x y = fun _ => 1#1) : (∀ j, (x j).toNat < 10000) ∧ ∀ j, (y j).toNat < 10000 := by
  have h' := congrFun h (fun a => a.elim0)
  unfold Cert.Pre_nodes.fn at h'
  obtain ⟨h1, h2⟩ := IntOp.andi_eq_one.mp h'
  constructor <;> intro j
  · obtain ⟨e0, e1⟩ := IntOp.andi_eq_one.mp (Host.reduce_andi_all _ _ _ _ _ h1 j)
    exact toNat_of_range _ (IntOp.cmpi_sge.mp e0) (IntOp.cmpi_slt.mp e1)
  · obtain ⟨e0, e1⟩ := IntOp.andi_eq_one.mp (Host.reduce_andi_all _ _ _ _ _ h2 j)
    exact toNat_of_range _ (IntOp.cmpi_sge.mp e0) (IntOp.cmpi_slt.mp e1)

/-! ## The reference -/

open Cert.GatherReferenceIdeal Cert.GatherReferenceIdeal.Gen in
/-- The rows that the reference takes. -/
abbrev refG {F : FTy → Type} [FloatOps F] (a : FVec F S10000x128 .f32) (x : IVec S320000 32) : FVec F S320000x128 .f32 :=
  Host.gather gather_S10000x128_S320000x1_S320000x128_1_0_n_n_0_1_1128 a (broadcastInDim S320000x1 ![0] Cert.GatherReferenceIdeal.Facts₀.bcast_S320000_S320000x1_0
    (select (cmpi .slt x (broadcastInDim S320000 ![] Cert.GatherReferenceIdeal.Facts₀.bcast_S_S320000 (constantI S_ 32 0#32)))
      (addi x (broadcastInDim S320000 ![] Cert.GatherReferenceIdeal.Facts₀.bcast_S_S320000 (constantI S_ 32 10000#32))) x))

/-- An index that is not negative is taken as it is. -/
theorem select_self (v : BitVec 32) (h : v.toNat < 10000) (w : BitVec 32) : (if IntOp.cmpi .slt v 0#32 = 1#1 then w else v) = v := by
  rw [if_neg]
  intro e
  have e := IntOp.cmpi_slt.mp e
  rw [show (0#32 : BitVec 32).toInt = 0 by decide] at e
  have := v.toInt_eq_toNat_cond
  split at this <;> omega

/-- The index of edge `e`. -/
theorem xN_ix1 (x : IVec (⟨1, ![320000]⟩ : Shape) 32) (e : Fin 320000) : xN x e.val = x (ix1 e) := by
  unfold xN
  rw [dif_pos e.isLt]
  refine congrArg x (funext fun a => ?_)
  match a with
  | ⟨0, _⟩ => rfl

/-- The gathered array at row `e` and column `c`. -/
theorem gatG_at {F : FTy → Type} (a : (⟨2, ![10000, 128]⟩ : Shape).Idx → F .f32) (x : IVec (⟨1, ![320000]⟩ : Shape) 32) (hx : ∀ j, (x j).toNat < 10000) (e : Fin 320000) (c : Fin 128) :
    gatG a x (ix2 e c) = a (ix2 ⟨(x (ix1 e)).toNat, hx _⟩ c) := by
  show rowAt a (xN x e.val).toNat c.val = _
  rw [xN_ix1]
  unfold rowAt
  refine congrArg a (extTwo ?_ ?_)
  · exact Nat.mod_eq_of_lt (hx _)
  · exact Nat.mod_eq_of_lt c.isLt

open Cert.GatherReferenceIdeal Cert.GatherReferenceIdeal.Gen in
/-- The reference's array at row `e` and column `c`. -/
theorem refG_at {F : FTy → Type} [FloatOps F] (a : FVec F S10000x128 .f32) (x : IVec S320000 32) (hx : ∀ j, (x j).toNat < 10000) (e : Fin 320000) (c : Fin 128) :
    refG a x (ix2 e c) = a (ix2 ⟨(x (ix1 e)).toNat, hx _⟩ c) := by
  have hi : broadcastInDim S320000x1 ![0] Cert.GatherReferenceIdeal.Facts₀.bcast_S320000_S320000x1_0
    (select (cmpi .slt x (broadcastInDim S320000 ![] Cert.GatherReferenceIdeal.Facts₀.bcast_S_S320000 (constantI S_ 32 0#32)))
      (addi x (broadcastInDim S320000 ![] Cert.GatherReferenceIdeal.Facts₀.bcast_S_S320000 (constantI S_ 32 10000#32))) x) (ix2 e (0 : Fin 1)) = BitVec.ofNat 32 (x (ix1 e)).toNat := by
    rw [BitVec.ofNat_toNat, BitVec.setWidth_eq]
    refine (broadcastInDim_apply (s := S320000) ![0] _ _ (ix2 e (0 : Fin 1)) (ix1 e) fun a => ?_).trans ?_
    · match a with
      | ⟨0, _⟩ =>
        have hs : ¬ (320000 : ℕ) = 1 := by norm_num
        exact (if_neg hs).symm
    · exact select_self (x (ix1 e)) (hx _) _
  exact Routing.gather_row gather_S10000x128_S320000x1_S320000x128_1_0_n_n_0_1_1128 rfl rfl rfl rfl rfl a _ e c ⟨(x (ix1 e)).toNat, hx _⟩ hi (by norm_num)

open Cert.GatherReferenceIdeal Cert.GatherReferenceIdeal.Gen in
/-- Where the indices name rows, the reference takes the rows that the call takes. -/
theorem gatG_eq {F : FTy → Type} [FloatOps F] (a : FVec F S10000x128 .f32) (x : IVec S320000 32) (hx : ∀ j, (x j).toNat < 10000) : gatG a x = refG a x := by
  funext j
  obtain ⟨e, c, rfl⟩ : ∃ (e : Fin 320000) (c : Fin 128), j = ix2 e c := ⟨j 0, j 1, by funext a; match a with | 0 => rfl | 1 => rfl⟩
  exact (gatG_at a x hx e c).trans (refG_at a x hx e c).symm

end Cert.Proof.Gathering

end
-- ==== Proof.EdgeValue.lean ====
/-
  The rows of the edge layer that each point of its grid writes are the reference's.
-/
module

public import proofs.«01_k».proof.Proof.Gen.EdgeIdeal.Frame
public import proofs.«01_k».proof.Proof.Gen.EdgeReferenceIdeal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.Edges

open Cert.EdgeIdeal Cert.EdgeIdeal.Gen

variable (m : (ℓ : Loc nD τ sig) → Buf (Elt Ideal) ℓ)

/-- The reference of the edge layer, over its four arguments. -/
abbrev layer (a q : FVec Ideal Cert.EdgeReferenceIdeal.S320000x128 .f32) (w : FVec Ideal Cert.EdgeReferenceIdeal.S128x128 .f32) (b : FVec Ideal Cert.EdgeReferenceIdeal.S128 .f32) :
    FVec Ideal Cert.EdgeReferenceIdeal.S320000x128 .f32 :=
  addf (Host.dotGeneral Cert.EdgeReferenceIdeal.dot_S320000x128_S128x128_S320000x128_1_0_0_1_n_n none
      (maximumf (subf a q) (broadcastInDim Cert.EdgeReferenceIdeal.S320000x128 ![] Cert.EdgeReferenceIdeal.Gen.bcast_S_S320000x128 (constant Cert.EdgeReferenceIdeal.S_ .f32 0x00000000#32))) w)
    (broadcastInDim Cert.EdgeReferenceIdeal.S320000x128 ![0, 1] Cert.EdgeReferenceIdeal.Gen.bcast_S1x128_S320000x128_0_1 (broadcastInDim Cert.EdgeReferenceIdeal.S1x128 ![1] Cert.EdgeReferenceIdeal.Gen.bcast_S128_S1x128_1 b))

/-- Where the blocks of each window stand. -/
theorem places : ∀ t : Fin cfg0.N, win0_0.index t = ![t.val, 0] ∧ win0_1.index t = ![t.val, 0] ∧ win0_2.index t = ![0, 0]
    ∧ win0_3.index t = ![0, 0] ∧ win0_4.index t = ![t.val, 0] :=
  (by decide +kernel : ∀ t : Fin grid0.N, _)

/-- What a point stores at an index of its block is the reference where that index stands. -/
theorem stored (c : Dev nD) (t : Fin cfg0.N) (y) :
    k0_pay1 (iblk m c 0 t) (iblk m c 1 t) (iblk m c 2 t) (iblk m c 3 t) y
      = layer (m ((c : Thread nD τ).loc main_arg0)) (m ((c : Thread nD τ).loc main_arg1)) (m ((c : Thread nD τ).loc main_arg2)) (m ((c : Thread nD τ).loc main_arg3))
        (((cfg0.win 4).blk t).view.emb y) := by
  pointwise [k0_pay1, layer]
  blk_point [iblk, V, places t]

/-- The result array after the run. -/
theorem result (c : Dev nD) : (dats m 0 c).arrAt 4 (cfgs 0).N
    = layer (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact stored m c t y

end Cert.Proof.Edges

end
-- ==== Proof.DecoderValue.lean ====
/-
  The rows of the decoder that each point of its grid writes are the reference's.
-/
module

public import proofs.«01_k».proof.Proof.Gen.DecoderIdeal.Frame
public import proofs.«01_k».proof.Proof.Gen.DecoderReferenceIdeal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.Decoding

open Cert.DecoderIdeal Cert.DecoderIdeal.Gen

variable (m : (ℓ : Loc nD τ sig) → Buf (Elt Ideal) ℓ)

/-- The reference of the decoder, over its five arguments. -/
abbrev layers (h : FVec Ideal Cert.DecoderReferenceIdeal.S10000x128 .f32) (w : FVec Ideal Cert.DecoderReferenceIdeal.S128x256 .f32) (b : FVec Ideal Cert.DecoderReferenceIdeal.S256 .f32) (w' : FVec Ideal Cert.DecoderReferenceIdeal.S256x256 .f32) (b' : FVec Ideal Cert.DecoderReferenceIdeal.S256 .f32) :
    FVec Ideal Cert.DecoderReferenceIdeal.S10000x256 .f32 :=
  addf (Host.dotGeneral Cert.DecoderReferenceIdeal.dot_S10000x256_S256x256_S10000x256_1_0_0_1_n_n none
      (maximumf (addf (Host.dotGeneral Cert.DecoderReferenceIdeal.dot_S10000x128_S128x256_S10000x256_1_0_0_1_n_n none h w)
          (broadcastInDim Cert.DecoderReferenceIdeal.S10000x256 ![0, 1] Cert.DecoderReferenceIdeal.Gen.bcast_S1x256_S10000x256_0_1 (broadcastInDim Cert.DecoderReferenceIdeal.S1x256 ![1] Cert.DecoderReferenceIdeal.Gen.bcast_S256_S1x256_1 b)))
        (broadcastInDim Cert.DecoderReferenceIdeal.S10000x256 ![] Cert.DecoderReferenceIdeal.Gen.bcast_S_S10000x256 (constant Cert.DecoderReferenceIdeal.S_ .f32 0x00000000#32))) w')
    (broadcastInDim Cert.DecoderReferenceIdeal.S10000x256 ![0, 1] Cert.DecoderReferenceIdeal.Gen.bcast_S1x256_S10000x256_0_1 (broadcastInDim Cert.DecoderReferenceIdeal.S1x256 ![1] Cert.DecoderReferenceIdeal.Gen.bcast_S256_S1x256_1 b'))

/-- Where the blocks of each window stand. -/
theorem places : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- What a point stores at an index of its block is the reference where that index stands. -/
theorem stored (c : Dev nD) (t : Fin cfg0.N) (y) :
    k0_pay1 (iblk m c 0 t) (iblk m c 1 t) (iblk m c 2 t) (iblk m c 3 t) (iblk m c 4 t) y
      = layers (m ((c : Thread nD τ).loc main_arg0)) (m ((c : Thread nD τ).loc main_arg1)) (m ((c : Thread nD τ).loc main_arg2)) (m ((c : Thread nD τ).loc main_arg3)) (m ((c : Thread nD τ).loc main_arg4))
        (((cfg0.win 5).blk t).view.emb y) := by
  pointwise [k0_pay1, layers]
  blk_point [iblk, V, places t]

/-- The result array after the run. -/
theorem result (c : Dev nD) : (dats m 0 c).arrAt 5 (cfgs 0).N
    = layers (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  frame_out
  exact stored m c t y

end Cert.Proof.Decoding

end
-- ==== Proof.FirstValue.lean ====
/-
  The two results of the first layer's node step that each point of its grid writes are the reference's.
-/
module

public import proofs.«01_k».proof.Proof.Gen.FirstIdeal.Frame
public import proofs.«01_k».proof.Proof.Gen.FirstReferenceIdeal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.Firsts

open Cert.FirstIdeal Cert.FirstIdeal.Gen

variable (m : (ℓ : Loc nD τ sig) → Buf (Elt Ideal) ℓ)

/-- The reference's second result: the positions by the last three rows of the weights. -/
abbrev atPos (p : FVec Ideal Cert.FirstReferenceIdeal.S10000x3 .f32) (w : FVec Ideal Cert.FirstReferenceIdeal.S259x128 .f32) : FVec Ideal Cert.FirstReferenceIdeal.S10000x128 .f32 :=
  Host.dotGeneral Cert.FirstReferenceIdeal.dot_S10000x3_S3x128_S10000x128_1_0_0_1_n_n none p (extractStridedSlice Cert.FirstReferenceIdeal.S3x128 ![256, 0] w Cert.FirstReferenceIdeal.Gen.slices_S259x128_S3x128_256_0)

/-- The reference's first result: features and positions side by side, by the weights, and the bias. -/
abbrev atBoth (h : FVec Ideal Cert.FirstReferenceIdeal.S10000x256 .f32) (p : FVec Ideal Cert.FirstReferenceIdeal.S10000x3 .f32) (w : FVec Ideal Cert.FirstReferenceIdeal.S259x128 .f32) (b : FVec Ideal Cert.FirstReferenceIdeal.S128 .f32) : FVec Ideal Cert.FirstReferenceIdeal.S10000x128 .f32 :=
  addf (Host.dotGeneral Cert.FirstReferenceIdeal.dot_S10000x259_S259x128_S10000x128_1_0_0_1_n_n none
      (concatenate Cert.FirstReferenceIdeal.S10000x259 1 [⟨Cert.FirstReferenceIdeal.S10000x256, h⟩, ⟨Cert.FirstReferenceIdeal.S10000x3, p⟩] Cert.FirstReferenceIdeal.Gen.concatenates_S10000x256_S10000x3_S10000x259_d1) w)
    (broadcastInDim Cert.FirstReferenceIdeal.S10000x128 ![0, 1] Cert.FirstReferenceIdeal.Gen.bcast_S1x128_S10000x128_0_1 (broadcastInDim Cert.FirstReferenceIdeal.S1x128 ![1] Cert.FirstReferenceIdeal.Gen.bcast_S128_S1x128_1 b))

/-- Where the blocks of each window stand. -/
theorem places : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- What a point stores into the second result is the reference's. -/
theorem storedPos (c : Dev nD) (t : Fin cfg0.N) (y) :
    k0_pay1 (iblk m c 1 t) (iblk m c 3 t) y
      = atPos (m ((c : Thread nD τ).loc main_arg1)) (m ((c : Thread nD τ).loc main_arg2)) (((cfg0.win 6).blk t).view.emb y) := by
  pointwise [k0_pay1, atPos]
  blk_point [iblk, V, places t]

/-- The second result array after the run. -/
theorem resultPos (c : Dev nD) : (dats m 0 c).arrAt 6 (cfgs 0).N
    = atPos (m ((c : Thread nD τ).loc main_arg1)) (m ((c : Thread nD τ).loc main_arg2)) := by
  refine (dats m 0 c).arrAt_eq_of_covers 6 _ (by decide +kernel) fun t hf y => ?_
  blk_simp
  rw [after0_6]
  frame_out
  exact storedPos m c t y

/-- What a point stores into the first result is the reference's. -/
theorem storedBoth (c : Dev nD) (t : Fin cfg0.N) (y) :
    k0_pay2 (iblk m c 1 t) (iblk m c 3 t) (iblk m c 0 t) (iblk m c 2 t) (iblk m c 4 t) y
      = atBoth (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay2, k0_pay1, atBoth]
  blk_point [iblk, V, places t]

/-- The first result array after the run. -/
theorem resultBoth (c : Dev nD) : (dats m 0 c).arrAt 5 (cfgs 0).N
    = atBoth (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact storedBoth m c t y

end Cert.Proof.Firsts

end
-- ==== Proof.SecondValue.lean ====
/-
  The two results of the second layer's node step that each point of its grid writes are the reference's.
-/
module

public import proofs.«01_k».proof.Proof.Gen.SecondIdeal.Frame
public import proofs.«01_k».proof.Proof.Gen.SecondReferenceIdeal
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.Proof.Seconds

open Cert.SecondIdeal Cert.SecondIdeal.Gen

variable (m : (ℓ : Loc nD τ sig) → Buf (Elt Ideal) ℓ)

/-- The reference's second result: the positions by the last three rows of the weights. -/
abbrev atPos (p : FVec Ideal Cert.SecondReferenceIdeal.S10000x3 .f32) (w : FVec Ideal Cert.SecondReferenceIdeal.S131x128 .f32) : FVec Ideal Cert.SecondReferenceIdeal.S10000x128 .f32 :=
  Host.dotGeneral Cert.SecondReferenceIdeal.dot_S10000x3_S3x128_S10000x128_1_0_0_1_n_n none p (extractStridedSlice Cert.SecondReferenceIdeal.S3x128 ![128, 0] w Cert.SecondReferenceIdeal.Gen.slices_S131x128_S3x128_128_0)

/-- The reference's first result: features and positions side by side, by the weights, and the bias. -/
abbrev atBoth (h : FVec Ideal Cert.SecondReferenceIdeal.S10000x128 .f32) (p : FVec Ideal Cert.SecondReferenceIdeal.S10000x3 .f32) (w : FVec Ideal Cert.SecondReferenceIdeal.S131x128 .f32) (b : FVec Ideal Cert.SecondReferenceIdeal.S128 .f32) : FVec Ideal Cert.SecondReferenceIdeal.S10000x128 .f32 :=
  addf (Host.dotGeneral Cert.SecondReferenceIdeal.dot_S10000x131_S131x128_S10000x128_1_0_0_1_n_n none
      (concatenate Cert.SecondReferenceIdeal.S10000x131 1 [⟨Cert.SecondReferenceIdeal.S10000x128, h⟩, ⟨Cert.SecondReferenceIdeal.S10000x3, p⟩] Cert.SecondReferenceIdeal.Gen.concatenates_S10000x128_S10000x3_S10000x131_d1) w)
    (broadcastInDim Cert.SecondReferenceIdeal.S10000x128 ![0, 1] Cert.SecondReferenceIdeal.Gen.bcast_S1x128_S10000x128_0_1 (broadcastInDim Cert.SecondReferenceIdeal.S1x128 ![1] Cert.SecondReferenceIdeal.Gen.bcast_S128_S1x128_1 b))

/-- Where the blocks of each window stand. -/
theorem places : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0] :=
  (by decide +kernel : ∀ t : Fin grid0.N, _)

/-- What a point stores into the second result is the reference's. -/
theorem storedPos (c : Dev nD) (t : Fin cfg0.N) (y) :
    k0_pay1 (iblk m c 1 t) (iblk m c 3 t) y
      = atPos (m ((c : Thread nD τ).loc main_arg1)) (m ((c : Thread nD τ).loc main_arg2)) (((cfg0.win 6).blk t).view.emb y) := by
  pointwise [k0_pay1, atPos]
  blk_point [iblk, V, places t]

/-- The second result array after the run. -/
theorem resultPos (c : Dev nD) : (dats m 0 c).arrAt 6 (cfgs 0).N
    = atPos (m ((c : Thread nD τ).loc main_arg1)) (m ((c : Thread nD τ).loc main_arg2)) := by
  refine (dats m 0 c).arrAt_eq_of_covers 6 _ (by decide +kernel) fun t hf y => ?_
  blk_simp
  rw [after0_6]
  frame_out
  exact storedPos m c t y

/-- What a point stores into the first result is the reference's. -/
theorem storedBoth (c : Dev nD) (t : Fin cfg0.N) (y) :
    k0_pay2 (iblk m c 1 t) (iblk m c 3 t) (iblk m c 0 t) (iblk m c 2 t) (iblk m c 4 t) y
      = atBoth (m ((c : Thread nD τ).loc main_arg0)) (m ((c : Thread nD τ).loc main_arg1)) (m ((c : Thread nD τ).loc main_arg2)) (m ((c : Thread nD τ).loc main_arg3))
        (((cfg0.win 5).blk t).view.emb y) := by
  pointwise [k0_pay2, k0_pay1, atBoth]
  blk_point [iblk, V, places t]

/-- The first result array after the run. -/
theorem resultBoth (c : Dev nD) : (dats m 0 c).arrAt 5 (cfgs 0).N
    = atBoth (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact storedBoth m c t y

end Cert.Proof.Seconds

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Gather
public import proofs.«01_k».proof.Proof.Gen.Gather.Skeleton
public import proofs.«01_k».proof.Proof.Gen.GatherIdeal
public import proofs.«01_k».proof.Proof.Gen.GatherIdeal.Skeleton
public import proofs.«01_k».proof.Proof.Gen.GatherReferenceIdeal
public import proofs.«01_k».proof.Proof.Gen.GatherReferenceIdeal.Run
public import proofs.«01_k».proof.Proof.Gen.Edge
public import proofs.«01_k».proof.Proof.Gen.Edge.Frame
public import proofs.«01_k».proof.Proof.Gen.EdgeIdeal
public import proofs.«01_k».proof.Proof.Gen.EdgeIdeal.Frame
public import proofs.«01_k».proof.Proof.Gen.EdgeIdeal.Value
public import proofs.«01_k».proof.Proof.Gen.EdgeReferenceIdeal
public import proofs.«01_k».proof.Proof.Gen.EdgeReferenceIdeal.Run
public import proofs.«01_k».proof.Proof.Gen.Decoder
public import proofs.«01_k».proof.Proof.Gen.Decoder.Frame
public import proofs.«01_k».proof.Proof.Gen.DecoderIdeal
public import proofs.«01_k».proof.Proof.Gen.DecoderIdeal.Frame
public import proofs.«01_k».proof.Proof.Gen.DecoderIdeal.Value
public import proofs.«01_k».proof.Proof.Gen.DecoderReferenceIdeal
public import proofs.«01_k».proof.Proof.Gen.DecoderReferenceIdeal.Run
public import proofs.«01_k».proof.Proof.Gen.First
public import proofs.«01_k».proof.Proof.Gen.First.Frame
public import proofs.«01_k».proof.Proof.Gen.FirstIdeal
public import proofs.«01_k».proof.Proof.Gen.FirstIdeal.Frame
public import proofs.«01_k».proof.Proof.Gen.FirstIdeal.Value
public import proofs.«01_k».proof.Proof.Gen.FirstReferenceIdeal
public import proofs.«01_k».proof.Proof.Gen.FirstReferenceIdeal.Run
public import proofs.«01_k».proof.Proof.Gen.Second
public import proofs.«01_k».proof.Proof.Gen.Second.Frame
public import proofs.«01_k».proof.Proof.Gen.SecondIdeal
public import proofs.«01_k».proof.Proof.Gen.SecondIdeal.Frame
public import proofs.«01_k».proof.Proof.Gen.SecondIdeal.Value
public import proofs.«01_k».proof.Proof.Gen.SecondReferenceIdeal
public import proofs.«01_k».proof.Proof.Gen.SecondReferenceIdeal.Run
public import proofs.«01_k».proof.Proof.Value
public import proofs.«01_k».proof.Proof.GatherValue
public import proofs.«01_k».proof.Proof.EdgeValue
public import proofs.«01_k».proof.Proof.DecoderValue
public import proofs.«01_k».proof.Proof.FirstValue
public import proofs.«01_k».proof.Proof.SecondValue
public import Idealize.ShloMosaic.Adequacy
public import Idealize.ShloMosaic.Init

@[expose] public section

noncomputable section

namespace Cert.Proof

open Idealize.ShloMosaic Idealize.SL.Sem

set_option maxHeartbeats 0 in
/-- The kernel at machine floats runs, leaves its arguments and every semaphore as they were. -/
theorem frame_kernel : Cert.quiescent_Kernel := fun m ρ _ =>
  (θ_run Cert.KernelIdeal.defs _ _).mono (fun _ h => ⟨fun c => ⟨(h.1 c).1, (h.1 c).2.1⟩, h.2⟩) (Bucket.run_main (F := Bits) m ρ)

/-- The same at the ideal instance. -/
theorem frame_ideal : Cert.quiescent_KernelIdeal := fun m ρ _ =>
  (θ_run Cert.KernelIdeal.defs _ _).mono (fun _ h => ⟨fun c => ⟨(h.1 c).1, (h.1 c).2.1⟩, h.2⟩) (Bucket.run_main (F := Ideal) m ρ)

/-- The reference runs. -/
theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run m ρ)

/-- Both end with the same result. -/
theorem value : Cert.algebraic_KernelIdeal_ReferenceIdeal := fun m ρ m' ρ' _ hag =>
  ⟨fun c => Bucket.resG m c,
    (θ_run Cert.KernelIdeal.defs _ _).mono (fun _ h c => ⟨(h.1 c).2.2, (h.1 c).1, (h.1 c).2.1⟩) (Bucket.run_main (F := Ideal) m ρ),
    (θ_run Cert.ReferenceIdeal.defs _ _).mono (fun _ h c => ⟨(h c).1.trans (by
      rw [(hag c).1, (hag c).2]
      exact (Bucket.resG_eq m c).symm), (h c).2.1, (h c).2.2⟩) (Cert.ReferenceIdeal.Value.run m' ρ')⟩

/-! ## The gathering call -/

section Gather
variable [hPre_nodes : Cert.Pre_nodes.Facts]

theorem inRange_ideal (m : (ℓ : Loc Cert.GatherIdeal.nD Cert.GatherIdeal.τ Cert.GatherIdeal.sig) → Buf (Elt Ideal) ℓ) (h : Cert.Pre_GatherIdeal m) : Gathering.InRange (F := Ideal) m :=
  fun d => Gathering.inRange_of_pre _ _ _ _ (h d)

theorem inRange_bits (m : (ℓ : Loc Cert.Gather.nD Cert.Gather.τ Cert.Gather.sig) → Buf (Elt Bits) ℓ) (h : Cert.Pre_Gather m) : Gathering.InRange (F := Bits) m :=
  fun d => Gathering.inRange_of_pre _ _ _ _ (h d)

set_option maxHeartbeats 0 in
/-- The gathering call at machine floats runs, leaves its arguments and every semaphore as they were. -/
theorem frame_gather : Cert.quiescent_Gather := fun m ρ hp =>
  (θ_run Cert.GatherIdeal.defs _ _).mono (fun _ h => ⟨fun c => ⟨(h.1 c).1, (h.1 c).2.1, (h.1 c).2.2.1, (h.1 c).2.2.2.1⟩, h.2⟩)
    (Gathering.run_main (F := Bits) m ρ (inRange_bits m hp))

/-- The same at the ideal instance. -/
theorem frame_gather_ideal : Cert.quiescent_GatherIdeal := fun m ρ hp =>
  (θ_run Cert.GatherIdeal.defs _ _).mono (fun _ h => ⟨fun c => ⟨(h.1 c).1, (h.1 c).2.1, (h.1 c).2.2.1, (h.1 c).2.2.2.1⟩, h.2⟩)
    (Gathering.run_main (F := Ideal) m ρ (inRange_ideal m hp))

/-- Its reference runs. -/
theorem frame_gather_reference : Cert.quiescent_GatherReferenceIdeal := fun m ρ _ =>
  (θ_run Cert.GatherReferenceIdeal.defs _ _).mono (fun r h => ⟨fun c => (h c).2.2, sem_eq_zero_of_no_sems (by decide) r.2⟩)
    (Cert.GatherReferenceIdeal.Value.run m ρ)

/-- Both end with the same two results. -/
theorem value_gather : Cert.algebraic_GatherIdeal_GatherReferenceIdeal := fun m ρ m' ρ' hp hag =>
  ⟨fun c => Gathering.gatG (Gathering.av m c) (Gathering.sv m c), fun c => Gathering.gatG (Gathering.qv m c) (Gathering.dv m c),
    (θ_run Cert.GatherIdeal.defs _ _).mono (fun _ h c => ⟨(h.1 c).2.2.2.2.1, (h.1 c).2.2.2.2.2, (h.1 c).1, (h.1 c).2.1, (h.1 c).2.2.1, (h.1 c).2.2.2.1⟩)
      (Gathering.run_main (F := Ideal) m ρ (inRange_ideal m hp)),
    (θ_run Cert.GatherReferenceIdeal.defs _ _).mono (fun _ h c => ⟨(h c).1.trans (by
      rw [(hag c).1, (hag c).2.2.1]
      exact (Gathering.gatG_eq (F := Ideal) (Gathering.av m c) (Gathering.sv m c) (inRange_ideal m hp c).1).symm), (h c).2.1.trans (by
      rw [(hag c).2.1, (hag c).2.2.2]
      exact (Gathering.gatG_eq (F := Ideal) (Gathering.qv m c) (Gathering.dv m c) (inRange_ideal m hp c).2).symm), (h c).2.2⟩) (Cert.GatherReferenceIdeal.Value.run m' ρ')⟩

end Gather

/-! ## The edge layer -/

/-- The edge layer at machine floats runs, leaves its arguments and every semaphore as they were. -/
theorem frame_edge : Cert.quiescent_Edge := fun m ρ _ => Cert.Edge.Gen.frame m ρ

/-- The same at the ideal instance. -/
theorem frame_edge_ideal : Cert.quiescent_EdgeIdeal := fun m ρ _ => Cert.EdgeIdeal.Gen.frame m ρ

/-- Its reference runs. -/
theorem frame_edge_reference : Cert.quiescent_EdgeReferenceIdeal := fun m ρ _ =>
  (θ_run Cert.EdgeReferenceIdeal.defs _ _).mono (fun r h => ⟨fun c => (h c).2, sem_eq_zero_of_no_sems (by decide) r.2⟩) (Cert.EdgeReferenceIdeal.Value.run m ρ)

/-- Both end with the same result. -/
theorem value_edge : Cert.algebraic_EdgeIdeal_EdgeReferenceIdeal := fun m ρ m' ρ' _ hag =>
  ⟨fun c => Edges.layer (m ((c.tc : Thread Cert.EdgeIdeal.nD Cert.EdgeIdeal.τ).loc Cert.EdgeIdeal.main_arg0)) (m ((c.tc : Thread Cert.EdgeIdeal.nD Cert.EdgeIdeal.τ).loc Cert.EdgeIdeal.main_arg1)) (m ((c.tc : Thread Cert.EdgeIdeal.nD Cert.EdgeIdeal.τ).loc Cert.EdgeIdeal.main_arg2)) (m ((c.tc : Thread Cert.EdgeIdeal.nD Cert.EdgeIdeal.τ).loc Cert.EdgeIdeal.main_arg3)),
    (θ_run Cert.EdgeIdeal.defs _ _).mono (fun _ h c => ⟨(h c).1.trans (Edges.result m c), (h c).2⟩) (Cert.EdgeIdeal.Value.run_blocks m ρ),
    (θ_run Cert.EdgeReferenceIdeal.defs _ _).mono (fun _ h c => ⟨(h c).1.trans (by
      rw [(hag c).1, (hag c).2.1, (hag c).2.2.1, (hag c).2.2.2]), (h c).2⟩) (Cert.EdgeReferenceIdeal.Value.run m' ρ')⟩

/-! ## The decoder -/

/-- The decoder at machine floats runs, leaves its arguments and every semaphore as they were. -/
theorem frame_decoder : Cert.quiescent_Decoder := fun m ρ _ => Cert.Decoder.Gen.frame m ρ

/-- The same at the ideal instance. -/
theorem frame_decoder_ideal : Cert.quiescent_DecoderIdeal := fun m ρ _ => Cert.DecoderIdeal.Gen.frame m ρ

/-- Its reference runs. -/
theorem frame_decoder_reference : Cert.quiescent_DecoderReferenceIdeal := fun m ρ _ =>
  (θ_run Cert.DecoderReferenceIdeal.defs _ _).mono (fun r h => ⟨fun c => (h c).2, sem_eq_zero_of_no_sems (by decide) r.2⟩) (Cert.DecoderReferenceIdeal.Value.run m ρ)

/-- Both end with the same result. -/
theorem value_decoder : Cert.algebraic_DecoderIdeal_DecoderReferenceIdeal := fun m ρ m' ρ' _ hag =>
  ⟨fun c => Decoding.layers (m ((c.tc : Thread Cert.DecoderIdeal.nD Cert.DecoderIdeal.τ).loc Cert.DecoderIdeal.main_arg0)) (m ((c.tc : Thread Cert.DecoderIdeal.nD Cert.DecoderIdeal.τ).loc Cert.DecoderIdeal.main_arg1)) (m ((c.tc : Thread Cert.DecoderIdeal.nD Cert.DecoderIdeal.τ).loc Cert.DecoderIdeal.main_arg2)) (m ((c.tc : Thread Cert.DecoderIdeal.nD Cert.DecoderIdeal.τ).loc Cert.DecoderIdeal.main_arg3)) (m ((c.tc : Thread Cert.DecoderIdeal.nD Cert.DecoderIdeal.τ).loc Cert.DecoderIdeal.main_arg4)),
    (θ_run Cert.DecoderIdeal.defs _ _).mono (fun _ h c => ⟨(h c).1.trans (Decoding.result m c), (h c).2⟩) (Cert.DecoderIdeal.Value.run_blocks m ρ),
    (θ_run Cert.DecoderReferenceIdeal.defs _ _).mono (fun _ h c => ⟨(h c).1.trans (by
      rw [(hag c).1, (hag c).2.1, (hag c).2.2.1, (hag c).2.2.2.1, (hag c).2.2.2.2]), (h c).2⟩) (Cert.DecoderReferenceIdeal.Value.run m' ρ')⟩

/-! ## The first layer's node step -/

/-- The first layer's node step at machine floats runs, leaves its arguments and every semaphore as they were. -/
theorem frame_first : Cert.quiescent_First := fun m ρ _ => Cert.First.Gen.frame m ρ

/-- The same at the ideal instance. -/
theorem frame_first_ideal : Cert.quiescent_FirstIdeal := fun m ρ _ => Cert.FirstIdeal.Gen.frame m ρ

/-- Its reference runs. -/
theorem frame_first_reference : Cert.quiescent_FirstReferenceIdeal := fun m ρ _ =>
  (θ_run Cert.FirstReferenceIdeal.defs _ _).mono (fun r h => ⟨fun c => (h c).2.2, sem_eq_zero_of_no_sems (by decide) r.2⟩) (Cert.FirstReferenceIdeal.Value.run m ρ)

/-- Both end with the same two results. -/
theorem value_first : Cert.algebraic_FirstIdeal_FirstReferenceIdeal := fun m ρ m' ρ' _ hag =>
  ⟨fun c => Firsts.atBoth (m ((c.tc : Thread Cert.FirstIdeal.nD Cert.FirstIdeal.τ).loc Cert.FirstIdeal.main_arg0)) (m ((c.tc : Thread Cert.FirstIdeal.nD Cert.FirstIdeal.τ).loc Cert.FirstIdeal.main_arg1)) (m ((c.tc : Thread Cert.FirstIdeal.nD Cert.FirstIdeal.τ).loc Cert.FirstIdeal.main_arg2)) (m ((c.tc : Thread Cert.FirstIdeal.nD Cert.FirstIdeal.τ).loc Cert.FirstIdeal.main_arg3)), fun c => Firsts.atPos (m ((c.tc : Thread Cert.FirstIdeal.nD Cert.FirstIdeal.τ).loc Cert.FirstIdeal.main_arg1)) (m ((c.tc : Thread Cert.FirstIdeal.nD Cert.FirstIdeal.τ).loc Cert.FirstIdeal.main_arg2)),
    (θ_run Cert.FirstIdeal.defs _ _).mono (fun _ h c => ⟨(h c).1.trans (Firsts.resultBoth m c), (h c).2.1.trans (Firsts.resultPos m c), (h c).2.2⟩) (Cert.FirstIdeal.Value.run_blocks m ρ),
    (θ_run Cert.FirstReferenceIdeal.defs _ _).mono (fun _ h c => ⟨(h c).1.trans (by
      rw [(hag c).1, (hag c).2.1, (hag c).2.2.1, (hag c).2.2.2]), (h c).2.1.trans (by
      rw [(hag c).2.1, (hag c).2.2.1]), (h c).2.2⟩) (Cert.FirstReferenceIdeal.Value.run m' ρ')⟩

/-! ## The second layer's node step -/

/-- The second layer's node step at machine floats runs, leaves its arguments and every semaphore as they were. -/
theorem frame_second : Cert.quiescent_Second := fun m ρ _ => Cert.Second.Gen.frame m ρ

/-- The same at the ideal instance. -/
theorem frame_second_ideal : Cert.quiescent_SecondIdeal := fun m ρ _ => Cert.SecondIdeal.Gen.frame m ρ

/-- Its reference runs. -/
theorem frame_second_reference : Cert.quiescent_SecondReferenceIdeal := fun m ρ _ =>
  (θ_run Cert.SecondReferenceIdeal.defs _ _).mono (fun r h => ⟨fun c => (h c).2.2, sem_eq_zero_of_no_sems (by decide) r.2⟩) (Cert.SecondReferenceIdeal.Value.run m ρ)

/-- Both end with the same two results. -/
theorem value_second : Cert.algebraic_SecondIdeal_SecondReferenceIdeal := fun m ρ m' ρ' _ hag =>
  ⟨fun c => Seconds.atBoth (m ((c.tc : Thread Cert.SecondIdeal.nD Cert.SecondIdeal.τ).loc Cert.SecondIdeal.main_arg0)) (m ((c.tc : Thread Cert.SecondIdeal.nD Cert.SecondIdeal.τ).loc Cert.SecondIdeal.main_arg1)) (m ((c.tc : Thread Cert.SecondIdeal.nD Cert.SecondIdeal.τ).loc Cert.SecondIdeal.main_arg2)) (m ((c.tc : Thread Cert.SecondIdeal.nD Cert.SecondIdeal.τ).loc Cert.SecondIdeal.main_arg3)), fun c => Seconds.atPos (m ((c.tc : Thread Cert.SecondIdeal.nD Cert.SecondIdeal.τ).loc Cert.SecondIdeal.main_arg1)) (m ((c.tc : Thread Cert.SecondIdeal.nD Cert.SecondIdeal.τ).loc Cert.SecondIdeal.main_arg2)),
    (θ_run Cert.SecondIdeal.defs _ _).mono (fun _ h c => ⟨(h c).1.trans (Seconds.resultBoth m c), (h c).2.1.trans (Seconds.resultPos m c), (h c).2.2⟩) (Cert.SecondIdeal.Value.run_blocks m ρ),
    (θ_run Cert.SecondReferenceIdeal.defs _ _).mono (fun _ h c => ⟨(h c).1.trans (by
      rw [(hag c).1, (hag c).2.1, (hag c).2.2.1, (hag c).2.2.2]), (h c).2.1.trans (by
      rw [(hag c).2.1, (hag c).2.2.1]), (h c).2.2⟩) (Cert.SecondReferenceIdeal.Value.run m' ρ')⟩

theorem claim : Cert.Claim := ⟨Cert.Kernel.Gen.facts, Cert.KernelIdeal.Gen.facts, Cert.ReferenceIdeal.Gen.facts,
  Cert.Gather.Gen.facts, Cert.GatherIdeal.Gen.facts, Cert.GatherReferenceIdeal.Gen.facts,
  Cert.Edge.Gen.facts, Cert.EdgeIdeal.Gen.facts, Cert.EdgeReferenceIdeal.Gen.facts,
  Cert.Decoder.Gen.facts, Cert.DecoderIdeal.Gen.facts, Cert.DecoderReferenceIdeal.Gen.facts,
  Cert.First.Gen.facts, Cert.FirstIdeal.Gen.facts, Cert.FirstReferenceIdeal.Gen.facts,
  Cert.Second.Gen.facts, Cert.SecondIdeal.Gen.facts, Cert.SecondReferenceIdeal.Gen.facts,
  Gathering.preFacts,
  frame_kernel, frame_ideal, frame_reference,
  frame_gather (hPre_nodes := Gathering.preFacts), frame_gather_ideal (hPre_nodes := Gathering.preFacts), frame_gather_reference (hPre_nodes := Gathering.preFacts),
  frame_edge, frame_edge_ideal, frame_edge_reference,
  frame_decoder, frame_decoder_ideal, frame_decoder_reference,
  frame_first, frame_first_ideal, frame_first_reference,
  frame_second, frame_second_ideal, frame_second_reference,
  trivial, value, trivial, value_gather (hPre_nodes := Gathering.preFacts),
  trivial, value_edge,
  trivial, value_decoder,
  trivial, value_first,
  trivial, value_second⟩

end Cert.Proof

end
